-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldIdeal_finite2 [hPre_finite2 : Cert.Pre_finite2.Facts] (m : (ℓ : Loc Cert.FoldIdeal.nD Cert.FoldIdeal.τ Cert.FoldIdeal.sig) → Buf (Elt Ideal) ℓ) : Prop :=
  ∀ c : Dev Cert.FoldIdeal.nD,
    (Cert.Pre_finite2.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1))).1 = (fun _ => 1#1)
    ∧ (Cert.Pre_finite2.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1))).2 = (fun _ => 1#1)

def Pre_FoldReferenceIdeal (m : (ℓ : Loc Cert.FoldReferenceIdeal.nD Cert.FoldReferenceIdeal.τ Cert.FoldReferenceIdeal.sig) → Buf (Elt Ideal) ℓ) : Prop :=
  True

def Pre_FoldReferenceIdeal_finite2 [hPre_finite2 : Cert.Pre_finite2.Facts] (m : (ℓ : Loc Cert.FoldReferenceIdeal.nD Cert.FoldReferenceIdeal.τ Cert.FoldReferenceIdeal.sig) → Buf (Elt Ideal) ℓ) : Prop :=
  ∀ c : Dev Cert.FoldReferenceIdeal.nD,
    (Cert.Pre_finite2.fn (F := Ideal) (m ((c.tc : Thread Cert.FoldReferenceIdeal.nD Cert.FoldReferenceIdeal.τ).loc Cert.FoldReferenceIdeal.main_arg0)) (m ((c.tc : Thread Cert.FoldReferenceIdeal.nD Cert.FoldReferenceIdeal.τ).loc Cert.FoldReferenceIdeal.main_arg1))).1 = (fun _ => 1#1)
    ∧ (Cert.Pre_finite2.fn (F := Ideal) (m ((c.tc : Thread Cert.FoldReferenceIdeal.nD Cert.FoldReferenceIdeal.τ).loc Cert.FoldReferenceIdeal.main_arg0)) (m ((c.tc : Thread Cert.FoldReferenceIdeal.nD Cert.FoldReferenceIdeal.τ).loc Cert.FoldReferenceIdeal.main_arg1))).2 = (fun _ => 1#1)

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite5 [hPre_finite5 : Cert.Pre_finite5.Facts] (m : (ℓ : Loc Cert.AttnIdeal.nD Cert.AttnIdeal.τ Cert.AttnIdeal.sig) → Buf (Elt Ideal) ℓ) : Prop :=
  ∀ c : Dev Cert.AttnIdeal.nD,
    (Cert.Pre_finite5.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_finite5.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_finite5.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite5 [hPre_finite5 : Cert.Pre_finite5.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite5.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).1 = (fun _ => 1#1)
    ∧ (Cert.Pre_finite5.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.1 = (fun _ => 1#1)
    ∧ (Cert.Pre_finite5.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))).2.2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ r.2.sem = fun _ => 0)

def quiescent_FoldIdeal_pre_finite2 [hFoldIdeal : Cert.FoldIdeal.Facts] [hPre_finite2 : Cert.Pre_finite2.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal_finite2 m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1))
      ∧ r.2.sem = fun _ => 0)

def quiescent_FoldReferenceIdeal_pre_finite2 [hFoldReferenceIdeal : Cert.FoldReferenceIdeal.Facts] [hPre_finite2 : Cert.Pre_finite2.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal_finite2 m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6)
      ∧ r.2.mem ((c.tc : Thread Cert.Shared.nD Cert.Shared.τ).loc Cert.Shared.main_arg7) = m ((c.tc : Thread Cert.Shared.nD Cert.Shared.τ).loc Cert.Shared.main_arg7)
      ∧ r.2.mem ((c.tc : Thread Cert.Shared.nD Cert.Shared.τ).loc Cert.Shared.main_arg8) = m ((c.tc : Thread Cert.Shared.nD Cert.Shared.τ).loc Cert.Shared.main_arg8))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
      ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
      ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4)
      ∧ r.2.mem ((c.tc : Thread Cert.SharedReferenceIdeal.nD Cert.SharedReferenceIdeal.τ).loc Cert.SharedReferenceIdeal.main_arg5) = m ((c.tc : Thread Cert.SharedReferenceIdeal.nD Cert.SharedReferenceIdeal.τ).loc Cert.SharedReferenceIdeal.main_arg5)
      ∧ r.2.mem ((c.tc : Thread Cert.SharedReferenceIdeal.nD Cert.SharedReferenceIdeal.τ).loc Cert.SharedReferenceIdeal.main_arg6) = m ((c.tc : Thread Cert.SharedReferenceIdeal.nD Cert.SharedReferenceIdeal.τ).loc Cert.SharedReferenceIdeal.main_arg6)
      ∧ r.2.mem ((c.tc : Thread Cert.SharedReferenceIdeal.nD Cert.SharedReferenceIdeal.τ).loc Cert.SharedReferenceIdeal.main_arg7) = m ((c.tc : Thread Cert.SharedReferenceIdeal.nD Cert.SharedReferenceIdeal.τ).loc Cert.SharedReferenceIdeal.main_arg7)
      ∧ r.2.mem ((c.tc : Thread Cert.SharedReferenceIdeal.nD Cert.SharedReferenceIdeal.τ).loc Cert.SharedReferenceIdeal.main_arg8) = m ((c.tc : Thread Cert.SharedReferenceIdeal.nD Cert.SharedReferenceIdeal.τ).loc Cert.SharedReferenceIdeal.main_arg8))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite5 [hAttnIdeal : Cert.AttnIdeal.Facts] [hPre_finite5 : Cert.Pre_finite5.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite5 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_AttnReferenceIdeal_pre_finite5 [hAttnReferenceIdeal : Cert.AttnReferenceIdeal.Facts] [hPre_finite5 : Cert.Pre_finite5.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite5 m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Fold_FoldIdeal : Prop :=
  True

def algebraic_FoldIdeal_FoldReferenceIdeal_pre_finite2 [hFoldIdeal : Cert.FoldIdeal.Facts] [hFoldReferenceIdeal : Cert.FoldReferenceIdeal.Facts] [hPre_finite2 : Cert.Pre_finite2.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal_finite2 m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)) →
    ∃ (v0 : (c : Dev Cert.FoldIdeal.nD) → Buf (Elt Ideal) ((c.tc : Thread Cert.FoldIdeal.nD Cert.FoldIdeal.τ).loc Cert.FoldIdeal.main_v0)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v0) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          r.2.mem ((c.tc : Thread Cert.FoldReferenceIdeal.nD Cert.FoldReferenceIdeal.τ).loc Cert.FoldReferenceIdeal.main_v7) = v0 c
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)
      ∧ m' ((c.tc : Thread Cert.SharedReferenceIdeal.nD Cert.SharedReferenceIdeal.τ).loc Cert.SharedReferenceIdeal.main_arg4) = m ((c.tc : Thread Cert.SharedIdeal.nD Cert.SharedIdeal.τ).loc Cert.SharedIdeal.main_arg4)
      ∧ m' ((c.tc : Thread Cert.SharedReferenceIdeal.nD Cert.SharedReferenceIdeal.τ).loc Cert.SharedReferenceIdeal.main_arg5) = m ((c.tc : Thread Cert.SharedIdeal.nD Cert.SharedIdeal.τ).loc Cert.SharedIdeal.main_arg5)
      ∧ m' ((c.tc : Thread Cert.SharedReferenceIdeal.nD Cert.SharedReferenceIdeal.τ).loc Cert.SharedReferenceIdeal.main_arg6) = m ((c.tc : Thread Cert.SharedIdeal.nD Cert.SharedIdeal.τ).loc Cert.SharedIdeal.main_arg6)
      ∧ m' ((c.tc : Thread Cert.SharedReferenceIdeal.nD Cert.SharedReferenceIdeal.τ).loc Cert.SharedReferenceIdeal.main_arg7) = m ((c.tc : Thread Cert.SharedIdeal.nD Cert.SharedIdeal.τ).loc Cert.SharedIdeal.main_arg7)
      ∧ m' ((c.tc : Thread Cert.SharedReferenceIdeal.nD Cert.SharedReferenceIdeal.τ).loc Cert.SharedReferenceIdeal.main_arg8) = m ((c.tc : Thread Cert.SharedIdeal.nD Cert.SharedIdeal.τ).loc Cert.SharedIdeal.main_arg8)) →
    ∃ (v0 : (c : Dev Cert.SharedIdeal.nD) → Buf (Elt Ideal) ((c.tc : Thread Cert.SharedIdeal.nD Cert.SharedIdeal.τ).loc Cert.SharedIdeal.main_v12_0)) (v1 : (c : Dev Cert.SharedIdeal.nD) → Buf (Elt Ideal) ((c.tc : Thread Cert.SharedIdeal.nD Cert.SharedIdeal.τ).loc Cert.SharedIdeal.main_v12_1)) (v2 : (c : Dev Cert.SharedIdeal.nD) → Buf (Elt Ideal) ((c.tc : Thread Cert.SharedIdeal.nD Cert.SharedIdeal.τ).loc Cert.SharedIdeal.main_v12_2)) (v3 : (c : Dev Cert.SharedIdeal.nD) → Buf (Elt Ideal) ((c.tc : Thread Cert.SharedIdeal.nD Cert.SharedIdeal.τ).loc Cert.SharedIdeal.main_v12_3)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v12_0) = v0 c
          ∧ r.2.mem ((c.tc : Thread Cert.SharedIdeal.nD Cert.SharedIdeal.τ).loc Cert.SharedIdeal.main_v12_1) = v1 c
          ∧ r.2.mem ((c.tc : Thread Cert.SharedIdeal.nD Cert.SharedIdeal.τ).loc Cert.SharedIdeal.main_v12_2) = v2 c
          ∧ r.2.mem ((c.tc : Thread Cert.SharedIdeal.nD Cert.SharedIdeal.τ).loc Cert.SharedIdeal.main_v12_3) = v3 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
          ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
          ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v58) = v0 c
          ∧ r.2.mem ((c.tc : Thread Cert.SharedReferenceIdeal.nD Cert.SharedReferenceIdeal.τ).loc Cert.SharedReferenceIdeal.main_v25) = v1 c
          ∧ r.2.mem ((c.tc : Thread Cert.SharedReferenceIdeal.nD Cert.SharedReferenceIdeal.τ).loc Cert.SharedReferenceIdeal.main_v60) = v2 c
          ∧ r.2.mem ((c.tc : Thread Cert.SharedReferenceIdeal.nD Cert.SharedReferenceIdeal.τ).loc Cert.SharedReferenceIdeal.main_v61) = v3 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4)
          ∧ r.2.mem ((c.tc : Thread Cert.SharedReferenceIdeal.nD Cert.SharedReferenceIdeal.τ).loc Cert.SharedReferenceIdeal.main_arg5) = m' ((c.tc : Thread Cert.SharedReferenceIdeal.nD Cert.SharedReferenceIdeal.τ).loc Cert.SharedReferenceIdeal.main_arg5)
          ∧ r.2.mem ((c.tc : Thread Cert.SharedReferenceIdeal.nD Cert.SharedReferenceIdeal.τ).loc Cert.SharedReferenceIdeal.main_arg6) = m' ((c.tc : Thread Cert.SharedReferenceIdeal.nD Cert.SharedReferenceIdeal.τ).loc Cert.SharedReferenceIdeal.main_arg6)
          ∧ r.2.mem ((c.tc : Thread Cert.SharedReferenceIdeal.nD Cert.SharedReferenceIdeal.τ).loc Cert.SharedReferenceIdeal.main_arg7) = m' ((c.tc : Thread Cert.SharedReferenceIdeal.nD Cert.SharedReferenceIdeal.τ).loc Cert.SharedReferenceIdeal.main_arg7)
          ∧ r.2.mem ((c.tc : Thread Cert.SharedReferenceIdeal.nD Cert.SharedReferenceIdeal.τ).loc Cert.SharedReferenceIdeal.main_arg8) = m' ((c.tc : Thread Cert.SharedReferenceIdeal.nD Cert.SharedReferenceIdeal.τ).loc Cert.SharedReferenceIdeal.main_arg8))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)
      ∧ m' ((c.tc : Thread Cert.QueryReferenceIdeal.nD Cert.QueryReferenceIdeal.τ).loc Cert.QueryReferenceIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v4_0)) (v1 : (c : Dev Cert.QueryIdeal.nD) → Buf (Elt Ideal) ((c.tc : Thread Cert.QueryIdeal.nD Cert.QueryIdeal.τ).loc Cert.QueryIdeal.main_v4_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4_0) = v0 c
          ∧ r.2.mem ((c.tc : Thread Cert.QueryIdeal.nD Cert.QueryIdeal.τ).loc Cert.QueryIdeal.main_v4_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v30) = v0 c
          ∧ r.2.mem ((c.tc : Thread Cert.QueryReferenceIdeal.nD Cert.QueryReferenceIdeal.τ).loc Cert.QueryReferenceIdeal.main_v25) = v1 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4))

def preserves_Attn_AttnIdeal : Prop :=
  True

def algebraic_AttnIdeal_AttnReferenceIdeal_pre_finite5 [hAttnIdeal : Cert.AttnIdeal.Facts] [hAttnReferenceIdeal : Cert.AttnReferenceIdeal.Facts] [hPre_finite5 : Cert.Pre_finite5.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite5 m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v13)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v71) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hKernelIdeal : Cert.KernelIdeal.Facts) (hReferenceIdeal : Cert.ReferenceIdeal.Facts) (hFold : Cert.Fold.Facts) (hFoldIdeal : Cert.FoldIdeal.Facts) (hFoldReferenceIdeal : Cert.FoldReferenceIdeal.Facts) (hShared : Cert.Shared.Facts) (hSharedIdeal : Cert.SharedIdeal.Facts) (hSharedReferenceIdeal : Cert.SharedReferenceIdeal.Facts) (hQuery : Cert.Query.Facts) (hQueryIdeal : Cert.QueryIdeal.Facts) (hQueryReferenceIdeal : Cert.QueryReferenceIdeal.Facts) (hAttn : Cert.Attn.Facts) (hAttnIdeal : Cert.AttnIdeal.Facts) (hAttnReferenceIdeal : Cert.AttnReferenceIdeal.Facts) (hModulation : Cert.Modulation.Facts) (hModulationIdeal : Cert.ModulationIdeal.Facts) (hModulationReferenceIdeal : Cert.ModulationReferenceIdeal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fold (hFold := hFold)
    ∧ quiescent_FoldIdeal (hFoldIdeal := hFoldIdeal)
    ∧ quiescent_FoldIdeal_pre_finite2 (hFoldIdeal := hFoldIdeal) (hPre_finite2 := hPre_finite2)
    ∧ quiescent_FoldReferenceIdeal (hFoldReferenceIdeal := hFoldReferenceIdeal)
    ∧ quiescent_FoldReferenceIdeal_pre_finite2 (hFoldReferenceIdeal := hFoldReferenceIdeal) (hPre_finite2 := hPre_finite2)
    ∧ quiescent_Shared (hShared := hShared)
    ∧ quiescent_SharedIdeal (hSharedIdeal := hSharedIdeal)
    ∧ quiescent_SharedReferenceIdeal (hSharedReferenceIdeal := hSharedReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Attn (hAttn := hAttn)
    ∧ quiescent_AttnIdeal (hAttnIdeal := hAttnIdeal)
    ∧ quiescent_AttnIdeal_pre_finite5 (hAttnIdeal := hAttnIdeal) (hPre_finite5 := hPre_finite5)
    ∧ quiescent_AttnReferenceIdeal (hAttnReferenceIdeal := hAttnReferenceIdeal)
    ∧ quiescent_AttnReferenceIdeal_pre_finite5 (hAttnReferenceIdeal := hAttnReferenceIdeal) (hPre_finite5 := hPre_finite5)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fold_FoldIdeal
    ∧ algebraic_FoldIdeal_FoldReferenceIdeal_pre_finite2 (hFoldIdeal := hFoldIdeal) (hFoldReferenceIdeal := hFoldReferenceIdeal) (hPre_finite2 := hPre_finite2)
    ∧ preserves_Shared_SharedIdeal
    ∧ algebraic_SharedIdeal_SharedReferenceIdeal (hSharedIdeal := hSharedIdeal) (hSharedReferenceIdeal := hSharedReferenceIdeal)
    ∧ preserves_Query_QueryIdeal
    ∧ algebraic_QueryIdeal_QueryReferenceIdeal (hQueryIdeal := hQueryIdeal) (hQueryReferenceIdeal := hQueryReferenceIdeal)
    ∧ preserves_Attn_AttnIdeal
    ∧ algebraic_AttnIdeal_AttnReferenceIdeal_pre_finite5 (hAttnIdeal := hAttnIdeal) (hAttnReferenceIdeal := hAttnReferenceIdeal) (hPre_finite5 := hPre_finite5)
    ∧ preserves_Modulation_ModulationIdeal
    ∧ algebraic_ModulationIdeal_ModulationReferenceIdeal (hModulationIdeal := hModulationIdeal) (hModulationReferenceIdeal := hModulationReferenceIdeal)
-- ==== Pre_finite.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S2048 : Shape := ⟨1, ![2048]⟩
abbrev S2x2048x1024 : Shape := ⟨3, ![2, 2048, 1024]⟩
abbrev S_ : Shape := ⟨0, ![]⟩
abbrev S1x1024x2048 : Shape := ⟨3, ![1, 1024, 2048]⟩

class Facts : Prop where
  bcast_S_S4x8192x1024 : S_.BroadcastsInDim S4x8192x1024 (![] : Fin 0 → Fin S4x8192x1024.rank)
  bcast_S_S4x1024 : S_.BroadcastsInDim S4x1024 (![] : Fin 0 → Fin S4x1024.rank)
  bcast_S_S1024 : S_.BroadcastsInDim S1024 (![] : Fin 0 → Fin S1024.rank)
  slices_S2x1024x4096_S1x1024x2048_0_0_0 : S2x1024x4096.Slices ![0, 0, 0] S1x1024x2048
  bitsLt_bf16_f32 : FTy.bits .bf16 < FTy.bits .f32
  bcast_S_S1x1024x2048 : S_.BroadcastsInDim S1x1024x2048 (![] : Fin 0 → Fin S1x1024x2048.rank)

variable [Facts]

def fn {F : FTy → Type} [FloatOps F] (main_arg0 : FVec F S4x8192x1024 .f32) (main_arg1 : FVec F S4x1024 .f32) (main_arg2 : FVec F S4x1024 .f32) (main_arg3 : FVec F S4x1024 .f32) (main_arg4 : FVec F S1024 .f32) (main_arg5 : FVec F S2x1024x4096 .bf16) (main_arg6 : FVec F S2048 .f32) (main_arg7 : FVec F S2x2048x1024 .f32) : IVec S4x8192x1024 1 × IVec S4x1024 1 × IVec S4x1024 1 × IVec S1024 1 × IVec S1x1024x2048 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x1024 .f32 := Host.absf main_arg2
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x2048 .bf16 := (extractStridedSlice S1x1024x2048 ![0, 0, 0] · slices_S2x1024x4096_S1x1024x2048_0_0_0) main_arg5
  let main_v13 : FVec F S1x1024x2048 .f32 := (extf .f32 · bitsLt_bf16_f32) main_v12
  let main_v14 : FVec F S1x1024x2048 .f32 := Host.absf main_v13
  let main_cst_3 : FVec F S_ .f32 := constant S_ .f32 0x7F800000#32
  let main_v15 : FVec F S1x1024x2048 .f32 := broadcastInDim S1x1024x2048 ![] bcast_S_S1x1024x2048 main_cst_3
  let main_v16 : IVec S1x1024x2048 1 := cmpf .olt main_v14 main_v15
  (main_v2, main_v5, main_v8, main_v11, main_v16)
-- ==== Pre_finite2.lean ====
abbrev S2x1024x4096 : Shape := ⟨3, ![2, 1024, 4096]⟩
abbrev S2x4x512x512 : Shape := ⟨4, ![2, 4, 512, 512]⟩
abbrev S2x1024x2048 : Shape := ⟨3, ![2, 1024, 2048]⟩
abbrev S_ : Shape := ⟨0, ![]⟩

class Facts : Prop where
  slices_S2x1024x4096_S2x1024x2048_0_0_0 : S2x1024x4096.Slices ![0, 0, 0] S2x1024x2048
  bcast_S_S2x1024x2048 : S_.BroadcastsInDim S2x1024x2048 (![] : Fin 0 → Fin S2x1024x2048.rank)
  bcast_S_S2x4x512x512 : S_.BroadcastsInDim S2x4x512x512 (![] : Fin 0 → Fin S2x4x512x512.rank)

variable [Facts]

def fn {F : FTy → Type} [FloatOps F] (main_arg0 : FVec F S2x1024x4096 .f32) (main_arg1 : FVec F S2x4x512x512 .f32) : IVec S2x1024x2048 1 × IVec S2x4x512x512 1 :=
  let main_v0 : FVec F S2x1024x2048 .f32 := (extractStridedSlice S2x1024x2048 ![0, 0, 0] · slices_S2x1024x4096_S2x1024x2048_0_0_0) main_arg0
  let main_v1 : FVec F S2x1024x2048 .f32 := Host.absf main_v0
  let main_cst : FVec F S_ .f32 := constant S_ .f32 0x7F800000#32
  let main_v2 : FVec F S2x1024x2048 .f32 := broadcastInDim S2x1024x2048 ![] bcast_S_S2x1024x2048 main_cst
  let main_v3 : IVec S2x1024x2048 1 := cmpf .olt main_v1 main_v2
  let main_v4 : FVec F S2x4x512x512 .f32 := Host.absf main_arg1
  let main_cst_0 : FVec F S_ .f32 := constant S_ .f32 0x7F800000#32
  let main_v5 : FVec F S2x4x512x512 .f32 := broadcastInDim S2x4x512x512 ![] bcast_S_S2x4x512x512 main_cst_0
  let main_v6 : IVec S2x4x512x512 1 := cmpf .olt main_v4 main_v5
  (main_v3, main_v6)
-- ==== Pre_finite5.lean ====
abbrev S4x16x8192x128 : Shape := ⟨4, ![4, 16, 8192, 128]⟩
abbrev S4x16x128x8192 : Shape := ⟨4, ![4, 16, 128, 8192]⟩
abbrev S4x8192x2048 : Shape := ⟨3, ![4, 8192, 2048]⟩
abbrev S4x8192x1024 : Shape := ⟨3, ![4, 8192, 1024]⟩
abbrev S4x1024 : Shape := ⟨2, ![4, 1024]⟩
abbrev S16x257 : Shape := ⟨2, ![16, 257]⟩
abbrev S2x2048x1024 : Shape := ⟨3, ![2, 2048, 1024]⟩
abbrev S1024 : Shape := ⟨1, ![1024]⟩
abbrev S_ : Shape := ⟨0, ![]⟩

class Facts : Prop where
  bitsLt_bf16_f32 : FTy.bits .bf16 < FTy.bits .f32
  bcast_S_S4x16x8192x128 : S_.BroadcastsInDim S4x16x8192x128 (![] : Fin 0 → Fin S4x16x8192x128.rank)
  bcast_S_S4x16x128x8192 : S_.BroadcastsInDim S4x16x128x8192 (![] : Fin 0 → Fin S4x16x128x8192.rank)
  bcast_S_S16x257 : S_.BroadcastsInDim S16x257 (![] : Fin 0 → Fin S16x257.rank)

variable [Facts]

def fn {F : FTy → Type} [FloatOps F] (main_arg0 : FVec F S4x16x8192x128 .bf16) (main_arg1 : FVec F S4x16x128x8192 .bf16) (main_arg2 : FVec F S4x16x8192x128 .bf16) (main_arg3 : FVec F S4x8192x2048 .f32) (main_arg4 : FVec F S4x8192x1024 .f32) (main_arg5 : FVec F S4x1024 .f32) (main_arg6 : FVec F S16x257 .f32) (main_arg7 : FVec F S2x2048x1024 .f32) (main_arg8 : FVec F S1024 .f32) : IVec S4x16x8192x128 1 × IVec S4x16x128x8192 1 × IVec S16x257 1 :=
  let main_v0 : FVec F S4x16x8192x128 .f32 := (extf .f32 · bitsLt_bf16_f32) main_arg0
  let main_v1 : FVec F S4x16x8192x128 .f32 := Host.absf main_v0
  let main_cst : FVec F S_ .f32 := constant S_ .f32 0x7F800000#32
  let main_v2 : FVec F S4x16x8192x128 .f32 := broadcastInDim S4x16x8192x128 ![] bcast_S_S4x16x8192x128 main_cst
  let main_v3 : IVec S4x16x8192x128 1 := cmpf .olt main_v1 main_v2
  let main_v4 : FVec F S4x16x128x8192 .f32 := (extf .f32 · bitsLt_bf16_f32) main_arg1
  let main_v5 : FVec F S4x16x128x8192 .f32 := Host.absf main_v4
  let main_cst_0 : FVec F S_ .f32 := constant S_ .f32 0x7F800000#32
  let main_v6 : FVec F S4x16x128x8192 .f32 := broadcastInDim S4x16x128x8192 ![] bcast_S_S4x16x128x8192 main_cst_0
  let main_v7 : IVec S4x16x128x8192 1 := cmpf .olt main_v5 main_v6
  let main_v8 : FVec F S16x257 .f32 := Host.absf main_arg6
  let main_cst_1 : FVec F S_ .f32 := constant S_ .f32 0x7F800000#32
  let main_v9 : FVec F S16x257 .f32 := broadcastInDim S16x257 ![] bcast_S_S16x257 main_cst_1
  let main_v10 : IVec S16x257 1 := cmpf .olt main_v8 main_v9
  (main_v3, main_v7, main_v10)
-- ==== Kernel.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S2048 : Shape := ⟨1, ![2048]⟩
abbrev S2x2048x1024 : Shape := ⟨3, ![2, 2048, 1024]⟩
abbrev S4x1x1024 : Shape := ⟨3, ![4, 1, 1024]⟩
abbrev S1x1024 : Shape := ⟨2, ![1, 1024]⟩
abbrev S1x2048 : Shape := ⟨2, ![1, 2048]⟩
abbrev S2x512x1024 : Shape := ⟨3, ![2, 512, 1024]⟩
abbrev S2x1x1024 : Shape := ⟨3, ![2, 1, 1024]⟩
abbrev S1x1024x4096 : Shape := ⟨3, ![1, 1024, 4096]⟩
abbrev S1x2048x1024 : Shape := ⟨3, ![1, 2048, 1024]⟩
abbrev S2x16x2048 : Shape := ⟨3, ![2, 16, 2048]⟩
abbrev S1024x1024 : Shape := ⟨2, ![1024, 1024]⟩
abbrev S1x512x1024 : Shape := ⟨3, ![1, 512, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x128 : Shape := ⟨2, ![512, 128]⟩
abbrev S512x512 : Shape := ⟨2, ![512, 512]⟩
abbrev S1x16x512 : Shape := ⟨3, ![1, 16, 512]⟩
abbrev S16x512 : Shape := ⟨2, ![16, 512]⟩
abbrev S528x512 : Shape := ⟨2, ![528, 512]⟩
abbrev S1x512 : Shape := ⟨2, ![1, 512]⟩
abbrev S512x2048 : Shape := ⟨2, ![512, 2048]⟩
abbrev S1024x2048 : Shape := ⟨2, ![1024, 2048]⟩
abbrev S2048x1024 : Shape := ⟨2, ![2048, 1024]⟩

abbrev nBuf : Space → Nat
  | .hbm => 15
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S2x1024x4096, .bf16⟩
  | .hbm, ⟨6, _⟩ => ⟨S2048, .f32⟩
  | .hbm, ⟨7, _⟩ => ⟨S2x2048x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1x1024, .f32⟩
  | .hbm, ⟨12, _⟩ => ⟨S1x2048, .f32⟩
  | .hbm, ⟨13, _⟩ => ⟨S2x2048x1024, .bf16⟩
  | .hbm, ⟨14, _⟩ => ⟨S4x8192x1024, .f32⟩
  | .local _ .vmem, ⟨0, _⟩ => ⟨S2x512x1024, .f32⟩
  | .local _ .vmem, ⟨1, _⟩ => ⟨S2x512x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1x1024, .f32⟩
  | .local _ .vmem, ⟨5, _⟩ => ⟨S2x1x1024, .f32⟩
  | .local _ .vmem, ⟨6, _⟩ => ⟨S2x1x1024, .f32⟩
  | .local _ .vmem, ⟨7, _⟩ => ⟨S2x1x1024, .f32⟩
  | .local _ .vmem, ⟨8, _⟩ => ⟨S1x1024, .f32⟩
  | .local _ .vmem, ⟨9, _⟩ => ⟨S1x1024x4096, .bf16⟩
  | .local _ .vmem, ⟨10, _⟩ => ⟨S1x2048, .f32⟩
  | .local _ .vmem, ⟨11, _⟩ => ⟨S1x2048x1024, .bf16⟩
  | .local _ .vmem, ⟨12, _⟩ => ⟨S2x512x1024, .f32⟩
  | .local _ .vmem, ⟨13, _⟩ => ⟨S2x512x1024, .f32⟩
  | .local _ .vmem, ⟨14, _⟩ => ⟨S2x16x2048, .f32⟩
  | .local _ .vmem, ⟨15, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S2048 : Shape := ⟨1, ![2048]⟩
abbrev S2x2048x1024 : Shape := ⟨3, ![2, 2048, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S4x8192x2048 : Shape := ⟨3, ![4, 8192, 2048]⟩
abbrev S4x8192x4x512 : Shape := ⟨4, ![4, 8192, 4, 512]⟩
abbrev S8192 : Shape := ⟨1, ![8192]⟩
abbrev S4x8192x1x512 : Shape := ⟨4, ![4, 8192, 1, 512]⟩
abbrev S4x8192x512 : Shape := ⟨3, ![4, 8192, 512]⟩
abbrev S4x8194x512 : Shape := ⟨3, ![4, 8194, 512]⟩
abbrev S1x8192x1 : Shape := ⟨3, ![1, 8192, 1]⟩
abbrev S4x8196x512 : Shape := ⟨3, ![4, 8196, 512]⟩
abbrev S4x8200x512 : Shape := ⟨3, ![4, 8200, 512]⟩
abbrev S4x8208x512 : Shape := ⟨3, ![4, 8208, 512]⟩
abbrev S1x1x2048 : Shape := ⟨3, ![1, 1, 2048]⟩
abbrev S1x2048x1024 : Shape := ⟨3, ![1, 2048, 1024]⟩
abbrev S2048x1024 : Shape := ⟨2, ![2048, 1024]⟩

abbrev nBuf : Space → Nat
  | .hbm => 150
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S4x1024, .f32⟩
  | 4 => ⟨S1024, .f32⟩
  | 5 => ⟨S2x1024x4096, .bf16⟩
  | 6 => ⟨S2048, .f32⟩
  | 7 => ⟨S2x2048x1024, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S4x1x1024, .f32⟩
  | 25 => ⟨S_, .f32⟩
  | 26 => ⟨S4x1x1024, .f32⟩
  | 27 => ⟨S4x1x1024, .f32⟩
  | 28 => ⟨S4x8192x1024, .f32⟩
  | 29 => ⟨S4x8192x1024, .f32⟩
  | 30 => ⟨S4x1x1024, .f32⟩
  | 31 => ⟨S4x8192x1024, .f32⟩
  | 32 => ⟨S4x8192x1024, .f32⟩
  | 33 => ⟨S1x1024x4096, .bf16⟩
  | 34 => ⟨S1024x4096, .bf16⟩
  | 35 => ⟨S1024x4096, .f32⟩
  | 36 => ⟨S4x8192x4096, .f32⟩
  | 37 => ⟨S4x8192x2048, .f32⟩
  | 38 => ⟨S4x8192x2048, .f32⟩
  | 39 => ⟨S4x8192x4x512, .f32⟩
  | 40 => ⟨S_, .f32⟩
  | 41 => ⟨S_, .f32⟩
  | 42 => ⟨S4x8192x4x512, .f32⟩
  | 43 => ⟨S8192, .i32⟩
  | 44 => ⟨S4x8192x1x512, .f32⟩
  | 45 => ⟨S4x8192x512, .f32⟩
  | 46 => ⟨S_, .i32⟩
  | 47 => ⟨S_, .f32⟩
  | 48 => ⟨S4x8194x512, .f32⟩
  | 49 => ⟨S4x8192x512, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .f32⟩
  | 57 => ⟨S1x8192x1, .f32⟩
  | 58 => ⟨S4x8192x512, .f32⟩
  | 59 => ⟨S4x8192x512, .f32⟩
  | 60 => ⟨S4x8192x512, .f32⟩
  | 61 => ⟨S4x8192x1x512, .f32⟩
  | 62 => ⟨S4x8192x512, .f32⟩
  | 63 => ⟨S4x8192x512, .f32⟩
  | 64 => ⟨S4x8192x1x512, .f32⟩
  | 65 => ⟨S4x8192x512, .f32⟩
  | 66 => ⟨S_, .i32⟩
  | 67 => ⟨S_, .f32⟩
  | 68 => ⟨S4x8196x512, .f32⟩
  | 69 => ⟨S4x8192x512, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .f32⟩
  | 77 => ⟨S1x8192x1, .f32⟩
  | 78 => ⟨S4x8192x512, .f32⟩
  | 79 => ⟨S4x8192x512, .f32⟩
  | 80 => ⟨S4x8192x512, .f32⟩
  | 81 => ⟨S4x8192x1x512, .f32⟩
  | 82 => ⟨S4x8192x512, .f32⟩
  | 83 => ⟨S4x8192x512, .f32⟩
  | 84 => ⟨S4x8192x1x512, .f32⟩
  | 85 => ⟨S4x8192x512, .f32⟩
  | 86 => ⟨S_, .i32⟩
  | 87 => ⟨S_, .f32⟩
  | 88 => ⟨S4x8200x512, .f32⟩
  | 89 => ⟨S4x8192x512, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .f32⟩
  | 97 => ⟨S1x8192x1, .f32⟩
  | 98 => ⟨S4x8192x512, .f32⟩
  | 99 => ⟨S4x8192x512, .f32⟩
  | 100 => ⟨S4x8192x512, .f32⟩
  | 101 => ⟨S4x8192x1x512, .f32⟩
  | 102 => ⟨S4x8192x512, .f32⟩
  | 103 => ⟨S4x8192x512, .f32⟩
  | 104 => ⟨S4x8192x1x512, .f32⟩
  | 105 => ⟨S4x8192x512, .f32⟩
  | 106 => ⟨S_, .i32⟩
  | 107 => ⟨S_, .f32⟩
  | 108 => ⟨S4x8208x512, .f32⟩
  | 109 => ⟨S4x8192x512, .f32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .f32⟩
  | 117 => ⟨S1x8192x1, .f32⟩
  | 118 => ⟨S4x8192x512, .f32⟩
  | 119 => ⟨S4x8192x512, .f32⟩
  | 120 => ⟨S4x8192x512, .f32⟩
  | 121 => ⟨S4x8192x1x512, .f32⟩
  | 122 => ⟨S4x8192x512, .f32⟩
  | 123 => ⟨S4x8192x512, .f32⟩
  | 124 => ⟨S4x8192x1x512, .f32⟩
  | 125 => ⟨S4x8192x1x512, .f32⟩
  | 126 => ⟨S4x8192x1x512, .f32⟩
  | 127 => ⟨S4x8192x1x512, .f32⟩
  | _ => ⟨S4x8192x1024, .f32⟩

abbrev hbmTy0_1 (i : Nat) : BufTy := match i % 128 with
  | 0 => ⟨S4x8192x4x512, .f32⟩
  | 1 => ⟨S4x8192x2048, .f32⟩
  | 2 => ⟨S1x1x2048, .f32⟩
  | 3 => ⟨S4x8192x2048, .f32⟩
  | 4 => ⟨S4x8192x2048, .f32⟩
  | 5 => ⟨S4x8192x2048, .f32⟩
  | 6 => ⟨S4x8192x2048, .f32⟩
  | 7 => ⟨S_, .f32⟩
  | 8 => ⟨S4x8192x2048, .f32⟩
  | 9 => ⟨S4x8192x2048, .f32⟩
  | 10 => ⟨S_, .f32⟩
  | 11 => ⟨S4x8192x2048, .f32⟩
  | 12 => ⟨S4x8192x2048, .f32⟩
  | 13 => ⟨S4x8192x2048, .f32⟩
  | 14 => ⟨S4x8192x2048, .f32⟩
  | 15 => ⟨S1x2048x1024, .f32⟩
  | 16 => ⟨S2048x1024, .f32⟩
  | 17 => ⟨S4x8192x1024, .f32⟩
  | 18 => ⟨S4x1x1024, .f32⟩
  | 19 => ⟨S4x8192x1024, .f32⟩
  | 20 => ⟨S4x8192x1024, .f32⟩
  | 21 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_call2_v0 : Ref sig .tc := ⟨.hbm, 67, rfl⟩
abbrev main_v48 : Ref sig .tc := ⟨.hbm, 68, rfl⟩
abbrev main_v49 : Ref sig .tc := ⟨.hbm, 69, rfl⟩
abbrev main_c_6 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_8 : Ref sig .tc := ⟨.hbm, 86, rfl⟩
abbrev main_call3_v0 : Ref sig .tc := ⟨.hbm, 87, rfl⟩
abbrev main_v64 : Ref sig .tc := ⟨.hbm, 88, rfl⟩
abbrev main_v65 : Ref sig .tc := ⟨.hbm, 89, rfl⟩
abbrev main_c_9 : Ref sig .tc := ⟨.hbm, 90, rfl⟩
abbrev main_v66 : Ref sig .tc := ⟨.hbm, 91, rfl⟩
abbrev main_v67 : Ref sig .tc := ⟨.hbm, 92, rfl⟩
abbrev main_c_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_11 : Ref sig .tc := ⟨.hbm, 106, rfl⟩
abbrev main_call4_v0 : Ref sig .tc := ⟨.hbm, 107, rfl⟩
abbrev main_v80 : Ref sig .tc := ⟨.hbm, 108, rfl⟩
abbrev main_v81 : Ref sig .tc := ⟨.hbm, 109, rfl⟩
abbrev main_c_12 : Ref sig .tc := ⟨.hbm, 110, rfl⟩
abbrev main_v82 : Ref sig .tc := ⟨.hbm, 111, rfl⟩
abbrev main_v83 : Ref sig .tc := ⟨.hbm, 112, rfl⟩
abbrev main_c_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]
-- ==== Fold.lean ====
abbrev S2x1024x4096 : Shape := ⟨3, ![2, 1024, 4096]⟩
abbrev S2x4x512x512 : Shape := ⟨4, ![2, 4, 512, 512]⟩
abbrev S1x1024x512 : Shape := ⟨3, ![1, 1024, 512]⟩
abbrev S1x1x512x512 : Shape := ⟨4, ![1, 1, 512, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x4096, .f32⟩
  | .hbm, ⟨1, _⟩ => ⟨S2x4x512x512, .f32⟩
  | .hbm, ⟨2, _⟩ => ⟨S2x1024x4096, .bf16⟩
  | .local _ .vmem, ⟨0, _⟩ => ⟨S1x1024x512, .f32⟩
  | .local _ .vmem, ⟨1, _⟩ => ⟨S1x1024x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1024x512, .bf16⟩
  | .local _ .vmem, ⟨5, _⟩ => ⟨S1x1024x512, .bf16⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FoldReferenceIdeal.lean ====
abbrev S2x1024x4096 : Shape := ⟨3, ![2, 1024, 4096]⟩
abbrev S2x4x512x512 : Shape := ⟨4, ![2, 4, 512, 512]⟩
abbrev S2x1024x2048 : Shape := ⟨3, ![2, 1024, 2048]⟩
abbrev S2x1024x4x512 : Shape := ⟨4, ![2, 1024, 4, 512]⟩
abbrev S2x4x512x1024 : Shape := ⟨4, ![2, 4, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S2x4x512x512, .f32⟩
  | .hbm, ⟨2, _⟩ => ⟨S2x1024x2048, .f32⟩
  | .hbm, ⟨3, _⟩ => ⟨S2x1024x2048, .f32⟩
  | .hbm, ⟨4, _⟩ => ⟨S2x1024x4x512, .f32⟩
  | .hbm, ⟨5, _⟩ => ⟨S2x4x512x1024, .f32⟩
  | .hbm, ⟨6, _⟩ => ⟨S2x1024x4x512, .f32⟩
  | .hbm, ⟨7, _⟩ => ⟨S2x1024x2048, .f32⟩
  | .hbm, ⟨8, _⟩ => ⟨S2x1024x4096, .f32⟩
  | .hbm, ⟨9, _⟩ => ⟨S2x1024x4096, .bf16⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Shared.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S1024x4096 : Shape := ⟨2, ![1024, 4096]⟩
abbrev S1024x2048 : Shape := ⟨2, ![1024, 2048]⟩
abbrev S2048x1024 : Shape := ⟨2, ![2048, 1024]⟩
abbrev S4x1x1024 : Shape := ⟨3, ![4, 1, 1024]⟩
abbrev S1x1024 : Shape := ⟨2, ![1, 1024]⟩
abbrev S4x16x8192x128 : Shape := ⟨4, ![4, 16, 8192, 128]⟩
abbrev S4x8192x2048 : Shape := ⟨3, ![4, 8192, 2048]⟩
abbrev S4x16x128x8192 : Shape := ⟨4, ![4, 16, 128, 8192]⟩
abbrev S1x512x1024 : Shape := ⟨3, ![1, 512, 1024]⟩
abbrev S1x1x1024 : Shape := ⟨3, ![1, 1, 1024]⟩
abbrev S1x1024x4096 : Shape := ⟨3, ![1, 1024, 4096]⟩
abbrev S1x16x512x128 : Shape := ⟨4, ![1, 16, 512, 128]⟩
abbrev S1x512x2048 : Shape := ⟨3, ![1, 512, 2048]⟩
abbrev S1x16x128x512 : Shape := ⟨4, ![1, 16, 128, 512]⟩
abbrev S512x1024 : Shape := ⟨2, ![512, 1024]⟩
abbrev S512 : Shape := ⟨1, ![512]⟩
abbrev S512x1 : Shape := ⟨2, ![512, 1]⟩
abbrev S1x1024x2048 : Shape := ⟨3, ![1, 1024, 2048]⟩
abbrev S512x2048 : Shape := ⟨2, ![512, 2048]⟩
abbrev S512x128 : Shape := ⟨2, ![512, 128]⟩
abbrev S1x1x512x128 : Shape := ⟨4, ![1, 1, 512, 128]⟩
abbrev S2048x512 : Shape := ⟨2, ![2048, 512]⟩
abbrev S128x512 : Shape := ⟨2, ![128, 512]⟩
abbrev S1x1x128x512 : Shape := ⟨4, ![1, 1, 128, 512]⟩

abbrev nBuf : Space → Nat
  | .hbm => 25
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S2x1024x4096, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S1024x4096, .f32⟩
  | .hbm, ⟨9, _⟩ => ⟨S1024x2048, .f32⟩
  | .hbm, ⟨10, _⟩ => ⟨S2048x1024, .f32⟩
  | .hbm, ⟨11, _⟩ => ⟨S2048x1024, .bf16⟩
  | .hbm, ⟨12, _⟩ => ⟨S1024x2048, .f32⟩
  | .hbm, ⟨13, _⟩ => ⟨S1024x2048, .bf16⟩
  | .hbm, ⟨14, _⟩ => ⟨S4x1x1024, .f32⟩
  | .hbm, ⟨15, _⟩ => ⟨S4x1x1024, .f32⟩
  | .hbm, ⟨16, _⟩ => ⟨S1x1024, .f32⟩
  | .hbm, ⟨17, _⟩ => ⟨S4x1x1024, .f32⟩
  | .hbm, ⟨18, _⟩ => ⟨S4x1x1024, .f32⟩
  | .hbm, ⟨19, _⟩ => ⟨S1x1024, .f32⟩
  | .hbm, ⟨20, _⟩ => ⟨S2x1024x4096, .bf16⟩
  | .hbm, ⟨21, _⟩ => ⟨S4x16x8192x128, .bf16⟩
  | .hbm, ⟨22, _⟩ => ⟨S4x8192x2048, .f32⟩
  | .hbm, ⟨23, _⟩ => ⟨S4x16x128x8192, .bf16⟩
  | .hbm, ⟨24, _⟩ => ⟨S4x16x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S2048x1024, .bf16⟩
  | .local _ .vmem, ⟨14, _⟩ => ⟨S1024x2048, .bf16⟩
  | .local _ .vmem, ⟨15, _⟩ => ⟨S1x16x512x128, .bf16⟩
  | .local _ .vmem, ⟨16, _⟩ => ⟨S1x16x512x128, .bf16⟩
  | .local _ .vmem, ⟨17, _⟩ => ⟨S1x512x2048, .f32⟩
  | .local _ .vmem, ⟨18, _⟩ => ⟨S1x512x2048, .f32⟩
  | .local _ .vmem, ⟨19, _⟩ => ⟨S1x16x128x512, .bf16⟩
  | .local _ .vmem, ⟨20, _⟩ => ⟨S1x16x128x512, .bf16⟩
  | .local _ .vmem, ⟨21, _⟩ => ⟨S1x16x512x128, .bf16⟩
  | .local _ .vmem, ⟨22, _⟩ => ⟨S1x16x512x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SharedReferenceIdeal.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S1024x4096 : Shape := ⟨2, ![1024, 4096]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1x1024x4096 : Shape := ⟨3, ![1, 1024, 4096]⟩
abbrev S4x8192x4096 : Shape := ⟨3, ![4, 8192, 4096]⟩
abbrev S4x8192x2048 : Shape := ⟨3, ![4, 8192, 2048]⟩
abbrev S4x8192x16x128 : Shape := ⟨4, ![4, 8192, 16, 128]⟩
abbrev S4x16x8192x128 : Shape := ⟨4, ![4, 16, 8192, 128]⟩
abbrev S4x16x128x8192 : Shape := ⟨4, ![4, 16, 128, 8192]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S2x1024x4096, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S1024x4096, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S1x1024x4096, .f32⟩
  | .hbm, ⟨35, _⟩ => ⟨S1024x4096, .f32⟩
  | .hbm, ⟨36, _⟩ => ⟨S4x8192x4096, .f32⟩
  | .hbm, ⟨37, _⟩ => ⟨S4x8192x2048, .f32⟩
  | .hbm, ⟨38, _⟩ => ⟨S4x8192x2048, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S4x1x1024, .f32⟩
  | .hbm, ⟨56, _⟩ => ⟨S_, .f32⟩
  | .hbm, ⟨57, _⟩ => ⟨S4x1x1024, .f32⟩
  | .hbm, ⟨58, _⟩ => ⟨S4x1x1024, .f32⟩
  | .hbm, ⟨59, _⟩ => ⟨S4x8192x1024, .f32⟩
  | .hbm, ⟨60, _⟩ => ⟨S4x8192x1024, .f32⟩
  | .hbm, ⟨61, _⟩ => ⟨S4x1x1024, .f32⟩
  | .hbm, ⟨62, _⟩ => ⟨S4x8192x1024, .f32⟩
  | .hbm, ⟨63, _⟩ => ⟨S4x8192x1024, .f32⟩
  | .hbm, ⟨64, _⟩ => ⟨S4x8192x4096, .f32⟩
  | .hbm, ⟨65, _⟩ => ⟨S4x8192x2048, .f32⟩
  | .hbm, ⟨66, _⟩ => ⟨S4x8192x2048, .f32⟩
  | .hbm, ⟨67, _⟩ => ⟨S4x8192x16x128, .f32⟩
  | .hbm, ⟨68, _⟩ => ⟨S4x16x8192x128, .f32⟩
  | .hbm, ⟨69, _⟩ => ⟨S4x8192x16x128, .f32⟩
  | .hbm, ⟨70, _⟩ => ⟨S4x16x8192x128, .f32⟩
  | .hbm, ⟨71, _⟩ => ⟨S4x8192x16x128, .f32⟩
  | .hbm, ⟨72, _⟩ => ⟨S4x16x8192x128, .f32⟩
  | .hbm, ⟨73, _⟩ => ⟨S_, .f32⟩
  | .hbm, ⟨74, _⟩ => ⟨S4x16x8192x128, .f32⟩
  | .hbm, ⟨75, _⟩ => ⟨S4x16x8192x128, .f32⟩
  | .hbm, ⟨76, _⟩ => ⟨S4x16x8192x128, .bf16⟩
  | .hbm, ⟨77, _⟩ => ⟨S4x16x128x8192, .f32⟩
  | .hbm, ⟨78, _⟩ => ⟨S4x16x128x8192, .bf16⟩
  | .hbm, ⟨79, _⟩ => ⟨S4x16x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Query.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S4x1x1024 : Shape := ⟨3, ![4, 1, 1024]⟩
abbrev S1x1024 : Shape := ⟨2, ![1, 1024]⟩
abbrev S4x16x8192x128 : Shape := ⟨4, ![4, 16, 8192, 128]⟩
abbrev S4x8192x2048 : Shape := ⟨3, ![4, 8192, 2048]⟩
abbrev S2x512x1024 : Shape := ⟨3, ![2, 512, 1024]⟩
abbrev S2x1x1024 : Shape := ⟨3, ![2, 1, 1024]⟩
abbrev S1x1024x4096 : Shape := ⟨3, ![1, 1024, 4096]⟩
abbrev S2x16x512x128 : Shape := ⟨4, ![2, 16, 512, 128]⟩
abbrev S2x512x2048 : Shape := ⟨3, ![2, 512, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S1x1024x2048 : Shape := ⟨3, ![1, 1024, 2048]⟩
abbrev S1024x2048 : Shape := ⟨2, ![1024, 2048]⟩
abbrev S512x2048 : Shape := ⟨2, ![512, 2048]⟩
abbrev S512x128 : Shape := ⟨2, ![512, 128]⟩
abbrev S1x1x512x128 : Shape := ⟨4, ![1, 1, 512, 128]⟩
abbrev S1x512x2048 : Shape := ⟨3, ![1, 512, 2048]⟩

abbrev nBuf : Space → Nat
  | .hbm => 11
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S2x1024x4096, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S2x1024x4096, .bf16⟩
  | .hbm, ⟨9, _⟩ => ⟨S4x16x8192x128, .bf16⟩
  | .hbm, ⟨10, _⟩ => ⟨S4x8192x2048, .f32⟩
  | .local _ .vmem, ⟨0, _⟩ => ⟨S2x512x1024, .f32⟩
  | .local _ .vmem, ⟨1, _⟩ => ⟨S2x512x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1x1024, .f32⟩
  | .local _ .vmem, ⟨5, _⟩ => ⟨S2x1x1024, .f32⟩
  | .local _ .vmem, ⟨6, _⟩ => ⟨S1x1024, .f32⟩
  | .local _ .vmem, ⟨7, _⟩ => ⟨S1x1024x4096, .bf16⟩
  | .local _ .vmem, ⟨8, _⟩ => ⟨S2x16x512x128, .bf16⟩
  | .local _ .vmem, ⟨9, _⟩ => ⟨S2x16x512x128, .bf16⟩
  | .local _ .vmem, ⟨10, _⟩ => ⟨S2x512x2048, .f32⟩
  | .local _ .vmem, ⟨11, _⟩ => ⟨S2x512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QueryReferenceIdeal.lean ====
abbrev S4x8192x1024 : Shape := ⟨3, ![4, 8192, 1024]⟩
abbrev S4x1024 : Shape := ⟨2, ![4, 1024]⟩
abbrev S1024 : Shape := ⟨1, ![1024]⟩
abbrev S2x1024x4096 : Shape := ⟨3, ![2, 1024, 4096]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S4x8192x2048 : Shape := ⟨3, ![4, 8192, 2048]⟩
abbrev S4x8192x16x128 : Shape := ⟨4, ![4, 8192, 16, 128]⟩
abbrev S4x16x8192x128 : Shape := ⟨4, ![4, 16, 8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S2x1024x4096, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S1x1024x4096, .f32⟩
  | .hbm, ⟨31, _⟩ => ⟨S1024x4096, .f32⟩
  | .hbm, ⟨32, _⟩ => ⟨S4x8192x4096, .f32⟩
  | .hbm, ⟨33, _⟩ => ⟨S4x8192x2048, .f32⟩
  | .hbm, ⟨34, _⟩ => ⟨S4x8192x2048, .f32⟩
  | .hbm, ⟨35, _⟩ => ⟨S4x8192x16x128, .f32⟩
  | .hbm, ⟨36, _⟩ => ⟨S4x16x8192x128, .f32⟩
  | .hbm, ⟨37, _⟩ => ⟨S_, .f32⟩
  | .hbm, ⟨38, _⟩ => ⟨S4x16x8192x128, .f32⟩
  | .hbm, ⟨39, _⟩ => ⟨S4x16x8192x128, .f32⟩
  | .hbm, ⟨40, _⟩ => ⟨S4x16x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Attn.lean ====
abbrev S4x16x8192x128 : Shape := ⟨4, ![4, 16, 8192, 128]⟩
abbrev S4x16x128x8192 : Shape := ⟨4, ![4, 16, 128, 8192]⟩
abbrev S4x8192x2048 : Shape := ⟨3, ![4, 8192, 2048]⟩
abbrev S4x8192x1024 : Shape := ⟨3, ![4, 8192, 1024]⟩
abbrev S4x1024 : Shape := ⟨2, ![4, 1024]⟩
abbrev S16x257 : Shape := ⟨2, ![16, 257]⟩
abbrev S2x2048x1024 : Shape := ⟨3, ![2, 2048, 1024]⟩
abbrev S1024 : Shape := ⟨1, ![1024]⟩
abbrev S4x1x1024 : Shape := ⟨3, ![4, 1, 1024]⟩
abbrev S16x1 : Shape := ⟨2, ![16, 1]⟩
abbrev S16x639 : Shape := ⟨2, ![16, 639]⟩
abbrev S16x127 : Shape := ⟨2, ![16, 127]⟩
abbrev S_ : Shape := ⟨0, ![]⟩
abbrev S16x1024 : Shape := ⟨2, ![16, 1024]⟩
abbrev S16x769 : Shape := ⟨2, ![16, 769]⟩
abbrev S16x255 : Shape := ⟨2, ![16, 255]⟩
abbrev S16x1x1024 : Shape := ⟨3, ![16, 1, 1024]⟩
abbrev S2x1024x2048 : Shape := ⟨3, ![2, 1024, 2048]⟩
abbrev S1x1024 : Shape := ⟨2, ![1, 1024]⟩
abbrev S1x16x256x128 : Shape := ⟨4, ![1, 16, 256, 128]⟩
abbrev S1x16x128x256 : Shape := ⟨4, ![1, 16, 128, 256]⟩
abbrev S1x256x2048 : Shape := ⟨3, ![1, 256, 2048]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S3x16x128x256 : Shape := ⟨4, ![3, 16, 128, 256]⟩
abbrev S3x16x256x256 : Shape := ⟨4, ![3, 16, 256, 256]⟩
abbrev S16x256x128 : Shape := ⟨3, ![16, 256, 128]⟩
abbrev S2x256x768 : Shape := ⟨3, ![2, 256, 768]⟩
abbrev S2x256x128 : Shape := ⟨3, ![2, 256, 128]⟩
abbrev S16x256x768 : Shape := ⟨3, ![16, 256, 768]⟩
abbrev S256x1024 : Shape := ⟨2, ![256, 1024]⟩
abbrev S256x768 : Shape := ⟨2, ![256, 768]⟩
abbrev S1x256x768 : Shape := ⟨3, ![1, 256, 768]⟩
abbrev S3x16x256x128 : Shape := ⟨4, ![3, 16, 256, 128]⟩
abbrev S256x128 : Shape := ⟨2, ![256, 128]⟩
abbrev S1x1x256x128 : Shape := ⟨4, ![1, 1, 256, 128]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S1x256x128 : Shape := ⟨3, ![1, 256, 128]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x64x256 : Shape := ⟨3, ![1, 64, 256]⟩
abbrev S64x256 : Shape := ⟨2, ![64, 256]⟩
abbrev S16x128x256 : Shape := ⟨3, ![16, 128, 256]⟩
abbrev S256x2048 : Shape := ⟨2, ![256, 2048]⟩
abbrev S1024x2048 : Shape := ⟨2, ![1024, 2048]⟩
abbrev S1024x256 : Shape := ⟨2, ![1024, 256]⟩
abbrev S256 : Shape := ⟨1, ![256]⟩
abbrev S256x1 : Shape := ⟨2, ![256, 1]⟩
abbrev S128x512 : Shape := ⟨2, ![128, 512]⟩
abbrev S256x512 : Shape := ⟨2, ![256, 512]⟩
abbrev S1x256x512 : Shape := ⟨3, ![1, 256, 512]⟩
abbrev S1x64x512 : Shape := ⟨3, ![1, 64, 512]⟩
abbrev S64x512 : Shape := ⟨2, ![64, 512]⟩
abbrev S1x1x256x256 : Shape := ⟨4, ![1, 1, 256, 256]⟩
abbrev S512x256 : Shape := ⟨2, ![512, 256]⟩
abbrev S128x768 : Shape := ⟨2, ![128, 768]⟩
abbrev S1x64x768 : Shape := ⟨3, ![1, 64, 768]⟩
abbrev S64x768 : Shape := ⟨2, ![64, 768]⟩
abbrev S768x256 : Shape := ⟨2, ![768, 256]⟩

abbrev nBuf : Space → Nat
  | .hbm => 26
  | .vmem => 24
  | .smem => 0
  | _ => 0

abbrev bufTy : (tb : Table) → Fin (tcTables nBuf tb) → BufTy
  | .hbm, ⟨0, _⟩ => ⟨S4x16x8192x128, .bf16⟩
  | .hbm, ⟨1, _⟩ => ⟨S4x16x128x8192, .bf16⟩
  | .hbm, ⟨2, _⟩ => ⟨S4x16x8192x128, .bf16⟩
  | .hbm, ⟨3, _⟩ => ⟨S4x8192x2048, .f32⟩
  | .hbm, ⟨4, _⟩ => ⟨S4x8192x1024, .f32⟩
  | .hbm, ⟨5, _⟩ => ⟨S4x1024, .f32⟩
  | .hbm, ⟨6, _⟩ => ⟨S16x257, .f32⟩
  | .hbm, ⟨7, _⟩ => ⟨S2x2048x1024, .f32⟩
  | .hbm, ⟨8, _⟩ => ⟨S1024, .f32⟩
  | .hbm, ⟨9, _⟩ => ⟨S4x1x1024, .f32⟩
  | .hbm, ⟨10, _⟩ => ⟨S16x1, .f32⟩
  | .hbm, ⟨11, _⟩ => ⟨S16x639, .f32⟩
  | .hbm, ⟨12, _⟩ => ⟨S16x257, .f32⟩
  | .hbm, ⟨13, _⟩ => ⟨S16x1, .f32⟩
  | .hbm, ⟨14, _⟩ => ⟨S16x127, .f32⟩
  | .hbm, ⟨15, _⟩ => ⟨S_, .f32⟩
  | .hbm, ⟨16, _⟩ => ⟨S16x1, .f32⟩
  | .hbm, ⟨17, _⟩ => ⟨S16x1024, .f32⟩
  | .hbm, ⟨18, _⟩ => ⟨S16x769, .f32⟩
  | .hbm, ⟨19, _⟩ => ⟨S16x255, .f32⟩
  | .hbm, ⟨20, _⟩ => ⟨S16x1024, .f32⟩
  | .hbm, ⟨21, _⟩ => ⟨S16x1x1024, .f32⟩
  | .hbm, ⟨22, _⟩ => ⟨S2x1024x2048, .f32⟩
  | .hbm, ⟨23, _⟩ => ⟨S2x1024x2048, .bf16⟩
  | .hbm, ⟨24, _⟩ => ⟨S1x1024, .f32⟩
  | .hbm, ⟨25, _⟩ => ⟨S4x8192x1024, .f32⟩
  | .local _ .vmem, ⟨0, _⟩ => ⟨S1x16x256x128, .bf16⟩
  | .local _ .vmem, ⟨1, _⟩ => ⟨S1x16x256x128, .bf16⟩
  | .local _ .vmem, ⟨2, _⟩ => ⟨S1x16x128x256, .bf16⟩
  | .local _ .vmem, ⟨3, _⟩ => ⟨S1x16x128x256, .bf16⟩
  | .local _ .vmem, ⟨4, _⟩ => ⟨S1x16x256x128, .bf16⟩
  | .local _ .vmem, ⟨5, _⟩ => ⟨S1x16x256x128, .bf16⟩
  | .local _ .vmem, ⟨6, _⟩ => ⟨S1x256x2048, .f32⟩
  | .local _ .vmem, ⟨7, _⟩ => ⟨S1x256x2048, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S16x1x1024, .f32⟩
  | .local _ .vmem, ⟨13, _⟩ => ⟨S1x1024x2048, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S3x16x128x256, .bf16⟩
  | .local _ .vmem, ⟨18, _⟩ => ⟨S3x16x256x256, .bf16⟩
  | .local _ .vmem, ⟨19, _⟩ => ⟨S16x256x128, .f32⟩
  | .local _ .vmem, ⟨20, _⟩ => ⟨S2x256x768, .f32⟩
  | .local _ .vmem, ⟨21, _⟩ => ⟨S2x256x768, .bf16⟩
  | .local _ .vmem, ⟨22, _⟩ => ⟨S2x256x128, .f32⟩
  | .local _ .vmem, ⟨23, _⟩ => ⟨S16x256x768, .f32⟩
  | _, _ => ⟨S4x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_11 : BitVec 32 := 0#32
  let c16_i32 : BitVec 32 := 16#32
  let v21 : BitVec 32 := Scalar.addi c0_i32_11 c16_i32
  let c1_i32_12 : BitVec 32 := 1#32
  ⟨c0_i32_11, v21, c1_i32_12⟩
def k0_off1 (k0_t1 : Fin k0_t1_loop.trips) : Fin 3 → Nat :=
  let c0_i32_11 : BitVec 32 := 0#32
  let c1_i32_12 : BitVec 32 := 1#32
  let arg19 : BitVec 32 := Scf.iv c0_i32_11 c1_i32_12 k0_t1
  let v26 : Index := Scalar.indexCast arg19
  let c0_17 : Index := 0#32
  let c0_18 : Index := 0#32
  ![v26.toNat, 0, 0]
def k0_off2 (k0_t1 : Fin k0_t1_loop.trips) : Fin 3 → Nat :=
  let c0_i32_11 : BitVec 32 := 0#32
  let c1_i32_12 : BitVec 32 := 1#32
  let arg19 : BitVec 32 := Scf.iv c0_i32_11 c1_i32_12 k0_t1
  let v93 : Index := Scalar.indexCast arg19
  let c0_36 : Index := 0#32
  let c0_37 : Index := 0#32
  ![v93.toNat, 0, 0]
def k0_cond2 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off3 (i : grid0.Coords) : Fin 4 → Nat :=
  let arg1 : BitVec 32 := BitVec.ofNat 32 (i 1).val
  let c3_i32_1115 : BitVec 32 := 3#32
  let v1351 : BitVec 32 := Scalar.remsi arg1 c3_i32_1115
  let v1352 : Index := Scalar.indexCast v1351
  let c0_1116 : Index := 0#32
  let c0_1117 : Index := 0#32
  let c0_1118 : Index := 0#32
  ![v1352.toNat, 0, 0, 0]
def k0_off4 (i : grid0.Coords) : Fin 4 → Nat :=
  let arg1 : BitVec 32 := BitVec.ofNat 32 (i 1).val
  let c3_i32_1123 : BitVec 32 := 3#32
  let v1358 : BitVec 32 := Scalar.remsi arg1 c3_i32_1123
  let v1359 : Index := Scalar.indexCast v1358
  let c0_1124 : Index := 0#32
  let c0_1125 : Index := 0#32
  let c0_1126 : Index := 0#32
  ![v1359.toNat, 0, 0, 0]
def k0_cond3 (i : grid0.Coords) : BitVec 1 :=
  let arg1 : BitVec 32 := BitVec.ofNat 32 (i 1).val
  let c1_i32_8 : BitVec 32 := 1#32
  let v15 : BitVec 1 := Scalar.cmpi .eq arg1 c1_i32_8
  let v16 : BitVec 32 := Scalar.extui v15
  let c0_i32_9 : BitVec 32 := 0#32
  let v17 : BitVec 1 := Scalar.cmpi .ne v16 c0_i32_9
  v17

def k0_off5 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v23 : Index := Scalar.indexCast v10
  let c0_14 : Index := 0#32
  let c0_15 : Index := 0#32
  let c0_16 : Index := 0#32
  ![v23.toNat, 0, 0, 0]
def k0_off6 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v48 : Index := Scalar.indexCast v10
  let c1_33 : Index := 1#32
  let c0_34 : Index := 0#32
  let c0_35 : Index := 0#32
  ![v48.toNat, 1, 0, 0]
def k0_off7 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v125 : Index := Scalar.indexCast v10
  let c2_90 : Index := 2#32
  let c0_91 : Index := 0#32
  let c0_92 : Index := 0#32
  ![v125.toNat, 2, 0, 0]
def k0_off8 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v203 : Index := Scalar.indexCast v10
  let c0_151 : Index := 0#32
  let c0_152 : Index := 0#32
  let c0_153 : Index := 0#32
  ![v203.toNat, 0, 0, 0]
def k0_off9 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v220 : Index := Scalar.indexCast v10
  let c3_165 : Index := 3#32
  let c0_166 : Index := 0#32
  let c0_167 : Index := 0#32
  ![v220.toNat, 3, 0, 0]
def k0_off10 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v298 : Index := Scalar.indexCast v10
  let c1_226 : Index := 1#32
  let c0_227 : Index := 0#32
  let c0_228 : Index := 0#32
  ![v298.toNat, 1, 0, 0]
def k0_off11 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v315 : Index := Scalar.indexCast v10
  let c4_240 : Index := 4#32
  let c0_241 : Index := 0#32
  let c0_242 : Index := 0#32
  ![v315.toNat, 4, 0, 0]
def k0_off12 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v393 : Index := Scalar.indexCast v10
  let c2_301 : Index := 2#32
  let c0_302 : Index := 0#32
  let c0_303 : Index := 0#32
  ![v393.toNat, 2, 0, 0]
def k0_off13 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v410 : Index := Scalar.indexCast v10
  let c5_315 : Index := 5#32
  let c0_316 : Index := 0#32
  let c0_317 : Index := 0#32
  ![v410.toNat, 5, 0, 0]
def k0_off14 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v488 : Index := Scalar.indexCast v10
  let c3_376 : Index := 3#32
  let c0_377 : Index := 0#32
  let c0_378 : Index := 0#32
  ![v488.toNat, 3, 0, 0]
def k0_off15 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v505 : Index := Scalar.indexCast v10
  let c6_390 : Index := 6#32
  let c0_391 : Index := 0#32
  let c0_392 : Index := 0#32
  ![v505.toNat, 6, 0, 0]
def k0_off16 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v583 : Index := Scalar.indexCast v10
  let c4_451 : Index := 4#32
  let c0_452 : Index := 0#32
  let c0_453 : Index := 0#32
  ![v583.toNat, 4, 0, 0]
def k0_off17 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v600 : Index := Scalar.indexCast v10
  let c7_465 : Index := 7#32
  let c0_466 : Index := 0#32
  let c0_467 : Index := 0#32
  ![v600.toNat, 7, 0, 0]
def k0_off18 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v678 : Index := Scalar.indexCast v10
  let c5_526 : Index := 5#32
  let c0_527 : Index := 0#32
  let c0_528 : Index := 0#32
  ![v678.toNat, 5, 0, 0]
def k0_off19 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v695 : Index := Scalar.indexCast v10
  let c8_540 : Index := 8#32
  let c0_541 : Index := 0#32
  let c0_542 : Index := 0#32
  ![v695.toNat, 8, 0, 0]
def k0_off20 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v773 : Index := Scalar.indexCast v10
  let c6_601 : Index := 6#32
  let c0_602 : Index := 0#32
  let c0_603 : Index := 0#32
  ![v773.toNat, 6, 0, 0]
def k0_off21 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v790 : Index := Scalar.indexCast v10
  let c9_615 : Index := 9#32
  let c0_616 : Index := 0#32
  let c0_617 : Index := 0#32
  ![v790.toNat, 9, 0, 0]
def k0_off22 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v868 : Index := Scalar.indexCast v10
  let c7_676 : Index := 7#32
  let c0_677 : Index := 0#32
  let c0_678 : Index := 0#32
  ![v868.toNat, 7, 0, 0]
def k0_off23 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v885 : Index := Scalar.indexCast v10
  let c10_690 : Index := 10#32
  let c0_691 : Index := 0#32
  let c0_692 : Index := 0#32
  ![v885.toNat, 10, 0, 0]
def k0_off24 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v963 : Index := Scalar.indexCast v10
  let c8_751 : Index := 8#32
  let c0_752 : Index := 0#32
  let c0_753 : Index := 0#32
  ![v963.toNat, 8, 0, 0]
def k0_off25 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v980 : Index := Scalar.indexCast v10
  let c11_765 : Index := 11#32
  let c0_766 : Index := 0#32
  let c0_767 : Index := 0#32
  ![v980.toNat, 11, 0, 0]
def k0_off26 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1058 : Index := Scalar.indexCast v10
  let c9_826 : Index := 9#32
  let c0_827 : Index := 0#32
  let c0_828 : Index := 0#32
  ![v1058.toNat, 9, 0, 0]
def k0_off27 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1075 : Index := Scalar.indexCast v10
  let c12_840 : Index := 12#32
  let c0_841 : Index := 0#32
  let c0_842 : Index := 0#32
  ![v1075.toNat, 12, 0, 0]
def k0_off28 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1153 : Index := Scalar.indexCast v10
  let c10_901 : Index := 10#32
  let c0_902 : Index := 0#32
  let c0_903 : Index := 0#32
  ![v1153.toNat, 10, 0, 0]
def k0_off29 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1170 : Index := Scalar.indexCast v10
  let c13_915 : Index := 13#32
  let c0_916 : Index := 0#32
  let c0_917 : Index := 0#32
  ![v1170.toNat, 13, 0, 0]
def k0_off30 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1248 : Index := Scalar.indexCast v10
  let c11_976 : Index := 11#32
  let c0_977 : Index := 0#32
  let c0_978 : Index := 0#32
  ![v1248.toNat, 11, 0, 0]
def k0_off31 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1265 : Index := Scalar.indexCast v10
  let c14_990 : Index := 14#32
  let c0_991 : Index := 0#32
  let c0_992 : Index := 0#32
  ![v1265.toNat, 14, 0, 0]
def k0_off32 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1343 : Index := Scalar.indexCast v10
  let c12_1051 : Index := 12#32
  let c0_1052 : Index := 0#32
  let c0_1053 : Index := 0#32
  ![v1343.toNat, 12, 0, 0]
def k0_off33 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1360 : Index := Scalar.indexCast v10
  let c15_1065 : Index := 15#32
  let c0_1066 : Index := 0#32
  let c0_1067 : Index := 0#32
  ![v1360.toNat, 15, 0, 0]
def k0_off34 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1438 : Index := Scalar.indexCast v10
  let c13_1126 : Index := 13#32
  let c0_1127 : Index := 0#32
  let c0_1128 : Index := 0#32
  ![v1438.toNat, 13, 0, 0]
def k0_off35 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1508 : Index := Scalar.indexCast v10
  let c14_1181 : Index := 14#32
  let c0_1182 : Index := 0#32
  let c0_1183 : Index := 0#32
  ![v1508.toNat, 14, 0, 0]
def k0_off36 (i : grid0.Coords) : Fin 4 → Nat :=
  let arg1 : BitVec 32 := BitVec.ofNat 32 (i 1).val
  let c1_i32_3 : BitVec 32 := 1#32
  let v8 : BitVec 32 := Scalar.addi arg1 c1_i32_3
  let c1_i32_4 : BitVec 32 := 1#32
  let v9 : BitVec 32 := Scalar.addi v8 c1_i32_4
  let c3_i32_5 : BitVec 32 := 3#32
  let v10 : BitVec 32 := Scalar.remsi v9 c3_i32_5
  let v1526 : Index := Scalar.indexCast v10
  let c15_1196 : Index := 15#32
  let c0_1197 : Index := 0#32
  let c0_1198 : Index := 0#32
  ![v1526.toNat, 15, 0, 0]
def k0_off37 (i : grid0.Coords) : Fin 4 → Nat :=
  let arg1 : BitVec 32 := BitVec.ofNat 32 (i 1).val
  let c3_i32_1211 : BitVec 32 := 3#32
  let v1543 : BitVec 32 := Scalar.remsi arg1 c3_i32_1211
  let v1544 : Index := Scalar.indexCast v1543
  let c0_1212 : Index := 0#32
  let c0_1213 : Index := 0#32
  let c0_1214 : Index := 0#32
  ![v1544.toNat, 0, 0, 0]
def k0_off38 (i : grid0.Coords) : Fin 4 → Nat :=
  let arg1 : BitVec 32 := BitVec.ofNat 32 (i 1).val
  let c3_i32_1219 : BitVec 32 := 3#32
  let v1550 : BitVec 32 := Scalar.remsi arg1 c3_i32_1219
  let v1551 : Index := Scalar.indexCast v1550
  let c0_1220 : Index := 0#32
  let c0_1221 : Index := 0#32
  let c0_1222 : Index := 0#32
  ![v1551.toNat, 0, 0, 0]
def k0_cond4 (i : grid0.Coords) : BitVec 1 :=
  let arg1 : BitVec 32 := BitVec.ofNat 32 (i 1).val
  let c2_i32 : BitVec 32 := 2#32
  let v18 : BitVec 1 := Scalar.cmpi .sge arg1 c2_i32
  let v19 : BitVec 32 := Scalar.extui v18
  let c0_i32_10 : BitVec 32 := 0#32
  let v20 : BitVec 1 := Scalar.cmpi .ne v19 c0_i32_10
  v20

def k0_off39 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v23 : Index := Scalar.indexCast v7
  let c0_14 : Index := 0#32
  let c0_15 : Index := 0#32
  let c0_16 : Index := 0#32
  ![v23.toNat, 0, 0, 0]
def k0_off40 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v55 : Index := Scalar.indexCast v7
  let c1_37 : Index := 1#32
  let c0_38 : Index := 0#32
  let c0_39 : Index := 0#32
  ![v55.toNat, 1, 0, 0]
def k0_off41 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v139 : Index := Scalar.indexCast v7
  let c2_97 : Index := 2#32
  let c0_98 : Index := 0#32
  let c0_99 : Index := 0#32
  ![v139.toNat, 2, 0, 0]
def k0_off42 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v224 : Index := Scalar.indexCast v7
  let c0_161 : Index := 0#32
  let c0_162 : Index := 0#32
  let c0_163 : Index := 0#32
  ![v224.toNat, 0, 0, 0]
def k0_off43 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v244 : Index := Scalar.indexCast v7
  let c3_178 : Index := 3#32
  let c0_179 : Index := 0#32
  let c0_180 : Index := 0#32
  ![v244.toNat, 3, 0, 0]
def k0_off44 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v329 : Index := Scalar.indexCast v7
  let c1_242 : Index := 1#32
  let c0_243 : Index := 0#32
  let c0_244 : Index := 0#32
  ![v329.toNat, 1, 0, 0]
def k0_off45 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v349 : Index := Scalar.indexCast v7
  let c4_259 : Index := 4#32
  let c0_260 : Index := 0#32
  let c0_261 : Index := 0#32
  ![v349.toNat, 4, 0, 0]
def k0_off46 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v434 : Index := Scalar.indexCast v7
  let c2_323 : Index := 2#32
  let c0_324 : Index := 0#32
  let c0_325 : Index := 0#32
  ![v434.toNat, 2, 0, 0]
def k0_off47 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v454 : Index := Scalar.indexCast v7
  let c5_340 : Index := 5#32
  let c0_341 : Index := 0#32
  let c0_342 : Index := 0#32
  ![v454.toNat, 5, 0, 0]
def k0_off48 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v539 : Index := Scalar.indexCast v7
  let c3_404 : Index := 3#32
  let c0_405 : Index := 0#32
  let c0_406 : Index := 0#32
  ![v539.toNat, 3, 0, 0]
def k0_off49 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v559 : Index := Scalar.indexCast v7
  let c6_421 : Index := 6#32
  let c0_422 : Index := 0#32
  let c0_423 : Index := 0#32
  ![v559.toNat, 6, 0, 0]
def k0_off50 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v644 : Index := Scalar.indexCast v7
  let c4_485 : Index := 4#32
  let c0_486 : Index := 0#32
  let c0_487 : Index := 0#32
  ![v644.toNat, 4, 0, 0]
def k0_off51 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v664 : Index := Scalar.indexCast v7
  let c7_502 : Index := 7#32
  let c0_503 : Index := 0#32
  let c0_504 : Index := 0#32
  ![v664.toNat, 7, 0, 0]
def k0_off52 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v749 : Index := Scalar.indexCast v7
  let c5_566 : Index := 5#32
  let c0_567 : Index := 0#32
  let c0_568 : Index := 0#32
  ![v749.toNat, 5, 0, 0]
def k0_off53 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v769 : Index := Scalar.indexCast v7
  let c8_583 : Index := 8#32
  let c0_584 : Index := 0#32
  let c0_585 : Index := 0#32
  ![v769.toNat, 8, 0, 0]
def k0_off54 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v854 : Index := Scalar.indexCast v7
  let c6_647 : Index := 6#32
  let c0_648 : Index := 0#32
  let c0_649 : Index := 0#32
  ![v854.toNat, 6, 0, 0]
def k0_off55 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v874 : Index := Scalar.indexCast v7
  let c9_664 : Index := 9#32
  let c0_665 : Index := 0#32
  let c0_666 : Index := 0#32
  ![v874.toNat, 9, 0, 0]
def k0_off56 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v959 : Index := Scalar.indexCast v7
  let c7_728 : Index := 7#32
  let c0_729 : Index := 0#32
  let c0_730 : Index := 0#32
  ![v959.toNat, 7, 0, 0]
def k0_off57 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v979 : Index := Scalar.indexCast v7
  let c10_745 : Index := 10#32
  let c0_746 : Index := 0#32
  let c0_747 : Index := 0#32
  ![v979.toNat, 10, 0, 0]
def k0_off58 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1064 : Index := Scalar.indexCast v7
  let c8_809 : Index := 8#32
  let c0_810 : Index := 0#32
  let c0_811 : Index := 0#32
  ![v1064.toNat, 8, 0, 0]
def k0_off59 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1084 : Index := Scalar.indexCast v7
  let c11_826 : Index := 11#32
  let c0_827 : Index := 0#32
  let c0_828 : Index := 0#32
  ![v1084.toNat, 11, 0, 0]
def k0_off60 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1169 : Index := Scalar.indexCast v7
  let c9_890 : Index := 9#32
  let c0_891 : Index := 0#32
  let c0_892 : Index := 0#32
  ![v1169.toNat, 9, 0, 0]
def k0_off61 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1189 : Index := Scalar.indexCast v7
  let c12_907 : Index := 12#32
  let c0_908 : Index := 0#32
  let c0_909 : Index := 0#32
  ![v1189.toNat, 12, 0, 0]
def k0_off62 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1274 : Index := Scalar.indexCast v7
  let c10_971 : Index := 10#32
  let c0_972 : Index := 0#32
  let c0_973 : Index := 0#32
  ![v1274.toNat, 10, 0, 0]
def k0_off63 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1294 : Index := Scalar.indexCast v7
  let c13_988 : Index := 13#32
  let c0_989 : Index := 0#32
  let c0_990 : Index := 0#32
  ![v1294.toNat, 13, 0, 0]
def k0_off64 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1379 : Index := Scalar.indexCast v7
  let c11_1052 : Index := 11#32
  let c0_1053 : Index := 0#32
  let c0_1054 : Index := 0#32
  ![v1379.toNat, 11, 0, 0]
def k0_off65 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1399 : Index := Scalar.indexCast v7
  let c14_1069 : Index := 14#32
  let c0_1070 : Index := 0#32
  let c0_1071 : Index := 0#32
  ![v1399.toNat, 14, 0, 0]
def k0_off66 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1484 : Index := Scalar.indexCast v7
  let c12_1133 : Index := 12#32
  let c0_1134 : Index := 0#32
  let c0_1135 : Index := 0#32
  ![v1484.toNat, 12, 0, 0]
def k0_off67 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1504 : Index := Scalar.indexCast v7
  let c15_1150 : Index := 15#32
  let c0_1151 : Index := 0#32
  let c0_1152 : Index := 0#32
  ![v1504.toNat, 15, 0, 0]
def k0_off68 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1589 : Index := Scalar.indexCast v7
  let c13_1214 : Index := 13#32
  let c0_1215 : Index := 0#32
  let c0_1216 : Index := 0#32
  ![v1589.toNat, 13, 0, 0]
def k0_off69 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1662 : Index := Scalar.indexCast v7
  let c14_1272 : Index := 14#32
  let c0_1273 : Index := 0#32
  let c0_1274 : Index := 0#32
  ![v1662.toNat, 14, 0, 0]
def k0_off70 (i : grid0.Coords) (c0_i32_2 : BitVec 32) : Fin 4 → Nat :=
  let arg1 : BitVec 32 := BitVec.ofNat 32 (i 1).val
  let c1_i32 : BitVec 32 := 1#32
  let v5 : BitVec 32 := Scalar.addi arg1 c1_i32
  let v6 : BitVec 32 := Scalar.addi v5 c0_i32_2
  let c3_i32 : BitVec 32 := 3#32
  let v7 : BitVec 32 := Scalar.remsi v6 c3_i32
  let v1683 : Index := Scalar.indexCast v7
  let c15_1290 : Index := 15#32
  let c0_1291 : Index := 0#32
  let c0_1292 : Index := 0#32
  ![v1683.toNat, 15, 0, 0]
def k0_off71 (i : grid0.Coords) : Fin 4 → Nat :=
  let arg1 : BitVec 32 := BitVec.ofNat 32 (i 1).val
  let c3_i32_1308 : BitVec 32 := 3#32
  let v1703 : BitVec 32 := Scalar.remsi arg1 c3_i32_1308
  let v1704 : Index := Scalar.indexCast v1703
  let c0_1309 : Index := 0#32
  let c0_1310 : Index := 0#32
  let c0_1311 : Index := 0#32
  ![v1704.toNat, 0, 0, 0]
def k0_off72 (i : grid0.Coords) : Fin 4 → Nat :=
  let arg1 : BitVec 32 := BitVec.ofNat 32 (i 1).val
  let c3_i32_1316 : BitVec 32 := 3#32
  let v1710 : BitVec 32 := Scalar.remsi arg1 c3_i32_1316
  let v1711 : Index := Scalar.indexCast v1710
  let c0_1317 : Index := 0#32
  let c0_1318 : Index := 0#32
  let c0_1319 : Index := 0#32
  ![v1711.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnReferenceIdeal.lean ====
abbrev S4x16x8192x128 : Shape := ⟨4, ![4, 16, 8192, 128]⟩
abbrev S4x16x128x8192 : Shape := ⟨4, ![4, 16, 128, 8192]⟩
abbrev S4x8192x2048 : Shape := ⟨3, ![4, 8192, 2048]⟩
abbrev S4x8192x1024 : Shape := ⟨3, ![4, 8192, 1024]⟩
abbrev S4x1024 : Shape := ⟨2, ![4, 1024]⟩
abbrev S16x257 : Shape := ⟨2, ![16, 257]⟩
abbrev S2x2048x1024 : Shape := ⟨3, ![2, 2048, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S16x8192x8192 : Shape := ⟨3, ![16, 8192, 8192]⟩
abbrev S4x16x8192x8192 : Shape := ⟨4, ![4, 16, 8192, 8192]⟩
abbrev S1x16x8192x8192 : Shape := ⟨4, ![1, 16, 8192, 8192]⟩
abbrev S4x16x8192 : Shape := ⟨3, ![4, 16, 8192]⟩
abbrev S4x16x8192x1 : Shape := ⟨4, ![4, 16, 8192, 1]⟩
abbrev S4x8192x16x128 : Shape := ⟨4, ![4, 8192, 16, 128]⟩
abbrev S1x2048x1024 : Shape := ⟨3, ![1, 2048, 1024]⟩
abbrev S2048x1024 : Shape := ⟨2, ![2048, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x16x8192x128, .bf16⟩
  | .hbm, ⟨1, _⟩ => ⟨S4x16x128x8192, .bf16⟩
  | .hbm, ⟨2, _⟩ => ⟨S4x16x8192x128, .bf16⟩
  | .hbm, ⟨3, _⟩ => ⟨S4x8192x2048, .f32⟩
  | .hbm, ⟨4, _⟩ => ⟨S4x8192x1024, .f32⟩
  | .hbm, ⟨5, _⟩ => ⟨S4x1024, .f32⟩
  | .hbm, ⟨6, _⟩ => ⟨S16x257, .f32⟩
  | .hbm, ⟨7, _⟩ => ⟨S2x2048x1024, .f32⟩
  | .hbm, ⟨8, _⟩ => ⟨S1024, .f32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S8192x8192x1, .i32⟩
  | .hbm, ⟨37, _⟩ => ⟨S16x8192x8192, .f32⟩
  | .hbm, ⟨38, _⟩ => ⟨S1x8192, .i32⟩
  | .hbm, ⟨39, _⟩ => ⟨S8192x1, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S1x8192, .i32⟩
  | .hbm, ⟨44, _⟩ => ⟨S8192x1, .i32⟩
  | .hbm, ⟨45, _⟩ => ⟨S_, .i32⟩
  | .hbm, ⟨46, _⟩ => ⟨S8192x1, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S8192x8192, .i1⟩
  | .hbm, ⟨52, _⟩ => ⟨S4x16x8192x128, .f32⟩
  | .hbm, ⟨53, _⟩ => ⟨S4x16x128x8192, .f32⟩
  | .hbm, ⟨54, _⟩ => ⟨S4x16x8192x8192, .f32⟩
  | .hbm, ⟨55, _⟩ => ⟨S1x16x8192x8192, .f32⟩
  | .hbm, ⟨56, _⟩ => ⟨S_, .f32⟩
  | .hbm, ⟨57, _⟩ => ⟨S1x16x8192x8192, .f32⟩
  | .hbm, ⟨58, _⟩ => ⟨S1x16x8192x8192, .f32⟩
  | .hbm, ⟨59, _⟩ => ⟨S4x16x8192x8192, .f32⟩
  | .hbm, ⟨60, _⟩ => ⟨S4x16x8192x8192, .f32⟩
  | .hbm, ⟨61, _⟩ => ⟨S_, .f32⟩
  | .hbm, ⟨62, _⟩ => ⟨S4x16x8192x8192, .f32⟩
  | .hbm, ⟨63, _⟩ => ⟨S4x16x8192x8192, .f32⟩
  | .hbm, ⟨64, _⟩ => ⟨S_, .i32⟩
  | .hbm, ⟨65, _⟩ => ⟨S_, .f32⟩
  | .hbm, ⟨66, _⟩ => ⟨S4x16x8192x8192, .i1⟩
  | .hbm, ⟨67, _⟩ => ⟨S4x16x8192x8192, .f32⟩
  | .hbm, ⟨68, _⟩ => ⟨S4x16x8192x8192, .f32⟩
  | .hbm, ⟨69, _⟩ => ⟨S_, .f32⟩
  | .hbm, ⟨70, _⟩ => ⟨S4x16x8192, .f32⟩
  | .hbm, ⟨71, _⟩ => ⟨S4x16x8192x1, .f32⟩
  | .hbm, ⟨72, _⟩ => ⟨S4x16x8192x8192, .f32⟩
  | .hbm, ⟨73, _⟩ => ⟨S4x16x8192x8192, .f32⟩
  | .hbm, ⟨74, _⟩ => ⟨S4x16x8192x128, .f32⟩
  | .hbm, ⟨75, _⟩ => ⟨S4x16x128x8192, .f32⟩
  | .hbm, ⟨76, _⟩ => ⟨S4x8192x16x128, .f32⟩
  | .hbm, ⟨77, _⟩ => ⟨S4x8192x2048, .f32⟩
  | .hbm, ⟨78, _⟩ => ⟨S4x8192x2048, .f32⟩
  | .hbm, ⟨79, _⟩ => ⟨S4x8192x2048, .f32⟩
  | .hbm, ⟨80, _⟩ => ⟨S_, .f32⟩
  | .hbm, ⟨81, _⟩ => ⟨S4x8192x2048, .f32⟩
  | .hbm, ⟨82, _⟩ => ⟨S4x8192x2048, .f32⟩
  | .hbm, ⟨83, _⟩ => ⟨S_, .f32⟩
  | .hbm, ⟨84, _⟩ => ⟨S4x8192x2048, .f32⟩
  | .hbm, ⟨85, _⟩ => ⟨S4x8192x2048, .f32⟩
  | .hbm, ⟨86, _⟩ => ⟨S4x8192x2048, .f32⟩
  | .hbm, ⟨87, _⟩ => ⟨S4x8192x2048, .f32⟩
  | .hbm, ⟨88, _⟩ => ⟨S1x2048x1024, .f32⟩
  | .hbm, ⟨89, _⟩ => ⟨S2048x1024, .f32⟩
  | .hbm, ⟨90, _⟩ => ⟨S4x8192x1024, .f32⟩
  | .hbm, ⟨91, _⟩ => ⟨S4x1x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S_, .f32⟩
  | .hbm, ⟨97, _⟩ => ⟨S4x8192, .f32⟩
  | .hbm, ⟨98, _⟩ => ⟨S4x8192x1, .f32⟩
  | .hbm, ⟨99, _⟩ => ⟨S_, .f32⟩
  | .hbm, ⟨100, _⟩ => ⟨S4x8192x1, .f32⟩
  | .hbm, ⟨101, _⟩ => ⟨S4x8192x1, .f32⟩
  | .hbm, ⟨102, _⟩ => ⟨S_, .f32⟩
  | .hbm, ⟨103, _⟩ => ⟨S4x8192x1, .f32⟩
  | .hbm, ⟨104, _⟩ => ⟨S4x8192x1, .f32⟩
  | .hbm, ⟨105, _⟩ => ⟨S4x8192x1, .f32⟩
  | .hbm, ⟨106, _⟩ => ⟨S4x8192x1024, .f32⟩
  | .hbm, ⟨107, _⟩ => ⟨S4x8192x1024, .f32⟩
  | .hbm, ⟨108, _⟩ => ⟨S1x1x1024, .f32⟩
  | .hbm, ⟨109, _⟩ => ⟨S4x8192x1024, .f32⟩
  | .hbm, ⟨110, _⟩ => ⟨S4x8192x1024, .f32⟩
  | _, _ => ⟨S4x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_v61 : Ref sig .tc := ⟨.hbm, 98, rfl⟩
abbrev main_cst_10 : Ref sig .tc := ⟨.hbm, 99, rfl⟩
abbrev main_v62 : Ref sig .tc := ⟨.hbm, 100, rfl⟩
abbrev main_v63 : Ref sig .tc := ⟨.hbm, 101, rfl⟩
abbrev main_cst_11 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Modulation.lean ====
abbrev S8x1024 : Shape := ⟨2, ![8, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x8x3072 : Shape := ⟨3, ![4, 8, 3072]⟩
abbrev S1x1024x3072 : Shape := ⟨3, ![1, 1024, 3072]⟩
abbrev S1x1x3072 : Shape := ⟨3, ![1, 1, 3072]⟩
abbrev S1x8x3072 : Shape := ⟨3, ![1, 8, 3072]⟩
abbrev S1024x3072 : Shape := ⟨2, ![1024, 3072]⟩
abbrev S8x3072 : Shape := ⟨2, ![8, 3072]⟩
abbrev S1x3072 : Shape := ⟨2, ![1, 3072]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x8x3072, .f32⟩
  | .local _ .vmem, ⟨0, _⟩ => ⟨S8x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x8x3072, .f32⟩
  | .local _ .vmem, ⟨6, _⟩ => ⟨S1x8x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S8x1024 : Shape := ⟨2, ![8, 1024]⟩
abbrev S4x1024x3072 : Shape := ⟨3, ![4, 1024, 3072]⟩
abbrev S4x3072 : Shape := ⟨2, ![4, 3072]⟩
abbrev S_ : Shape := ⟨0, ![]⟩
abbrev S4x3072x8 : Shape := ⟨3, ![4, 3072, 8]⟩
abbrev S4x8x3072 : Shape := ⟨3, ![4, 8, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x3072x8, .f32⟩
  | .hbm, ⟨13, _⟩ => ⟨S4x8x3072, .f32⟩
  | .hbm, ⟨14, _⟩ => ⟨S4x1x3072, .f32⟩
  | .hbm, ⟨15, _⟩ => ⟨S4x8x3072, .f32⟩
  | .hbm, ⟨16, _⟩ => ⟨S4x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Att.Cmd.lean ====
/- Straight-line code over a family of whole buffers: loads and stores at rectangles, and what it does to the buffers'
   contents. One lemma says that running the code takes the owned buffers from the contents before to the contents after. -/
module

public import Idealize.ShloMosaic.Lib.LaneScatter.Own

@[expose] public section
noncomputable section
namespace Cert.Att
open Idealize.ShloMosaic Idealize.ShloMosaic.TcCoe Idealize.SL Idealize.SL.Sem
open Idealize.SL.BI (sProp bigSep bigSep_univ_split bigSep_congr)
open scoped Idealize.SL.BI
open Idealize.SL.BI.BIBase Idealize.SL.BI.Laws Idealize.SL.ProofMode
open Idealize.SL.RA

variable {nD : Nat} {τ : Topo} {sig : RefSig}
variable {I : Type} {sh : I → Shape} {el : I → EltTy}

/-- Loads and stores of the buffers `R`, one after another; what is loaded may decide what follows. -/
inductive Cmd (Val : EltTy → Type) (R : ∀ j : I, Memref sig .tc .vmem (sh j) (el j)) : Type
  | done : Cmd Val R
  | load (j : I) (r : Rect (sh j)) (hl : (R j).view.LoadsAt r.toLoadRect) (k : (r.shape.Idx → Val (el j)) → Cmd Val R) : Cmd Val R
  | store (j : I) (r : Rect (sh j)) (w : r.shape.Idx → Val (el j)) (hx : ((R j).access r).Stores Finset.univ) (k : Cmd Val R) : Cmd Val R

variable {Val : EltTy → Type} {R : ∀ j : I, Memref sig .tc .vmem (sh j) (el j)} {Λ : Labels}

/-- The program that the code stands for. -/
def denote (c : Cmd Val R) : Prog (TpuEff nD τ sig Val Λ .tc) PUnit :=
  Cmd.rec (motive := fun _ => Prog (TpuEff nD τ sig Val Λ .tc) PUnit) (.ret ⟨⟩)
    (fun j r hl _ ih => .op (.load (R j) r.toLoadRect hl) ih)
    (fun j r w hx _ ih => .op (.store (R j) r w Finset.univ hx (.inl rfl)) fun _ => ih) c

open Classical in
/-- Contents `f` with `w` stored at the rectangle. -/
def put {s : Shape} {α : Type} (r : Rect s) (w : r.shape.Idx → α) (f : s.Idx → α) : s.Idx → α := fun y =>
  if h : ∃ x, r.emb x = y then w h.choose else f y

theorem put_emb {s : Shape} {α : Type} (r : Rect s) (w : r.shape.Idx → α) (f : s.Idx → α) (x : r.shape.Idx) : put r w f (r.emb x) = w x := by
  have h : ∃ x', r.emb x' = r.emb x := ⟨x, rfl⟩
  unfold put
  rw [dif_pos h]
  exact congrArg w (r.emb.injective h.choose_spec)

theorem put_not {s : Shape} {α : Type} (r : Rect s) (w : r.shape.Idx → α) (f : s.Idx → α) (y : s.Idx) (h : ¬ ∃ x, r.emb x = y) : put r w f y = f y := by
  unfold put
  rw [dif_neg h]

section
variable [DecidableEq I]

/-- Every buffer's contents. -/
abbrev St (sh : I → Shape) (el : I → EltTy) (Val : EltTy → Type) : Type := ∀ j : I, (sh j).Idx → Val (el j)

/-- The contents after the code. -/
def run (c : Cmd Val R) : St sh el Val → St sh el Val :=
  Cmd.rec (motive := fun _ => St sh el Val → St sh el Val) (fun σ => σ)
    (fun j r _ _ ih σ => ih (fun x => σ j (r.emb x)) σ)
    (fun j r w _ _ ih σ => ih (Function.update σ j (put r w (σ j)))) c

variable [Fintype I]
variable {Ix : Type} [DecidableEq Ix] {Name : Type} [DecidableEq Name] {U : Type} [URA U] {Lvl : Type}
local notation "𝕄" => MT nD τ sig Ix Val Name U Lvl

/-- The buffers owned, each at its contents. -/
def own (c : Dev nD) (R : ∀ j : I, Memref sig .tc .vmem (sh j) (el j)) (σ : St sh el Val) : sProp 𝕄 :=
  bigSep Finset.univ fun j => owns (c : Thread nD τ) (R j) fullShare (σ j)

theorem own_split (c : Dev nD) (σ : St sh el Val) (j : I) :
    (own c R σ : sProp 𝕄) = iprop(owns (c : Thread nD τ) (R j) fullShare (σ j) ∗ bigSep (Finset.univ.erase j) fun j => owns (c : Thread nD τ) (R j) fullShare (σ j)) :=
  bigSep_univ_split j

theorem own_update (c : Dev nD) (σ : St sh el Val) (j : I) (f) :
    (own c R (Function.update σ j f) : sProp 𝕄) = iprop(owns (c : Thread nD τ) (R j) fullShare f ∗ bigSep (Finset.univ.erase j) fun j => owns (c : Thread nD τ) (R j) fullShare (σ j)) := by
  rw [own_split c _ j, Function.update_self]
  congr 1
  refine bigSep_congr fun i hi => ?_
  rw [Function.update_of_ne (Finset.ne_of_mem_erase hi)]

theorem read_write_put {s : Shape} {e : EltTy} (M : Memref sig .tc .vmem s e) (hM : M.IsWhole) (r : Rect s) (f : s.Idx → Val e) (w : r.shape.Idx → Val e) :
    View.read Val M.view ((M.access r).write Val (hM.unread f) w Finset.univ) = put r w f := by
  funext y
  by_cases h : ∃ x, r.emb x = y
  · obtain ⟨x, rfl⟩ := h
    rw [put_emb]
    exact View.read_slice_write_emb r _ w (Finset.mem_univ x)
  · rw [put_not _ _ _ _ h]
    have hy : y ∉ Finset.univ.map r.emb := fun hy => by
      obtain ⟨x, -, hx⟩ := Finset.mem_map.mp hy
      exact h ⟨x, hx⟩
    exact (View.read_slice_write_of_not_mem r _ w _ hy).trans (congrFun (hM.read_unread f) y)

/-- Running the code with the buffers owned. -/
theorem run_sound [Preorder Lvl] {defs : Defs nD τ sig Val Λ} (𝒱 : Variants) (c : Dev nD) (E : Set Name) (hR : ∀ j, (R j).IsWhole) (K : PUnit → sProp 𝕄) (cmd : Cmd Val R) :
    ∀ σ : St sh el Val, iprop(own c R σ ∗ (own c R (run cmd σ) -∗ K ⟨⟩)) ⊢ wp frame (wpE defs 𝒱 (c : Thread nD τ) none) E (denote cmd) K := by
  induction cmd with
  | done =>
    intro σ
    refine Entails.trans ?_ (le_wp_ret _ _ _ _ _)
    iintro ⟨H, G⟩
    iapply G
    iexact H
  | load j r hl k ih =>
    intro σ
    have e : View.read Val ((R j).access r) ((hR j).unread (σ j)) = fun x => σ j (r.emb x) :=
      funext fun x => congrFun ((hR j).read_unread (σ j)) (r.emb x)
    have h := wp_load_rect (Ix := Ix) (U := U) (Lvl := Lvl) (defs := defs) (Γ := .empty) 𝒱 (c : Thread nD τ) none E (m := R j) (r := r) (hl := hl) (k := fun x => denote (k x)) (Q := K)
      (q := fullShare) (f := (hR j).unread (σ j)) (View.set_slice_subset _ r)
    rw [e] at h
    rw [own_split c σ j]
    iintro ⟨⟨H, H'⟩, G⟩
    ihave H := (LaneScatter.owns_raw (c : Thread nD τ) (R j) (hR j) (σ j)) $$ H
    iapply h $$ H
    iintro H
    ihave H := (LaneScatter.raw_owns (c : Thread nD τ) (R j) ((hR j).read_unread (σ j))) $$ H
    iapply (ih (fun x => σ j (r.emb x)) σ)
    isplitl [H H']
    · rw [own_split c σ j]
      isplitl [H]; · iexact H
      iexact H'
    iexact G
  | store j r w hx k ih =>
    intro σ
    have h := wp_store (Ix := Ix) (U := U) (Lvl := Lvl) (defs := defs) (Γ := .empty) 𝒱 (c : Thread nD τ) none E (m := R j) (r := r) (w := w) (Mk := Finset.univ) (hx := hx) (hm := .inl rfl)
      (k := fun _ => denote k) (Q := K) (f := (hR j).unread (σ j)) ((View.setOn_subset_set _ _).trans (View.set_slice_subset _ r))
    rw [own_split c σ j]
    iintro ⟨⟨H, H'⟩, G⟩
    ihave H := (LaneScatter.owns_raw (c : Thread nD τ) (R j) (hR j) (σ j)) $$ H
    iapply h $$ H
    iintro H
    ihave H := (LaneScatter.raw_owns (c : Thread nD τ) (R j) (read_write_put (R j) (hR j) r (σ j) w)) $$ H
    iapply (ih (Function.update σ j (put r w (σ j))))
    isplitl [H H']
    · rw [own_update c σ j]
      isplitl [H]; · iexact H
      iexact H'
    iexact G
end
end Cert.Att
end
-- ==== Proof.Att.Model.lean ====
/- The attention body as straight-line code over its seventeen buffers: scores, softmax and values of one head, the heads in
   the order that the kernel takes them, and the output projection. `Live` is what the number of key blocks in sight decides. -/
module

public import proofs.«01_k».proof.Proof.Att.Cmd
public import proofs.«01_k».proof.Proof.Gen.AttnIdeal

@[expose] public section
noncomputable section
namespace Cert.Att
open Idealize.ShloMosaic Idealize.SL.Sem Cert.AttnIdeal
open Cert.AttnIdeal.Facts₀ Cert.AttnIdeal.Facts

/-- The buffers: inputs, output, the key and value rings, attention, scores, weights, maxima and the bias table. -/
inductive Slot
  | q | k | v | z | h | g | b | w | f | o | kr | vr | ao | s | p | m | tab
  deriving DecidableEq

instance : Fintype Slot := ⟨{.q, .k, .v, .z, .h, .g, .b, .w, .f, .o, .kr, .vr, .ao, .s, .p, .m, .tab}, fun x => by cases x <;> decide⟩

abbrev shp : Slot → Shape
  | .q => S1x16x256x128
  | .k => S1x16x128x256
  | .v => S1x16x256x128
  | .z => S1x256x2048
  | .h => S1x256x1024
  | .g => S1x1x1024
  | .b => S16x1x1024
  | .w => S1x1024x2048
  | .f => S1x1024
  | .o => S1x256x1024
  | .kr => S3x16x128x256
  | .vr => S3x16x256x256
  | .ao => S16x256x128
  | .s => S2x256x768
  | .p => S2x256x768
  | .m => S2x256x128
  | .tab => S16x256x768

abbrev elt : Slot → EltTy
  | .q => .bf16
  | .k => .bf16
  | .v => .bf16
  | .w => .bf16
  | .kr => .bf16
  | .vr => .bf16
  | .p => .bf16
  | _ => .f32

abbrev T2 (a b : ℕ) : Shape := ⟨2, ![a, b]⟩
abbrev T3 (a b c : ℕ) : Shape := ⟨3, ![a, b, c]⟩
abbrev T4 (a b c d : ℕ) : Shape := ⟨4, ![a, b, c, d]⟩

theorem inb3 {A B C a b c x y z : ℕ} (h0 : a + x ≤ A) (h1 : b + y ≤ B) (h2 : c + z ≤ C) :
    ∀ i, (![a, b, c] : Fin 3 → ℕ) i + (T3 x y z).size i ≤ (T3 A B C).size i
  | ⟨0, _⟩ => h0
  | ⟨1, _⟩ => h1
  | ⟨2, _⟩ => h2

theorem inb4 {A B C D a b c d x y z t : ℕ} (h0 : a + x ≤ A) (h1 : b + y ≤ B) (h2 : c + z ≤ C) (h3 : d + t ≤ D) :
    ∀ i, (![a, b, c, d] : Fin 4 → ℕ) i + (T4 x y z t).size i ≤ (T4 A B C D).size i
  | ⟨0, _⟩ => h0
  | ⟨1, _⟩ => h1
  | ⟨2, _⟩ => h2
  | ⟨3, _⟩ => h3

/-- What a width of scores must satisfy. -/
structure Wide (W : ℕ) : Prop where
  le : W ≤ 768
  n64 : 0 < (T3 1 64 W).numel
  n256 : 0 < (T3 1 256 W).numel
  c64 : (T3 1 64 W).ShapeCasts (T2 64 W)
  c64' : (T2 64 W).ShapeCasts (T3 1 64 W)
  c256 : (T3 1 256 W).ShapeCasts (T2 256 W)
  c256' : (T2 256 W).ShapeCasts (T3 1 256 W)
  b64 : S64x1.Broadcasts (T2 64 W)

theorem wide256 : Wide 256 := ⟨by decide, by decide, by decide, by decide, by decide, by decide, by decide, by decide⟩
theorem wide512 : Wide 512 := ⟨by decide, by decide, by decide, by decide, by decide, by decide, by decide, by decide⟩
theorem wide768 : Wide 768 := ⟨by decide, by decide, by decide, by decide, by decide, by decide, by decide, by decide⟩

variable {F : FTy → Type} [FloatOps F]

section pure
/-- Scores of one head: queries times keys plus the bias. -/
def score1 (a : Vec F S1x1x256x128 .bf16) (b : Vec F S1x1x128x256 .bf16) (c : Vec F (T3 1 256 256) .f32) : FVec F (T2 256 256) .f32 :=
  addf (matmul dot_S256x128_S128x256_S256x256_1_0_0_1_n_n none (shapeCast S256x128 a shapeCasts_S1x1x256x128_S256x128) (shapeCast S128x256 b shapeCasts_S1x1x128x256_S128x256) (constant S256x256 .f32 0x00000000#32))
    (shapeCast S256x256 c shapeCasts_S1x256x256_S256x256)

def score2 (a : Vec F S1x1x256x128 .bf16) (b0 b : Vec F S1x1x128x256 .bf16) (c : Vec F (T3 1 256 512) .f32) : FVec F (T2 256 512) .f32 :=
  addf (matmul dot_S256x128_S128x512_S256x512_1_0_0_1_n_n none (shapeCast S256x128 a shapeCasts_S1x1x256x128_S256x128)
    (concatenate S128x512 1 [⟨S128x256, shapeCast S128x256 b0 shapeCasts_S1x1x128x256_S128x256⟩, ⟨S128x256, shapeCast S128x256 b shapeCasts_S1x1x128x256_S128x256⟩] concatenates_S128x256_S128x256_S128x512_d1)
    (constant S256x512 .f32 0x00000000#32))
    (shapeCast S256x512 c shapeCasts_S1x256x512_S256x512)

def score3 (a : Vec F S1x1x256x128 .bf16) (b0 b1 b : Vec F S1x1x128x256 .bf16) (c : Vec F (T3 1 256 768) .f32) : FVec F (T2 256 768) .f32 :=
  addf (matmul dot_S256x128_S128x768_S256x768_1_0_0_1_n_n none (shapeCast S256x128 a shapeCasts_S1x1x256x128_S256x128)
    (concatenate S128x768 1 [⟨S128x256, shapeCast S128x256 b0 shapeCasts_S1x1x128x256_S128x256⟩, ⟨S128x256, shapeCast S128x256 b1 shapeCasts_S1x1x128x256_S128x256⟩, ⟨S128x256, shapeCast S128x256 b shapeCasts_S1x1x128x256_S128x256⟩] concatenates_S128x256_S128x256_S128x256_S128x768_d1)
    (constant S256x768 .f32 0x00000000#32))
    (shapeCast S256x768 c shapeCasts_S1x256x768_S256x768)

/-- The maximum over groups of 128 keys, lane by lane. -/
def mx1 (v : FVec F (T2 256 256) .f32) : FVec F S256x128 .f32 :=
  maximumf (extractStridedSlice S256x128 ![0, 0] v slices_S256x256_o0_0_S256x128) (extractStridedSlice S256x128 ![0, 128] v slices_S256x256_o0_128_S256x128)

def mx2 (v : FVec F (T2 256 512) .f32) : FVec F S256x128 .f32 :=
  maximumf (maximumf (maximumf (extractStridedSlice S256x128 ![0, 0] v slices_S256x512_o0_0_S256x128) (extractStridedSlice S256x128 ![0, 128] v slices_S256x512_o0_128_S256x128))
    (extractStridedSlice S256x128 ![0, 256] v slices_S256x512_o0_256_S256x128)) (extractStridedSlice S256x128 ![0, 384] v slices_S256x512_o0_384_S256x128)

def mx3 (v : FVec F (T2 256 768) .f32) : FVec F S256x128 .f32 :=
  maximumf (maximumf (maximumf (maximumf (maximumf (extractStridedSlice S256x128 ![0, 0] v slices_S256x768_o0_0_S256x128) (extractStridedSlice S256x128 ![0, 128] v slices_S256x768_o0_128_S256x128))
    (extractStridedSlice S256x128 ![0, 256] v slices_S256x768_o0_256_S256x128)) (extractStridedSlice S256x128 ![0, 384] v slices_S256x768_o0_384_S256x128))
    (extractStridedSlice S256x128 ![0, 512] v slices_S256x768_o0_512_S256x128)) (extractStridedSlice S256x128 ![0, 640] v slices_S256x768_o0_640_S256x128)

/-- Softmax weights of 64 query rows, not normalised: two to the scores less the row's maximum. -/
def soft {W : ℕ} (wd : Wide W) (a : Vec F S1x64x128 .f32) (c : Vec F (T3 1 64 W) .f32) : FVec F (T3 1 64 W) .bf16 :=
  shapeCast (T3 1 64 W) (truncf .bf16 (exp2 (subf (shapeCast (T2 64 W) c wd.c64)
    (broadcastTo (T2 64 W) (shapeCast S64x1 (multiReduction .maximumf [1] S64 (shapeCast S64x128 a shapeCasts_S1x64x128_S64x128) 0xFF800000#32 reduces_S64x128_S64 (.inl rfl) rfl) shapeCasts_S64_S64x1) wd.b64))) bitsLt_bf16_f32) wd.c64'

/-- A block of values beside ones. -/
def withOnes (a : Vec F S1x1x256x128 .bf16) : FVec F S256x256 .bf16 :=
  concatenate S256x256 1 [⟨S256x128, shapeCast S256x128 a shapeCasts_S1x1x256x128_S256x128⟩, ⟨S256x128, broadcast S256x128 (Scalar.ofBits .bf16 0x3F80#16)⟩] concatenates_S256x128_S256x128_S256x256_d1

/-- The weighted values over the sum of the weights. -/
def quot (x : FVec F S256x256 .f32) : FVec F S1x256x128 .f32 :=
  shapeCast S1x256x128 (mulf (extractStridedSlice S256x128 ![0, 0] x slices_S256x256_o0_0_S256x128)
    (divf (broadcast S256x128 (Scalar.ofBits .f32 0x3F800000#32)) (extractStridedSlice S256x128 ![0, 128] x slices_S256x256_o0_128_S256x128))) shapeCasts_S256x128_S1x256x128

/-- The gated attention times the output weights. -/
def proj (A : FVec F S256x2048 .f32) (z : Vec F S1x256x2048 .f32) (w : Vec F S1x1024x2048 .bf16) : FVec F S256x1024 .f32 :=
  transpose S256x1024 [1, 0] (matmul dot_S1024x2048_S256x2048_S1024x256_1_1_0_0_n_n none (shapeCast S1024x2048 w shapeCasts_S1x1024x2048_S1024x2048)
    (truncf .bf16 (mulf A (mulf (shapeCast S256x2048 z shapeCasts_S1x256x2048_S256x2048)
      (divf (broadcast S256x2048 (Scalar.ofBits .f32 0x3F800000#32)) (addf (broadcast S256x2048 (Scalar.ofBits .f32 0x3F800000#32)) (exp (subf (broadcast S256x2048 (Scalar.ofBits .f32 0x00000000#32)) (shapeCast S256x2048 z shapeCasts_S1x256x2048_S256x2048))))))) bitsLt_bf16_f32)
    (constant S1024x256 .f32 0x00000000#32)) transposes_S1024x256_p1_0_S256x1024

def resid (h : Vec F S1x256x1024 .f32) (g : Vec F S1x1x1024 .f32) (y : FVec F S256x1024 .f32) : FVec F S256x1024 .f32 :=
  addf (shapeCast S256x1024 h shapeCasts_S1x256x1024_S256x1024) (mulf (broadcastTo S256x1024 (shapeCast S1x1024 g shapeCasts_S1x1x1024_S1x1024) broadcasts_S1x1024_S256x1024) y)

/-- The rows normalised and scaled. -/
def norm (x : FVec F S256x1024 .f32) (f : Vec F S1x1024 .f32) : FVec F S1x256x1024 .f32 :=
  shapeCast S1x256x1024 (mulf (mulf x (broadcastTo S256x1024 (rsqrt (addf (divf (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 f shapeCasts_S1x1024_S1x1024) broadcasts_S1x1024_S256x1024)) shapeCasts_S256x1024_S1x256x1024

/-- Sixteen heads side by side. -/
def beside (a0 a1 a2 a3 a4 a5 a6 a7 a8 a9 a10 a11 a12 a13 a14 a15 : Vec F S1x256x128 .f32) : FVec F S256x2048 .f32 :=
  concatenate S256x2048 1 [⟨S256x128, shapeCast S256x128 a0 shapeCasts_S1x256x128_S256x128⟩, ⟨S256x128, shapeCast S256x128 a1 shapeCasts_S1x256x128_S256x128⟩, ⟨S256x128, shapeCast S256x128 a2 shapeCasts_S1x256x128_S256x128⟩, ⟨S256x128, shapeCast S256x128 a3 shapeCasts_S1x256x128_S256x128⟩,
    ⟨S256x128, shapeCast S256x128 a4 shapeCasts_S1x256x128_S256x128⟩, ⟨S256x128, shapeCast S256x128 a5 shapeCasts_S1x256x128_S256x128⟩, ⟨S256x128, shapeCast S256x128 a6 shapeCasts_S1x256x128_S256x128⟩, ⟨S256x128, shapeCast S256x128 a7 shapeCasts_S1x256x128_S256x128⟩,
    ⟨S256x128, shapeCast S256x128 a8 shapeCasts_S1x256x128_S256x128⟩, ⟨S256x128, shapeCast S256x128 a9 shapeCasts_S1x256x128_S256x128⟩, ⟨S256x128, shapeCast S256x128 a10 shapeCasts_S1x256x128_S256x128⟩, ⟨S256x128, shapeCast S256x128 a11 shapeCasts_S1x256x128_S256x128⟩,
    ⟨S256x128, shapeCast S256x128 a12 shapeCasts_S1x256x128_S256x128⟩, ⟨S256x128, shapeCast S256x128 a13 shapeCasts_S1x256x128_S256x128⟩, ⟨S256x128, shapeCast S256x128 a14 shapeCasts_S1x256x128_S256x128⟩, ⟨S256x128, shapeCast S256x128 a15 shapeCasts_S1x256x128_S256x128⟩]
    concatenates_S256x128_S256x128_S256x128_S256x128_S256x128_S256x128_S256x128_S256x128_S256x128_S256x128_S256x128_S256x128_S256x128_S256x128_S256x128_S256x128_S256x2048_d1
end pure

section code
variable {sig : RefSig} {R : ∀ j : Slot, Memref sig .tc .vmem (shp j) (elt j)} (hR : ∀ j, (R j).IsWhole)

local notation "ℂ" => Cmd (Elt F) R

/-- A load of a buffer at an offset. -/
def ld (j : Slot) (off size : Fin (shp j).rank → ℕ) (inb : ∀ a, off a + size a ≤ (shp j).size a) (hn : 0 < (⟨(shp j).rank, size⟩ : Shape).numel)
    (k : ((⟨(shp j).rank, size⟩ : Shape).Idx → Elt F (elt j)) → ℂ) : ℂ :=
  .load j (Rect.unit off size inb) (View.loadsAt_vmem hn) k

/-- A store of a buffer of whole words. -/
def st (j : Slot) (off size : Fin (shp j).rank → ℕ) (inb : ∀ a, off a + size a ≤ (shp j).size a) (hn : 0 < (⟨(shp j).rank, size⟩ : Shape).numel) (he : (elt j).bits = 32)
    (x : (⟨(shp j).rank, size⟩ : Shape).Idx → Elt F (elt j)) (k : ℂ) : ℂ :=
  .store j (Rect.unit off size inb) x (View.stores_vmem_bits_univ hn he) k

include hR in
theorem packs (j : Slot) (off size : Fin (shp j).rank → ℕ) (inb : ∀ a, off a + size a ≤ (shp j).size a) (hn : 0 < (⟨(shp j).rank, size⟩ : Shape).numel)
    (hp : (Rect.unit off size inb).PackedRows (elt j).packing) : ((R j).access (Rect.unit off size inb)).Stores Finset.univ :=
  View.stores_vmem hn ((hR j).storeExact_slice rfl _ hp) (fun _ => rfl)

/-- A store of a buffer with two elements to a word. -/
def stp (j : Slot) (off size : Fin (shp j).rank → ℕ) (inb : ∀ a, off a + size a ≤ (shp j).size a) (hn : 0 < (⟨(shp j).rank, size⟩ : Shape).numel)
    (hp : (Rect.unit off size inb).PackedRows (elt j).packing) (x : (⟨(shp j).rank, size⟩ : Shape).Idx → Elt F (elt j)) (k : ℂ) : ℂ :=
  .store j (Rect.unit off size inb) x (packs hR j off size inb hn hp) k

/-- What the number of key blocks in sight decides: the scores of a head with their maxima, the values of a head, and their product. -/
structure Live (F : FTy → Type) [FloatOps F] {sig : RefSig} (R : ∀ j : Slot, Memref sig .tc .vmem (shp j) (elt j)) where
  W : ℕ
  wide : Wide W
  sc : ∀ hd : ℕ, hd < 16 → (FVec F (T2 256 W) .f32 → FVec F S256x128 .f32 → Cmd (Elt F) R) → Cmd (Elt F) R
  vl : ∀ hd : ℕ, hd < 16 → (FVec F (T2 W 256) .bf16 → Cmd (Elt F) R) → Cmd (Elt F) R
  mm : FVec F (T2 256 W) .bf16 → FVec F (T2 W 256) .bf16 → FVec F S256x256 .f32

variable (L : Live F R)

/-- The scores of a head into buffer `b`. -/
def scores (hd b : ℕ) (hh : hd < 16) (hb : b < 2) (k : ℂ) : ℂ :=
  L.sc hd hh fun x mx =>
    ld .s ![b, 0, 0] ![1, 256, L.W] (inb3 (by omega) (by omega) (by have := L.wide.le; omega)) L.wide.n256 fun _ =>
    st .s ![b, 0, 0] ![1, 256, L.W] (inb3 (by omega) (by omega) (by have := L.wide.le; omega)) L.wide.n256 rfl (shapeCast (T3 1 256 L.W) x L.wide.c256') <|
    ld .m ![b, 0, 0] ![1, 256, 128] (inb3 (by omega) (by omega) (by omega)) (by decide) fun _ =>
    st .m ![b, 0, 0] ![1, 256, 128] (inb3 (by omega) (by omega) (by omega)) (by decide) rfl (shapeCast S1x256x128 mx shapeCasts_S256x128_S1x256x128) k

theorem packP (b r W : ℕ) (hr : r % 64 = 0) (inb) : (Rect.unit (s := S2x256x768) ![b, r, 0] ![1, 64, W] inb).PackedRows 2 := by
  refine .inr ⟨by decide, rfl, .inl ⟨?_, ?_⟩⟩
  · show 2 ∣ r; omega
  · show 2 ∣ 64; decide

/-- The weights of 64 rows. -/
def chunk (b r : ℕ) (hb : b < 2) (hr : r % 64 = 0 ∧ r < 256) (k : ℂ) : ℂ :=
  ld .m ![b, r, 0] ![1, 64, 128] (inb3 (by omega) (by omega) (by omega)) (by decide) fun a =>
  ld .s ![b, r, 0] ![1, 64, L.W] (inb3 (by omega) (by omega) (by have := L.wide.le; omega)) L.wide.n64 fun c =>
  ld .p ![b, r, 0] ![1, 64, L.W] (inb3 (by omega) (by omega) (by have := L.wide.le; omega)) L.wide.n64 fun _ =>
  stp hR .p ![b, r, 0] ![1, 64, L.W] (inb3 (by omega) (by omega) (by have := L.wide.le; omega)) L.wide.n64 (packP b r L.W hr.1 _) (soft L.wide a c) k

def softmax (b : ℕ) (hb : b < 2) (k : ℂ) : ℂ :=
  chunk hR L b 0 hb (by decide) <| chunk hR L b 64 hb (by decide) <| chunk hR L b 128 hb (by decide) <| chunk hR L b 192 hb (by decide) k

/-- A head's attention from the weights in buffer `b`. -/
def values (hd b : ℕ) (hh : hd < 16) (hb : b < 2) (k : ℂ) : ℂ :=
  L.vl hd hh fun x =>
    ld .p ![b, 0, 0] ![1, 256, L.W] (inb3 (by omega) (by omega) (by have := L.wide.le; omega)) L.wide.n256 fun p =>
    ld .ao ![hd, 0, 0] ![1, 256, 128] (inb3 (by omega) (by omega) (by omega)) (by decide) fun _ =>
    st .ao ![hd, 0, 0] ![1, 256, 128] (inb3 (by omega) (by omega) (by omega)) (by decide) rfl (quot (L.mm (shapeCast (T2 256 L.W) p L.wide.c256) x)) k

/-- Heads 1 to `n`: the next head's scores, this one's weights, the last one's values. -/
def mid : (n : ℕ) → n ≤ 14 → ℂ → ℂ
  | 0, _, k => k
  | n + 1, h, k => mid n (by omega) <| scores L (n + 2) ((n + 2) % 2) (by omega) (Nat.mod_lt _ (by decide)) <|
      softmax hR L ((n + 1) % 2) (Nat.mod_lt _ (by decide)) <| values L n (n % 2) (by omega) (Nat.mod_lt _ (by decide)) k

def lo (hd : ℕ) (hh : hd < 16) (k : Vec F S1x256x128 .f32 → ℂ) : ℂ :=
  ld .ao ![hd, 0, 0] ![1, 256, 128] (inb3 (by omega) (by omega) (by omega)) (by decide) k

theorem packK (n : ℕ) (inb) : (Rect.unit (s := S3x16x128x256) ![n, 0, 0, 0] ![1, 16, 128, 256] inb).PackedRows 2 := by
  refine .inr ⟨by decide, rfl, .inl ⟨?_, ?_⟩⟩
  · show 2 ∣ 0; decide
  · show 2 ∣ 128; decide

theorem packV (n : ℕ) (inb) : (Rect.unit (s := S3x16x256x256) ![n, 0, 0, 0] ![1, 16, 256, 128] inb).PackedRows 2 := by
  refine .inr ⟨by decide, rfl, .inl ⟨?_, ?_⟩⟩
  · show 2 ∣ 0; decide
  · show 2 ∣ 256; decide

/-- The point's keys and values into slot `n` of the rings, and the output. -/
def finish (n : ℕ) (hn : n < 3) : ℂ :=
  ld .k ![0, 0, 0, 0] ![1, 16, 128, 256] (inb4 (by omega) (by omega) (by omega) (by omega)) (by decide) fun kk =>
  ld .kr ![n, 0, 0, 0] ![1, 16, 128, 256] (inb4 (by omega) (by omega) (by omega) (by omega)) (by decide) fun _ =>
  stp hR .kr ![n, 0, 0, 0] ![1, 16, 128, 256] (inb4 (by omega) (by omega) (by omega) (by omega)) (by decide) (packK n _)
    (shapeCast S1x16x128x256 (shapeCast S16x128x256 kk shapeCasts_S1x16x128x256_S16x128x256) shapeCasts_S16x128x256_S1x16x128x256) <|
  ld .v ![0, 0, 0, 0] ![1, 16, 256, 128] (inb4 (by omega) (by omega) (by omega) (by omega)) (by decide) fun vv =>
  ld .vr ![n, 0, 0, 0] ![1, 16, 256, 128] (inb4 (by omega) (by omega) (by omega) (by omega)) (by decide) fun _ =>
  stp hR .vr ![n, 0, 0, 0] ![1, 16, 256, 128] (inb4 (by omega) (by omega) (by omega) (by omega)) (by decide) (packV n _)
    (shapeCast S1x16x256x128 (shapeCast S16x256x128 vv shapeCasts_S1x16x256x128_S16x256x128) shapeCasts_S16x256x128_S1x16x256x128) <|
  lo 0 (by decide) fun a0 => lo 1 (by decide) fun a1 => lo 2 (by decide) fun a2 => lo 3 (by decide) fun a3 => lo 4 (by decide) fun a4 => lo 5 (by decide) fun a5 =>
  lo 6 (by decide) fun a6 => lo 7 (by decide) fun a7 => lo 8 (by decide) fun a8 => lo 9 (by decide) fun a9 => lo 10 (by decide) fun a10 => lo 11 (by decide) fun a11 =>
  lo 12 (by decide) fun a12 => lo 13 (by decide) fun a13 => lo 14 (by decide) fun a14 => lo 15 (by decide) fun a15 =>
  ld .z ![0, 0, 0] ![1, 256, 2048] (inb3 (by omega) (by omega) (by omega)) (by decide) fun z =>
  ld .w ![0, 0, 0] ![1, 1024, 2048] (inb3 (by omega) (by omega) (by omega)) (by decide) fun w =>
  ld .h ![0, 0, 0] ![1, 256, 1024] (inb3 (by omega) (by omega) (by omega)) (by decide) fun h =>
  ld .g ![0, 0, 0] ![1, 1, 1024] (inb3 (by omega) (by omega) (by omega)) (by decide) fun g =>
  ld .f ![0, 0] ![1, 1024] (by decide) (by decide) fun f =>
  ld .o ![0, 0, 0] ![1, 256, 1024] (inb3 (by omega) (by omega) (by omega)) (by decide) fun _ =>
  st .o ![0, 0, 0] ![1, 256, 1024] (inb3 (by omega) (by omega) (by omega)) (by decide) rfl
    (norm (resid h g (proj (beside a0 a1 a2 a3 a4 a5 a6 a7 a8 a9 a10 a11 a12 a13 a14 a15) z w)) f) .done

/-- The whole point. -/
def branch (n : ℕ) (hn : n < 3) : ℂ :=
  scores L 0 0 (by decide) (by decide) <| scores L 1 1 (by decide) (by decide) <| softmax hR L 0 (by decide) <| mid hR L 14 le_rfl <|
  softmax hR L 1 (by decide) <| values L 14 0 (by decide) (by decide) <| values L 15 1 (by decide) (by decide) <| finish hR n hn

/-- The first block of a sequence sees only itself. -/
def live1 : Live F R where
  W := 256
  wide := wide256
  sc hd hh k :=
    ld .q ![0, hd, 0, 0] ![1, 1, 256, 128] (inb4 (by omega) (by omega) (by omega) (by omega)) (by decide) fun a =>
    ld .k ![0, hd, 0, 0] ![1, 1, 128, 256] (inb4 (by omega) (by omega) (by omega) (by omega)) (by decide) fun b =>
    ld .tab ![hd, 0, 512] ![1, 256, 256] (inb3 (by omega) (by omega) (by omega)) (by decide) fun c =>
    k (score1 a b c) (mx1 (score1 a b c))
  vl hd hh k := ld .v ![0, hd, 0, 0] ![1, 1, 256, 128] (inb4 (by omega) (by omega) (by omega) (by omega)) (by decide) fun a => k (withOnes a)
  mm p x := matmul dot_S256x256_S256x256_S256x256_1_0_0_1_n_n none p x (constant S256x256 .f32 0x00000000#32)

/-- The second block sees the one before it, kept in slot `n` of the rings. -/
def live2 (n : ℕ) (hn : n < 3) : Live F R where
  W := 512
  wide := wide512
  sc hd hh k :=
    ld .q ![0, hd, 0, 0] ![1, 1, 256, 128] (inb4 (by omega) (by omega) (by omega) (by omega)) (by decide) fun a =>
    ld .kr ![n, hd, 0, 0] ![1, 1, 128, 256] (inb4 (by omega) (by omega) (by omega) (by omega)) (by decide) fun b0 =>
    ld .k ![0, hd, 0, 0] ![1, 1, 128, 256] (inb4 (by omega) (by omega) (by omega) (by omega)) (by decide) fun b =>
    ld .tab ![hd, 0, 256] ![1, 256, 512] (inb3 (by omega) (by omega) (by omega)) (by decide) fun c =>
    k (score2 a b0 b c) (mx2 (score2 a b0 b c))
  vl hd hh k :=
    ld .v ![0, hd, 0, 0] ![1, 1, 256, 128] (inb4 (by omega) (by omega) (by omega) (by omega)) (by decide) fun a =>
    ld .vr ![n, hd, 0, 0] ![1, 1, 256, 256] (inb4 (by omega) (by omega) (by omega) (by omega)) (by decide) fun a0 =>
    k (concatenate S512x256 0 [⟨S256x256, shapeCast S256x256 a0 shapeCasts_S1x1x256x256_S256x256⟩, ⟨S256x256, withOnes a⟩] concatenates_S256x256_S256x256_S512x256_d0)
  mm p x := matmul dot_S256x512_S512x256_S256x256_1_0_0_1_n_n none p x (constant S256x256 .f32 0x00000000#32)

/-- Every later block sees two before it, in slots `n` and `n'`. -/
def live3 (n n' : ℕ) (hn : n < 3) (hn' : n' < 3) : Live F R where
  W := 768
  wide := wide768
  sc hd hh k :=
    ld .q ![0, hd, 0, 0] ![1, 1, 256, 128] (inb4 (by omega) (by omega) (by omega) (by omega)) (by decide) fun a =>
    ld .kr ![n, hd, 0, 0] ![1, 1, 128, 256] (inb4 (by omega) (by omega) (by omega) (by omega)) (by decide) fun b0 =>
    ld .kr ![n', hd, 0, 0] ![1, 1, 128, 256] (inb4 (by omega) (by omega) (by omega) (by omega)) (by decide) fun b1 =>
    ld .k ![0, hd, 0, 0] ![1, 1, 128, 256] (inb4 (by omega) (by omega) (by omega) (by omega)) (by decide) fun b =>
    ld .tab ![hd, 0, 0] ![1, 256, 768] (inb3 (by omega) (by omega) (by omega)) (by decide) fun c =>
    k (score3 a b0 b1 b c) (mx3 (score3 a b0 b1 b c))
  vl hd hh k :=
    ld .v ![0, hd, 0, 0] ![1, 1, 256, 128] (inb4 (by omega) (by omega) (by omega) (by omega)) (by decide) fun a =>
    ld .vr ![n, hd, 0, 0] ![1, 1, 256, 256] (inb4 (by omega) (by omega) (by omega) (by omega)) (by decide) fun a0 =>
    ld .vr ![n', hd, 0, 0] ![1, 1, 256, 256] (inb4 (by omega) (by omega) (by omega) (by omega)) (by decide) fun a1 =>
    k (concatenate S768x256 0 [⟨S256x256, shapeCast S256x256 a0 shapeCasts_S1x1x256x256_S256x256⟩, ⟨S256x256, shapeCast S256x256 a1 shapeCasts_S1x1x256x256_S256x256⟩, ⟨S256x256, withOnes a⟩] concatenates_S256x256_S256x256_S256x256_S768x256_d0)
  mm p x := matmul dot_S256x768_S768x256_S256x256_1_0_0_1_n_n none p x (constant S256x256 .f32 0x00000000#32)
end code
/-- The ring slot that block `x` of a sequence is kept in. -/
def slotT (x : ℕ) : ℕ := (Scalar.indexCast (Scalar.remsi (BitVec.ofNat 32 x) 3#32)).toNat

/-- The ring slots of the blocks before block `x`. -/
def slotA (x : ℕ) (c : BitVec 32) : ℕ := (Scalar.indexCast (Scalar.remsi (Scalar.addi (Scalar.addi (BitVec.ofNat 32 x) 1#32) c) 3#32)).toNat

theorem slotT_eq : ∀ x : Fin 32, slotT x.val = x.val % 3 := by decide +kernel
theorem slotA0_eq : ∀ x : Fin 32, slotA x.val 0#32 = (x.val + 1) % 3 := by decide +kernel
theorem slotA1_eq : ∀ x : Fin 32, slotA x.val 1#32 = (x.val + 2) % 3 := by decide +kernel
theorem slotT_lt (x : Fin 32) : slotT x.val < 3 := by rw [slotT_eq]; exact Nat.mod_lt _ (by decide)
theorem slotA0_lt (x : Fin 32) : slotA x.val 0#32 < 3 := by rw [slotA0_eq]; exact Nat.mod_lt _ (by decide)
theorem slotA1_lt (x : Fin 32) : slotA x.val 1#32 < 3 := by rw [slotA1_eq]; exact Nat.mod_lt _ (by decide)

def bufs {sig : RefSig} (arg2 : Memref sig .tc .vmem S1x16x256x128 .bf16) (arg3 : Memref sig .tc .vmem S1x16x128x256 .bf16) (arg4 : Memref sig .tc .vmem S1x16x256x128 .bf16) (arg5 : Memref sig .tc .vmem S1x256x2048 .f32) (arg6 : Memref sig .tc .vmem S1x256x1024 .f32) (arg7 : Memref sig .tc .vmem S1x1x1024 .f32) (arg8 : Memref sig .tc .vmem S16x1x1024 .f32) (arg9 : Memref sig .tc .vmem S1x1024x2048 .bf16) (arg10 : Memref sig .tc .vmem S1x1024 .f32) (arg11 : Memref sig .tc .vmem S1x256x1024 .f32) (arg12 : Memref sig .tc .vmem S3x16x128x256 .bf16) (arg13 : Memref sig .tc .vmem S3x16x256x256 .bf16) (arg14 : Memref sig .tc .vmem S16x256x128 .f32) (arg15 : Memref sig .tc .vmem S2x256x768 .f32) (arg16 : Memref sig .tc .vmem S2x256x768 .bf16) (arg17 : Memref sig .tc .vmem S2x256x128 .f32) (arg18 : Memref sig .tc .vmem S16x256x768 .f32) : ∀ j : Slot, Memref sig .tc .vmem (shp j) (elt j)
  | .q => arg2
  | .k => arg3
  | .v => arg4
  | .z => arg5
  | .h => arg6
  | .g => arg7
  | .b => arg8
  | .w => arg9
  | .f => arg10
  | .o => arg11
  | .kr => arg12
  | .vr => arg13
  | .ao => arg14
  | .s => arg15
  | .p => arg16
  | .m => arg17
  | .tab => arg18

theorem bufs_whole {sig : RefSig} (arg2 : Memref sig .tc .vmem S1x16x256x128 .bf16) (harg2 : arg2.IsWhole) (arg3 : Memref sig .tc .vmem S1x16x128x256 .bf16) (harg3 : arg3.IsWhole) (arg4 : Memref sig .tc .vmem S1x16x256x128 .bf16) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S1x1x1024 .f32) (harg7 : arg7.IsWhole) (arg8 : Memref sig .tc .vmem S16x1x1024 .f32) (harg8 : arg8.IsWhole) (arg9 : Memref sig .tc .vmem S1x1024x2048 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S3x16x128x256 .bf16) (harg12 : arg12.IsWhole) (arg13 : Memref sig .tc .vmem S3x16x256x256 .bf16) (harg13 : arg13.IsWhole) (arg14 : Memref sig .tc .vmem S16x256x128 .f32) (harg14 : arg14.IsWhole) (arg15 : Memref sig .tc .vmem S2x256x768 .f32) (harg15 : arg15.IsWhole) (arg16 : Memref sig .tc .vmem S2x256x768 .bf16) (harg16 : arg16.IsWhole) (arg17 : Memref sig .tc .vmem S2x256x128 .f32) (harg17 : arg17.IsWhole) (arg18 : Memref sig .tc .vmem S16x256x768 .f32) (harg18 : arg18.IsWhole) : ∀ j, (bufs arg2 arg3 arg4 arg5 arg6 arg7 arg8 arg9 arg10 arg11 arg12 arg13 arg14 arg15 arg16 arg17 arg18 j).IsWhole
  | .q => harg2
  | .k => harg3
  | .v => harg4
  | .z => harg5
  | .h => harg6
  | .g => harg7
  | .b => harg8
  | .w => harg9
  | .f => harg10
  | .o => harg11
  | .kr => harg12
  | .vr => harg13
  | .ao => harg14
  | .s => harg15
  | .p => harg16
  | .m => harg17
  | .tab => harg18
end Cert.Att
end
-- ==== Proof.Att.Heads.lean ====
/- What the attention body does to its buffers: the output block from the blocks in sight, the rings with the point's keys
   and values in their slot, and nothing else that a later point reads. -/
module

public import proofs.«01_k».proof.Proof.Att.Model

@[expose] public section
noncomputable section
namespace Cert.Att
open Idealize.ShloMosaic Idealize.SL.Sem Cert.AttnIdeal
open Cert.AttnIdeal.Facts₀ Cert.AttnIdeal.Facts

/-! ## Rectangles -/

theorem unit_emb_val {s : Shape} (off size : Fin s.rank → ℕ) (h) (x : (Rect.unit (s := s) off size h).shape.Idx) (a : Fin s.rank) :
    ((Rect.unit off size h).emb x a).val = off a + (x a).val := by
  simp [Rect.emb, Rect.unit]

/-- A store at a rectangle is not seen at another that lies apart from it on some axis. -/
theorem put_apart {s : Shape} {α : Type} (off size off' size' : Fin s.rank → ℕ) (h h') (w : (Rect.unit (s := s) off size h).shape.Idx → α) (f : s.Idx → α)
    (a : Fin s.rank) (ha : off a + size a ≤ off' a ∨ off' a + size' a ≤ off a) (x : (Rect.unit (s := s) off' size' h').shape.Idx) :
    put (Rect.unit off size h) w f ((Rect.unit off' size' h').emb x) = f ((Rect.unit off' size' h').emb x) := by
  refine put_not _ _ _ _ ?_
  rintro ⟨z, hz⟩
  have e : ((Rect.unit (s := s) off size h).emb z a).val = ((Rect.unit (s := s) off' size' h').emb x a).val := congrArg (fun y => (y a).val) hz
  rw [unit_emb_val, unit_emb_val] at e
  have h1 : (z a).val < size a := (z a).isLt
  have h2 : (x a).val < size' a := (x a).isLt
  omega

def tri {A B C : ℕ} (i : Fin A) (j : Fin B) (k : Fin C) : (T3 A B C).Idx
  | ⟨0, _⟩ => i
  | ⟨1, _⟩ => j
  | ⟨2, _⟩ => k

theorem ext3 {A B C : ℕ} (x y : (T3 A B C).Idx) (h0 : (x 0).val = (y 0).val) (h1 : (x 1).val = (y 1).val) (h2 : (x 2).val = (y 2).val) : x = y := by
  funext a
  match a with
  | ⟨0, _⟩ => exact Fin.ext h0
  | ⟨1, _⟩ => exact Fin.ext h1
  | ⟨2, _⟩ => exact Fin.ext h2

abbrev rS (W : ℕ) (hW : W ≤ 768) (b r n : ℕ) (hb : b < 2) (hr : r + n ≤ 256) : Rect S2x256x768 := Rect.unit ![b, r, 0] ![1, n, W] (inb3 (by omega) (by omega) (by omega))
abbrev rM (b r n : ℕ) (hb : b < 2) (hr : r + n ≤ 256) : Rect S2x256x128 := Rect.unit ![b, r, 0] ![1, n, 128] (inb3 (by omega) (by omega) (by omega))
abbrev rA (hd : ℕ) (hh : hd < 16) : Rect S16x256x128 := Rect.unit ![hd, 0, 0] ![1, 256, 128] (inb3 (by omega) (by omega) (by omega))
abbrev rU (W r : ℕ) (hr : r + 64 ≤ 256) : Rect (T3 1 256 W) := Rect.unit ![0, r, 0] ![1, 64, W] (inb3 (by omega) (by omega) (by omega))

theorem apartS {α : Type} (W : ℕ) (hW : W ≤ 768) (b r n b' r' n' : ℕ) (hb hr hb' hr') (ha : b ≠ b' ∨ r + n ≤ r' ∨ r' + n' ≤ r)
    (w : (rS W hW b r n hb hr).shape.Idx → α) (f : S2x256x768.Idx → α) (x : (rS W hW b' r' n' hb' hr').shape.Idx) :
    put (rS W hW b r n hb hr) w f ((rS W hW b' r' n' hb' hr').emb x) = f ((rS W hW b' r' n' hb' hr').emb x) := by
  rcases ha with ha | ha
  · exact put_apart ![b, r, 0] ![1, n, W] ![b', r', 0] ![1, n', W] _ _ w f (0 : Fin 3) (show b + 1 ≤ b' ∨ b' + 1 ≤ b by omega) x
  · exact put_apart ![b, r, 0] ![1, n, W] ![b', r', 0] ![1, n', W] _ _ w f (1 : Fin 3) (show r + n ≤ r' ∨ r' + n' ≤ r from ha) x

theorem apartM {α : Type} (b r n b' r' n' : ℕ) (hb hr hb' hr') (ha : b ≠ b')
    (w : (rM b r n hb hr).shape.Idx → α) (f : S2x256x128.Idx → α) (x : (rM b' r' n' hb' hr').shape.Idx) :
    put (rM b r n hb hr) w f ((rM b' r' n' hb' hr').emb x) = f ((rM b' r' n' hb' hr').emb x) :=
  put_apart ![b, r, 0] ![1, n, 128] ![b', r', 0] ![1, n', 128] _ _ w f (0 : Fin 3) (show b + 1 ≤ b' ∨ b' + 1 ≤ b by omega) x

theorem apart3 {α : Type} {A B C : ℕ} (a b c x y z a' b' c' x' y' z' : ℕ) (h h') (ha : a + x ≤ a' ∨ a' + x' ≤ a)
    (w : (Rect.unit (s := T3 A B C) ![a, b, c] ![x, y, z] h).shape.Idx → α) (f : (T3 A B C).Idx → α) (i : (Rect.unit (s := T3 A B C) ![a', b', c'] ![x', y', z'] h').shape.Idx) :
    put (Rect.unit (s := T3 A B C) ![a, b, c] ![x, y, z] h) w f ((Rect.unit (s := T3 A B C) ![a', b', c'] ![x', y', z'] h').emb i) = f ((Rect.unit (s := T3 A B C) ![a', b', c'] ![x', y', z'] h').emb i) :=
  put_apart ![a, b, c] ![x, y, z] ![a', b', c'] ![x', y', z'] _ _ w f (0 : Fin 3) ha i

theorem apartA {α : Type} (hd hd' : ℕ) (hh : hd < 16) (hh' : hd' < 16) (ha : hd ≠ hd')
    (w : (rA hd hh).shape.Idx → α) (f : S16x256x128.Idx → α) (x : (rA hd' hh').shape.Idx) :
    put (rA hd hh) w f ((rA hd' hh').emb x) = f ((rA hd' hh').emb x) := by
  have hc : hd + 1 ≤ hd' ∨ hd' + 1 ≤ hd := by omega
  exact apart3 hd 0 0 1 256 128 hd' 0 0 1 256 128 _ _ hc w f x

theorem rS_rU (W : ℕ) (hW : W ≤ 768) (b r : ℕ) (hb : b < 2) (hr : r + 64 ≤ 256) (y : (T3 1 64 W).Idx) :
    (rS W hW b 0 256 hb (by omega)).emb ((rU W r hr).emb y) = (rS W hW b r 64 hb hr).emb y := by
  refine ext3 _ _ ?_ ?_ ?_ <;> rw [unit_emb_val, unit_emb_val, unit_emb_val]
  · show b + (0 + _) = b + _; omega
  · show 0 + (r + _) = r + _; omega
  · show 0 + (0 + _) = 0 + _; omega

theorem rM_rU (b r : ℕ) (hb : b < 2) (hr : r + 64 ≤ 256) (y : (T3 1 64 128).Idx) :
    (rM b 0 256 hb (by omega)).emb ((rU 128 r hr).emb y) = (rM b r 64 hb hr).emb y := by
  refine ext3 _ _ ?_ ?_ ?_ <;> rw [unit_emb_val, unit_emb_val, unit_emb_val]
  · show b + (0 + _) = b + _; omega
  · show 0 + (r + _) = r + _; omega
  · show 0 + (0 + _) = 0 + _; omega

variable {F : FTy → Type} [FloatOps F]

abbrev Cont (F : FTy → Type) : Type := St shp elt (Elt F)

/-! ## The closed form of a head -/

/-- The weights of the rows from `r` on. -/
def wts {W : ℕ} (wd : Wide W) (X : FVec F (T2 256 W) .f32) (Y : FVec F S256x128 .f32) (r : ℕ) (hr : r + 64 ≤ 256) : FVec F (T3 1 64 W) .bf16 :=
  soft wd (fun y => (shapeCast S1x256x128 Y shapeCasts_S256x128_S1x256x128 : FVec F S1x256x128 .f32) ((rU 128 r hr).emb y))
    (fun y => (shapeCast (T3 1 256 W) X wd.c256' : FVec F (T3 1 256 W) .f32) ((rU W r hr).emb y))

/-- The weights of all rows, 64 at a time. -/
def pblk {W : ℕ} (wd : Wide W) (X : FVec F (T2 256 W) .f32) (Y : FVec F S256x128 .f32) : FVec F (T3 1 256 W) .bf16 := fun x =>
  wts wd X Y (64 * ((x 1).val / 64)) (by have h : (x 1).val < 256 := (x 1).isLt; omega)
    (tri ⟨0, Nat.one_pos⟩ ⟨(x 1).val % 64, Nat.mod_lt _ (by decide)⟩ ⟨(x 2).val, (x 2).isLt⟩)

theorem wts_eq {W : ℕ} (wd : Wide W) (X : FVec F (T2 256 W) .f32) (Y : FVec F S256x128 .f32) (r : ℕ) (hr : r + 64 ≤ 256) (h64 : r % 64 = 0) (z : (T3 1 64 W).Idx) :
    pblk wd X Y ((rU W r hr).emb z) = wts wd X Y r hr z := by
  have hz0 : (z 0).val < 1 := (z 0).isLt
  have hz1 : (z 1).val < 64 := (z 1).isLt
  have e1 : ((rU W r hr).emb z 1).val = r + (z 1).val := unit_emb_val _ _ _ _ _
  have e2 : ((rU W r hr).emb z 2).val = 0 + (z 2).val := unit_emb_val _ _ _ _ _
  have er : 64 * (((rU W r hr).emb z 1).val / 64) = r := by omega
  unfold pblk
  have ez : tri ⟨0, Nat.one_pos⟩ ⟨((rU W r hr).emb z 1).val % 64, Nat.mod_lt _ (by decide)⟩ ⟨((rU W r hr).emb z 2).val, ((rU W r hr).emb z 2).isLt⟩ = z := by
    refine ext3 _ _ ?_ ?_ ?_
    · show 0 = (z 0).val; omega
    · show ((rU W r hr).emb z 1).val % 64 = _; omega
    · show ((rU W r hr).emb z 2).val = _; omega
  have key : ∀ (r' : ℕ) (hr' : r' + 64 ≤ 256) (z' : (T3 1 64 W).Idx), r' = r → z' = z → wts wd X Y r' hr' z' = wts wd X Y r hr z := by
    rintro _ _ _ rfl rfl; rfl
  exact key _ _ _ er ez

section
variable {sig : RefSig} {R : ∀ j : Slot, Memref sig .tc .vmem (shp j) (elt j)} (hR : ∀ j, (R j).IsWhole)

/-- Two contents agree on what the heads only read. -/
def Same (σ σ0 : Cont F) : Prop := ∀ j, j ≠ .s → j ≠ .m → j ≠ .p → j ≠ .ao → σ j = σ0 j

/-- What the loads of a head give, from the contents. -/
structure Sees (L : Live F R) where
  A : ∀ hd : ℕ, hd < 16 → Cont F → FVec F (T2 256 L.W) .f32
  M : ∀ hd : ℕ, hd < 16 → Cont F → FVec F S256x128 .f32
  V : ∀ hd : ℕ, hd < 16 → Cont F → FVec F (T2 L.W 256) .bf16
  sc : ∀ hd hh k σ, run (L.sc hd hh k) σ = run (k (A hd hh σ) (M hd hh σ)) σ
  vl : ∀ hd hh k σ, run (L.vl hd hh k) σ = run (k (V hd hh σ)) σ
  cA : ∀ hd hh σ σ0, Same σ σ0 → A hd hh σ = A hd hh σ0
  cM : ∀ hd hh σ σ0, Same σ σ0 → M hd hh σ = M hd hh σ0
  cV : ∀ hd hh σ σ0, Same σ σ0 → V hd hh σ = V hd hh σ0

variable {L : Live F R} (S : Sees L)

/-- A head's attention. -/
def att (S : Sees L) (σ : Cont F) (hd : ℕ) (hh : hd < 16) : FVec F S1x256x128 .f32 :=
  quot (L.mm (shapeCast (T2 256 L.W) (pblk L.wide (S.A hd hh σ) (S.M hd hh σ)) L.wide.c256) (S.V hd hh σ))

def HasS (L : Live F R) (b : ℕ) (hb : b < 2) (X : FVec F (T2 256 L.W) .f32) (σ : Cont F) : Prop :=
  (fun x => σ .s ((rS L.W L.wide.le b 0 256 hb (by omega)).emb x)) = shapeCast (T3 1 256 L.W) X L.wide.c256'
def HasM (b : ℕ) (hb : b < 2) (Y : FVec F S256x128 .f32) (σ : Cont F) : Prop :=
  (fun x => σ .m ((rM b 0 256 hb (by omega)).emb x)) = shapeCast S1x256x128 Y shapeCasts_S256x128_S1x256x128
def HasP (L : Live F R) (b : ℕ) (hb : b < 2) (P : FVec F (T3 1 256 L.W) .bf16) (σ : Cont F) : Prop :=
  (fun x => σ .p ((rS L.W L.wide.le b 0 256 hb (by omega)).emb x)) = P
def HasA (hd : ℕ) (hh : hd < 16) (Z : FVec F S1x256x128 .f32) (σ : Cont F) : Prop :=
  (fun x => σ .ao ((rA hd hh).emb x)) = Z

/-! ## The pieces -/

def sScores (S : Sees L) (hd b : ℕ) (hh : hd < 16) (hb : b < 2) (σ : Cont F) : Cont F :=
  Function.update (Function.update σ .s (put (rS L.W L.wide.le b 0 256 hb (by omega)) (shapeCast (T3 1 256 L.W) (S.A hd hh σ) L.wide.c256') (σ .s)))
    .m (put (rM b 0 256 hb (by omega)) (shapeCast S1x256x128 (S.M hd hh σ) shapeCasts_S256x128_S1x256x128) (σ .m))

theorem scores_run (hd b : ℕ) (hh : hd < 16) (hb : b < 2) (k : Cmd (Elt F) R) (σ : Cont F) :
    run (scores L hd b hh hb k) σ = run k (sScores S hd b hh hb σ) := by
  unfold scores
  rw [S.sc]
  rfl

def sChunk (L : Live F R) (b r : ℕ) (hb : b < 2) (hr : r % 64 = 0 ∧ r < 256) (σ : Cont F) : Cont F :=
  Function.update σ .p (put (rS L.W L.wide.le b r 64 hb (by omega))
    (soft L.wide (fun x => σ .m ((rM b r 64 hb (by omega)).emb x)) (fun x => σ .s ((rS L.W L.wide.le b r 64 hb (by omega)).emb x))) (σ .p))

theorem chunk_run (b r : ℕ) (hb : b < 2) (hr : r % 64 = 0 ∧ r < 256) (k : Cmd (Elt F) R) (σ : Cont F) :
    run (chunk hR L b r hb hr k) σ = run k (sChunk L b r hb hr σ) := rfl

def sSoft (L : Live F R) (b : ℕ) (hb : b < 2) (σ : Cont F) : Cont F :=
  sChunk L b 192 hb (by decide) (sChunk L b 128 hb (by decide) (sChunk L b 64 hb (by decide) (sChunk L b 0 hb (by decide) σ)))

theorem softmax_run (b : ℕ) (hb : b < 2) (k : Cmd (Elt F) R) (σ : Cont F) :
    run (softmax hR L b hb k) σ = run k (sSoft L b hb σ) := rfl

def sValues (S : Sees L) (hd b : ℕ) (hh : hd < 16) (hb : b < 2) (σ : Cont F) : Cont F :=
  Function.update σ .ao (put (rA hd hh) (quot (L.mm (shapeCast (T2 256 L.W) (fun x => σ .p ((rS L.W L.wide.le b 0 256 hb (by omega)).emb x)) L.wide.c256) (S.V hd hh σ))) (σ .ao))

theorem values_run (hd b : ℕ) (hh : hd < 16) (hb : b < 2) (k : Cmd (Elt F) R) (σ : Cont F) :
    run (values L hd b hh hb k) σ = run k (sValues S hd b hh hb σ) := by
  unfold values
  rw [S.vl]
  rfl

/-! ## What each piece keeps and gives -/

theorem sScores_ne (hd b : ℕ) (hh : hd < 16) (hb : b < 2) (σ : Cont F) (j : Slot) (h1 : j ≠ .s) (h2 : j ≠ .m) : sScores S hd b hh hb σ j = σ j := by
  unfold sScores
  rw [Function.update_of_ne h2, Function.update_of_ne h1]

theorem sScores_s (hd b : ℕ) (hh : hd < 16) (hb : b < 2) (σ : Cont F) :
    sScores S hd b hh hb σ .s = put (rS L.W L.wide.le b 0 256 hb (by omega)) (shapeCast (T3 1 256 L.W) (S.A hd hh σ) L.wide.c256') (σ .s) := by
  unfold sScores
  rw [Function.update_of_ne (by decide), Function.update_self]

theorem sScores_m (hd b : ℕ) (hh : hd < 16) (hb : b < 2) (σ : Cont F) :
    sScores S hd b hh hb σ .m = put (rM b 0 256 hb (by omega)) (shapeCast S1x256x128 (S.M hd hh σ) shapeCasts_S256x128_S1x256x128) (σ .m) := by
  unfold sScores
  rw [Function.update_self]

theorem sChunk_ne (b r : ℕ) (hb : b < 2) (hr) (σ : Cont F) (j : Slot) (h : j ≠ .p) : sChunk L b r hb hr σ j = σ j := by
  unfold sChunk
  rw [Function.update_of_ne h]

theorem sChunk_p (b r : ℕ) (hb : b < 2) (hr) (σ : Cont F) :
    sChunk L b r hb hr σ .p = put (rS L.W L.wide.le b r 64 hb (by omega))
      (soft L.wide (fun x => σ .m ((rM b r 64 hb (by omega)).emb x)) (fun x => σ .s ((rS L.W L.wide.le b r 64 hb (by omega)).emb x))) (σ .p) := by
  unfold sChunk
  rw [Function.update_self]

theorem sSoft_ne (b : ℕ) (hb : b < 2) (σ : Cont F) (j : Slot) (h : j ≠ .p) : sSoft L b hb σ j = σ j := by
  unfold sSoft
  rw [sChunk_ne _ _ _ _ _ _ h, sChunk_ne _ _ _ _ _ _ h, sChunk_ne _ _ _ _ _ _ h, sChunk_ne _ _ _ _ _ _ h]

theorem sValues_ne (hd b : ℕ) (hh : hd < 16) (hb : b < 2) (σ : Cont F) (j : Slot) (h : j ≠ .ao) : sValues S hd b hh hb σ j = σ j := by
  unfold sValues
  rw [Function.update_of_ne h]

theorem sValues_ao (hd b : ℕ) (hh : hd < 16) (hb : b < 2) (σ : Cont F) :
    sValues S hd b hh hb σ .ao = put (rA hd hh) (quot (L.mm (shapeCast (T2 256 L.W) (fun x => σ .p ((rS L.W L.wide.le b 0 256 hb (by omega)).emb x)) L.wide.c256) (S.V hd hh σ))) (σ .ao) := by
  unfold sValues
  rw [Function.update_self]

theorem scores_hasS (hd b : ℕ) (hh : hd < 16) (hb : b < 2) (σ : Cont F) : HasS L b hb (S.A hd hh σ) (sScores S hd b hh hb σ) := by
  unfold HasS
  rw [sScores_s]
  funext x
  exact put_emb (rS L.W L.wide.le b 0 256 hb (by omega)) _ _ x

theorem scores_hasM (hd b : ℕ) (hh : hd < 16) (hb : b < 2) (σ : Cont F) : HasM b hb (S.M hd hh σ) (sScores S hd b hh hb σ) := by
  unfold HasM
  rw [sScores_m]
  funext x
  exact put_emb (rM b 0 256 hb (by omega)) _ _ x

theorem scores_keepS (hd b b' : ℕ) (hh : hd < 16) (hb : b < 2) (hb' : b' < 2) (hne : b ≠ b') (σ : Cont F) (X) (h : HasS L b' hb' X σ) : HasS L b' hb' X (sScores S hd b hh hb σ) := by
  unfold HasS at h ⊢
  rw [← h, sScores_s]
  funext x
  exact apartS _ _ _ _ _ _ _ _ _ _ _ _ (.inl hne) _ _ x

theorem scores_keepM (hd b b' : ℕ) (hh : hd < 16) (hb : b < 2) (hb' : b' < 2) (hne : b ≠ b') (σ : Cont F) (Y) (h : HasM b' hb' Y σ) : HasM b' hb' Y (sScores S hd b hh hb σ) := by
  unfold HasM at h ⊢
  rw [← h, sScores_m]
  funext x
  exact apartM _ _ _ _ _ _ _ _ _ _ hne _ _ x

theorem chunk_keepP (b b' r : ℕ) (hb : b < 2) (hb' : b' < 2) (hne : b ≠ b') (hr) (σ : Cont F) (P) (h : HasP L b' hb' P σ) : HasP L b' hb' P (sChunk L b r hb hr σ) := by
  unfold HasP at h ⊢
  rw [← h, sChunk_p]
  funext x
  exact apartS _ _ _ _ _ _ _ _ _ _ _ _ (.inl hne) _ _ x

theorem soft_keepP (b b' : ℕ) (hb : b < 2) (hb' : b' < 2) (hne : b ≠ b') (σ : Cont F) (P) (h : HasP L b' hb' P σ) : HasP L b' hb' P (sSoft L b hb σ) :=
  chunk_keepP _ _ _ _ _ hne _ _ _ (chunk_keepP _ _ _ _ _ hne _ _ _ (chunk_keepP _ _ _ _ _ hne _ _ _ (chunk_keepP _ _ _ _ _ hne _ _ _ h)))

/-- The rows from `r` on hold their weights. -/
def HasR (L : Live F R) (b r : ℕ) (hb : b < 2) (hr : r % 64 = 0 ∧ r < 256) (X : FVec F (T2 256 L.W) .f32) (Y : FVec F S256x128 .f32) (σ : Cont F) : Prop :=
  (fun x => σ .p ((rS L.W L.wide.le b r 64 hb (by omega)).emb x)) = wts L.wide X Y r (by omega)

theorem chunk_hasR (b r : ℕ) (hb : b < 2) (hr) (σ : Cont F) (X Y) (hX : HasS L b hb X σ) (hY : HasM b hb Y σ) : HasR L b r hb hr X Y (sChunk L b r hb hr σ) := by
  unfold HasR
  rw [sChunk_p]
  funext x
  refine (put_emb (rS L.W L.wide.le b r 64 hb (by omega)) _ _ x).trans ?_
  unfold wts
  unfold HasS at hX
  unfold HasM at hY
  rw [← hX, ← hY]
  simp only [rS_rU, rM_rU]

theorem chunk_keepR (b r r' : ℕ) (hb : b < 2) (hr hr') (hne : r ≠ r') (σ : Cont F) (X Y) (h : HasR L b r' hb hr' X Y σ) : HasR L b r' hb hr' X Y (sChunk L b r hb hr σ) := by
  unfold HasR at h ⊢
  rw [← h, sChunk_p]
  funext x
  exact apartS _ _ _ _ _ _ _ _ _ _ _ _ (.inr (by omega)) _ _ x

theorem chunk_keepS (b r b' : ℕ) (hb : b < 2) (hb' : b' < 2) (hr) (σ : Cont F) (X) (h : HasS L b' hb' X σ) : HasS L b' hb' X (sChunk L b r hb hr σ) := by
  unfold HasS at h ⊢
  rw [sChunk_ne _ _ _ _ _ _ (by decide)]; exact h

theorem chunk_keepM (b r b' : ℕ) (hb : b < 2) (hb' : b' < 2) (hr) (σ : Cont F) (Y) (h : HasM b' hb' Y σ) : HasM b' hb' Y (sChunk L b r hb hr σ) := by
  unfold HasM at h ⊢
  rw [sChunk_ne _ _ _ _ _ _ (by decide)]; exact h

theorem soft_hasP (b : ℕ) (hb : b < 2) (σ : Cont F) (X Y) (hX : HasS L b hb X σ) (hY : HasM b hb Y σ) : HasP L b hb (pblk L.wide X Y) (sSoft L b hb σ) := by
  have k0 := chunk_hasR b 0 hb (by decide) σ X Y hX hY
  have s1 := chunk_keepS b 0 b hb hb (by decide) σ X hX
  have m1 := chunk_keepM (L := L) b 0 b hb hb (by decide) σ Y hY
  have k1 := chunk_hasR b 64 hb (by decide) _ X Y s1 m1
  have s2 := chunk_keepS b 64 b hb hb (by decide) _ X s1
  have m2 := chunk_keepM (L := L) b 64 b hb hb (by decide) _ Y m1
  have k2 := chunk_hasR b 128 hb (by decide) _ X Y s2 m2
  have s3 := chunk_keepS b 128 b hb hb (by decide) _ X s2
  have m3 := chunk_keepM (L := L) b 128 b hb hb (by decide) _ Y m2
  have k3 := chunk_hasR b 192 hb (by decide) _ X Y s3 m3
  have j2 := chunk_keepR b 192 128 hb (by decide) _ (by decide) _ X Y k2
  have j1 := chunk_keepR b 192 64 hb (by decide) _ (by decide) _ X Y (chunk_keepR b 128 64 hb (by decide) _ (by decide) _ X Y k1)
  have j0 := chunk_keepR b 192 0 hb (by decide) _ (by decide) _ X Y (chunk_keepR b 128 0 hb (by decide) _ (by decide) _ X Y (chunk_keepR b 64 0 hb (by decide) _ (by decide) _ X Y k0))
  have all : ∀ (r : ℕ) (hr : r % 64 = 0 ∧ r < 256), HasR L b r hb hr X Y (sSoft L b hb σ) := by
    intro r hr
    have hc : r = 0 ∨ r = 64 ∨ r = 128 ∨ r = 192 := by omega
    rcases hc with rfl | rfl | rfl | rfl
    · exact j0
    · exact j1
    · exact j2
    · exact k3
  unfold HasP
  funext x
  have hx0 : (x 0).val < 1 := (x 0).isLt
  have hx1 : (x 1).val < 256 := (x 1).isLt
  have hr : (64 * ((x 1).val / 64)) % 64 = 0 ∧ 64 * ((x 1).val / 64) < 256 := by omega
  have h := congrFun (all _ hr) (tri ⟨0, Nat.one_pos⟩ ⟨(x 1).val % 64, Nat.mod_lt _ (by decide)⟩ ⟨(x 2).val, (x 2).isLt⟩)
  refine Eq.trans ?_ h
  dsimp only
  congr 1
  refine ext3 _ _ ?_ ?_ ?_ <;> rw [unit_emb_val, unit_emb_val]
  · show b + _ = b + 0; omega
  · show 0 + _ = 64 * ((x 1).val / 64) + (x 1).val % 64; omega
  · rfl

theorem values_hasA (hd b : ℕ) (hh : hd < 16) (hb : b < 2) (σ σ0 : Cont F) (hs : Same σ σ0) (hP : HasP L b hb (pblk L.wide (S.A hd hh σ0) (S.M hd hh σ0)) σ) :
    HasA hd hh (att S σ0 hd hh) (sValues S hd b hh hb σ) := by
  unfold HasA
  rw [sValues_ao]
  funext x
  refine (put_emb (rA hd hh) _ _ x).trans ?_
  unfold HasP at hP
  rw [hP, S.cV _ _ _ _ hs]
  rfl

theorem values_keepA (hd b hd' : ℕ) (hh : hd < 16) (hh' : hd' < 16) (hne : hd ≠ hd') (hb : b < 2) (σ : Cont F) (Z) (h : HasA hd' hh' Z σ) : HasA hd' hh' Z (sValues S hd b hh hb σ) := by
  unfold HasA at h ⊢
  rw [← h, sValues_ao]
  funext x
  exact apartA _ _ _ _ hne _ _ x

/-! ## The heads in order -/

/-- Between heads: head `n`'s weights and the next head's scores are there, and the attention of the heads before `n`. -/
structure Mid (S : Sees L) (σ0 : Cont F) (n : ℕ) (h : n ≤ 14) (σ : Cont F) : Prop where
  same : Same σ σ0
  p : HasP L (n % 2) (Nat.mod_lt _ (by decide)) (pblk L.wide (S.A n (by omega) σ0) (S.M n (by omega) σ0)) σ
  s : HasS L ((n + 1) % 2) (Nat.mod_lt _ (by decide)) (S.A (n + 1) (by omega) σ0) σ
  m : HasM ((n + 1) % 2) (Nat.mod_lt _ (by decide)) (S.M (n + 1) (by omega) σ0) σ
  a : ∀ hd (hh : hd < n), HasA hd (by omega) (att S σ0 hd (by omega)) σ

theorem same_scores (hd b : ℕ) (hh : hd < 16) (hb : b < 2) (σ σ0 : Cont F) (h : Same σ σ0) : Same (sScores S hd b hh hb σ) σ0 :=
  fun j h1 h2 h3 h4 => (sScores_ne S hd b hh hb σ j h1 h2).trans (h j h1 h2 h3 h4)
theorem same_soft (b : ℕ) (hb : b < 2) (σ σ0 : Cont F) (h : Same σ σ0) : Same (sSoft L b hb σ) σ0 :=
  fun j h1 h2 h3 h4 => (sSoft_ne b hb σ j h3).trans (h j h1 h2 h3 h4)
theorem same_values (hd b : ℕ) (hh : hd < 16) (hb : b < 2) (σ σ0 : Cont F) (h : Same σ σ0) : Same (sValues S hd b hh hb σ) σ0 :=
  fun j h1 h2 h3 h4 => (sValues_ne S hd b hh hb σ j h4).trans (h j h1 h2 h3 h4)

theorem HasS.of_eq {b hb X} {σ σ' : Cont F} (h : HasS L b hb X σ) (e : σ' .s = σ .s) : HasS L b hb X σ' := by
  unfold HasS at h ⊢
  rw [e]; exact h
theorem HasM.of_eq {b hb Y} {σ σ' : Cont F} (h : HasM b hb Y σ) (e : σ' .m = σ .m) : HasM b hb Y σ' := by
  unfold HasM at h ⊢
  rw [e]; exact h
theorem HasP.of_eq {b hb P} {σ σ' : Cont F} (h : HasP L b hb P σ) (e : σ' .p = σ .p) : HasP L b hb P σ' := by
  unfold HasP at h ⊢
  rw [e]; exact h
theorem HasA.of_eq {hd hh Z} {σ σ' : Cont F} (h : HasA hd hh Z σ) (e : σ' .ao = σ .ao) : HasA hd hh Z σ' := by
  unfold HasA at h ⊢
  rw [e]; exact h

theorem mid_run (σ0 : Cont F) : ∀ (n : ℕ) (h : n ≤ 14) (k : Cmd (Elt F) R) (σ : Cont F), Mid S σ0 0 (by omega) σ →
    ∃ σ', run (mid hR L n h k) σ = run k σ' ∧ Mid S σ0 n h σ'
  | 0, _, k, σ, hm => ⟨σ, rfl, hm⟩
  | n + 1, h, k, σ, hm => by
    obtain ⟨σ1, e, h1⟩ := mid_run σ0 n (by omega) (scores L (n + 2) ((n + 2) % 2) (by omega) (Nat.mod_lt _ (by decide)) <|
      softmax hR L ((n + 1) % 2) (Nat.mod_lt _ (by decide)) <| values L n (n % 2) (by omega) (Nat.mod_lt _ (by decide)) k) σ hm
    refine ⟨sValues S n (n % 2) (by omega) (Nat.mod_lt _ (by decide)) (sSoft L ((n + 1) % 2) (Nat.mod_lt _ (by decide)) (sScores S (n + 2) ((n + 2) % 2) (by omega) (Nat.mod_lt _ (by decide)) σ1)), ?_, ?_⟩
    · show run (mid hR L n _ _) σ = _
      rw [e, scores_run S, softmax_run, values_run S]
    · have hne : (n + 2) % 2 ≠ (n + 1) % 2 := by omega
      have hne' : (n + 1) % 2 ≠ n % 2 := by omega
      have same1 := same_scores S (n + 2) ((n + 2) % 2) (by omega) (Nat.mod_lt _ (by decide)) σ1 σ0 h1.same
      have same2 := same_soft (L := L) ((n + 1) % 2) (Nat.mod_lt _ (by decide)) _ σ0 same1
      have p1 : HasP L (n % 2) (Nat.mod_lt _ (by decide)) _ (sScores S (n + 2) ((n + 2) % 2) (by omega) (Nat.mod_lt _ (by decide)) σ1) :=
        h1.p.of_eq (sScores_ne S _ _ _ _ _ _ (by decide) (by decide))
      have p2 := soft_keepP ((n + 1) % 2) (n % 2) (Nat.mod_lt _ (by decide)) (Nat.mod_lt _ (by decide)) hne' _ _ p1
      have sN := scores_hasS S (n + 2) ((n + 2) % 2) (by omega) (Nat.mod_lt _ (by decide)) σ1
      have mN := scores_hasM S (n + 2) ((n + 2) % 2) (by omega) (Nat.mod_lt _ (by decide)) σ1
      rw [S.cA _ _ _ _ h1.same] at sN
      rw [S.cM _ _ _ _ h1.same] at mN
      have s1 := scores_keepS S (n + 2) _ _ (by omega) (Nat.mod_lt _ (by decide)) (Nat.mod_lt _ (by decide)) hne σ1 _ h1.s
      have m1 := scores_keepM S (n + 2) _ _ (by omega) (Nat.mod_lt _ (by decide)) (Nat.mod_lt _ (by decide)) hne σ1 _ h1.m
      have pN := soft_hasP ((n + 1) % 2) (Nat.mod_lt _ (by decide)) _ _ _ s1 m1
      refine ⟨same_values S _ _ _ _ _ _ same2, ?_, ?_, ?_, ?_⟩
      · exact pN.of_eq (sValues_ne S _ _ _ _ _ _ (by decide))
      · exact sN.of_eq ((sValues_ne S _ _ _ _ _ _ (by decide)).trans (sSoft_ne _ _ _ _ (by decide)))
      · exact mN.of_eq ((sValues_ne S _ _ _ _ _ _ (by decide)).trans (sSoft_ne (L := L) _ _ _ _ (by decide)))
      · intro hd hh
        by_cases hc : hd = n
        · subst hc
          exact values_hasA S hd _ _ _ _ σ0 same2 p2
        · refine values_keepA S n _ hd _ (by omega) (by omega) _ _ _ ?_
          exact (h1.a hd (by omega)).of_eq ((sSoft_ne (L := L) _ _ _ _ (by decide)).trans (sScores_ne S _ _ _ _ _ _ (by decide) (by decide)))
end
end Cert.Att
end
-- ==== Proof.Att.Sem.lean ====
/- What a point of the attention grid makes of its blocks and of the blocks before it. -/
module

public import proofs.«01_k».proof.Proof.Att.Heads
public import Idealize.ShloMosaic.Lib.Pipeline.Value

@[expose] public section
noncomputable section
namespace Cert.Att
open Idealize.ShloMosaic Idealize.SL.Sem Cert.AttnIdeal
open Cert.AttnIdeal.Facts₀ Cert.AttnIdeal.Facts

variable {F : FTy → Type} [FloatOps F]

/-! ## Rectangles of four axes -/

theorem ext4 {A B C D : ℕ} (x y : (T4 A B C D).Idx) (h0 : (x 0).val = (y 0).val) (h1 : (x 1).val = (y 1).val) (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

theorem emb_whole {s : Shape} (off : Fin s.rank → ℕ) (h) (h0 : ∀ a, off a = 0) (x : s.Idx) : (Rect.unit (s := s) off s.size h).emb x = x := by
  funext a
  refine Fin.ext ?_
  rw [unit_emb_val, h0]
  exact Nat.zero_add _

theorem put_whole {s : Shape} {α : Type} (off : Fin s.rank → ℕ) (h) (h0 : ∀ a, off a = 0) (w : s.Idx → α) (f : s.Idx → α) : put (Rect.unit (s := s) off s.size h) w f = w := by
  funext x
  have e := put_emb (Rect.unit (s := s) off s.size h) w f x
  rw [emb_whole off h h0 x] at e
  exact e

/-! ## Heads of a block -/

section
variable {α : Type}
abbrev rH (K a b n hd : ℕ) (hn : n < K) (hh : hd < 16) : Rect (T4 K 16 a b) := Rect.unit ![n, hd, 0, 0] ![1, 1, a, b] (inb4 (by omega) (by omega) (by omega) (by omega))
abbrev rN (K a b n : ℕ) (hn : n < K) : Rect (T4 K 16 a b) := Rect.unit ![n, 0, 0, 0] ![1, 16, a, b] (inb4 (by omega) (by omega) (by omega) (by omega))
/-- One head of a block. -/
def hsl {K a b : ℕ} (n hd : ℕ) (hn : n < K) (hh : hd < 16) (x : (T4 K 16 a b).Idx → α) : (T4 1 1 a b).Idx → α := fun y => x ((rH K a b n hd hn hh).emb y)
end

/-- A head's bias rows, from column `o` on. -/
def tsl (W o hd : ℕ) (hW : o + W ≤ 768) (hh : hd < 16) (x : Vec F S16x256x768 .f32) : Vec F (T3 1 256 W) .f32 := fun y =>
  x ((Rect.unit (s := S16x256x768) ![hd, 0, o] ![1, 256, W] (inb3 (by omega) (by omega) (by omega))).emb y)

variable (q : Vec F S1x16x256x128 .bf16) (k k1 k2 : Vec F S1x16x128x256 .bf16) (v : Vec F S1x16x256x128 .bf16) (v1 v2 : Vec F (T4 1 16 256 256) .bf16) (tab : Vec F S16x256x768 .f32)

def A1 (hd : ℕ) (hh : hd < 16) : FVec F (T2 256 256) .f32 := score1 (hsl 0 hd (by decide) hh q) (hsl 0 hd (by decide) hh k) (tsl 256 512 hd (by decide) hh tab)
def A2 (hd : ℕ) (hh : hd < 16) : FVec F (T2 256 512) .f32 := score2 (hsl 0 hd (by decide) hh q) (hsl 0 hd (by decide) hh k1) (hsl 0 hd (by decide) hh k) (tsl 512 256 hd (by decide) hh tab)
def A3 (hd : ℕ) (hh : hd < 16) : FVec F (T2 256 768) .f32 := score3 (hsl 0 hd (by decide) hh q) (hsl 0 hd (by decide) hh k2) (hsl 0 hd (by decide) hh k1) (hsl 0 hd (by decide) hh k) (tsl 768 0 hd (by decide) hh tab)
def V1 (hd : ℕ) (hh : hd < 16) : FVec F (T2 256 256) .bf16 := withOnes (hsl 0 hd (by decide) hh v)
def V2 (hd : ℕ) (hh : hd < 16) : FVec F (T2 512 256) .bf16 :=
  concatenate S512x256 0 [⟨S256x256, shapeCast S256x256 (hsl 0 hd (by decide) hh v1) shapeCasts_S1x1x256x256_S256x256⟩, ⟨S256x256, withOnes (hsl 0 hd (by decide) hh v)⟩] concatenates_S256x256_S256x256_S512x256_d0
def V3 (hd : ℕ) (hh : hd < 16) : FVec F (T2 768 256) .bf16 :=
  concatenate S768x256 0 [⟨S256x256, shapeCast S256x256 (hsl 0 hd (by decide) hh v2) shapeCasts_S1x1x256x256_S256x256⟩, ⟨S256x256, shapeCast S256x256 (hsl 0 hd (by decide) hh v1) shapeCasts_S1x1x256x256_S256x256⟩, ⟨S256x256, withOnes (hsl 0 hd (by decide) hh v)⟩] concatenates_S256x256_S256x256_S256x256_S768x256_d0

/-- The head's attention from its scores, maxima and values. -/
def headOf {W : ℕ} (wd : Wide W) (mm : FVec F (T2 256 W) .bf16 → FVec F (T2 W 256) .bf16 → FVec F S256x256 .f32) (A : FVec F (T2 256 W) .f32) (M : FVec F S256x128 .f32) (V : FVec F (T2 W 256) .bf16) : FVec F S1x256x128 .f32 :=
  quot (mm (shapeCast (T2 256 W) (pblk wd A M) wd.c256) V)

def head1 (hd : ℕ) (hh : hd < 16) : FVec F S1x256x128 .f32 :=
  headOf wide256 (fun p x => matmul dot_S256x256_S256x256_S256x256_1_0_0_1_n_n none p x (constant S256x256 .f32 0x00000000#32)) (A1 q k tab hd hh) (mx1 (A1 q k tab hd hh)) (V1 v hd hh)
def head2 (hd : ℕ) (hh : hd < 16) : FVec F S1x256x128 .f32 :=
  headOf wide512 (fun p x => matmul dot_S256x512_S512x256_S256x256_1_0_0_1_n_n none p x (constant S256x256 .f32 0x00000000#32)) (A2 q k k1 tab hd hh) (mx2 (A2 q k k1 tab hd hh)) (V2 v v1 hd hh)
def head3 (hd : ℕ) (hh : hd < 16) : FVec F S1x256x128 .f32 :=
  headOf wide768 (fun p x => matmul dot_S256x768_S768x256_S256x256_1_0_0_1_n_n none p x (constant S256x256 .f32 0x00000000#32)) (A3 q k k1 k2 tab hd hh) (mx3 (A3 q k k1 k2 tab hd hh)) (V3 v v1 v2 hd hh)

/-- The output block from the heads. -/
def outOf (a : ∀ hd : ℕ, hd < 16 → FVec F S1x256x128 .f32) (z : Vec F S1x256x2048 .f32) (w : Vec F S1x1024x2048 .bf16) (h : Vec F S1x256x1024 .f32) (g : Vec F S1x1x1024 .f32) (f : Vec F S1x1024 .f32) : FVec F S1x256x1024 .f32 :=
  norm (resid h g (proj (beside (a 0 (by decide)) (a 1 (by decide)) (a 2 (by decide)) (a 3 (by decide)) (a 4 (by decide)) (a 5 (by decide)) (a 6 (by decide)) (a 7 (by decide))
    (a 8 (by decide)) (a 9 (by decide)) (a 10 (by decide)) (a 11 (by decide)) (a 12 (by decide)) (a 13 (by decide)) (a 14 (by decide)) (a 15 (by decide))) z w)) f

section
variable {sig : RefSig} {R : ∀ j : Slot, Memref sig .tc .vmem (shp j) (elt j)} (hR : ∀ j, (R j).IsWhole)

/-! ## What the loads of a head see -/

def sees1 : Sees (live1 : Live F R) where
  A hd hh σ := A1 (σ .q) (σ .k) (σ .tab) hd hh
  M hd hh σ := mx1 (A1 (σ .q) (σ .k) (σ .tab) hd hh)
  V hd hh σ := V1 (σ .v) hd hh
  sc _ _ _ _ := rfl
  vl _ _ _ _ := rfl
  cA hd hh σ σ0 h := by rw [h .q (by decide) (by decide) (by decide) (by decide), h .k (by decide) (by decide) (by decide) (by decide), h .tab (by decide) (by decide) (by decide) (by decide)]
  cM hd hh σ σ0 h := by rw [h .q (by decide) (by decide) (by decide) (by decide), h .k (by decide) (by decide) (by decide) (by decide), h .tab (by decide) (by decide) (by decide) (by decide)]
  cV hd hh σ σ0 h := by rw [h .v (by decide) (by decide) (by decide) (by decide)]

/-- A slot of the key ring, as a block. -/
def ringK (n : ℕ) (hn : n < 3) (x : Vec F S3x16x128x256 .bf16) : Vec F S1x16x128x256 .bf16 := fun y => x ((rN 3 128 256 n hn).emb y)
def ringV (n : ℕ) (hn : n < 3) (x : Vec F S3x16x256x256 .bf16) : Vec F (T4 1 16 256 256) .bf16 := fun y => x ((rN 3 256 256 n hn).emb y)

theorem rN_rH {K a b : ℕ} (n hd : ℕ) (hn : n < K) (hh : hd < 16) (y : (T4 1 1 a b).Idx) :
    (rN K a b n hn).emb ((rH 1 a b 0 hd Nat.one_pos hh).emb y) = (rH K a b n hd hn hh).emb y := by
  refine ext4 _ _ ?_ ?_ ?_ ?_ <;> rw [unit_emb_val, unit_emb_val, unit_emb_val]
  · show n + (0 + _) = n + _; omega
  · show 0 + (hd + _) = hd + _; omega
  · show 0 + (0 + _) = 0 + _; omega
  · show 0 + (0 + _) = 0 + _; omega

theorem hsl_ringK (n hd : ℕ) (hn : n < 3) (hh : hd < 16) (x : Vec F S3x16x128x256 .bf16) : hsl 0 hd (by decide) hh (ringK n hn x) = hsl (K := 3) (a := 128) (b := 256) n hd hn hh x :=
  funext fun y => congrArg x (rN_rH n hd hn hh y)
theorem hsl_ringV (n hd : ℕ) (hn : n < 3) (hh : hd < 16) (x : Vec F S3x16x256x256 .bf16) : hsl 0 hd (by decide) hh (ringV n hn x) = hsl (K := 3) (a := 256) (b := 256) n hd hn hh x :=
  funext fun y => congrArg x (rN_rH n hd hn hh y)

theorem live2_sc (n : ℕ) (hn : n < 3) (hd : ℕ) (hh : hd < 16) (k) (σ : Cont F) : run ((live2 n hn : Live F R).sc hd hh k) σ =
    run (k (A2 (σ .q) (σ .k) (ringK n hn (σ .kr)) (σ .tab) hd hh) (mx2 (A2 (σ .q) (σ .k) (ringK n hn (σ .kr)) (σ .tab) hd hh))) σ := by
  unfold A2
  rw [hsl_ringK]
  rfl

theorem live2_vl (n : ℕ) (hn : n < 3) (hd : ℕ) (hh : hd < 16) (k) (σ : Cont F) : run ((live2 n hn : Live F R).vl hd hh k) σ = run (k (V2 (σ .v) (ringV n hn (σ .vr)) hd hh)) σ := by
  unfold V2
  rw [hsl_ringV]
  rfl

theorem live3_sc (n n' : ℕ) (hn : n < 3) (hn' : n' < 3) (hd : ℕ) (hh : hd < 16) (k) (σ : Cont F) : run ((live3 n n' hn hn' : Live F R).sc hd hh k) σ =
    run (k (A3 (σ .q) (σ .k) (ringK n' hn' (σ .kr)) (ringK n hn (σ .kr)) (σ .tab) hd hh) (mx3 (A3 (σ .q) (σ .k) (ringK n' hn' (σ .kr)) (ringK n hn (σ .kr)) (σ .tab) hd hh))) σ := by
  unfold A3
  rw [hsl_ringK, hsl_ringK]
  rfl

theorem live3_vl (n n' : ℕ) (hn : n < 3) (hn' : n' < 3) (hd : ℕ) (hh : hd < 16) (k) (σ : Cont F) : run ((live3 n n' hn hn' : Live F R).vl hd hh k) σ =
    run (k (V3 (σ .v) (ringV n' hn' (σ .vr)) (ringV n hn (σ .vr)) hd hh)) σ := by
  unfold V3
  rw [hsl_ringV, hsl_ringV]
  rfl

def sees2 (n : ℕ) (hn : n < 3) : Sees (live2 n hn : Live F R) where
  A hd hh σ := A2 (σ .q) (σ .k) (ringK n hn (σ .kr)) (σ .tab) hd hh
  M hd hh σ := mx2 (A2 (σ .q) (σ .k) (ringK n hn (σ .kr)) (σ .tab) hd hh)
  V hd hh σ := V2 (σ .v) (ringV n hn (σ .vr)) hd hh
  sc hd hh k σ := live2_sc n hn hd hh k σ
  vl hd hh k σ := live2_vl n hn hd hh k σ
  cA hd hh σ σ0 h := by rw [h .q (by decide) (by decide) (by decide) (by decide), h .k (by decide) (by decide) (by decide) (by decide), h .kr (by decide) (by decide) (by decide) (by decide), h .tab (by decide) (by decide) (by decide) (by decide)]
  cM hd hh σ σ0 h := by rw [h .q (by decide) (by decide) (by decide) (by decide), h .k (by decide) (by decide) (by decide) (by decide), h .kr (by decide) (by decide) (by decide) (by decide), h .tab (by decide) (by decide) (by decide) (by decide)]
  cV hd hh σ σ0 h := by rw [h .v (by decide) (by decide) (by decide) (by decide), h .vr (by decide) (by decide) (by decide) (by decide)]

def sees3 (n n' : ℕ) (hn : n < 3) (hn' : n' < 3) : Sees (live3 n n' hn hn' : Live F R) where
  A hd hh σ := A3 (σ .q) (σ .k) (ringK n' hn' (σ .kr)) (ringK n hn (σ .kr)) (σ .tab) hd hh
  M hd hh σ := mx3 (A3 (σ .q) (σ .k) (ringK n' hn' (σ .kr)) (ringK n hn (σ .kr)) (σ .tab) hd hh)
  V hd hh σ := V3 (σ .v) (ringV n' hn' (σ .vr)) (ringV n hn (σ .vr)) hd hh
  sc hd hh k σ := live3_sc n n' hn hn' hd hh k σ
  vl hd hh k σ := live3_vl n n' hn hn' hd hh k σ
  cA hd hh σ σ0 h := by rw [h .q (by decide) (by decide) (by decide) (by decide), h .k (by decide) (by decide) (by decide) (by decide), h .kr (by decide) (by decide) (by decide) (by decide), h .tab (by decide) (by decide) (by decide) (by decide)]
  cM hd hh σ σ0 h := by rw [h .q (by decide) (by decide) (by decide) (by decide), h .k (by decide) (by decide) (by decide) (by decide), h .kr (by decide) (by decide) (by decide) (by decide), h .tab (by decide) (by decide) (by decide) (by decide)]
  cV hd hh σ σ0 h := by rw [h .v (by decide) (by decide) (by decide) (by decide), h .vr (by decide) (by decide) (by decide) (by decide)]

/-! ## The end of a point -/

abbrev rV (n : ℕ) (hn : n < 3) : Rect S3x16x256x256 := Rect.unit ![n, 0, 0, 0] ![1, 16, 256, 128] (inb4 (by omega) (by omega) (by omega) (by omega))

def aoOf (σ : Cont F) (hd : ℕ) (hh : hd < 16) : FVec F S1x256x128 .f32 := fun x => σ .ao ((rA hd hh).emb x)

def sKr (n : ℕ) (hn : n < 3) (σ : Cont F) : Cont F := Function.update σ .kr (put (rN 3 128 256 n hn) (σ .k) (σ .kr))
def sVr (n : ℕ) (hn : n < 3) (σ : Cont F) : Cont F := Function.update σ .vr (put (rV n hn) (σ .v) (σ .vr))
def sOut (σ : Cont F) : Cont F := Function.update σ .o (outOf (aoOf σ) (σ .z) (σ .w) (σ .h) (σ .g) (σ .f))

/-- The stores of the rings and of the output, as the code has them. -/
def rKr (n : ℕ) (hn : n < 3) (σ : Cont F) : Cont F := Function.update σ .kr (put (rN 3 128 256 n hn)
  (shapeCast S1x16x128x256 (shapeCast S16x128x256 (fun x => σ .k ((rN 1 128 256 0 Nat.one_pos).emb x)) shapeCasts_S1x16x128x256_S16x128x256) shapeCasts_S16x128x256_S1x16x128x256) (σ .kr))
def rVr (n : ℕ) (hn : n < 3) (σ : Cont F) : Cont F := Function.update σ .vr (put (rV n hn)
  (shapeCast S1x16x256x128 (shapeCast S16x256x128 (fun x => σ .v ((rN 1 256 128 0 Nat.one_pos).emb x)) shapeCasts_S1x16x256x128_S16x256x128) shapeCasts_S16x256x128_S1x16x256x128) (σ .vr))
abbrev rT (B C : ℕ) : Rect (T3 1 B C) := Rect.unit ![0, 0, 0] ![1, B, C] (inb3 (by omega) (by omega) (by omega))
def rOut (σ : Cont F) : Cont F := Function.update σ .o (put (rT 256 1024)
  (outOf (aoOf σ) (fun x => σ .z ((rT 256 2048).emb x)) (fun x => σ .w ((rT 1024 2048).emb x)) (fun x => σ .h ((rT 256 1024).emb x)) (fun x => σ .g ((rT 1 1024).emb x))
    (fun x => σ .f ((Rect.unit (s := S1x1024) ![0, 0] ![1, 1024] (by decide)).emb x))) (σ .o))

theorem finish_raw (n : ℕ) (hn : n < 3) (σ : Cont F) : run (finish hR n hn) σ = rOut (rVr n hn (rKr n hn σ)) := rfl

theorem rKr_eq (n : ℕ) (hn : n < 3) (σ : Cont F) : rKr n hn σ = sKr n hn σ := by
  unfold rKr sKr
  rw [shapeCast_shapeCast]
  congr 2
  funext x
  exact congrArg (σ .k) (emb_whole (s := S1x16x128x256) ![0, 0, 0, 0] _ (by decide) x)
theorem rVr_eq (n : ℕ) (hn : n < 3) (σ : Cont F) : rVr n hn σ = sVr n hn σ := by
  unfold rVr sVr
  rw [shapeCast_shapeCast]
  congr 2
  funext x
  exact congrArg (σ .v) (emb_whole (s := S1x16x256x128) ![0, 0, 0, 0] _ (by decide) x)
theorem rT_emb (B C : ℕ) (x : (T3 1 B C).Idx) : (rT B C).emb x = x := by
  refine ext3 _ _ ?_ ?_ ?_ <;> rw [unit_emb_val]
  · exact Nat.zero_add _
  · exact Nat.zero_add _
  · exact Nat.zero_add _
theorem rOut_eq (σ : Cont F) : rOut σ = sOut σ := by
  unfold rOut sOut
  congr 1
  refine (put_whole (s := S1x256x1024) ![0, 0, 0] _ (by decide) _ _).trans ?_
  congr 1
  · exact funext fun x => congrArg (σ .z) (rT_emb 256 2048 x)
  · exact funext fun x => congrArg (σ .w) (rT_emb 1024 2048 x)
  · exact funext fun x => congrArg (σ .h) (rT_emb 256 1024 x)
  · exact funext fun x => congrArg (σ .g) (rT_emb 1 1024 x)
  · exact funext fun x => congrArg (σ .f) (emb_whole (s := S1x1024) ![0, 0] _ (by decide) x)

variable {L : Live F R} (S : Sees L)

/-- What a point leaves. -/
structure Left (n : ℕ) (hn : n < 3) (σ σ' : Cont F) : Prop where
  keep : ∀ j, j ≠ .s → j ≠ .m → j ≠ .p → j ≠ .ao → j ≠ .kr → j ≠ .vr → j ≠ .o → σ' j = σ j
  kr : σ' .kr = put (rN 3 128 256 n hn) (σ .k) (σ .kr)
  vr : σ' .vr = put (rV n hn) (σ .v) (σ .vr)
  o : σ' .o = outOf (att S σ) (σ .z) (σ .w) (σ .h) (σ .g) (σ .f)

theorem branch_run (n : ℕ) (hn : n < 3) (σ : Cont F) : Left S n hn σ (run (branch hR L n hn) σ) := by
  unfold branch
  rw [scores_run S, scores_run S, softmax_run]
  have same0 := same_scores S 0 0 (by decide) (by decide) σ σ (fun _ _ _ _ _ => rfl)
  have s0 := scores_hasS S 0 0 (by decide) (by decide) σ
  have m0 := scores_hasM S 0 0 (by decide) (by decide) σ
  have same1 := same_scores S 1 1 (by decide) (by decide) _ σ same0
  have s0' := scores_keepS S 1 1 0 (by decide) (by decide) (by decide) (by decide) _ _ s0
  have m0' := scores_keepM S 1 1 0 (by decide) (by decide) (by decide) (by decide) _ _ m0
  have s1 := scores_hasS S 1 1 (by decide) (by decide) (sScores S 0 0 (by decide) (by decide) σ)
  have m1 := scores_hasM S 1 1 (by decide) (by decide) (sScores S 0 0 (by decide) (by decide) σ)
  rw [S.cA _ _ _ _ same0] at s1
  rw [S.cM _ _ _ _ same0] at m1
  have same2 := same_soft (L := L) 0 (by decide) _ σ same1
  have p0 := soft_hasP 0 (by decide) _ _ _ s0' m0'
  have hmid : Mid S σ 0 (by decide) (sSoft L 0 (by decide) (sScores S 1 1 (by decide) (by decide) (sScores S 0 0 (by decide) (by decide) σ))) :=
    ⟨same2, p0, s1.of_eq (sSoft_ne _ _ _ _ (by decide)), m1.of_eq (sSoft_ne (L := L) _ _ _ _ (by decide)), fun _ h => absurd h (Nat.not_lt_zero _)⟩
  obtain ⟨σ1, e, h1⟩ := mid_run hR S σ 14 le_rfl (softmax hR L 1 (by decide) <| values L 14 0 (by decide) (by decide) <| values L 15 1 (by decide) (by decide) <| finish hR n hn) _ hmid
  rw [e, softmax_run, values_run S, values_run S, finish_raw, rKr_eq, rVr_eq, rOut_eq]
  have same3 := same_soft (L := L) 1 (by decide) _ σ h1.same
  have p14 := soft_keepP 1 0 (by decide) (by decide) (by decide) _ _ h1.p
  have p15 := soft_hasP 1 (by decide) _ _ _ h1.s h1.m
  have same4 := same_values S 14 0 (by decide) (by decide) _ σ same3
  have a14 := values_hasA S 14 0 (by decide) (by decide) _ σ same3 p14
  have same5 := same_values S 15 1 (by decide) (by decide) _ σ same4
  have a15 := values_hasA S 15 1 (by decide) (by decide) _ σ same4 (p15.of_eq (sValues_ne S _ _ _ _ _ _ (by decide)))
  have hall : ∀ hd (hh : hd < 16), HasA hd hh (att S σ hd hh) (sValues S 15 1 (by decide) (by decide) (sValues S 14 0 (by decide) (by decide) (sSoft L 1 (by decide) σ1))) := by
    intro hd hh
    by_cases h15 : hd = 15
    · subst h15; exact a15
    refine values_keepA S 15 1 hd _ hh (by omega) _ _ _ ?_
    by_cases h14 : hd = 14
    · subst h14; exact a14
    refine values_keepA S 14 0 hd _ hh (by omega) _ _ _ ?_
    exact (h1.a hd (by omega)).of_eq (sSoft_ne (L := L) _ _ _ _ (by decide))
  generalize sValues S 15 1 (by decide) (by decide) (sValues S 14 0 (by decide) (by decide) (sSoft L 1 (by decide) σ1)) = σ2 at same5 hall
  have c (j : Slot) (h1 : j ≠ .s) (h2 : j ≠ .m) (h3 : j ≠ .p) (h4 : j ≠ .ao) : σ2 j = σ j := same5 j h1 h2 h3 h4
  refine ⟨?_, ?_, ?_, ?_⟩
  · intro j h1 h2 h3 h4 h5 h6 h7
    unfold sOut sVr sKr
    rw [Function.update_of_ne h7, Function.update_of_ne h6, Function.update_of_ne h5]
    exact c j h1 h2 h3 h4
  · unfold sOut sVr sKr
    rw [Function.update_of_ne (by decide), Function.update_of_ne (by decide), Function.update_self, c .k (by decide) (by decide) (by decide) (by decide), c .kr (by decide) (by decide) (by decide) (by decide)]
  · unfold sOut sVr sKr
    rw [Function.update_of_ne (by decide), Function.update_self, Function.update_of_ne (by decide), Function.update_of_ne (by decide), c .v (by decide) (by decide) (by decide) (by decide), c .vr (by decide) (by decide) (by decide) (by decide)]
  · have ek (j : Slot) (h1 : j ≠ .s) (h2 : j ≠ .m) (h3 : j ≠ .p) (h4 : j ≠ .ao) (h5 : j ≠ .kr) (h6 : j ≠ .vr) : sVr n hn (sKr n hn σ2) j = σ j := by
      unfold sVr sKr
      rw [Function.update_of_ne h6, Function.update_of_ne h5]
      exact c j h1 h2 h3 h4
    unfold sOut
    rw [Function.update_self]
    rw [ek .z (by decide) (by decide) (by decide) (by decide) (by decide) (by decide), ek .w (by decide) (by decide) (by decide) (by decide) (by decide) (by decide),
      ek .h (by decide) (by decide) (by decide) (by decide) (by decide) (by decide), ek .g (by decide) (by decide) (by decide) (by decide) (by decide) (by decide),
      ek .f (by decide) (by decide) (by decide) (by decide) (by decide) (by decide)]
    congr 1
    funext hd hh
    have ea : sVr n hn (sKr n hn σ2) .ao = σ2 .ao := by
      unfold sVr sKr
      rw [Function.update_of_ne (by decide), Function.update_of_ne (by decide)]
    unfold aoOf
    rw [ea]
    exact hall hd hh
end
end Cert.Att
end
-- ==== Proof.Att.Init.lean ====
/- The first point's set-up: the bias table a head at a time, and the ones beside the values. -/
module

public import proofs.«01_k».proof.Proof.Att.Heads
public import Idealize.ShloMosaic.Lib.Scf

@[expose] public section
noncomputable section
namespace Cert.Att
open Idealize.ShloMosaic Idealize.ShloMosaic.TcCoe Idealize.SL Idealize.SL.Sem Cert.AttnIdeal
open Cert.AttnIdeal.Facts₀ Cert.AttnIdeal.Facts
open Idealize.SL.BI (sProp bigSep)
open scoped Idealize.SL.BI
open Idealize.SL.BI.BIBase Idealize.SL.BI.Laws Idealize.SL.ProofMode
open Idealize.SL.RA

variable {F : FTy → Type} [FloatOps F]

/-- The block of 64 that a place lies in. -/
def chunkOf (x : IVec S256x768 32) : IVec S256x768 32 :=
  select (andi (cmpi .ne (subi (extui 32 (cmpi .sgt x (broadcast S256x768 0#32)) natLt_1_32) (extui 32 (cmpi .slt x (broadcast S256x768 0#32)) natLt_1_32))
      (broadcast S256x768 (Scalar.subi (Scalar.extui (Scalar.cmpi .sgt (64#32) (0#32))) (Scalar.extui (Scalar.cmpi .slt (64#32) (0#32))))))
    (cmpi .ne (remsi x (broadcast S256x768 64#32)) (broadcast S256x768 0#32)))
    (subi (divsi x (broadcast S256x768 64#32)) (broadcast S256x768 1#32)) (divsi x (broadcast S256x768 64#32))

/-- A head's biases by query and key, minus infinity outside the band. -/
def tabv (v : Vec F S1x1x1024 .f32) : FVec F S256x768 .f32 :=
  select (cmpi .sle (chunkOf (iota .tc S256x768 32 [1] iota_S256x768_d1_w32)) (addi (chunkOf (iota .tc S256x768 32 [0] iota_S256x768_d0_w32)) (broadcast S256x768 8#32)))
    (select (cmpi .sge (chunkOf (iota .tc S256x768 32 [1] iota_S256x768_d1_w32)) (chunkOf (iota .tc S256x768 32 [0] iota_S256x768_d0_w32)))
      (mulf (extractStridedSlice S256x768 ![0, 0] (dynamicRotate 1 0#32 (some (1, 0)) (broadcastTo S256x1024 (shapeCast S1x1024 (shapeCast S1x1024 v shapeCasts_S1x1x1024_S1x1024) shapeCasts_S1x1024_S1x1024) broadcasts_S1x1024_S256x1024) rotates_S256x1024_d1s1a0 : FVec F S256x1024 .f32) slices_S256x1024_o0_0_S256x768)
        (broadcast S256x768 (Scalar.ofBits .f32 0x3FB8AA3B#32)))
      (broadcast S256x768 (Scalar.ofBits .f32 0xFF800000#32)))
    (broadcast S256x768 (Scalar.ofBits .f32 0xFF800000#32))

theorem off1_eq : ∀ t : Fin k0_t1_loop.trips, k0_off1 t = ![t.val, 0, 0] := by decide +kernel
theorem off2_eq : ∀ t : Fin k0_t1_loop.trips, k0_off2 t = ![t.val, 0, 0] := by decide +kernel
theorem off1_0 (t : Fin k0_t1_loop.trips) : k0_off1 t 0 = t.val := congrFun (off1_eq t) 0
theorem off1_1 (t : Fin k0_t1_loop.trips) : k0_off1 t 1 = 0 := congrFun (off1_eq t) 1
theorem off1_2 (t : Fin k0_t1_loop.trips) : k0_off1 t 2 = 0 := congrFun (off1_eq t) 2
theorem off2_0 (t : Fin k0_t1_loop.trips) : k0_off2 t 0 = t.val := congrFun (off2_eq t) 0
theorem off2_1 (t : Fin k0_t1_loop.trips) : k0_off2 t 1 = 0 := congrFun (off2_eq t) 1
theorem off2_2 (t : Fin k0_t1_loop.trips) : k0_off2 t 2 = 0 := congrFun (off2_eq t) 2
theorem off1_in : ∀ (t : Fin k0_t1_loop.trips) a, k0_off1 t a + S1x1x1024.size a ≤ S16x1x1024.size a := by decide +kernel
theorem off2_in : ∀ (t : Fin k0_t1_loop.trips) a, k0_off2 t a + S1x256x768.size a ≤ S16x256x768.size a := by decide +kernel
theorem trips_eq : k0_t1_loop.trips = 16 := by decide +kernel

/-- Head `d`'s biases. -/
def brow (b : Vec F S16x1x1024 .f32) (d : Fin 16) : Vec F S1x1x1024 .f32 := fun x => b (tri d ⟨(x 1).val, (x 1).isLt⟩ ⟨(x 2).val, (x 2).isLt⟩ : (T3 16 1 1024).Idx)

/-- The bias table. -/
def tabOf (b : Vec F S16x1x1024 .f32) : Vec F S16x256x768 .f32 := fun y =>
  (shapeCast S1x256x768 (tabv (brow b ⟨(y 0).val, (y 0).isLt⟩)) shapeCasts_S256x768_S1x256x768 : FVec F S1x256x768 .f32)
    (tri ⟨0, Nat.one_pos⟩ ⟨(y 1).val, (y 1).isLt⟩ ⟨(y 2).val, (y 2).isLt⟩ : (T3 1 256 768).Idx)

section
variable {sig : RefSig} {R : ∀ j : Slot, Memref sig .tc .vmem (shp j) (elt j)} (hR : ∀ j, (R j).IsWhole)

/-- One head's row of the table. -/
def trip (t : Fin k0_t1_loop.trips) : Cmd (Elt F) R :=
  ld .b (k0_off1 t) S1x1x1024.size (off1_in t) (by decide) fun v =>
  ld .tab (k0_off2 t) S1x256x768.size (off2_in t) (by decide) fun _ =>
  st .tab (k0_off2 t) S1x256x768.size (off2_in t) (by decide) rfl (shapeCast S1x256x768 (tabv v) shapeCasts_S256x768_S1x256x768) .done

theorem packO (inb) : (Rect.unit (s := S3x16x256x256) ![0, 0, 0, 128] ![3, 16, 256, 128] inb).PackedRows 2 := by
  refine .inr ⟨by decide, rfl, .inl ⟨?_, ?_⟩⟩
  · show 2 ∣ 0; decide
  · show 2 ∣ 256; decide

/-- Ones in the upper half of the value ring. -/
def ones (k : Cmd (Elt F) R) : Cmd (Elt F) R :=
  ld .vr ![0, 0, 0, 128] ![3, 16, 256, 128] (inb4 (by omega) (by omega) (by omega) (by omega)) (by decide) fun _ =>
  stp hR .vr ![0, 0, 0, 128] ![3, 16, 256, 128] (inb4 (by omega) (by omega) (by omega) (by omega)) (by decide) (packO _)
    (shapeCast S3x16x256x128 (broadcast S3x16x256x128 (Scalar.ofBits .bf16 0x3F80#16)) shapeCasts_S3x16x256x128_S3x16x256x128) k

/-- The contents after the first `n` heads' rows. -/
def tabs (R : ∀ j : Slot, Memref sig .tc .vmem (shp j) (elt j)) (σ : Cont F) : ℕ → Cont F
  | 0 => σ
  | n + 1 => if h : n < k0_t1_loop.trips then run (trip (R := R) ⟨n, h⟩) (tabs R σ n) else tabs R σ n

theorem trip_run (t : Fin k0_t1_loop.trips) (σ : Cont F) : run (trip (R := R) t) σ = Function.update σ .tab
    (put (Rect.unit (s := S16x256x768) (k0_off2 t) S1x256x768.size (off2_in t)) (shapeCast S1x256x768 (tabv (fun x => σ .b ((Rect.unit (s := S16x1x1024) (k0_off1 t) S1x1x1024.size (off1_in t)).emb x))) shapeCasts_S256x768_S1x256x768) (σ .tab)) := rfl

theorem tabs_ne (σ : Cont F) (j : Slot) (hj : j ≠ .tab) : ∀ n, tabs R σ n j = σ j
  | 0 => rfl
  | n + 1 => by
    unfold tabs
    split
    · rw [trip_run, Function.update_of_ne hj, tabs_ne σ j hj n]
    · exact tabs_ne σ j hj n

theorem tabs_tab (σ : Cont F) : ∀ n, n ≤ 16 → ∀ y : S16x256x768.Idx, (y 0).val < n → tabs R σ n .tab y = tabOf (σ .b) y
  | 0, _, _, h => absurd h (Nat.not_lt_zero _)
  | n + 1, hn, y, h => by
    have ht : n < k0_t1_loop.trips := by rw [trips_eq]; omega
    unfold tabs
    rw [dif_pos ht, trip_run, Function.update_self]
    by_cases hc : (y 0).val = n
    · have hy : y = (Rect.unit (s := S16x256x768) (k0_off2 ⟨n, ht⟩) S1x256x768.size (off2_in ⟨n, ht⟩)).emb (tri ⟨0, Nat.one_pos⟩ ⟨(y 1).val, (y 1).isLt⟩ ⟨(y 2).val, (y 2).isLt⟩ : (T3 1 256 768).Idx) := by
        refine ext3 (A := 16) (B := 256) (C := 768) _ _ ?_ ?_ ?_ <;> rw [unit_emb_val]
        · show (y 0).val = k0_off2 ⟨n, ht⟩ 0 + 0
          rw [off2_0]; omega
        · show (y 1).val = k0_off2 ⟨n, ht⟩ 1 + (y 1).val
          rw [off2_1]; omega
        · show (y 2).val = k0_off2 ⟨n, ht⟩ 2 + (y 2).val
          rw [off2_2]; omega
      have hrow : (fun x => tabs R σ n .b ((Rect.unit (s := S16x1x1024) (k0_off1 ⟨n, ht⟩) S1x1x1024.size (off1_in ⟨n, ht⟩)).emb x)) = brow (σ .b) ⟨(y 0).val, (y 0).isLt⟩ := by
        funext x
        rw [tabs_ne σ .b (by decide) n]
        unfold brow
        refine congrArg (σ .b) (ext3 (A := 16) (B := 1) (C := 1024) _ _ ?_ ?_ ?_) <;> rw [unit_emb_val]
        · have hx : (x 0).val < 1 := (x 0).isLt
          show k0_off1 ⟨n, ht⟩ 0 + (x 0).val = (y 0).val
          rw [off1_0]
          show n + (x 0).val = (y 0).val
          omega
        · show k0_off1 ⟨n, ht⟩ 1 + (x 1).val = (x 1).val
          rw [off1_1]; omega
        · show k0_off1 ⟨n, ht⟩ 2 + (x 2).val = (x 2).val
          rw [off1_2]; omega
      refine (congrArg (put (Rect.unit (s := S16x256x768) (k0_off2 ⟨n, ht⟩) S1x256x768.size (off2_in ⟨n, ht⟩)) _ _) hy).trans ((put_emb _ _ _ _).trans ?_)
      exact congrArg (fun v : Vec F S1x1x1024 .f32 => (shapeCast S1x256x768 (tabv v) shapeCasts_S256x768_S1x256x768 : FVec F S1x256x768 .f32)
        (tri ⟨0, Nat.one_pos⟩ ⟨(y 1).val, (y 1).isLt⟩ ⟨(y 2).val, (y 2).isLt⟩ : (T3 1 256 768).Idx)) hrow
    · refine (put_not _ _ _ _ ?_).trans (tabs_tab σ n (by omega) y (by omega))
      rintro ⟨z, hz⟩
      have e : ((Rect.unit (s := S16x256x768) (k0_off2 ⟨n, ht⟩) S1x256x768.size (off2_in ⟨n, ht⟩)).emb z 0).val = (y 0).val := congrArg (fun y => (y 0).val) hz
      rw [unit_emb_val] at e
      have o : k0_off2 ⟨n, ht⟩ 0 = n := congrFun (off2_eq ⟨n, ht⟩) 0
      have hz0 : (z 0).val < 1 := (z 0).isLt
      have e' : n + (z 0).val = (y 0).val := (congrArg (· + (z 0).val) o).symm.trans e
      omega

theorem tabs_all (σ : Cont F) : tabs R σ 16 .tab = tabOf (σ .b) := funext fun y => tabs_tab σ 16 le_rfl y (y 0).isLt
end

section
variable {nD : Nat} {τ : Topo} {sig : RefSig} {Λ : Labels}
variable {Ix : Type} [DecidableEq Ix] {Name : Type} [DecidableEq Name] {U : Type} [URA U] {Lvl : Type} [Preorder Lvl]
variable {R : ∀ j : Slot, Memref sig .tc .vmem (shp j) (elt j)} (hR : ∀ j, (R j).IsWhole)

include hR in
/-- The table's loop and the code after it. -/
theorem first_sound {defs : Defs nD τ sig (Elt F) Λ} (𝒱 : Variants) (c : Dev nD) (E : Set Name) (hok) (K : PUnit → sProp (MT nD τ sig Ix (Elt F) Name U Lvl)) (cmd : Cmd (Elt F) R) (σ : Cont F) :
    iprop(own c R σ ∗ (own c R (run cmd (tabs R σ 16)) -∗ K ⟨⟩))
      ⊢ wp frame (wpE defs 𝒱 (c : Thread nD τ) none) E (Scf.Loop.for k0_t1_loop hok PUnit.unit (fun t _ => denote (trip (R := R) t)) >>= fun _ => denote cmd) K := by
  have h := Scf.wp_for_bind (σ := PUnit) frame (wpE defs 𝒱 (c : Thread nD τ) none) E _ _ _ hok PUnit.unit (fun t _ => denote (nD := nD) (τ := τ) (Λ := Λ) (trip (F := F) (R := R) t))
    (fun n _ => own c R (tabs R σ n)) (fun t _ => by
      have e : tabs R σ (t.val + 1) = run (trip (R := R) t) (tabs R σ t.val) := by
        show (if h : t.val < k0_t1_loop.trips then run (trip (R := R) ⟨t.val, h⟩) (tabs R σ t.val) else tabs R σ t.val) = _
        exact dif_pos t.isLt
      have g := run_sound (Ix := Ix) (U := U) (Lvl := Lvl) (defs := defs) 𝒱 c E hR (fun _ => own c R (tabs R σ (t.val + 1))) (trip (R := R) t) (tabs R σ t.val)
      refine Entails.trans ?_ g
      rw [e]
      iintro H
      isplitl [H]; · iexact H
      iintro H
      iexact H) (kk := fun _ => denote cmd) (Q := K)
  have ht : tabs R σ (Scf.trips k0_t1_loop.lb k0_t1_loop.ub k0_t1_loop.st) = tabs R σ 16 := congrArg (tabs R σ) trips_eq
  rw [show (own c R σ : sProp (MT nD τ sig Ix (Elt F) Name U Lvl)) = own c R (tabs R σ 0) from rfl]
  iintro ⟨H, G⟩
  iapply h $$ H
  iintro %_ H
  rw [ht]
  iapply (run_sound 𝒱 c E hR K cmd (tabs R σ 16))
  isplitl [H]; · iexact H
  iexact G
end
end Cert.Att
end
-- ==== Proof.Att.Point.lean ====
/- The points of the attention grid in order: what the rings and the table hold before each, and what each leaves. -/
module

public import proofs.«01_k».proof.Proof.Att.Sem
public import proofs.«01_k».proof.Proof.Att.Init

@[expose] public section
noncomputable section
namespace Cert.Att
open Idealize.ShloMosaic Idealize.SL.Sem Cert.AttnIdeal
open Cert.AttnIdeal.Facts₀ Cert.AttnIdeal.Facts

variable {F : FTy → Type} [FloatOps F]

/-- The blocks that each point is given. -/
structure Blocks (F : FTy → Type) [FloatOps F] where
  q : Fin 128 → Vec F S1x16x256x128 .bf16
  k : Fin 128 → Vec F S1x16x128x256 .bf16
  v : Fin 128 → Vec F S1x16x256x128 .bf16
  z : Fin 128 → Vec F S1x256x2048 .f32
  h : Fin 128 → Vec F S1x256x1024 .f32
  g : Fin 128 → Vec F S1x1x1024 .f32
  b : Fin 128 → Vec F S16x1x1024 .f32
  w : Fin 128 → Vec F S1x1024x2048 .bf16
  f : Fin 128 → Vec F S1x1024 .f32

def quad {A B C D : ℕ} (i : Fin A) (j : Fin B) (k : Fin C) (l : Fin D) : (T4 A B C D).Idx
  | ⟨0, _⟩ => i
  | ⟨1, _⟩ => j
  | ⟨2, _⟩ => k
  | ⟨3, _⟩ => l

/-- A block of values beside ones. -/
def besideOnes (v : Vec F S1x16x256x128 .bf16) : Vec F (T4 1 16 256 256) .bf16 := fun y =>
  if h : (y 3).val < 128 then v (quad ⟨(y 0).val, (y 0).isLt⟩ ⟨(y 1).val, (y 1).isLt⟩ ⟨(y 2).val, (y 2).isLt⟩ ⟨(y 3).val, h⟩ : (T4 1 16 256 128).Idx)
  else Scalar.ofBits .bf16 0x3F80#16

/-- Back by `d` points. -/
def back (t : Fin 128) (d : ℕ) : Fin 128 := ⟨t.val - d, lt_of_le_of_lt (Nat.sub_le _ _) t.isLt⟩

def outAt (B : Blocks F) (t : Fin 128) : FVec F S1x256x1024 .f32 :=
  if t.val % 32 = 0 then outOf (head1 (B.q t) (B.k t) (B.v t) (tabOf (B.b 0))) (B.z t) (B.w t) (B.h t) (B.g t) (B.f t)
  else if t.val % 32 = 1 then outOf (head2 (B.q t) (B.k t) (B.k (back t 1)) (B.v t) (besideOnes (B.v (back t 1))) (tabOf (B.b 0))) (B.z t) (B.w t) (B.h t) (B.g t) (B.f t)
  else outOf (head3 (B.q t) (B.k t) (B.k (back t 1)) (B.k (back t 2)) (B.v t) (besideOnes (B.v (back t 1))) (besideOnes (B.v (back t 2))) (tabOf (B.b 0))) (B.z t) (B.w t) (B.h t) (B.g t) (B.f t)

/-- The rings hold the last two blocks of the sequence. -/
structure Rings (B : Blocks F) (n : ℕ) (kr : Vec F S3x16x128x256 .bf16) (vr : Vec F S3x16x256x256 .bf16) : Prop where
  k : ∀ (u : Fin 128) (s : ℕ) (hs : s < 3), s = u.val % 32 % 3 → u.val < n → u.val / 32 = n / 32 → n - u.val ≤ 2 → ringK s hs kr = B.k u
  v : ∀ (u : Fin 128) (s : ℕ) (hs : s < 3), s = u.val % 32 % 3 → u.val < n → u.val / 32 = n / 32 → n - u.val ≤ 2 → ringV s hs vr = besideOnes (B.v u)

def Ones (vr : Vec F S3x16x256x256 .bf16) : Prop := ∀ y : (T4 3 16 256 256).Idx, 128 ≤ (y 3).val → vr y = Scalar.ofBits .bf16 0x3F80#16

structure Inv (B : Blocks F) (n : ℕ) (kr : Vec F S3x16x128x256 .bf16) (vr : Vec F S3x16x256x256 .bf16) (tab : Vec F S16x256x768 .f32) : Prop where
  tab : 0 < n → tab = tabOf (B.b 0)
  one : 0 < n → Ones vr
  rings : Rings B n kr vr

theorem Inv.zero (B : Blocks F) (kr : Vec F S3x16x128x256 .bf16) (vr : Vec F S3x16x256x256 .bf16) (tab : Vec F S16x256x768 .f32) : Inv B 0 kr vr tab :=
  ⟨fun h => absurd h (lt_irrefl _), fun h => absurd h (lt_irrefl _), ⟨fun _ _ _ _ h => absurd h (Nat.not_lt_zero _), fun _ _ _ _ h => absurd h (Nat.not_lt_zero _)⟩⟩

/-- Contents with the scratches given. -/
def scratch (kr : Vec F S3x16x128x256 .bf16) (vr : Vec F S3x16x256x256 .bf16) (ao : Vec F S16x256x128 .f32) (s : Vec F S2x256x768 .f32) (p : Vec F S2x256x768 .bf16) (m : Vec F S2x256x128 .f32) (tab : Vec F S16x256x768 .f32) : Cont F
  | .kr => kr
  | .vr => vr
  | .ao => ao
  | .s => s
  | .p => p
  | .m => m
  | .tab => tab
  | .q => fun _ => Scalar.ofBits .bf16 0x0000#16
  | .k => fun _ => Scalar.ofBits .bf16 0x0000#16
  | .v => fun _ => Scalar.ofBits .bf16 0x0000#16
  | .w => fun _ => Scalar.ofBits .bf16 0x0000#16
  | .z => fun _ => Scalar.ofBits .f32 0x00000000#32
  | .h => fun _ => Scalar.ofBits .f32 0x00000000#32
  | .g => fun _ => Scalar.ofBits .f32 0x00000000#32
  | .b => fun _ => Scalar.ofBits .f32 0x00000000#32
  | .f => fun _ => Scalar.ofBits .f32 0x00000000#32
  | .o => fun _ => Scalar.ofBits .f32 0x00000000#32

structure At (B : Blocks F) (t : Fin 128) (σ : Cont F) : Prop where
  q : σ .q = B.q t
  k : σ .k = B.k t
  v : σ .v = B.v t
  z : σ .z = B.z t
  h : σ .h = B.h t
  g : σ .g = B.g t
  b : σ .b = B.b t
  w : σ .w = B.w t
  f : σ .f = B.f t

structure Post (B : Blocks F) (t : Fin 128) (σ' : Cont F) : Prop where
  at' : At B t σ'
  o : σ' .o = outAt B t
  inv : Inv B (t.val + 1) (σ' .kr) (σ' .vr) (σ' .tab)

/-! ## The rings from point to point -/

section
variable {α : Type}
abbrev rB (K a b b' n : ℕ) (hn : n < K) (hb : b' ≤ b) : Rect (T4 K 16 a b) := Rect.unit ![n, 0, 0, 0] ![1, 16, a, b'] (inb4 (by omega) (by omega) (by omega) (by omega))

theorem put_rB (K a b b' n : ℕ) (hn : n < K) (hb : b' ≤ b) (w : (T4 1 16 a b').Idx → α) (f : (T4 K 16 a b).Idx → α) (y : (T4 1 16 a b).Idx) (h : (y 3).val < b') :
    put (rB K a b b' n hn hb) w f ((rN K a b n hn).emb y) = w (quad ⟨(y 0).val, (y 0).isLt⟩ ⟨(y 1).val, (y 1).isLt⟩ ⟨(y 2).val, (y 2).isLt⟩ ⟨(y 3).val, h⟩ : (T4 1 16 a b').Idx) := by
  refine Eq.trans (congrArg (put _ _ _) ?_) (put_emb (rB K a b b' n hn hb) w f (quad ⟨(y 0).val, (y 0).isLt⟩ ⟨(y 1).val, (y 1).isLt⟩ ⟨(y 2).val, (y 2).isLt⟩ ⟨(y 3).val, h⟩ : (T4 1 16 a b').Idx))
  refine ext4 (A := K) (B := 16) (C := a) (D := b) _ _ ?_ ?_ ?_ ?_ <;> rw [unit_emb_val, unit_emb_val] <;> rfl

theorem put_rB_out (K a b b' n : ℕ) (hn : n < K) (hb : b' ≤ b) (w : (T4 1 16 a b').Idx → α) (f : (T4 K 16 a b).Idx → α) (y : (T4 K 16 a b).Idx) (h : b' ≤ (y 3).val) :
    put (rB K a b b' n hn hb) w f y = f y := by
  refine put_not _ _ _ _ ?_
  rintro ⟨z, hz⟩
  have e : ((rB K a b b' n hn hb).emb z 3).val = (y 3).val := congrArg (fun y => (y 3).val) hz
  have e' : ((rB K a b b' n hn hb).emb z 3).val = 0 + (z 3).val := unit_emb_val _ _ _ _ _
  have hz3 : (z 3).val < b' := (z 3).isLt
  omega

theorem apart4 {A B C D : ℕ} (a b c d x y z t a' b' c' d' x' y' z' t' : ℕ) (h h') (ha : a + x ≤ a' ∨ a' + x' ≤ a)
    (w : (Rect.unit (s := T4 A B C D) ![a, b, c, d] ![x, y, z, t] h).shape.Idx → α) (f : (T4 A B C D).Idx → α) (i : (Rect.unit (s := T4 A B C D) ![a', b', c', d'] ![x', y', z', t'] h').shape.Idx) :
    put (Rect.unit (s := T4 A B C D) ![a, b, c, d] ![x, y, z, t] h) w f ((Rect.unit (s := T4 A B C D) ![a', b', c', d'] ![x', y', z', t'] h').emb i) = f ((Rect.unit (s := T4 A B C D) ![a', b', c', d'] ![x', y', z', t'] h').emb i) :=
  put_apart ![a, b, c, d] ![x, y, z, t] ![a', b', c', d'] ![x', y', z', t'] _ _ w f (0 : Fin 4) ha i

theorem put_rB_apart (K a b b' n n' : ℕ) (hn : n < K) (hn' : n' < K) (hb : b' ≤ b) (hne : n ≠ n') (w : (T4 1 16 a b').Idx → α) (f : (T4 K 16 a b).Idx → α) (y : (T4 1 16 a b).Idx) :
    put (rB K a b b' n hn hb) w f ((rN K a b n' hn').emb y) = f ((rN K a b n' hn').emb y) := by
  have hc : n + 1 ≤ n' ∨ n' + 1 ≤ n := by omega
  exact apart4 n 0 0 0 1 16 a b' n' 0 0 0 1 16 a b _ _ hc w f y

theorem emb_rN3 (K a b n : ℕ) (hn : n < K) (y : (T4 1 16 a b).Idx) : ((rN K a b n hn).emb y 3).val = (y 3).val := (unit_emb_val _ _ _ _ _).trans (Nat.zero_add _)
theorem put_rN (K a b n : ℕ) (hn : n < K) (w : (T4 1 16 a b).Idx → α) (f : (T4 K 16 a b).Idx → α) (y : (T4 1 16 a b).Idx) :
    put (rN K a b n hn) w f ((rN K a b n hn).emb y) = w y := put_emb (rN K a b n hn) w f y
end

theorem Rings.step (B : Blocks F) (t : Fin 128) (n : ℕ) (hn : n < 3) (hnt : n = t.val % 32 % 3) (kr : Vec F S3x16x128x256 .bf16) (vr : Vec F S3x16x256x256 .bf16)
    (h : Rings B t.val kr vr) (h1 : Ones vr) : Rings B (t.val + 1) (put (rN 3 128 256 n hn) (B.k t) kr) (put (rV n hn) (B.v t) vr) where
  k u s hs hsu hu hb hd := by
    by_cases hc : u = t
    · subst hc
      have e : s = n := hsu.trans hnt.symm
      subst e
      exact funext fun y => put_rN 3 128 256 s hs (B.k u) kr y
    · have hne : u.val ≠ t.val := fun h => hc (Fin.ext h)
      have e1 : u.val / 32 = t.val / 32 := by omega
      have e2 : u.val % 32 + 1 = t.val % 32 := by omega
      have e3 : n ≠ s := by omega
      refine Eq.trans ?_ (h.k u s hs hsu (by omega) (by omega) (by omega))
      exact funext fun y => put_rB_apart 3 128 256 256 n s hn hs le_rfl e3 (B.k t) kr y
  v u s hs hsu hu hb hd := by
    by_cases hc : u = t
    · subst hc
      have e : s = n := hsu.trans hnt.symm
      subst e
      refine funext fun y => ?_
      unfold besideOnes
      split
      next h3 => exact put_rB 3 256 256 128 s hs (by decide) (B.v u) vr y h3
      next h3 =>
        have e3 := emb_rN3 3 256 256 s hs y
        exact (put_rB_out 3 256 256 128 s hs (by decide) (B.v u) vr _ (by omega)).trans (h1 _ (by omega))
    · have hne : u.val ≠ t.val := fun h => hc (Fin.ext h)
      have e1 : u.val / 32 = t.val / 32 := by omega
      have e2 : u.val % 32 + 1 = t.val % 32 := by omega
      have e3 : n ≠ s := by omega
      refine Eq.trans ?_ (h.v u s hs hsu (by omega) (by omega) (by omega))
      exact funext fun y => put_rB_apart 3 256 256 128 n s hn hs (by decide) e3 (B.v t) vr y

theorem Ones.step (n : ℕ) (hn : n < 3) (v : Vec F S1x16x256x128 .bf16) (vr : Vec F S3x16x256x256 .bf16) (h : Ones vr) : Ones (put (rV n hn) v vr) :=
  fun y hy => (put_rB_out 3 256 256 128 n hn (by decide) v vr y hy).trans (h y hy)

section
variable {sig : RefSig} {R : ∀ j : Slot, Memref sig .tc .vmem (shp j) (elt j)} (hR : ∀ j, (R j).IsWhole)
variable {L : Live F R} {S : Sees L}

theorem Left.post {n : ℕ} {hn : n < 3} {σ σ' : Cont F} (h : Left S n hn σ σ') (B : Blocks F) (t : Fin 128) (hnt : n = t.val % 32 % 3) (hA : At B t σ)
    (hT : σ .tab = tabOf (B.b 0)) (h1 : Ones (σ .vr)) (hr : Rings B t.val (σ .kr) (σ .vr))
    (ho : outOf (att S σ) (σ .z) (σ .w) (σ .h) (σ .g) (σ .f) = outAt B t) : Post B t σ' where
  at' := ⟨(h.keep .q (by decide) (by decide) (by decide) (by decide) (by decide) (by decide) (by decide)).trans hA.q, (h.keep .k (by decide) (by decide) (by decide) (by decide) (by decide) (by decide) (by decide)).trans hA.k,
    (h.keep .v (by decide) (by decide) (by decide) (by decide) (by decide) (by decide) (by decide)).trans hA.v, (h.keep .z (by decide) (by decide) (by decide) (by decide) (by decide) (by decide) (by decide)).trans hA.z,
    (h.keep .h (by decide) (by decide) (by decide) (by decide) (by decide) (by decide) (by decide)).trans hA.h, (h.keep .g (by decide) (by decide) (by decide) (by decide) (by decide) (by decide) (by decide)).trans hA.g,
    (h.keep .b (by decide) (by decide) (by decide) (by decide) (by decide) (by decide) (by decide)).trans hA.b, (h.keep .w (by decide) (by decide) (by decide) (by decide) (by decide) (by decide) (by decide)).trans hA.w,
    (h.keep .f (by decide) (by decide) (by decide) (by decide) (by decide) (by decide) (by decide)).trans hA.f⟩
  o := h.o.trans ho
  inv := by
    rw [h.kr, h.vr, h.keep .tab (by decide) (by decide) (by decide) (by decide) (by decide) (by decide) (by decide), hA.k, hA.v]
    exact ⟨fun _ => hT, fun _ => h1.step n hn _ _, hr.step B t n hn hnt _ _ h1⟩

theorem step1 (B : Blocks F) (t : Fin 128) (ht : t.val % 32 = 0) (n : ℕ) (hn : n < 3) (hnt : n = t.val % 32 % 3) (σ : Cont F) (hA : At B t σ)
    (hT : σ .tab = tabOf (B.b 0)) (h1 : Ones (σ .vr)) (hr : Rings B t.val (σ .kr) (σ .vr)) : Post B t (run (branch hR live1 n hn) σ) := by
  refine (branch_run hR sees1 n hn σ).post B t hnt hA hT h1 hr ?_
  unfold outAt
  rw [if_pos ht, show att (sees1 (R := R)) σ = head1 (σ .q) (σ .k) (σ .v) (σ .tab) from rfl, hA.q, hA.k, hA.v, hA.z, hA.h, hA.g, hA.w, hA.f, hT]

theorem step2 (B : Blocks F) (t : Fin 128) (ht : t.val % 32 = 1) (n n1 : ℕ) (hn : n < 3) (hn1 : n1 < 3) (hnt : n = t.val % 32 % 3) (hnt1 : n1 = (t.val % 32 + 2) % 3) (σ : Cont F) (hA : At B t σ)
    (hI : Inv B t.val (σ .kr) (σ .vr) (σ .tab)) : Post B t (run (branch hR (live2 n1 hn1) n hn) σ) := by
  have hT := hI.tab (by omega)
  refine (branch_run hR (sees2 n1 hn1) n hn σ).post B t hnt hA hT (hI.one (by omega)) hI.rings ?_
  have hb : (back t 1).val = t.val - 1 := rfl
  unfold outAt
  rw [if_neg (by omega), if_pos ht, show att (sees2 (R := R) n1 hn1) σ = head2 (σ .q) (σ .k) (ringK n1 hn1 (σ .kr)) (σ .v) (ringV n1 hn1 (σ .vr)) (σ .tab) from rfl,
    hI.rings.k (back t 1) n1 hn1 (by omega) (by omega) (by omega) (by omega), hI.rings.v (back t 1) n1 hn1 (by omega) (by omega) (by omega) (by omega),
    hA.q, hA.k, hA.v, hA.z, hA.h, hA.g, hA.w, hA.f, hT]

theorem step3 (B : Blocks F) (t : Fin 128) (ht : 2 ≤ t.val % 32) (n n1 n2 : ℕ) (hn : n < 3) (hn1 : n1 < 3) (hn2 : n2 < 3) (hnt : n = t.val % 32 % 3) (hnt1 : n1 = (t.val % 32 + 2) % 3) (hnt2 : n2 = (t.val % 32 + 1) % 3)
    (σ : Cont F) (hA : At B t σ) (hI : Inv B t.val (σ .kr) (σ .vr) (σ .tab)) : Post B t (run (branch hR (live3 n2 n1 hn2 hn1) n hn) σ) := by
  have hT := hI.tab (by omega)
  refine (branch_run hR (sees3 n2 n1 hn2 hn1) n hn σ).post B t hnt hA hT (hI.one (by omega)) hI.rings ?_
  have hb : (back t 1).val = t.val - 1 := rfl
  have hb2 : (back t 2).val = t.val - 2 := rfl
  unfold outAt
  rw [if_neg (by omega), if_neg (by omega), show att (sees3 (R := R) n2 n1 hn2 hn1) σ = head3 (σ .q) (σ .k) (ringK n1 hn1 (σ .kr)) (ringK n2 hn2 (σ .kr)) (σ .v) (ringV n1 hn1 (σ .vr)) (ringV n2 hn2 (σ .vr)) (σ .tab) from rfl,
    hI.rings.k (back t 1) n1 hn1 (by omega) (by omega) (by omega) (by omega), hI.rings.v (back t 1) n1 hn1 (by omega) (by omega) (by omega) (by omega),
    hI.rings.k (back t 2) n2 hn2 (by omega) (by omega) (by omega) (by omega), hI.rings.v (back t 2) n2 hn2 (by omega) (by omega) (by omega) (by omega),
    hA.q, hA.k, hA.v, hA.z, hA.h, hA.g, hA.w, hA.f, hT]

def sOnes (σ : Cont F) : Cont F := Function.update σ .vr
  (put (Rect.unit (s := S3x16x256x256) ![0, 0, 0, 128] ![3, 16, 256, 128] (inb4 (by omega) (by omega) (by omega) (by omega)))
    (shapeCast S3x16x256x128 (broadcast S3x16x256x128 (Scalar.ofBits .bf16 0x3F80#16)) shapeCasts_S3x16x256x128_S3x16x256x128) (σ .vr))

theorem ones_run (k : Cmd (Elt F) R) (σ : Cont F) : run (ones hR k) σ = run k (sOnes σ) := rfl

theorem sOnes_ones (σ : Cont F) : Ones (sOnes σ .vr) := by
  intro y hy
  unfold sOnes
  rw [Function.update_self]
  have h3 : (y 3).val < 256 := (y 3).isLt
  have e : y = (Rect.unit (s := S3x16x256x256) ![0, 0, 0, 128] ![3, 16, 256, 128] (inb4 (by omega) (by omega) (by omega) (by omega))).emb
      (quad ⟨(y 0).val, (y 0).isLt⟩ ⟨(y 1).val, (y 1).isLt⟩ ⟨(y 2).val, (y 2).isLt⟩ ⟨(y 3).val - 128, by omega⟩ : (T4 3 16 256 128).Idx) := by
    refine ext4 (A := 3) (B := 16) (C := 256) (D := 256) _ _ ?_ ?_ ?_ ?_ <;> rw [unit_emb_val]
    · exact (Nat.zero_add _).symm
    · exact (Nat.zero_add _).symm
    · exact (Nat.zero_add _).symm
    · show (y 3).val = 128 + ((y 3).val - 128); omega
  refine (congrArg (put _ _ _) e).trans ((put_emb _ _ _ _).trans ?_)
  rfl

theorem step0 (B : Blocks F) (t : Fin 128) (ht : t.val = 0) (n : ℕ) (hn : n < 3) (hnt : n = t.val % 32 % 3) (σ : Cont F) (hA : At B t σ) :
    Post B t (run (ones hR (branch hR live1 n hn)) (tabs R σ 16)) := by
  rw [ones_run]
  have ht0 : t = 0 := Fin.ext ht
  have e (j : Slot) (hj : j ≠ .vr) (hj' : j ≠ .tab) : sOnes (tabs R σ 16) j = σ j := by
    unfold sOnes
    rw [Function.update_of_ne hj]
    exact tabs_ne σ j hj' 16
  refine step1 hR B t (by omega) n hn hnt _ ⟨(e _ (by decide) (by decide)).trans hA.q, (e _ (by decide) (by decide)).trans hA.k, (e _ (by decide) (by decide)).trans hA.v, (e _ (by decide) (by decide)).trans hA.z,
    (e _ (by decide) (by decide)).trans hA.h, (e _ (by decide) (by decide)).trans hA.g, (e _ (by decide) (by decide)).trans hA.b, (e _ (by decide) (by decide)).trans hA.w, (e _ (by decide) (by decide)).trans hA.f⟩ ?_ (sOnes_ones _) ?_
  · have e' : sOnes (tabs R σ 16) .tab = tabs R σ 16 .tab := by
      unfold sOnes
      rw [Function.update_of_ne (by decide)]
    rw [e', tabs_all, hA.b, ht0]
  · exact ⟨fun u s hs _ hu => absurd hu (by omega), fun u s hs _ hu => absurd hu (by omega)⟩
end
end Cert.Att
end
-- ==== Proof.Att.BodyAllP.lean ====
/- The printed body at a point is the model's code, with the table's loop and the ones before it at the first. -/
module

public import proofs.«01_k».proof.Proof.Att.Init
public import proofs.«01_k».proof.Proof.Gen.Attn

@[expose] public section
noncomputable section
namespace Cert.Att
open Idealize.ShloMosaic Idealize.SL.Sem Cert.Attn
open Cert.Attn.Facts₀ Cert.Attn.Facts
variable {F : FTy → Type} [FloatOps F]
set_option maxRecDepth 100000

theorem bodyP0 (i : grid0.Coords) (arg2 : Memref Cert.Attn.sig .tc .vmem S1x16x256x128 .bf16) (harg2 : arg2.IsWhole) (arg3 : Memref Cert.Attn.sig .tc .vmem S1x16x128x256 .bf16) (harg3 : arg3.IsWhole) (arg4 : Memref Cert.Attn.sig .tc .vmem S1x16x256x128 .bf16) (harg4 : arg4.IsWhole) (arg5 : Memref Cert.Attn.sig .tc .vmem S1x256x2048 .f32) (harg5 : arg5.IsWhole) (arg6 : Memref Cert.Attn.sig .tc .vmem S1x256x1024 .f32) (harg6 : arg6.IsWhole) (arg7 : Memref Cert.Attn.sig .tc .vmem S1x1x1024 .f32) (harg7 : arg7.IsWhole) (arg8 : Memref Cert.Attn.sig .tc .vmem S16x1x1024 .f32) (harg8 : arg8.IsWhole) (arg9 : Memref Cert.Attn.sig .tc .vmem S1x1024x2048 .bf16) (harg9 : arg9.IsWhole) (arg10 : Memref Cert.Attn.sig .tc .vmem S1x1024 .f32) (harg10 : arg10.IsWhole) (arg11 : Memref Cert.Attn.sig .tc .vmem S1x256x1024 .f32) (harg11 : arg11.IsWhole) (arg12 : Memref Cert.Attn.sig .tc .vmem S3x16x128x256 .bf16) (harg12 : arg12.IsWhole) (arg13 : Memref Cert.Attn.sig .tc .vmem S3x16x256x256 .bf16) (harg13 : arg13.IsWhole) (arg14 : Memref Cert.Attn.sig .tc .vmem S16x256x128 .f32) (harg14 : arg14.IsWhole) (arg15 : Memref Cert.Attn.sig .tc .vmem S2x256x768 .f32) (harg15 : arg15.IsWhole) (arg16 : Memref Cert.Attn.sig .tc .vmem S2x256x768 .bf16) (harg16 : arg16.IsWhole) (arg17 : Memref Cert.Attn.sig .tc .vmem S2x256x128 .f32) (harg17 : arg17.IsWhole) (arg18 : Memref Cert.Attn.sig .tc .vmem S16x256x768 .f32) (harg18 : arg18.IsWhole)
    (h1 : k0_cond1 i = 1#1) (h2 : k0_cond2 i = 1#1) (h3 : ¬ k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      (Scf.Loop.for k0_t1_loop (k0_t1_ok i h1) PUnit.unit (fun t _ => denote (trip (F := F) (R := bufs arg2 arg3 arg4 arg5 arg6 arg7 arg8 arg9 arg10 arg11 arg12 arg13 arg14 arg15 arg16 arg17 arg18) t)) >>= fun _ => denote (ones (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (branch (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) live1 (slotT (i 1).val) (slotT_lt (i 1))))) := by
  unfold cc0_band_attn_final
  simp only [dif_pos h1, dif_pos h2, dif_neg h3, dif_neg h4]
  rfl

theorem bodyP1 (i : grid0.Coords) (arg2 : Memref Cert.Attn.sig .tc .vmem S1x16x256x128 .bf16) (harg2 : arg2.IsWhole) (arg3 : Memref Cert.Attn.sig .tc .vmem S1x16x128x256 .bf16) (harg3 : arg3.IsWhole) (arg4 : Memref Cert.Attn.sig .tc .vmem S1x16x256x128 .bf16) (harg4 : arg4.IsWhole) (arg5 : Memref Cert.Attn.sig .tc .vmem S1x256x2048 .f32) (harg5 : arg5.IsWhole) (arg6 : Memref Cert.Attn.sig .tc .vmem S1x256x1024 .f32) (harg6 : arg6.IsWhole) (arg7 : Memref Cert.Attn.sig .tc .vmem S1x1x1024 .f32) (harg7 : arg7.IsWhole) (arg8 : Memref Cert.Attn.sig .tc .vmem S16x1x1024 .f32) (harg8 : arg8.IsWhole) (arg9 : Memref Cert.Attn.sig .tc .vmem S1x1024x2048 .bf16) (harg9 : arg9.IsWhole) (arg10 : Memref Cert.Attn.sig .tc .vmem S1x1024 .f32) (harg10 : arg10.IsWhole) (arg11 : Memref Cert.Attn.sig .tc .vmem S1x256x1024 .f32) (harg11 : arg11.IsWhole) (arg12 : Memref Cert.Attn.sig .tc .vmem S3x16x128x256 .bf16) (harg12 : arg12.IsWhole) (arg13 : Memref Cert.Attn.sig .tc .vmem S3x16x256x256 .bf16) (harg13 : arg13.IsWhole) (arg14 : Memref Cert.Attn.sig .tc .vmem S16x256x128 .f32) (harg14 : arg14.IsWhole) (arg15 : Memref Cert.Attn.sig .tc .vmem S2x256x768 .f32) (harg15 : arg15.IsWhole) (arg16 : Memref Cert.Attn.sig .tc .vmem S2x256x768 .bf16) (harg16 : arg16.IsWhole) (arg17 : Memref Cert.Attn.sig .tc .vmem S2x256x128 .f32) (harg17 : arg17.IsWhole) (arg18 : Memref Cert.Attn.sig .tc .vmem S16x256x768 .f32) (harg18 : arg18.IsWhole)
    (h1 : ¬ k0_cond1 i = 1#1) (h2 : k0_cond2 i = 1#1) (h3 : ¬ k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) live1 (slotT (i 1).val) (slotT_lt (i 1))) := by
  unfold cc0_band_attn_final
  simp only [dif_neg h1, dif_pos h2, dif_neg h3, dif_neg h4]
  rfl

theorem bodyP2 (i : grid0.Coords) (arg2 : Memref Cert.Attn.sig .tc .vmem S1x16x256x128 .bf16) (harg2 : arg2.IsWhole) (arg3 : Memref Cert.Attn.sig .tc .vmem S1x16x128x256 .bf16) (harg3 : arg3.IsWhole) (arg4 : Memref Cert.Attn.sig .tc .vmem S1x16x256x128 .bf16) (harg4 : arg4.IsWhole) (arg5 : Memref Cert.Attn.sig .tc .vmem S1x256x2048 .f32) (harg5 : arg5.IsWhole) (arg6 : Memref Cert.Attn.sig .tc .vmem S1x256x1024 .f32) (harg6 : arg6.IsWhole) (arg7 : Memref Cert.Attn.sig .tc .vmem S1x1x1024 .f32) (harg7 : arg7.IsWhole) (arg8 : Memref Cert.Attn.sig .tc .vmem S16x1x1024 .f32) (harg8 : arg8.IsWhole) (arg9 : Memref Cert.Attn.sig .tc .vmem S1x1024x2048 .bf16) (harg9 : arg9.IsWhole) (arg10 : Memref Cert.Attn.sig .tc .vmem S1x1024 .f32) (harg10 : arg10.IsWhole) (arg11 : Memref Cert.Attn.sig .tc .vmem S1x256x1024 .f32) (harg11 : arg11.IsWhole) (arg12 : Memref Cert.Attn.sig .tc .vmem S3x16x128x256 .bf16) (harg12 : arg12.IsWhole) (arg13 : Memref Cert.Attn.sig .tc .vmem S3x16x256x256 .bf16) (harg13 : arg13.IsWhole) (arg14 : Memref Cert.Attn.sig .tc .vmem S16x256x128 .f32) (harg14 : arg14.IsWhole) (arg15 : Memref Cert.Attn.sig .tc .vmem S2x256x768 .f32) (harg15 : arg15.IsWhole) (arg16 : Memref Cert.Attn.sig .tc .vmem S2x256x768 .bf16) (harg16 : arg16.IsWhole) (arg17 : Memref Cert.Attn.sig .tc .vmem S2x256x128 .f32) (harg17 : arg17.IsWhole) (arg18 : Memref Cert.Attn.sig .tc .vmem S16x256x768 .f32) (harg18 : arg18.IsWhole)
    (h1 : ¬ k0_cond1 i = 1#1) (h2 : ¬ k0_cond2 i = 1#1) (h3 : k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (live2 (slotA (i 1).val 1#32) (slotA1_lt (i 1))) (slotT (i 1).val) (slotT_lt (i 1))) := by
  unfold cc0_band_attn_final
  simp only [dif_neg h1, dif_neg h2, dif_pos h3, dif_neg h4]
  rfl

theorem bodyP3 (i : grid0.Coords) (arg2 : Memref Cert.Attn.sig .tc .vmem S1x16x256x128 .bf16) (harg2 : arg2.IsWhole) (arg3 : Memref Cert.Attn.sig .tc .vmem S1x16x128x256 .bf16) (harg3 : arg3.IsWhole) (arg4 : Memref Cert.Attn.sig .tc .vmem S1x16x256x128 .bf16) (harg4 : arg4.IsWhole) (arg5 : Memref Cert.Attn.sig .tc .vmem S1x256x2048 .f32) (harg5 : arg5.IsWhole) (arg6 : Memref Cert.Attn.sig .tc .vmem S1x256x1024 .f32) (harg6 : arg6.IsWhole) (arg7 : Memref Cert.Attn.sig .tc .vmem S1x1x1024 .f32) (harg7 : arg7.IsWhole) (arg8 : Memref Cert.Attn.sig .tc .vmem S16x1x1024 .f32) (harg8 : arg8.IsWhole) (arg9 : Memref Cert.Attn.sig .tc .vmem S1x1024x2048 .bf16) (harg9 : arg9.IsWhole) (arg10 : Memref Cert.Attn.sig .tc .vmem S1x1024 .f32) (harg10 : arg10.IsWhole) (arg11 : Memref Cert.Attn.sig .tc .vmem S1x256x1024 .f32) (harg11 : arg11.IsWhole) (arg12 : Memref Cert.Attn.sig .tc .vmem S3x16x128x256 .bf16) (harg12 : arg12.IsWhole) (arg13 : Memref Cert.Attn.sig .tc .vmem S3x16x256x256 .bf16) (harg13 : arg13.IsWhole) (arg14 : Memref Cert.Attn.sig .tc .vmem S16x256x128 .f32) (harg14 : arg14.IsWhole) (arg15 : Memref Cert.Attn.sig .tc .vmem S2x256x768 .f32) (harg15 : arg15.IsWhole) (arg16 : Memref Cert.Attn.sig .tc .vmem S2x256x768 .bf16) (harg16 : arg16.IsWhole) (arg17 : Memref Cert.Attn.sig .tc .vmem S2x256x128 .f32) (harg17 : arg17.IsWhole) (arg18 : Memref Cert.Attn.sig .tc .vmem S16x256x768 .f32) (harg18 : arg18.IsWhole)
    (h1 : ¬ k0_cond1 i = 1#1) (h2 : ¬ k0_cond2 i = 1#1) (h3 : ¬ k0_cond3 i = 1#1) (h4 : k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (live3 (slotA (i 1).val 0#32) (slotA (i 1).val 1#32) (slotA0_lt (i 1)) (slotA1_lt (i 1))) (slotT (i 1).val) (slotT_lt (i 1))) := by
  unfold cc0_band_attn_final
  simp only [dif_neg h1, dif_neg h2, dif_neg h3, dif_pos h4]
  rfl
end Cert.Att
end
-- ==== Proof.Att.BodyAll.lean ====
/- The printed body at a point is the model's code, with the table's loop and the ones before it at the first. -/
module

public import proofs.«01_k».proof.Proof.Att.Init

@[expose] public section
noncomputable section
namespace Cert.Att
open Idealize.ShloMosaic Idealize.SL.Sem Cert.AttnIdeal
open Cert.AttnIdeal.Facts₀ Cert.AttnIdeal.Facts
variable {F : FTy → Type} [FloatOps F]
set_option maxRecDepth 100000

theorem body0 (i : grid0.Coords) (arg2 : Memref Cert.AttnIdeal.sig .tc .vmem S1x16x256x128 .bf16) (harg2 : arg2.IsWhole) (arg3 : Memref Cert.AttnIdeal.sig .tc .vmem S1x16x128x256 .bf16) (harg3 : arg3.IsWhole) (arg4 : Memref Cert.AttnIdeal.sig .tc .vmem S1x16x256x128 .bf16) (harg4 : arg4.IsWhole) (arg5 : Memref Cert.AttnIdeal.sig .tc .vmem S1x256x2048 .f32) (harg5 : arg5.IsWhole) (arg6 : Memref Cert.AttnIdeal.sig .tc .vmem S1x256x1024 .f32) (harg6 : arg6.IsWhole) (arg7 : Memref Cert.AttnIdeal.sig .tc .vmem S1x1x1024 .f32) (harg7 : arg7.IsWhole) (arg8 : Memref Cert.AttnIdeal.sig .tc .vmem S16x1x1024 .f32) (harg8 : arg8.IsWhole) (arg9 : Memref Cert.AttnIdeal.sig .tc .vmem S1x1024x2048 .bf16) (harg9 : arg9.IsWhole) (arg10 : Memref Cert.AttnIdeal.sig .tc .vmem S1x1024 .f32) (harg10 : arg10.IsWhole) (arg11 : Memref Cert.AttnIdeal.sig .tc .vmem S1x256x1024 .f32) (harg11 : arg11.IsWhole) (arg12 : Memref Cert.AttnIdeal.sig .tc .vmem S3x16x128x256 .bf16) (harg12 : arg12.IsWhole) (arg13 : Memref Cert.AttnIdeal.sig .tc .vmem S3x16x256x256 .bf16) (harg13 : arg13.IsWhole) (arg14 : Memref Cert.AttnIdeal.sig .tc .vmem S16x256x128 .f32) (harg14 : arg14.IsWhole) (arg15 : Memref Cert.AttnIdeal.sig .tc .vmem S2x256x768 .f32) (harg15 : arg15.IsWhole) (arg16 : Memref Cert.AttnIdeal.sig .tc .vmem S2x256x768 .bf16) (harg16 : arg16.IsWhole) (arg17 : Memref Cert.AttnIdeal.sig .tc .vmem S2x256x128 .f32) (harg17 : arg17.IsWhole) (arg18 : Memref Cert.AttnIdeal.sig .tc .vmem S16x256x768 .f32) (harg18 : arg18.IsWhole)
    (h1 : k0_cond1 i = 1#1) (h2 : k0_cond2 i = 1#1) (h3 : ¬ k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      (Scf.Loop.for k0_t1_loop (k0_t1_ok i h1) PUnit.unit (fun t _ => denote (trip (F := F) (R := bufs arg2 arg3 arg4 arg5 arg6 arg7 arg8 arg9 arg10 arg11 arg12 arg13 arg14 arg15 arg16 arg17 arg18) t)) >>= fun _ => denote (ones (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (branch (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) live1 (slotT (i 1).val) (slotT_lt (i 1))))) := by
  unfold cc0_band_attn_final
  simp only [dif_pos h1, dif_pos h2, dif_neg h3, dif_neg h4]
  rfl

theorem body1 (i : grid0.Coords) (arg2 : Memref Cert.AttnIdeal.sig .tc .vmem S1x16x256x128 .bf16) (harg2 : arg2.IsWhole) (arg3 : Memref Cert.AttnIdeal.sig .tc .vmem S1x16x128x256 .bf16) (harg3 : arg3.IsWhole) (arg4 : Memref Cert.AttnIdeal.sig .tc .vmem S1x16x256x128 .bf16) (harg4 : arg4.IsWhole) (arg5 : Memref Cert.AttnIdeal.sig .tc .vmem S1x256x2048 .f32) (harg5 : arg5.IsWhole) (arg6 : Memref Cert.AttnIdeal.sig .tc .vmem S1x256x1024 .f32) (harg6 : arg6.IsWhole) (arg7 : Memref Cert.AttnIdeal.sig .tc .vmem S1x1x1024 .f32) (harg7 : arg7.IsWhole) (arg8 : Memref Cert.AttnIdeal.sig .tc .vmem S16x1x1024 .f32) (harg8 : arg8.IsWhole) (arg9 : Memref Cert.AttnIdeal.sig .tc .vmem S1x1024x2048 .bf16) (harg9 : arg9.IsWhole) (arg10 : Memref Cert.AttnIdeal.sig .tc .vmem S1x1024 .f32) (harg10 : arg10.IsWhole) (arg11 : Memref Cert.AttnIdeal.sig .tc .vmem S1x256x1024 .f32) (harg11 : arg11.IsWhole) (arg12 : Memref Cert.AttnIdeal.sig .tc .vmem S3x16x128x256 .bf16) (harg12 : arg12.IsWhole) (arg13 : Memref Cert.AttnIdeal.sig .tc .vmem S3x16x256x256 .bf16) (harg13 : arg13.IsWhole) (arg14 : Memref Cert.AttnIdeal.sig .tc .vmem S16x256x128 .f32) (harg14 : arg14.IsWhole) (arg15 : Memref Cert.AttnIdeal.sig .tc .vmem S2x256x768 .f32) (harg15 : arg15.IsWhole) (arg16 : Memref Cert.AttnIdeal.sig .tc .vmem S2x256x768 .bf16) (harg16 : arg16.IsWhole) (arg17 : Memref Cert.AttnIdeal.sig .tc .vmem S2x256x128 .f32) (harg17 : arg17.IsWhole) (arg18 : Memref Cert.AttnIdeal.sig .tc .vmem S16x256x768 .f32) (harg18 : arg18.IsWhole)
    (h1 : ¬ k0_cond1 i = 1#1) (h2 : k0_cond2 i = 1#1) (h3 : ¬ k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) live1 (slotT (i 1).val) (slotT_lt (i 1))) := by
  unfold cc0_band_attn_final
  simp only [dif_neg h1, dif_pos h2, dif_neg h3, dif_neg h4]
  rfl

theorem body2 (i : grid0.Coords) (arg2 : Memref Cert.AttnIdeal.sig .tc .vmem S1x16x256x128 .bf16) (harg2 : arg2.IsWhole) (arg3 : Memref Cert.AttnIdeal.sig .tc .vmem S1x16x128x256 .bf16) (harg3 : arg3.IsWhole) (arg4 : Memref Cert.AttnIdeal.sig .tc .vmem S1x16x256x128 .bf16) (harg4 : arg4.IsWhole) (arg5 : Memref Cert.AttnIdeal.sig .tc .vmem S1x256x2048 .f32) (harg5 : arg5.IsWhole) (arg6 : Memref Cert.AttnIdeal.sig .tc .vmem S1x256x1024 .f32) (harg6 : arg6.IsWhole) (arg7 : Memref Cert.AttnIdeal.sig .tc .vmem S1x1x1024 .f32) (harg7 : arg7.IsWhole) (arg8 : Memref Cert.AttnIdeal.sig .tc .vmem S16x1x1024 .f32) (harg8 : arg8.IsWhole) (arg9 : Memref Cert.AttnIdeal.sig .tc .vmem S1x1024x2048 .bf16) (harg9 : arg9.IsWhole) (arg10 : Memref Cert.AttnIdeal.sig .tc .vmem S1x1024 .f32) (harg10 : arg10.IsWhole) (arg11 : Memref Cert.AttnIdeal.sig .tc .vmem S1x256x1024 .f32) (harg11 : arg11.IsWhole) (arg12 : Memref Cert.AttnIdeal.sig .tc .vmem S3x16x128x256 .bf16) (harg12 : arg12.IsWhole) (arg13 : Memref Cert.AttnIdeal.sig .tc .vmem S3x16x256x256 .bf16) (harg13 : arg13.IsWhole) (arg14 : Memref Cert.AttnIdeal.sig .tc .vmem S16x256x128 .f32) (harg14 : arg14.IsWhole) (arg15 : Memref Cert.AttnIdeal.sig .tc .vmem S2x256x768 .f32) (harg15 : arg15.IsWhole) (arg16 : Memref Cert.AttnIdeal.sig .tc .vmem S2x256x768 .bf16) (harg16 : arg16.IsWhole) (arg17 : Memref Cert.AttnIdeal.sig .tc .vmem S2x256x128 .f32) (harg17 : arg17.IsWhole) (arg18 : Memref Cert.AttnIdeal.sig .tc .vmem S16x256x768 .f32) (harg18 : arg18.IsWhole)
    (h1 : ¬ k0_cond1 i = 1#1) (h2 : ¬ k0_cond2 i = 1#1) (h3 : k0_cond3 i = 1#1) (h4 : ¬ k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (live2 (slotA (i 1).val 1#32) (slotA1_lt (i 1))) (slotT (i 1).val) (slotT_lt (i 1))) := by
  unfold cc0_band_attn_final
  simp only [dif_neg h1, dif_neg h2, dif_pos h3, dif_neg h4]
  rfl

theorem body3 (i : grid0.Coords) (arg2 : Memref Cert.AttnIdeal.sig .tc .vmem S1x16x256x128 .bf16) (harg2 : arg2.IsWhole) (arg3 : Memref Cert.AttnIdeal.sig .tc .vmem S1x16x128x256 .bf16) (harg3 : arg3.IsWhole) (arg4 : Memref Cert.AttnIdeal.sig .tc .vmem S1x16x256x128 .bf16) (harg4 : arg4.IsWhole) (arg5 : Memref Cert.AttnIdeal.sig .tc .vmem S1x256x2048 .f32) (harg5 : arg5.IsWhole) (arg6 : Memref Cert.AttnIdeal.sig .tc .vmem S1x256x1024 .f32) (harg6 : arg6.IsWhole) (arg7 : Memref Cert.AttnIdeal.sig .tc .vmem S1x1x1024 .f32) (harg7 : arg7.IsWhole) (arg8 : Memref Cert.AttnIdeal.sig .tc .vmem S16x1x1024 .f32) (harg8 : arg8.IsWhole) (arg9 : Memref Cert.AttnIdeal.sig .tc .vmem S1x1024x2048 .bf16) (harg9 : arg9.IsWhole) (arg10 : Memref Cert.AttnIdeal.sig .tc .vmem S1x1024 .f32) (harg10 : arg10.IsWhole) (arg11 : Memref Cert.AttnIdeal.sig .tc .vmem S1x256x1024 .f32) (harg11 : arg11.IsWhole) (arg12 : Memref Cert.AttnIdeal.sig .tc .vmem S3x16x128x256 .bf16) (harg12 : arg12.IsWhole) (arg13 : Memref Cert.AttnIdeal.sig .tc .vmem S3x16x256x256 .bf16) (harg13 : arg13.IsWhole) (arg14 : Memref Cert.AttnIdeal.sig .tc .vmem S16x256x128 .f32) (harg14 : arg14.IsWhole) (arg15 : Memref Cert.AttnIdeal.sig .tc .vmem S2x256x768 .f32) (harg15 : arg15.IsWhole) (arg16 : Memref Cert.AttnIdeal.sig .tc .vmem S2x256x768 .bf16) (harg16 : arg16.IsWhole) (arg17 : Memref Cert.AttnIdeal.sig .tc .vmem S2x256x128 .f32) (harg17 : arg17.IsWhole) (arg18 : Memref Cert.AttnIdeal.sig .tc .vmem S16x256x768 .f32) (harg18 : arg18.IsWhole)
    (h1 : ¬ k0_cond1 i = 1#1) (h2 : ¬ k0_cond2 i = 1#1) (h3 : ¬ k0_cond3 i = 1#1) (h4 : k0_cond4 i = 1#1) :
    cc0_band_attn_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (branch (F := F) (R := bufs arg2 arg3 arg4 arg5 arg6 arg7 arg8 arg9 arg10 arg11 arg12 arg13 arg14 arg15 arg16 arg17 arg18) (bufs_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (live3 (slotA (i 1).val 0#32) (slotA (i 1).val 1#32) (slotA0_lt (i 1)) (slotA1_lt (i 1))) (slotT (i 1).val) (slotT_lt (i 1))) := by
  unfold cc0_band_attn_final
  simp only [dif_neg h1, dif_neg h2, dif_neg h3, dif_pos h4]
  rfl
end Cert.Att
end
-- ==== Proof.Att.FrameIdeal.lean ====
/- The attention call of `AttnIdeal` runs: at every point the body takes the blocks, the rings and the table to the output block
   and the rings and the table of the next point. -/
module

public import proofs.«01_k».proof.Proof.Gen.AttnIdeal.Frame
public import proofs.«01_k».proof.Proof.Att.Point
public import Idealize.ShloMosaic.Lib.Claim
public import proofs.«01_k».proof.Proof.Att.BodyAll

@[expose] public section
set_option maxRecDepth 16384
noncomputable section
namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Att (Cont Blocks Inv At Post outAt slotT slotA slotT_lt slotA0_lt slotA1_lt slotT_eq slotA0_eq slotA1_eq)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

abbrev ms0_0 (t : Fin cfg0.N) : Memref sig .tc .vmem S1x16x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1024 .f32 := win0_9.stage (cfg0.slots t 9)
abbrev hs0_9 (t : Fin cfg0.N) : (ms0_9 t).IsWhole := hstage0_9 ((cfg0.slots t 9).cast nbuf0_9)
abbrev scM0_0 : Memref sig .tc .vmem S3x16x128x256 .bf16 := Memref.whole cc0_scratch0
abbrev scM0_1 : Memref sig .tc .vmem S3x16x256x256 .bf16 := Memref.whole cc0_scratch1
abbrev scM0_2 : Memref sig .tc .vmem S16x256x128 .f32 := Memref.whole cc0_scratch2
abbrev scM0_3 : Memref sig .tc .vmem S2x256x768 .f32 := Memref.whole cc0_scratch3
abbrev scM0_4 : Memref sig .tc .vmem S2x256x768 .bf16 := Memref.whole cc0_scratch4
abbrev scM0_5 : Memref sig .tc .vmem S2x256x128 .f32 := Memref.whole cc0_scratch5
abbrev scM0_6 : Memref sig .tc .vmem S16x256x768 .f32 := Memref.whole cc0_scratch6

/-- The buffers of point `t`. -/
abbrev bufsAt (t : Fin cfg0.N) : ∀ j, Memref sig .tc .vmem (Cert.Att.shp j) (Cert.Att.elt j) := Cert.Att.bufs (ms0_0 t) (ms0_1 t) (ms0_2 t) (ms0_3 t) (ms0_4 t) (ms0_5 t) (ms0_6 t) (ms0_7 t) (ms0_8 t) (ms0_9 t) scM0_0 scM0_1 scM0_2 scM0_3 scM0_4 scM0_5 scM0_6
abbrev wholeAt (t : Fin cfg0.N) : ∀ j, (bufsAt t j).IsWhole := Cert.Att.bufs_whole (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## What each point leaves -/

/-- The blocks of the points. -/
def blocks (c : Dev nD) : Blocks F where

  q t := iblk m c 0 t
  k t := iblk m c 1 t
  v t := iblk m c 2 t
  z t := iblk m c 3 t
  h t := iblk m c 4 t
  g t := iblk m c 5 t
  b t := iblk m c 6 t
  w t := iblk m c 7 t
  f t := iblk m c 8 t

/-- Before point `n`: the scratches at contents with the rings and the table as they must be. -/
def PhiS (c : Dev nD) (n : ℕ) : sProp 𝕄 :=
  iprop((∃ σ : Cont F, ⌜Inv (blocks m c) n (σ .kr) (σ .vr) (σ .tab)⌝ ∗ owns (c : Thread nD τ) scM0_0 fullShare (σ .kr) ∗ owns (c : Thread nD τ) scM0_1 fullShare (σ .vr) ∗ owns (c : Thread nD τ) scM0_2 fullShare (σ .ao) ∗ owns (c : Thread nD τ) scM0_3 fullShare (σ .s) ∗ owns (c : Thread nD τ) scM0_4 fullShare (σ .p) ∗ owns (c : Thread nD τ) scM0_5 fullShare (σ .m) ∗ owns (c : Thread nD τ) scM0_6 fullShare (σ .tab)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt (blocks m c) t
  Φ t := PhiS m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt (blocks m c) t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 32 = 0 := by decide +kernel
theorem cond3_iff : ∀ t : Fin cfg0.N, k0_cond3 (grid0.coords t) = 1#1 ↔ t.val % 32 = 1 := by decide +kernel
theorem cond4_iff : ∀ t : Fin cfg0.N, k0_cond4 (grid0.coords t) = 1#1 ↔ 2 ≤ t.val % 32 := by decide +kernel
theorem coord1 : ∀ t : Fin cfg0.N, (grid0.coords t 1).val = t.val % 32 := by decide +kernel
theorem slotT_at (t : Fin cfg0.N) : slotT (grid0.coords t 1).val = t.val % 32 % 3 := (slotT_eq (grid0.coords t 1)).trans (congrArg (· % 3) (coord1 t))
theorem slotA0_at (t : Fin cfg0.N) : slotA (grid0.coords t 1).val 0#32 = (t.val % 32 + 1) % 3 := (slotA0_eq (grid0.coords t 1)).trans (congrArg (fun x => (x + 1) % 3) (coord1 t))
theorem slotA1_at (t : Fin cfg0.N) : slotA (grid0.coords t 1).val 1#32 = (t.val % 32 + 2) % 3 := (slotA1_eq (grid0.coords t 1)).trans (congrArg (fun x => (x + 2) % 3) (coord1 t))

/-- The body at any point. -/
theorem point_sound (c : Dev nD) (t : Fin cfg0.N) (σ : Cont F) (hA : At (blocks m c) t σ) (hI : Inv (blocks m c) t.val (σ .kr) (σ .vr) (σ .tab)) :
    ∃ σ' : Cont F, Post (blocks m c) t σ' ∧ ∀ K : PUnit → sProp 𝕄,
      iprop(Cert.Att.own c (bufsAt t) σ ∗ (Cert.Att.own c (bufsAt t) σ' -∗ K ⟨⟩)) ⊢ wp frame (wpE (defs₀ (F := F)) Variants.none c none) Set.univ (bodyAt0 t) K := by
  by_cases h0 : t.val % 32 = 0
  · have h2 := (cond2_iff t).mpr h0
    have h3 : ¬ k0_cond3 (grid0.coords t) = 1#1 := fun h => by have := (cond3_iff t).mp h; omega
    have h4 : ¬ k0_cond4 (grid0.coords t) = 1#1 := fun h => by have := (cond4_iff t).mp h; omega
    by_cases hz : t.val = 0
    · have h1 := (cond1_iff t).mpr hz
      refine ⟨_, Cert.Att.step0 (wholeAt t) (blocks m c) t hz _ (slotT_lt (grid0.coords t 1)) (slotT_at t) σ hA, fun K => ?_⟩
      rw [show bodyAt0 (F := F) t = _ from Cert.Att.body0 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h1 h2 h3 h4]
      exact Cert.Att.first_sound (wholeAt t) Variants.none c Set.univ _ K _ σ
    · have h1 : ¬ k0_cond1 (grid0.coords t) = 1#1 := fun h => hz ((cond1_iff t).mp h)
      refine ⟨_, Cert.Att.step1 (wholeAt t) (blocks m c) t h0 _ (slotT_lt (grid0.coords t 1)) (slotT_at t) σ hA (hI.tab (Nat.pos_of_ne_zero hz)) (hI.one (Nat.pos_of_ne_zero hz)) hI.rings, fun K => ?_⟩
      rw [show bodyAt0 (F := F) t = _ from Cert.Att.body1 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h1 h2 h3 h4]
      exact Cert.Att.run_sound Variants.none c Set.univ (wholeAt t) K _ σ
  · have h1 : ¬ k0_cond1 (grid0.coords t) = 1#1 := fun h => by have := (cond1_iff t).mp h; omega
    have h2 : ¬ k0_cond2 (grid0.coords t) = 1#1 := fun h => h0 ((cond2_iff t).mp h)
    by_cases hz : t.val % 32 = 1
    · have h3 := (cond3_iff t).mpr hz
      have h4 : ¬ k0_cond4 (grid0.coords t) = 1#1 := fun h => by have := (cond4_iff t).mp h; omega
      refine ⟨_, Cert.Att.step2 (wholeAt t) (blocks m c) t hz _ _ (slotT_lt (grid0.coords t 1)) (slotA1_lt (grid0.coords t 1)) (slotT_at t) (slotA1_at t) σ hA hI, fun K => ?_⟩
      rw [show bodyAt0 (F := F) t = _ from Cert.Att.body2 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h1 h2 h3 h4]
      exact Cert.Att.run_sound Variants.none c Set.univ (wholeAt t) K _ σ
    · have h3 : ¬ k0_cond3 (grid0.coords t) = 1#1 := fun h => hz ((cond3_iff t).mp h)
      have hge : 2 ≤ t.val % 32 := by omega
      have h4 := (cond4_iff t).mpr hge
      refine ⟨_, Cert.Att.step3 (wholeAt t) (blocks m c) t hge _ _ _ (slotT_lt (grid0.coords t 1)) (slotA1_lt (grid0.coords t 1)) (slotA0_lt (grid0.coords t 1)) (slotT_at t) (slotA1_at t) (slotA0_at t) σ hA hI, fun K => ?_⟩
      rw [show bodyAt0 (F := F) t = _ from Cert.Att.body3 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h1 h2 h3 h4]
      exact Cert.Att.run_sound Variants.none c Set.univ (wholeAt t) K _ σ

theorem own_eq (c : Dev nD) (t : Fin cfg0.N) (σ : Cont F) : (Cert.Att.own c (bufsAt t) σ : sProp 𝕄) = iprop(owns (c : Thread nD τ) (ms0_0 t) fullShare (σ .q) ∗ owns (c : Thread nD τ) (ms0_1 t) fullShare (σ .k) ∗ owns (c : Thread nD τ) (ms0_2 t) fullShare (σ .v) ∗ owns (c : Thread nD τ) (ms0_3 t) fullShare (σ .z) ∗ owns (c : Thread nD τ) (ms0_4 t) fullShare (σ .h) ∗ owns (c : Thread nD τ) (ms0_5 t) fullShare (σ .g) ∗ owns (c : Thread nD τ) (ms0_6 t) fullShare (σ .b) ∗ owns (c : Thread nD τ) (ms0_7 t) fullShare (σ .w) ∗ owns (c : Thread nD τ) (ms0_8 t) fullShare (σ .f) ∗ owns (c : Thread nD τ) (ms0_9 t) fullShare (σ .o) ∗ owns (c : Thread nD τ) scM0_0 fullShare (σ .kr) ∗ owns (c : Thread nD τ) scM0_1 fullShare (σ .vr) ∗ owns (c : Thread nD τ) scM0_2 fullShare (σ .ao) ∗ owns (c : Thread nD τ) scM0_3 fullShare (σ .s) ∗ owns (c : Thread nD τ) scM0_4 fullShare (σ .p) ∗ owns (c : Thread nD τ) scM0_5 fullShare (σ .m) ∗ owns (c : Thread nD τ) scM0_6 fullShare (σ .tab)) := by
  unfold Cert.Att.own
  rw [bigSep_univ_eq_bigSepL [.q, .k, .v, .z, .h, .g, .b, .w, .f, .o, .kr, .vr, .ao, .s, .p, .m, .tab] (by decide) (by decide)]
  rfl

theorem own_post (c : Dev nD) (t : Fin cfg0.N) (σ : Cont F) (h : Post (blocks m c) t σ) : (Cert.Att.own c (bufsAt t) σ : sProp 𝕄) = iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (outAt (blocks m c) t) ∗ owns (c : Thread nD τ) scM0_0 fullShare (σ .kr) ∗ owns (c : Thread nD τ) scM0_1 fullShare (σ .vr) ∗ owns (c : Thread nD τ) scM0_2 fullShare (σ .ao) ∗ owns (c : Thread nD τ) scM0_3 fullShare (σ .s) ∗ owns (c : Thread nD τ) scM0_4 fullShare (σ .p) ∗ owns (c : Thread nD τ) scM0_5 fullShare (σ .m) ∗ owns (c : Thread nD τ) scM0_6 fullShare (σ .tab)) := by
  rw [own_eq, h.at'.q, h.at'.k, h.at'.v, h.at'.z, h.at'.h, h.at'.g, h.at'.b, h.at'.w, h.at'.f, h.o]
  rfl

/-- Contents of all buffers from the inputs' blocks, the output's and the scratches. -/
def fill (c : Dev nD) (t : Fin cfg0.N) (d : Vec F S1x256x1024 .f32) (σ : Cont F) : Cont F
  | .q => iblk m c 0 t
  | .k => iblk m c 1 t
  | .v => iblk m c 2 t
  | .z => iblk m c 3 t
  | .h => iblk m c 4 t
  | .g => iblk m c 5 t
  | .b => iblk m c 6 t
  | .w => iblk m c 7 t
  | .f => iblk m c 8 t
  | .o => d
  | .kr => σ .kr
  | .vr => σ .vr
  | .ao => σ .ao
  | .s => σ .s
  | .p => σ .p
  | .m => σ .m
  | .tab => σ .tab

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem post_eq (c : Dev nD) (t : Fin cfg0.N) : bodyPost m c t = iprop(PhiS m c (t.val + 1) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (outAt (blocks m c) t)) := by
  unfold bodyPost
  rw [after0_0, after0_1, after0_2, after0_3, after0_4, after0_5, after0_6, after0_7, after0_8, after0_9]
  rfl

theorem sound_body (c : Dev nD) (t : Fin cfg0.N) :
    bodyPre m c t ⊢ wp frame (wpE (defs₀ (F := F)) Variants.none c none) Set.univ (bodyAt0 t) (fun _ => bodyPost m c t) := by
  rw [post_eq]
  unfold bodyPre
  simp only [before0_0, before0_1, before0_2, before0_3, before0_4, before0_5, before0_6, before0_7, before0_8]
  rw [show (dats m 0 c).Φ t.castSucc = PhiS m c t.val from rfl]
  unfold PhiS
  iintro ⟨⟨⟨%σ, %hI, S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨σ', hP, hs⟩ := point_sound m c t (fill m c t ((dats m 0 c).before 9 t d9) σ) ⟨rfl, rfl, rfl, rfl, rfl, rfl, rfl, rfl, rfl⟩ hI
  have hs := hs (fun _ => bodyPost m c t)
  rw [own_eq, own_post m c t σ' hP, post_eq] at hs
  unfold PhiS at hs
  iapply hs
  isplitl [H0 H1 H2 H3 H4 H5 H6 H7 H8 H9 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, S0, S1, S2, S3, S4, S5, S6⟩
  isplitl [Hg S0 S1 S2 S3 S4 S5 S6]
  · isplitr [Hg]
    · iexists σ'
      isplitr; · ipureintro; exact hP.inv
      isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- Every point writes the output's block. -/
theorem idle_9 : ∀ t : Fin cfg0.N, cfg0.idle 9 (cfg0.grid.coords t) = false := by decide +kernel

theorem body_obligation (c : Dev nD) : BodyObligation (dats (F := F) m 0 c) (defs₀ (F := F)) Variants.none () Set.univ := fun t => by
  rw [bigSep_W0, bigSep_W0, defs₀_row]
  rewrite [idle_9 t]
  exact triple_restated (sound_body m c t) rfl .rfl fun _ => .rfl

/-- Before the first point nothing is known of the scratches. -/
theorem hin (c : Dev nD) : (Pipeline.ΦA spec0 c : sProp 𝕄) ⊢ (dats m 0 c).Φ 0 := by
  rw [show (dats m 0 c).Φ 0 = PhiS m c 0 from rfl, PhiA0_eq]
  unfold PhiS
  iintro ⟨⟨⟨%d0, S0⟩, ⟨%d1, S1⟩, ⟨%d2, S2⟩, ⟨%d3, S3⟩, ⟨%d4, S4⟩, ⟨%d5, S5⟩, ⟨%d6, S6⟩⟩, Hg⟩
  isplitr [Hg]
  · iexists (Cert.Att.scratch d0 d1 d2 d3 d4 d5 d6)
    isplitr; · ipureintro; exact Cert.Att.Inv.zero _ _ _ _
    isplitl [S0]; · iexact S0
    isplitl [S1]; · iexact S1
    isplitl [S2]; · iexact S2
    isplitl [S3]; · iexact S3
    isplitl [S4]; · iexact S4
    isplitl [S5]; · iexact S5
    iexact S6
  iexact Hg

theorem hout (c : Dev nD) : (dats m 0 c).Φ (Fin.last _) ⊢ (Pipeline.ΦA spec0 c : sProp 𝕄) := by
  rw [show (dats m 0 c).Φ (Fin.last _) = PhiS m c (Fin.last cfg0.N).val from rfl, PhiA0_eq]
  unfold PhiS
  iintro ⟨⟨%σ, %_, S0, S1, S2, S3, S4, S5, S6⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AttnIdeal.Gen
end
-- ==== Proof.Claims.Finite.lean ====
/- What the preconditions say: the arguments they name hold reals. -/
module

public import proofs.«01_k».proof.Defs
public import Idealize.ShloMosaic.Lib.Pointwise

@[expose] public section
noncomputable section
namespace Cert.Proof
open Idealize.ShloMosaic Idealize.ShloMosaic.Pointwise

/-- A magnitude below infinity is a real's. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

theorem facts_finite : Cert.Pre_finite.Facts := by
  constructor <;> first | decide | exact ⟨by decide, fun a => a.elim0⟩

theorem facts_finite2 : Cert.Pre_finite2.Facts := by
  constructor <;> first | decide | exact ⟨by decide, fun a => a.elim0⟩

/-- The first precondition: four of the arguments and the value columns of the first layer's input weights hold reals. -/
theorem finite_real [Cert.Pre_finite.Facts] (x0 : FVec Ideal Cert.Pre_finite.S4x8192x1024 .f32) (x1 x2 x3 : FVec Ideal Cert.Pre_finite.S4x1024 .f32)
    (x4 : FVec Ideal Cert.Pre_finite.S1024 .f32) (x5 : FVec Ideal Cert.Pre_finite.S2x1024x4096 .bf16) (x6 : FVec Ideal Cert.Pre_finite.S2048 .f32)
    (x7 : FVec Ideal Cert.Pre_finite.S2x2048x1024 .f32)
    (h : (Cert.Pre_finite.fn (F := Ideal) x0 x1 x2 x3 x4 x5 x6 x7).1 = (fun _ => 1#1)
      ∧ (Cert.Pre_finite.fn (F := Ideal) x0 x1 x2 x3 x4 x5 x6 x7).2.1 = (fun _ => 1#1)
      ∧ (Cert.Pre_finite.fn (F := Ideal) x0 x1 x2 x3 x4 x5 x6 x7).2.2.1 = (fun _ => 1#1)
      ∧ (Cert.Pre_finite.fn (F := Ideal) x0 x1 x2 x3 x4 x5 x6 x7).2.2.2.1 = (fun _ => 1#1)
      ∧ (Cert.Pre_finite.fn (F := Ideal) x0 x1 x2 x3 x4 x5 x6 x7).2.2.2.2 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x4 i = (r : EReal)) ∧ (∀ (j : Fin 1024) (k : Fin 4096), k.val < 2048 → ∃ r : ℝ, x5 (ix3 0 j k) = (r : EReal)) := by
  obtain ⟨h0, h1, h2, h4, h5⟩ := h
  have e : ∀ (j : Fin 1024) (k : Fin 4096) (hk : k.val < 2048), (extractStridedSlice Cert.Pre_finite.S1x1024x2048 ![0, 0, 0] x5 Cert.Pre_finite.Facts.slices_S2x1024x4096_S1x1024x2048_0_0_0 : FVec Ideal Cert.Pre_finite.S1x1024x2048 .bf16) (ix3 0 j ⟨k.val, hk⟩) = x5 (ix3 0 j k) := fun j k hk => by
    pointwise
  exact ⟨fun i => real_of_lt _ (congrFun h0 i), fun i => real_of_lt _ (congrFun h1 i), fun i => real_of_lt _ (congrFun h2 i),
    fun i => real_of_lt _ (congrFun h4 i), fun j k hk => (real_of_lt _ (congrFun h5 (ix3 0 j ⟨k.val, hk⟩))).imp fun r hr => (e j k hk).symm.trans hr⟩

/-- The second: the value columns of the input weights and the groups' matrices hold reals. -/
theorem finite2_real [Cert.Pre_finite2.Facts] (x0 : FVec Ideal Cert.Pre_finite2.S2x1024x4096 .f32) (x1 : FVec Ideal Cert.Pre_finite2.S2x4x512x512 .f32)
    (h : (Cert.Pre_finite2.fn (F := Ideal) x0 x1).1 = (fun _ => 1#1) ∧ (Cert.Pre_finite2.fn (F := Ideal) x0 x1).2 = (fun _ => 1#1)) :
    (∀ (l : Fin 2) (d : Fin 1024) (k : Fin 4096), k.val < 2048 → ∃ r : ℝ, x0 (ix3 l d k) = (r : EReal)) ∧ (∀ i, ∃ r : ℝ, x1 i = (r : EReal)) := by
  obtain ⟨h0, h1⟩ := h
  have e : ∀ (l : Fin 2) (d : Fin 1024) (k : Fin 4096) (hk : k.val < 2048), (extractStridedSlice Cert.Pre_finite2.S2x1024x2048 ![0, 0, 0] x0 Cert.Pre_finite2.Facts.slices_S2x1024x4096_S2x1024x2048_0_0_0 : FVec Ideal Cert.Pre_finite2.S2x1024x2048 .f32) (ix3 l d ⟨k.val, hk⟩) = x0 (ix3 l d k) := fun l d k hk => by
    pointwise
  exact ⟨fun l d k hk => (real_of_lt _ (congrFun h0 (ix3 l d ⟨k.val, hk⟩))).imp fun r hr => (e l d k hk).symm.trans hr, fun i => real_of_lt _ (congrFun h1 i)⟩

end Cert.Proof
end
-- ==== Proof.Pool.Block.lean ====
/- The vector expressions of one grid point of the attention-free ("A") layer's call, named by what they are: a
   group's product with the tile, the two streams' halves of it, the tile with the carried rows before it, the
   window sum by doubling, and the gate. Each payload of the body is one of these. -/
module

public import proofs.«01_k».proof.Proof.Gen.KernelIdeal.Value
public import Idealize.ShloMosaic.Lib.Pointwise

@[expose] public section
set_option maxRecDepth 16384
noncomputable section
namespace Cert.KernelIdeal.Pool
open Idealize.ShloMosaic Idealize.ShloMosaic.TcCoe
open Cert.KernelIdeal.Gen

/-- The two streams' rows times one group's 512 columns of the weights. -/
def mm (U : Vec Ideal S1024x1024 .bf16) (W : Vec Ideal S1x1024x512 .bf16) : FVec Ideal S1024x512 .f32 := k0_pay8 U W

/-- The first stream's rows of a product, and the second's. -/
def half0 (M : FVec Ideal S1024x512 .f32) : FVec Ideal S512x512 .f32 := k0_pay17 M
def half1 (M : FVec Ideal S1024x512 .f32) : FVec Ideal S512x512 .f32 := k0_pay23 M

/-- A tile's rows below the 16 rows carried from the tile before. -/
def cat (a : Vec Ideal S1x16x512 .f32) (V : FVec Ideal S512x512 .f32) : FVec Ideal S528x512 .f32 :=
  concatenate S528x512 0 [⟨S16x512, shapeCast S16x512 a shapeCasts_S1x16x512_S16x512⟩, ⟨S512x512, V⟩] concatenates_S16x512_S512x512_S528x512_d0

/-- One doubling step: the rows plus the rows `k` before. -/
def dbl (k : BitVec 32) (s : FVec Ideal S528x512 .f32) : FVec Ideal S528x512 .f32 :=
  addf s (dynamicRotate 0 k none s rotates_S528x512_d0)

/-- `1 / min (t + 1, w)` at the tile's positions `t`. -/
def invw (l w : BitVec 32) : FVec Ideal S512x512 .f32 :=
  have v87 : FVec Ideal S512x128 .f32 := divf (broadcast S512x128 (Scalar.ofBits .f32 0x3F800000#32 : Ideal .f32))
    (sitofp .f32 (minsi (addi (k0_pay13 l) (broadcast S512x128 1#32)) (broadcast S512x128 w)))
  concatenate S512x512 1 [⟨S512x128, v87⟩, ⟨S512x128, v87⟩, ⟨S512x128, v87⟩, ⟨S512x128, v87⟩] concatenates_S512x128_S512x128_S512x128_S512x128_S512x512_d1

/-- The gate: the window mean less the row itself, scaled, times `z · σ(z)`. -/
def core (s : FVec Ideal S528x512 .f32) (V Z I : FVec Ideal S512x512 .f32) (A : Vec Ideal S1x512 .f32) : FVec Ideal S512x512 .bf16 :=
  have v110 : FVec Ideal S512x512 .f32 := extractStridedSlice S512x512 ![16, 0] s slices_S528x512_o16_0_S512x512
  have v112 : FVec Ideal S512x512 .f32 := subf (mulf v110 I) V
  have v115 : FVec Ideal S512x512 .f32 := broadcastTo S512x512 (shapeCast S1x512 A shapeCasts_S1x512_S1x512) broadcasts_S1x512_S512x512
  have v116 : FVec Ideal S512x512 .f32 := mulf v112 v115
  have one : FVec Ideal S512x512 .f32 := broadcast S512x512 (Scalar.ofBits .f32 0x3F800000#32 : Ideal .f32)
  have zero : FVec Ideal S512x512 .f32 := broadcast S512x512 (Scalar.ofBits .f32 0x00000000#32 : Ideal .f32)
  truncf .bf16 (mulf v116 (mulf Z (divf one (addf one (exp (subf zero Z)))))) bitsLt_bf16_f32

/-- The window sums over 2, 4, 8 and 16 rows. -/
def win2 (s : FVec Ideal S528x512 .f32) := dbl 1#32 s
def win4 (s : FVec Ideal S528x512 .f32) := dbl 2#32 (win2 s)
def win8 (s : FVec Ideal S528x512 .f32) := dbl 4#32 (win4 s)
def win16 (s : FVec Ideal S528x512 .f32) := dbl 8#32 (win8 s)

/-- One group's 512 columns of the input weights, of the carried rows and of the scale, at column `K`. -/
abbrev wcol (x5 : Vec Ideal S1x1024x4096 .bf16) (K : Nat) (h : ∀ a, (![0, 0, K] : Fin 3 → Nat) a + S1x1024x512.size a ≤ S1x1024x4096.size a) : Vec Ideal S1x1024x512 .bf16 :=
  View.ld x5 (Rect.unit ![0, 0, K] S1x1024x512.size h)
abbrev acol (acc : Vec Ideal S2x16x2048 .f32) (n K : Nat) (h : ∀ a, (![n, 0, K] : Fin 3 → Nat) a + S1x16x512.size a ≤ S2x16x2048.size a) : Vec Ideal S1x16x512 .f32 :=
  View.ld acc (Rect.unit ![n, 0, K] S1x16x512.size h)
abbrev scol (x6 : Vec Ideal S1x2048 .f32) (K : Nat) (h : ∀ a, (![0, K] : Fin 2 → Nat) a + S1x512.size a ≤ S1x2048.size a) : Vec Ideal S1x512 .f32 :=
  View.ld x6 (Rect.unit ![0, K] S1x512.size h)

/-- The gated rows of both streams, as the body joins them: the groups along the columns, the streams along the rows. -/
def gated (l : BitVec 32) (U : Vec Ideal S1024x1024 .bf16) (x5 : Vec Ideal S1x1024x4096 .bf16) (x6 : Vec Ideal S1x2048 .f32)
    (acc : Vec Ideal S2x16x2048 .f32) : FVec Ideal S1024x2048 .bf16 :=
  have V0 := mm U (wcol x5 0 inb_S1x1024x4096_S1x1024x512_0_0_0)
  have V1 := mm U (wcol x5 512 inb_S1x1024x4096_S1x1024x512_0_0_512)
  have V2 := mm U (wcol x5 1024 inb_S1x1024x4096_S1x1024x512_0_0_1024)
  have V3 := mm U (wcol x5 1536 inb_S1x1024x4096_S1x1024x512_0_0_1536)
  have Z0 := mm U (wcol x5 2048 inb_S1x1024x4096_S1x1024x512_0_0_2048)
  have Z1 := mm U (wcol x5 2560 inb_S1x1024x4096_S1x1024x512_0_0_2560)
  have Z2 := mm U (wcol x5 3072 inb_S1x1024x4096_S1x1024x512_0_0_3072)
  have Z3 := mm U (wcol x5 3584 inb_S1x1024x4096_S1x1024x512_0_0_3584)
  have A0 := scol x6 0 inb_S1x2048_S1x512_0_0
  have A1 := scol x6 512 inb_S1x2048_S1x512_0_512
  have A2 := scol x6 1024 inb_S1x2048_S1x512_0_1024
  have A3 := scol x6 1536 inb_S1x2048_S1x512_0_1536
  have r0 : FVec Ideal S512x2048 .bf16 := concatenate S512x2048 1
    [⟨S512x512, core (win2 (cat (acol acc 0 0 inb_S2x16x2048_S1x16x512_0_0_0) (half0 V0))) (half0 V0) (half0 Z0) (invw l 2#32) A0⟩,
     ⟨S512x512, core (win4 (cat (acol acc 0 512 inb_S2x16x2048_S1x16x512_0_0_512) (half0 V1))) (half0 V1) (half0 Z1) (invw l 4#32) A1⟩,
     ⟨S512x512, core (win8 (cat (acol acc 0 1024 inb_S2x16x2048_S1x16x512_0_0_1024) (half0 V2))) (half0 V2) (half0 Z2) (invw l 8#32) A2⟩,
     ⟨S512x512, core (win16 (cat (acol acc 0 1536 inb_S2x16x2048_S1x16x512_0_0_1536) (half0 V3))) (half0 V3) (half0 Z3) (invw l 16#32) A3⟩]
    concatenates_S512x512_S512x512_S512x512_S512x512_S512x2048_d1
  have r1 : FVec Ideal S512x2048 .bf16 := concatenate S512x2048 1
    [⟨S512x512, core (win2 (cat (acol acc 1 0 inb_S2x16x2048_S1x16x512_1_0_0) (half1 V0))) (half1 V0) (half1 Z0) (invw l 2#32) A0⟩,
     ⟨S512x512, core (win4 (cat (acol acc 1 512 inb_S2x16x2048_S1x16x512_1_0_512) (half1 V1))) (half1 V1) (half1 Z1) (invw l 4#32) A1⟩,
     ⟨S512x512, core (win8 (cat (acol acc 1 1024 inb_S2x16x2048_S1x16x512_1_0_1024) (half1 V2))) (half1 V2) (half1 Z2) (invw l 8#32) A2⟩,
     ⟨S512x512, core (win16 (cat (acol acc 1 1536 inb_S2x16x2048_S1x16x512_1_0_1536) (half1 V3))) (half1 V3) (half1 Z3) (invw l 16#32) A3⟩]
    concatenates_S512x512_S512x512_S512x512_S512x512_S512x2048_d1
  concatenate S1024x2048 0 [⟨S512x2048, r0⟩, ⟨S512x2048, r1⟩] concatenates_S512x2048_S512x2048_S1024x2048_d0

/-- The block the point writes, from the joined rows. -/
def outBlock (l : BitVec 32) (U : Vec Ideal S1024x1024 .bf16) (x0 : Vec Ideal S2x512x1024 .f32) (x3 : Vec Ideal S2x1x1024 .f32)
    (x5 : Vec Ideal S1x1024x4096 .bf16) (x6 : Vec Ideal S1x2048 .f32) (x7 : Vec Ideal S1x2048x1024 .bf16)
    (acc : Vec Ideal S2x16x2048 .f32) : Vec Ideal S2x512x1024 .f32 :=
  View.canon [⟨Rect.unit (s := S2x512x1024) ![1, 0, 0] S1x512x1024.size inb_S2x512x1024_S1x512x1024_1_0_0,
      k0_pay3 (gated l U x5 x6 acc) x7 (View.ld x0 (Rect.unit ![1, 0, 0] S1x512x1024.size inb_S2x512x1024_S1x512x1024_1_0_0)) (View.ld x3 (Rect.unit ![1, 0, 0] S1x1x1024.size inb_S2x1x1024_S1x1x1024_1_0_0))⟩,
    ⟨Rect.unit (s := S2x512x1024) ![0, 0, 0] S1x512x1024.size inb_S2x512x1024_S1x512x1024_0_0_0,
      k0_pay2 (gated l U x5 x6 acc) x7 (View.ld x0 (Rect.unit ![0, 0, 0] S1x512x1024.size inb_S2x512x1024_S1x512x1024_0_0_0)) (View.ld x3 (Rect.unit ![0, 0, 0] S1x1x1024.size inb_S2x1x1024_S1x1x1024_0_0_0))⟩]

/-- The rows the point carries to the next tile: the last 16 rows of each stream's product, group by group. -/
def tail0 (V : FVec Ideal S1024x512 .f32) : FVec Ideal S1x16x512 .f32 := k0_pay57 V
def tail1 (V : FVec Ideal S1024x512 .f32) : FVec Ideal S1x16x512 .f32 := k0_pay61 V

/-- The normalised and modulated rows of both streams, as the body stores them. -/
def uBlock (x0 : Vec Ideal S2x512x1024 .f32) (x1 x2 : Vec Ideal S2x1x1024 .f32) (x4 : Vec Ideal S1x1024 .f32) : Vec Ideal S1024x1024 .bf16 :=
  View.canon [⟨Rect.unit (s := S1024x1024) ![512, 0] S512x1024.size inb_S1024x1024_S512x1024_512_0,
      k0_pay7 (k0_pay6 (View.ld x0 (Rect.unit ![1, 0, 0] S1x512x1024.size inb_S2x512x1024_S1x512x1024_1_0_0))) x4 (View.ld x1 (Rect.unit ![1, 0, 0] S1x1x1024.size inb_S2x1x1024_S1x1x1024_1_0_0)) (View.ld x2 (Rect.unit ![1, 0, 0] S1x1x1024.size inb_S2x1x1024_S1x1x1024_1_0_0))⟩,
    ⟨Rect.unit (s := S1024x1024) ![0, 0] S512x1024.size inb_S1024x1024_S512x1024_0_0,
      k0_pay5 (View.ld x0 (Rect.unit ![0, 0, 0] S1x512x1024.size inb_S2x512x1024_S1x512x1024_0_0_0)) x4 (View.ld x1 (Rect.unit ![0, 0, 0] S1x1x1024.size inb_S2x1x1024_S1x1x1024_0_0_0)) (View.ld x2 (Rect.unit ![0, 0, 0] S1x1x1024.size inb_S2x1x1024_S1x1x1024_0_0_0))⟩]

/-- What the point leaves in the carried rows, over what earlier stores `L` of the same point had written. -/
def carryBlock (U : Vec Ideal S1024x1024 .bf16) (x5 : Vec Ideal S1x1024x4096 .bf16) (L : List (View.Piece (Elt Ideal) S2x16x2048 .f32)) : Vec Ideal S2x16x2048 .f32 :=
  have V0 := mm U (wcol x5 0 inb_S1x1024x4096_S1x1024x512_0_0_0)
  have V1 := mm U (wcol x5 512 inb_S1x1024x4096_S1x1024x512_0_0_512)
  have V2 := mm U (wcol x5 1024 inb_S1x1024x4096_S1x1024x512_0_0_1024)
  have V3 := mm U (wcol x5 1536 inb_S1x1024x4096_S1x1024x512_0_0_1536)
  View.canon
    (⟨Rect.unit (s := S2x16x2048) ![1, 0, 0] S1x16x512.size inb_S2x16x2048_S1x16x512_1_0_0, tail1 V0⟩ ::
     ⟨Rect.unit (s := S2x16x2048) ![0, 0, 0] S1x16x512.size inb_S2x16x2048_S1x16x512_0_0_0, tail0 V0⟩ ::
     ⟨Rect.unit (s := S2x16x2048) ![1, 0, 512] S1x16x512.size inb_S2x16x2048_S1x16x512_1_0_512, tail1 V1⟩ ::
     ⟨Rect.unit (s := S2x16x2048) ![0, 0, 512] S1x16x512.size inb_S2x16x2048_S1x16x512_0_0_512, tail0 V1⟩ ::
     ⟨Rect.unit (s := S2x16x2048) ![1, 0, 1024] S1x16x512.size inb_S2x16x2048_S1x16x512_1_0_1024, tail1 V2⟩ ::
     ⟨Rect.unit (s := S2x16x2048) ![0, 0, 1024] S1x16x512.size inb_S2x16x2048_S1x16x512_0_0_1024, tail0 V2⟩ ::
     ⟨Rect.unit (s := S2x16x2048) ![1, 0, 1536] S1x16x512.size inb_S2x16x2048_S1x16x512_1_0_1536, tail1 V3⟩ ::
     ⟨Rect.unit (s := S2x16x2048) ![0, 0, 1536] S1x16x512.size inb_S2x16x2048_S1x16x512_0_0_1536, tail0 V3⟩ :: L)

end Cert.KernelIdeal.Pool
end
-- ==== Proof.Pool.Rows.lean ====
/- The block expressions of `Block` read at an index: one gated entry is the gate of a sum of window rows, where the rows
   before the tile are the carried ones. -/
module

public import proofs.«01_k».proof.Proof.Pool.Block
public import Idealize.ShloMosaic.Lib.Pointwise

@[expose] public section
set_option maxRecDepth 16384
noncomputable section
namespace Cert.KernelIdeal.Pool
open Idealize.ShloMosaic Idealize.ShloMosaic.TcCoe Idealize.ShloMosaic.Pointwise
open Cert.KernelIdeal.Gen

/-- The gate of one entry: window sum `p`, reciprocal width `v`, the row's own value `x`, scale `a`, gate input `z`. -/
def gateS (p v x a z : EReal) : EReal := (p * v - x) * a * (z * Ideal.div 1 (1 + Ideal.exp (0 - z)))

theorem core_apply (s : FVec Ideal S528x512 .f32) (V Z I : FVec Ideal S512x512 .f32) (A : Vec Ideal S1x512 .f32) (r c : Fin 512) :
    core s V Z I A (ix2 r c) = gateS (s (ix2 ⟨16 + r.val, by omega⟩ c)) (I (ix2 r c)) (V (ix2 r c)) (A (ix2 0 c)) (Z (ix2 r c)) := by
  unfold gateS
  pointwise [core]

theorem dbl_apply (k : BitVec 32) (s : FVec Ideal S528x512 .f32) (r : Fin 528) (c : Fin 512) :
    dbl k s (ix2 r c) = s (ix2 r c) + s (ix2 ⟨(r.val + 528 - k.toNat % 528) % 528, Nat.mod_lt _ (by omega)⟩ c) := by
  unfold dbl
  pointwise

theorem cat_apply (a : Vec Ideal S1x16x512 .f32) (V : FVec Ideal S512x512 .f32)  (r : Fin 528) (c : Fin 512) :
    cat a V (ix2 r c) = if h : r.val < 16 then a (ix3 0 ⟨r.val, h⟩ c) else V (ix2 ⟨r.val - 16, by omega⟩ c) := by
  pointwise [cat]

theorem mm_apply (U : Vec Ideal S1024x1024 .bf16) (W : Vec Ideal S1x1024x512 .bf16) (r : Fin 1024) (c : Fin 512) :
    mm U W (ix2 r c) = ∑ k : Fin 1024, U (ix2 r k) * W (ix3 0 k c) := by
  pointwise [mm, k0_pay8]

theorem half0_apply (M : FVec Ideal S1024x512 .f32) (r c : Fin 512) : half0 M (ix2 r c) = M (ix2 ⟨0 * 512 + r.val, by omega⟩ c) := by
  pointwise [half0, k0_pay17]

theorem half1_apply (M : FVec Ideal S1024x512 .f32) (r c : Fin 512) : half1 M (ix2 r c) = M (ix2 ⟨1 * 512 + r.val, by omega⟩ c) := by
  pointwise [half1, k0_pay23]

theorem tail0_apply (M : FVec Ideal S1024x512 .f32) (r : Fin 16) (c : Fin 512) :
    tail0 M (ix3 0 r c) = M (ix2 ⟨0 * 512 + (496 + r.val), by omega⟩ c) := by
  pointwise [tail0, k0_pay57, k0_pay56]

theorem tail1_apply (M : FVec Ideal S1024x512 .f32) (r : Fin 16) (c : Fin 512) :
    tail1 M (ix3 0 r c) = M (ix2 ⟨1 * 512 + (496 + r.val), by omega⟩ c) := by
  pointwise [tail1, k0_pay61, k0_pay60]

/-- The reciprocal of the number of rows in the window at position `t`. -/
theorem invw_apply (l : Fin 16) (w : Nat) (hw : w ≤ 16) (r c : Fin 512) :
    invw (BitVec.ofNat 32 l.val) (BitVec.ofNat 32 w) (ix2 r c) = Ideal.div 1 (((min (l.val * 512 + r.val + 1) w : ℕ) : ℝ) : EReal) := by
  pointwise [invw, k0_pay13]
  have h : IntOp.minsi (IntOp.addi (IntOp.addi (Scalar.muli (BitVec.ofNat 32 l.val) 512#32) (BitVec.ofNat 32 r.val)) 1#32) (BitVec.ofNat 32 w)
      = BitVec.ofNat 32 (min (l.val * 512 + r.val + 1) w) := by
    have e : (IntOp.addi (IntOp.addi (Scalar.muli (BitVec.ofNat 32 l.val) 512#32) (BitVec.ofNat 32 r.val)) 1#32) = BitVec.ofNat 32 (l.val * 512 + r.val + 1) := by
      simp only [IntOp.addi, Scalar.muli, IntOp.muli]
      apply BitVec.eq_of_toNat_eq
      simp
    rw [e]
    have t : ∀ n : ℕ, n < 2 ^ 31 → (BitVec.ofNat 32 n).toInt = n := fun n hn => by
      rw [BitVec.toInt_eq_toNat_of_lt (by rw [BitVec.toNat_ofNat]; omega), BitVec.toNat_ofNat]; omega
    have hlt : ((BitVec.ofNat 32 (l.val * 512 + r.val + 1)).slt (BitVec.ofNat 32 w) = true) ↔ l.val * 512 + r.val + 1 < w := by
      rw [BitVec.slt_iff_toInt_lt, t _ (by omega), t _ (by omega)]; omega
    unfold IntOp.minsi
    by_cases hq : l.val * 512 + r.val + 1 < w
    · rw [if_pos (hlt.mpr hq), min_eq_left hq.le]
    · rw [if_neg (fun g => hq (hlt.mp g)), min_eq_right (by omega)]
  have hs : ∀ n : ℕ, n ≤ 16 → FloatOps.sitofp (F := Ideal) FTy.f32 (BitVec.ofNat 32 n) = (((n : ℕ) : ℝ) : EReal) := fun n hn => by
    show (((BitVec.ofNat 32 n).toInt : ℝ) : EReal) = _
    rw [BitVec.toInt_eq_toNat_of_lt (by rw [BitVec.toNat_ofNat]; omega), BitVec.toNat_ofNat, Nat.mod_eq_of_lt (by omega)]
    simp
  simp only [h, hs _ ((min_le_right _ _).trans hw), dite_eq_ite, ite_self]

/-- `s` holds at every row with `w` rows up to it the sum of the `w` rows of `s0` that end there. -/
def IsWin (w : Nat) (s s0 : FVec Ideal S528x512 .f32) : Prop :=
  ∀ (r : Fin 528) (c : Fin 512), w ≤ r.val + 1 → s (ix2 r c) = ∑ i ∈ Finset.range w, s0 (ix2 ⟨r.val - i, by omega⟩ c)

theorem isWin_one (s : FVec Ideal S528x512 .f32) : IsWin 1 s s := by
  intro r c _
  simp

theorem isWin_dbl (w : Nat) (hw : w < 528) (s s0 : FVec Ideal S528x512 .f32) (h : IsWin w s s0) : IsWin (w + w) (dbl (BitVec.ofNat 32 w) s) s0 := by
  intro r c hr
  rw [dbl_apply, h r c (by omega), Finset.sum_range_add]
  congr 1
  have e : (r.val + 528 - (BitVec.ofNat 32 w).toNat % 528) % 528 = r.val - w := by
    rw [BitVec.toNat_ofNat]; omega
  simp only [e]
  rw [h ⟨r.val - w, by omega⟩ c (by show w ≤ r.val - w + 1; omega)]
  refine Finset.sum_congr rfl fun i _ => ?_
  congr 3; show r.val - w - i = _; omega

theorem isWin_win2 (s) : IsWin 2 (win2 s) s := isWin_dbl 1 (by omega) s s (isWin_one s)
theorem isWin_win4 (s) : IsWin 4 (win4 s) s := isWin_dbl 2 (by omega) _ s (isWin_win2 s)
theorem isWin_win8 (s) : IsWin 8 (win8 s) s := isWin_dbl 4 (by omega) _ s (isWin_win4 s)
theorem isWin_win16 (s) : IsWin 16 (win16 s) s := isWin_dbl 8 (by omega) _ s (isWin_win8 s)

/-- One entry of the tile's product with column `k` of the weights. -/
def vB (U : Vec Ideal S1024x1024 .bf16) (x5 : Vec Ideal S1x1024x4096 .bf16) (row : Fin 1024) (k : Fin 4096) : EReal :=
  ∑ x : Fin 1024, U (ix2 row x) * x5 (ix3 0 x k)

/-- Row `q` of a stream's tile with the 16 carried rows before it. -/
def extB (U : Vec Ideal S1024x1024 .bf16) (x5 : Vec Ideal S1x1024x4096 .bf16) (acc : Vec Ideal S2x16x2048 .f32)
    (n : Fin 2) (c : Fin 2048) (q : Fin 528) : EReal :=
  if h : q.val < 16 then acc (ix3 n ⟨q.val, h⟩ c) else vB U x5 ⟨n.val * 512 + (q.val - 16), by omega⟩ ⟨c.val, by omega⟩

/-- One gated entry of the tile, of window width `w`. -/
def gateB (l w : Nat) (U : Vec Ideal S1024x1024 .bf16) (x5 : Vec Ideal S1x1024x4096 .bf16) (x6 : Vec Ideal S1x2048 .f32)
    (acc : Vec Ideal S2x16x2048 .f32) (n : Fin 2) (r : Fin 512) (c : Fin 2048) : EReal :=
  gateS (∑ i ∈ Finset.range w, extB U x5 acc n c ⟨16 + r.val - i, by omega⟩)
    (Ideal.div 1 (((min (l * 512 + r.val + 1) w : ℕ) : ℝ) : EReal))
    (vB U x5 ⟨n.val * 512 + r.val, by omega⟩ ⟨c.val, by omega⟩) (x6 (ix2 0 c))
    (vB U x5 ⟨n.val * 512 + r.val, by omega⟩ ⟨2048 + c.val, by omega⟩)

theorem group_apply (l : Fin 16) (w : Nat) (hw : w ≤ 16) (W : FVec Ideal S528x512 .f32 → FVec Ideal S528x512 .f32) (hW : ∀ s, IsWin w (W s) s)
    (U : Vec Ideal S1024x1024 .bf16) (x5 : Vec Ideal S1x1024x4096 .bf16) (x6 : Vec Ideal S1x2048 .f32) (acc : Vec Ideal S2x16x2048 .f32)
    (n : Fin 2) (K : Nat) (hK : K + 512 ≤ 2048) (V Z : FVec Ideal S512x512 .f32) (a : Vec Ideal S1x16x512 .f32) (A : Vec Ideal S1x512 .f32)
    (hV : ∀ (r c : Fin 512), V (ix2 r c) = vB U x5 ⟨n.val * 512 + r.val, by omega⟩ ⟨K + c.val, by omega⟩)
    (hZ : ∀ (r c : Fin 512), Z (ix2 r c) = vB U x5 ⟨n.val * 512 + r.val, by omega⟩ ⟨2048 + (K + c.val), by omega⟩)
    (ha : ∀ (r : Fin 16) (c : Fin 512), a (ix3 0 r c) = acc (ix3 n r ⟨K + c.val, by omega⟩))
    (hA : ∀ c : Fin 512, A (ix2 0 c) = x6 (ix2 0 ⟨K + c.val, by omega⟩)) (r c : Fin 512) :
    core (W (cat a V)) V Z (invw (BitVec.ofNat 32 l.val) (BitVec.ofNat 32 w)) A (ix2 r c) =
      gateB l.val w U x5 x6 acc n r ⟨K + c.val, by omega⟩ := by
  rw [core_apply, invw_apply l w hw, hV, hZ, hA, hW _ _ _ (by show w ≤ 16 + r.val + 1; omega)]
  unfold gateB
  congr 1
  refine Finset.sum_congr rfl fun i _ => ?_
  rw [cat_apply]
  unfold extB
  by_cases h : 16 + r.val - i < 16
  · rw [dif_pos h, dif_pos h, ha]
  · rw [dif_neg h, dif_neg h, hV]

theorem mmcol_apply (U : Vec Ideal S1024x1024 .bf16) (x5 : Vec Ideal S1x1024x4096 .bf16) (K : Nat) (hK : K + 512 ≤ 4096) (h) (r : Fin 1024) (c : Fin 512) :
    mm U (wcol x5 K h) (ix2 r c) = vB U x5 r ⟨K + c.val, by omega⟩ := by
  rw [mm_apply]
  unfold vB
  refine Finset.sum_congr rfl fun k _ => ?_
  congr 1
  refine congrArg x5 (funext fun a => Fin.ext ?_)
  fin_cases a <;> simp [Rect.emb_apply, Rect.unit, ix3]

theorem acol_apply (acc : Vec Ideal S2x16x2048 .f32) (n : Fin 2) (K : Nat) (hK : K + 512 ≤ 2048) (h) (r : Fin 16) (c : Fin 512) :
    acol acc n.val K h (ix3 0 r c) = acc (ix3 n r ⟨K + c.val, by omega⟩) := by
  refine congrArg acc (funext fun a => Fin.ext ?_)
  fin_cases a <;> simp [Rect.emb_apply, Rect.unit, ix3]

theorem scol_apply (x6 : Vec Ideal S1x2048 .f32) (K : Nat) (hK : K + 512 ≤ 2048) (h) (c : Fin 512) :
    scol x6 K h (ix2 0 c) = x6 (ix2 0 ⟨K + c.val, by omega⟩) := by
  refine congrArg x6 (funext fun a => Fin.ext ?_)
  fin_cases a <;> simp [Rect.emb_apply, Rect.unit, ix2]

/-- The window width of column `c`: 2, 4, 8 and 16 in the four groups of 512 columns. -/
def width (c : Fin 2048) : Nat := 2 ^ (c.val / 512 + 1)

theorem column0 (l : Fin 16) (g wn : Nat) (hwn : wn = 2 ^ (g + 1)) (W : FVec Ideal S528x512 .f32 → FVec Ideal S528x512 .f32) (hW : ∀ s, IsWin wn (W s) s) (w : BitVec 32)
    (hw : w = BitVec.ofNat 32 wn) (U : Vec Ideal S1024x1024 .bf16) (x5 : Vec Ideal S1x1024x4096 .bf16) (x6 : Vec Ideal S1x2048 .f32) (acc : Vec Ideal S2x16x2048 .f32)
    (K K2 : Nat) (hg : g < 4) (hK : K = 512 * g) (hK2 : K2 = 2048 + K) (h1 h2 h3 h4) (r c : Fin 512) (k : Fin 2048) (hk : k.val = K + c.val) :
    core (W (cat (acol acc 0 K h1) (half0 (mm U (wcol x5 K h2))))) (half0 (mm U (wcol x5 K h2))) (half0 (mm U (wcol x5 K2 h3)))
      (invw (BitVec.ofNat 32 l.val) w) (scol x6 K h4) (ix2 r c) = gateB l.val (width k) U x5 x6 acc 0 r k := by
  subst hw hK2
  have hg' : wn ≤ 16 := by
    rw [hwn]
    rcases (show g = 0 ∨ g = 1 ∨ g = 2 ∨ g = 3 by omega) with rfl | rfl | rfl | rfl <;> norm_num
  have hk' : k = ⟨K + c.val, by omega⟩ := Fin.ext hk
  have hwd : width k = wn := by
    rw [hwn]; unfold width; congr 2; omega
  rw [hwd, hk']
  refine group_apply l wn hg' W hW U x5 x6 acc 0 K (by omega) _ _ _ _ (fun r c => ?_) (fun r c => ?_) (fun r c => ?_) (fun c => ?_) r c
  · rw [half0_apply, mmcol_apply _ _ _ (by omega)]; rfl
  · rw [half0_apply, mmcol_apply _ _ _ (by omega)]
    refine congrArg (vB U x5 _) (Fin.ext ?_)
    exact Nat.add_assoc _ _ _
  · exact acol_apply acc 0 K (by omega) h1 r c
  · exact scol_apply x6 K (by omega) h4 c

theorem column1 (l : Fin 16) (g wn : Nat) (hwn : wn = 2 ^ (g + 1)) (W : FVec Ideal S528x512 .f32 → FVec Ideal S528x512 .f32) (hW : ∀ s, IsWin wn (W s) s) (w : BitVec 32)
    (hw : w = BitVec.ofNat 32 wn) (U : Vec Ideal S1024x1024 .bf16) (x5 : Vec Ideal S1x1024x4096 .bf16) (x6 : Vec Ideal S1x2048 .f32) (acc : Vec Ideal S2x16x2048 .f32)
    (K K2 : Nat) (hg : g < 4) (hK : K = 512 * g) (hK2 : K2 = 2048 + K) (h1 h2 h3 h4) (r c : Fin 512) (k : Fin 2048) (hk : k.val = K + c.val) :
    core (W (cat (acol acc 1 K h1) (half1 (mm U (wcol x5 K h2))))) (half1 (mm U (wcol x5 K h2))) (half1 (mm U (wcol x5 K2 h3)))
      (invw (BitVec.ofNat 32 l.val) w) (scol x6 K h4) (ix2 r c) = gateB l.val (width k) U x5 x6 acc 1 r k := by
  subst hw hK2
  have hg' : wn ≤ 16 := by
    rw [hwn]
    rcases (show g = 0 ∨ g = 1 ∨ g = 2 ∨ g = 3 by omega) with rfl | rfl | rfl | rfl <;> norm_num
  have hk' : k = ⟨K + c.val, by omega⟩ := Fin.ext hk
  have hwd : width k = wn := by
    rw [hwn]; unfold width; congr 2; omega
  rw [hwd, hk']
  refine group_apply l wn hg' W hW U x5 x6 acc 1 K (by omega) _ _ _ _ (fun r c => ?_) (fun r c => ?_) (fun r c => ?_) (fun c => ?_) r c
  · rw [half1_apply, mmcol_apply _ _ _ (by omega)]; rfl
  · rw [half1_apply, mmcol_apply _ _ _ (by omega)]
    refine congrArg (vB U x5 _) (Fin.ext ?_)
    exact Nat.add_assoc _ _ _
  · exact acol_apply acc 1 K (by omega) h1 r c
  · exact scol_apply x6 K (by omega) h4 c

theorem gated_apply (l : Fin 16) (U : Vec Ideal S1024x1024 .bf16) (x5 : Vec Ideal S1x1024x4096 .bf16) (x6 : Vec Ideal S1x2048 .f32)
    (acc : Vec Ideal S2x16x2048 .f32) (n : Fin 2) (r : Fin 512) (c : Fin 2048) :
    gated (BitVec.ofNat 32 l.val) U x5 x6 acc (ix2 ⟨n.val * 512 + r.val, by omega⟩ c) = gateB l.val (width c) U x5 x6 acc n r c := by
  pointwise [gated]
  rcases (show n = 0 ∨ n = 1 by omega) with rfl | rfl
  · have hr : ∀ h, (⟨(0 : Fin 2).val * 512 + r.val, h⟩ : Fin 512) = r := fun h => Fin.ext (by simp)
    rw [dif_pos (by simp)]
    simp only [hr]
    by_cases h1 : c.val < 512
    · rw [dif_pos h1]
      exact column0 l 0 2 (by norm_num) win2 isWin_win2 2#32 rfl U x5 x6 acc 0 2048 (by omega) (by norm_num) (by norm_num) _ _ _ _ r ⟨_, _⟩ c (by simp only [] <;> omega)
    rw [dif_neg h1]
    by_cases h2 : c.val - 512 < 512
    · rw [dif_pos h2]
      exact column0 l 1 4 (by norm_num) win4 isWin_win4 4#32 rfl U x5 x6 acc 512 2560 (by omega) (by norm_num) (by norm_num) _ _ _ _ r ⟨_, _⟩ c (by simp only [] <;> omega)
    rw [dif_neg h2]
    by_cases h3 : c.val - 512 - 512 < 512
    · rw [dif_pos h3]
      exact column0 l 2 8 (by norm_num) win8 isWin_win8 8#32 rfl U x5 x6 acc 1024 3072 (by omega) (by norm_num) (by norm_num) _ _ _ _ r ⟨_, _⟩ c (by simp only [] <;> omega)
    rw [dif_neg h3]
    exact column0 l 3 16 (by norm_num) win16 isWin_win16 16#32 rfl U x5 x6 acc 1536 3584 (by omega) (by norm_num) (by norm_num) _ _ _ _ r ⟨_, _⟩ c (by simp only [] <;> omega)
  · have hr : ∀ h, (⟨(1 : Fin 2).val * 512 + r.val - 512, h⟩ : Fin 512) = r := fun h => Fin.ext (by simp)
    rw [dif_neg (by simp)]
    simp only [hr]
    by_cases h1 : c.val < 512
    · rw [dif_pos h1]
      exact column1 l 0 2 (by norm_num) win2 isWin_win2 2#32 rfl U x5 x6 acc 0 2048 (by omega) (by norm_num) (by norm_num) _ _ _ _ r ⟨_, _⟩ c (by simp only [] <;> omega)
    rw [dif_neg h1]
    by_cases h2 : c.val - 512 < 512
    · rw [dif_pos h2]
      exact column1 l 1 4 (by norm_num) win4 isWin_win4 4#32 rfl U x5 x6 acc 512 2560 (by omega) (by norm_num) (by norm_num) _ _ _ _ r ⟨_, _⟩ c (by simp only [] <;> omega)
    rw [dif_neg h2]
    by_cases h3 : c.val - 512 - 512 < 512
    · rw [dif_pos h3]
      exact column1 l 2 8 (by norm_num) win8 isWin_win8 8#32 rfl U x5 x6 acc 1024 3072 (by omega) (by norm_num) (by norm_num) _ _ _ _ r ⟨_, _⟩ c (by simp only [] <;> omega)
    rw [dif_neg h3]
    exact column1 l 3 16 (by norm_num) win16 isWin_win16 16#32 rfl U x5 x6 acc 1536 3584 (by omega) (by norm_num) (by norm_num) _ _ _ _ r ⟨_, _⟩ c (by simp only [] <;> omega)

end Cert.KernelIdeal.Pool
end
-- ==== Proof.Pool.Point.lean ====
/- What one grid point leaves, read at an index: the normalised rows, the block it writes and the rows it carries on. -/
module

public import proofs.«01_k».proof.Proof.Pool.Rows
public import Idealize.ShloMosaic.Lib.Pipeline.ValueKit

@[expose] public section
set_option maxRecDepth 16384
noncomputable section
namespace Cert.KernelIdeal.Pool
open Idealize.ShloMosaic Idealize.ShloMosaic.TcCoe Idealize.ShloMosaic.Pointwise
open Cert.KernelIdeal.Gen

/-- Stores that tile the block and agree with `G` leave `G`, whatever was stored before them. -/
theorem canon_over {S : Shape} {e : EltTy} (G : S.Idx → Elt Ideal e) (L2 : List (View.Piece (Elt Ideal) S e)) (y : S.Idx) :
    ∀ (L : List (View.Piece (Elt Ideal) S e)), (∀ p ∈ L, ∀ x : p.1.shape.Idx, p.2 x = G (p.1.emb x)) → (∃ p ∈ L, y ∈ p.1.set) →
      View.canon (L ++ L2) y = G y
  | [], _, h => by obtain ⟨p, hp, _⟩ := h; simp at hp
  | p :: L, hL, h => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_over G L2 y L (fun q hq => hL q (by simp [hq])) ?_
      obtain ⟨q, hq, hy⟩ := h
      rcases List.mem_cons.mp hq with rfl | hq'
      · exact absurd hy hm
      · exact ⟨q, hq', hy⟩

theorem emb_unit_val {S : Shape} (off size : Fin S.rank → Nat) (h) (x : (Rect.unit (s := S) off size h).shape.Idx) (a : Fin S.rank) :
    ((Rect.unit (s := S) off size h).emb x a).val = off a + (x a).val := by
  rw [Rect.emb_apply]; show off a + 1 * _ = _; omega

/-- One entry of a normalised and modulated row `x`. -/
def uS (x g sc sh : Fin 1024 → EReal) (k : Fin 1024) : EReal :=
  x k * Ideal.rsqrt (Ideal.div (∑ j : Fin 1024, x j * x j) (Ideal.ofBits FTy.f32 1149239296#32) + Ideal.ofBits FTy.f32 897988541#32) * (g k * (1 + sc k)) + sh k

/-- The tile's rows `u`, by row and column. -/
def uRow (x0 : Vec Ideal S2x512x1024 .f32) (x1 x2 : Vec Ideal S2x1x1024 .f32) (x4 : Vec Ideal S1x1024 .f32) (n : Fin 2) (r : Fin 512) (k : Fin 1024) : EReal :=
  uS (fun j => x0 (ix3 n r j)) (fun j => x4 (ix2 0 j)) (fun j => x2 (ix3 n 0 j)) (fun j => x1 (ix3 n 0 j)) k

theorem ld_rows (x0 : Vec Ideal S2x512x1024 .f32) (n : Fin 2) (h) (r : Fin 512) (j : Fin 1024) :
    View.ld x0 (Rect.unit ![n.val, 0, 0] S1x512x1024.size h) (ix3 0 r j) = x0 (ix3 n r j) := by
  refine congrArg x0 (funext fun a => Fin.ext ?_)
  fin_cases a <;> simp [Rect.emb_apply, Rect.unit, ix3]

theorem ld_vec (x0 : Vec Ideal S2x1x1024 .f32) (n : Fin 2) (h) (j : Fin 1024) :
    View.ld x0 (Rect.unit ![n.val, 0, 0] S1x1x1024.size h) (ix3 0 0 j) = x0 (ix3 n 0 j) := by
  refine congrArg x0 (funext fun a => Fin.ext ?_)
  fin_cases a <;> simp [Rect.emb_apply, Rect.unit, ix3]

theorem pay5_apply (v3 : Vec Ideal S1x512x1024 .f32) (v5 : Vec Ideal S1x1024 .f32) (v7 v9 : Vec Ideal S1x1x1024 .f32) (r : Fin 512) (k : Fin 1024) :
    k0_pay5 (F := Ideal) v3 v5 v7 v9 (ix2 r k) = uS (fun j => v3 (ix3 0 r j)) (fun j => v5 (ix2 0 j)) (fun j => v9 (ix3 0 0 j)) (fun j => v7 (ix3 0 0 j)) k := by
  unfold uS
  pointwise [k0_pay5]

theorem pay5_rows (x0 : Vec Ideal S2x512x1024 .f32) (x1 x2 : Vec Ideal S2x1x1024 .f32) (x4 : Vec Ideal S1x1024 .f32) (n : Fin 2) (h0 h1 h2) (r : Fin 512) (k : Fin 1024) :
    k0_pay5 (F := Ideal) (View.ld x0 (Rect.unit ![n.val, 0, 0] S1x512x1024.size h0)) x4 (View.ld x1 (Rect.unit ![n.val, 0, 0] S1x1x1024.size h1))
      (View.ld x2 (Rect.unit ![n.val, 0, 0] S1x1x1024.size h2)) (ix2 r k) = uRow x0 x1 x2 x4 n r k := by
  rw [pay5_apply]
  unfold uRow
  congr 1 <;> funext j
  · exact ld_rows x0 n h0 r j
  · exact ld_vec x2 n h2 j
  · exact ld_vec x1 n h1 j

theorem pay7_eq (v3 : Vec Ideal S1x512x1024 .f32) (v5 : Vec Ideal S1x1024 .f32) (v7 v9 : Vec Ideal S1x1x1024 .f32) :
    k0_pay7 (F := Ideal) (k0_pay6 v3) v5 v7 v9 = k0_pay5 v3 v5 v7 v9 := rfl

theorem uBlock_apply (x0 : Vec Ideal S2x512x1024 .f32) (x1 x2 : Vec Ideal S2x1x1024 .f32) (x4 : Vec Ideal S1x1024 .f32) (n : Fin 2) (r : Fin 512) (k : Fin 1024) :
    uBlock x0 x1 x2 x4 (ix2 ⟨n.val * 512 + r.val, by omega⟩ k) = uRow x0 x1 x2 x4 n r k := by
  let G : S1024x1024.Idx → Elt Ideal (.bf16 : EltTy) := fun y => uRow x0 x1 x2 x4 ⟨(y 0).val / 512, by have := (y 0).isLt; simp at this; omega⟩ ⟨(y 0).val % 512, Nat.mod_lt _ (by omega)⟩ ⟨(y 1).val, by have := (y 1).isLt; simpa using this⟩
  have h : ∀ y, uBlock x0 x1 x2 x4 y = G y := fun y => by
    unfold uBlock
    refine View.canon_apply_of_pieces (Val := Elt Ideal) G _ (fun p hp => ?_) y ?_
    case refine_2 => exact View.cover_of_tiled_head _ _ _ rfl y
    simp only [List.mem_cons, List.not_mem_nil, or_false] at hp
    rcases hp with rfl | rfl <;> intro x <;>
      obtain ⟨r, k, rfl⟩ : ∃ (r : Fin 512) (k : Fin 1024), x = ix2 r k := ⟨x 0, x 1, by funext a; fin_cases a <;> rfl⟩
    · refine (pay5_rows x0 x1 x2 x4 1 inb_S2x512x1024_S1x512x1024_1_0_0 inb_S2x1x1024_S1x1x1024_1_0_0 inb_S2x1x1024_S1x1x1024_1_0_0 r k).trans ?_
      show uRow _ _ _ _ _ _ _ = uRow _ _ _ _ _ _ _
      congr 1 <;> apply Fin.ext <;> simp [emb_unit_val, ix2] <;> omega
    · refine (pay5_rows x0 x1 x2 x4 0 inb_S2x512x1024_S1x512x1024_0_0_0 inb_S2x1x1024_S1x1x1024_0_0_0 inb_S2x1x1024_S1x1x1024_0_0_0 r k).trans ?_
      show uRow _ _ _ _ _ _ _ = uRow _ _ _ _ _ _ _
      congr 1 <;> apply Fin.ext <;> simp [emb_unit_val, ix2] <;> omega
  rw [h]
  show uRow _ _ _ _ _ _ _ = _
  congr 1
  · apply Fin.ext; simp [ix2]; omega
  · apply Fin.ext; simp [ix2]

/-- One entry of the block the point writes: the row plus the gated rows' product with the output weights, gated. -/
def outRow (l : Nat) (U : Vec Ideal S1024x1024 .bf16) (x0 : Vec Ideal S2x512x1024 .f32) (x3 : Vec Ideal S2x1x1024 .f32)
    (x5 : Vec Ideal S1x1024x4096 .bf16) (x6 : Vec Ideal S1x2048 .f32) (x7 : Vec Ideal S1x2048x1024 .bf16)
    (acc : Vec Ideal S2x16x2048 .f32) (n : Fin 2) (r : Fin 512) (j : Fin 1024) : EReal :=
  x0 (ix3 n r j) + x3 (ix3 n 0 j) * ∑ c : Fin 2048, gateB l (width c) U x5 x6 acc n r c * x7 (ix3 0 c j)

theorem pay2_apply (M : FVec Ideal S1024x2048 .bf16) (x7 : Vec Ideal S1x2048x1024 .bf16) (a : Vec Ideal S1x512x1024 .f32) (b : Vec Ideal S1x1x1024 .f32)
    (r : Fin 512) (c : Fin 1024) : k0_pay2 (F := Ideal) M x7 a b (ix3 0 r c) =
      a (ix3 0 r c) + b (ix3 0 0 c) * ∑ k : Fin 2048, M (ix2 ⟨0 * 512 + r.val, by omega⟩ k) * x7 (ix3 0 k c) := by
  pointwise [k0_pay2, k0_pay1]

theorem pay3_apply (M : FVec Ideal S1024x2048 .bf16) (x7 : Vec Ideal S1x2048x1024 .bf16) (a : Vec Ideal S1x512x1024 .f32) (b : Vec Ideal S1x1x1024 .f32)
    (r : Fin 512) (c : Fin 1024) : k0_pay3 (F := Ideal) M x7 a b (ix3 0 r c) =
      a (ix3 0 r c) + b (ix3 0 0 c) * ∑ k : Fin 2048, M (ix2 ⟨1 * 512 + r.val, by omega⟩ k) * x7 (ix3 0 k c) := by
  pointwise [k0_pay3, k0_pay1]

theorem outBlock_apply (l : Fin 16) (U : Vec Ideal S1024x1024 .bf16) (x0 : Vec Ideal S2x512x1024 .f32) (x3 : Vec Ideal S2x1x1024 .f32)
    (x5 : Vec Ideal S1x1024x4096 .bf16) (x6 : Vec Ideal S1x2048 .f32) (x7 : Vec Ideal S1x2048x1024 .bf16)
    (acc : Vec Ideal S2x16x2048 .f32) (n : Fin 2) (r : Fin 512) (j : Fin 1024) :
    outBlock (BitVec.ofNat 32 l.val) U x0 x3 x5 x6 x7 acc (ix3 n r j) = outRow l.val U x0 x3 x5 x6 x7 acc n r j := by
  let G : S2x512x1024.Idx → Elt Ideal (.f32 : EltTy) := fun y => outRow l.val U x0 x3 x5 x6 x7 acc (y 0) (y 1) (y 2)
  have h : ∀ y, outBlock (BitVec.ofNat 32 l.val) U x0 x3 x5 x6 x7 acc y = G y := fun y => by
    unfold outBlock
    refine View.canon_apply_of_pieces (Val := Elt Ideal) G _ (fun p hp => ?_) y ?_
    case refine_2 => exact View.cover_of_tiled_head _ _ _ rfl y
    simp only [List.mem_cons, List.not_mem_nil, or_false] at hp
    rcases hp with rfl | rfl <;> intro x <;>
      obtain ⟨r, k, rfl⟩ : ∃ (r : Fin 512) (k : Fin 1024), x = ix3 0 r k := ⟨x 1, x 2, by funext a; fin_cases a; exact Subsingleton.elim (α := Fin 1) _ _; all_goals rfl⟩
    · refine (pay3_apply _ _ _ _ r k).trans ?_
      have e1 := ld_rows x0 1 inb_S2x512x1024_S1x512x1024_1_0_0 r k
      have e2 := ld_vec x3 1 inb_S2x1x1024_S1x1x1024_1_0_0 k
      refine (congrArg₂ _ e1 (congrArg₂ _ e2 (Finset.sum_congr rfl fun c _ => congrArg₂ _ (gated_apply l U x5 x6 acc 1 r c) rfl))).trans ?_
      show outRow _ _ _ _ _ _ _ _ _ _ _ = outRow _ _ _ _ _ _ _ _ _ _ _
      congr 1 <;> apply Fin.ext <;> simp [emb_unit_val, ix3] <;> rfl
    · refine (pay2_apply _ _ _ _ r k).trans ?_
      have e1 := ld_rows x0 0 inb_S2x512x1024_S1x512x1024_0_0_0 r k
      have e2 := ld_vec x3 0 inb_S2x1x1024_S1x1x1024_0_0_0 k
      refine (congrArg₂ _ e1 (congrArg₂ _ e2 (Finset.sum_congr rfl fun c _ => congrArg₂ _ (gated_apply l U x5 x6 acc 0 r c) rfl))).trans ?_
      show outRow _ _ _ _ _ _ _ _ _ _ _ = outRow _ _ _ _ _ _ _ _ _ _ _
      congr 1 <;> apply Fin.ext <;> simp [emb_unit_val, ix3] <;> rfl
  exact h _

/-- The carried rows after the point: the last 16 rows of each stream's product. -/
theorem carryBlock_apply (U : Vec Ideal S1024x1024 .bf16) (x5 : Vec Ideal S1x1024x4096 .bf16) (L : List (View.Piece (Elt Ideal) S2x16x2048 .f32))
    (n : Fin 2) (q : Fin 16) (c : Fin 2048) :
    carryBlock U x5 L (ix3 n q c) = vB U x5 ⟨n.val * 512 + (496 + q.val), by omega⟩ ⟨c.val, by omega⟩ := by
  let G : S2x16x2048.Idx → Elt Ideal (.f32 : EltTy) := fun y => vB U x5 ⟨(y 0).val * 512 + (496 + (y 1).val), by have h0 := (y 0).isLt; have h1 := (y 1).isLt; simp at h0 h1; omega⟩ ⟨(y 2).val, by have := (y 2).isLt; simp at this; omega⟩
  have t0 : ∀ (K : Nat) (_ : K + 512 ≤ 2048) (h h') (x : (Rect.unit (s := S2x16x2048) ![0, 0, K] S1x16x512.size h).shape.Idx),
      tail0 (mm U (wcol x5 K h')) x = G ((Rect.unit (s := S2x16x2048) ![0, 0, K] S1x16x512.size h).emb x) := fun K hK h h' x => by
    obtain ⟨r, k, rfl⟩ : ∃ (r : Fin 16) (k : Fin 512), x = ix3 0 r k := ⟨x 1, x 2, by funext a; fin_cases a; exact Subsingleton.elim (α := Fin 1) _ _; all_goals rfl⟩
    refine (tail0_apply _ r k).trans ((mmcol_apply _ _ K (by omega) _ _ _).trans ?_)
    show vB _ _ _ _ = vB _ _ _ _
    congr 1 <;> apply Fin.ext <;> simp [emb_unit_val, ix3] <;> rfl
  have t1 : ∀ (K : Nat) (_ : K + 512 ≤ 2048) (h h') (x : (Rect.unit (s := S2x16x2048) ![1, 0, K] S1x16x512.size h).shape.Idx),
      tail1 (mm U (wcol x5 K h')) x = G ((Rect.unit (s := S2x16x2048) ![1, 0, K] S1x16x512.size h).emb x) := fun K hK h h' x => by
    obtain ⟨r, k, rfl⟩ : ∃ (r : Fin 16) (k : Fin 512), x = ix3 0 r k := ⟨x 1, x 2, by funext a; fin_cases a; exact Subsingleton.elim (α := Fin 1) _ _; all_goals rfl⟩
    refine (tail1_apply _ r k).trans ((mmcol_apply _ _ K (by omega) _ _ _).trans ?_)
    show vB _ _ _ _ = vB _ _ _ _
    congr 1 <;> apply Fin.ext <;> simp [emb_unit_val, ix3] <;> rfl
  have h : ∀ y, carryBlock U x5 L y = G y := fun y => by
    unfold carryBlock
    refine canon_over G L y [_, _, _, _, _, _, _, _] (fun p hp => ?_) ?_
    case refine_2 => exact View.cover_of_tiled_head _ _ _ rfl y
    simp only [List.mem_cons, List.not_mem_nil, or_false] at hp
    rcases hp with rfl | rfl | rfl | rfl | rfl | rfl | rfl | rfl
    · exact t1 0 (by omega) inb_S2x16x2048_S1x16x512_1_0_0 inb_S1x1024x4096_S1x1024x512_0_0_0
    · exact t0 0 (by omega) inb_S2x16x2048_S1x16x512_0_0_0 inb_S1x1024x4096_S1x1024x512_0_0_0
    · exact t1 512 (by omega) inb_S2x16x2048_S1x16x512_1_0_512 inb_S1x1024x4096_S1x1024x512_0_0_512
    · exact t0 512 (by omega) inb_S2x16x2048_S1x16x512_0_0_512 inb_S1x1024x4096_S1x1024x512_0_0_512
    · exact t1 1024 (by omega) inb_S2x16x2048_S1x16x512_1_0_1024 inb_S1x1024x4096_S1x1024x512_0_0_1024
    · exact t0 1024 (by omega) inb_S2x16x2048_S1x16x512_0_0_1024 inb_S1x1024x4096_S1x1024x512_0_0_1024
    · exact t1 1536 (by omega) inb_S2x16x2048_S1x16x512_1_0_1536 inb_S1x1024x4096_S1x1024x512_0_0_1536
    · exact t0 1536 (by omega) inb_S2x16x2048_S1x16x512_0_0_1536 inb_S1x1024x4096_S1x1024x512_0_0_1536
  exact h _

end Cert.KernelIdeal.Pool
end
-- ==== Proof.Pool.Blocks.lean ====
/- The input blocks of a grid point, read off the argument arrays. Point `t` is tile `t % 16` of the stream pair `t / 16`. -/
module

public import proofs.«01_k».proof.Proof.Pool.Point
public import Idealize.ShloMosaic.Lib.Pipeline.ValueKit
public import Idealize.ShloMosaic.Lib.Claim

@[expose] public section
set_option maxRecDepth 16384
noncomputable section
namespace Cert.KernelIdeal.Pool
open Idealize.ShloMosaic Idealize.ShloMosaic.TcCoe Idealize.ShloMosaic.Pointwise Idealize.SL.Sem
open Cert.KernelIdeal.Gen

variable (m : (ℓ : Loc nD τ sig) → Buf (Elt Ideal) ℓ)

theorem idx0 : ∀ t : Fin grid0.N, win0_0.index t = ![t.val / 16, t.val % 16, 0] := by decide +kernel
theorem idx1 : ∀ t : Fin grid0.N, win0_1.index t = ![t.val / 16, 0, 0] := by decide +kernel
theorem idx2 : ∀ t : Fin grid0.N, win0_2.index t = ![t.val / 16, 0, 0] := by decide +kernel
theorem idx3 : ∀ t : Fin grid0.N, win0_3.index t = ![t.val / 16, 0, 0] := by decide +kernel
theorem idx4 : ∀ t : Fin grid0.N, win0_4.index t = ![0, 0] := by decide +kernel
theorem idx5 : ∀ t : Fin grid0.N, win0_5.index t = ![0, 0, 0] := by decide +kernel
theorem idx6 : ∀ t : Fin grid0.N, win0_6.index t = ![0, 0] := by decide +kernel
theorem idx7 : ∀ t : Fin grid0.N, win0_7.index t = ![0, 0, 0] := by decide +kernel
theorem coords1 : ∀ t : Fin grid0.N, ((grid0.coords t) 1).val = t.val % 16 := by decide +kernel

theorem lt32 (t : Fin cfg0.N) : t.val < 32 := lt_of_lt_of_eq t.isLt N_0

theorem blk0 (c : Dev nD) (t : Fin cfg0.N) (n : Fin 2) (r : Fin 512) (k : Fin 1024) :
    iblk m c 0 t (ix3 n r k) = m ((c : Thread nD τ).loc main_arg0) (ix3 ⟨t.val / 16 * 2 + n.val, by have := lt32 t; omega⟩ ⟨t.val % 16 * 512 + r.val, by omega⟩ k) := by
  have := lt32 t
  blk_ext [iblk, V, idx0 t]

theorem blk1 (c : Dev nD) (t : Fin cfg0.N) (n : Fin 2) (k : Fin 1024) :
    iblk m c 1 t (ix3 n 0 k) = m ((c : Thread nD τ).loc main_arg1) (ix2 ⟨t.val / 16 * 2 + n.val, by have := lt32 t; omega⟩ k) := by
  have := lt32 t
  blk_point [iblk, V, idx1 t]

theorem blk2 (c : Dev nD) (t : Fin cfg0.N) (n : Fin 2) (k : Fin 1024) :
    iblk m c 2 t (ix3 n 0 k) = m ((c : Thread nD τ).loc main_arg2) (ix2 ⟨t.val / 16 * 2 + n.val, by have := lt32 t; omega⟩ k) := by
  have := lt32 t
  blk_point [iblk, V, idx2 t]

theorem blk3 (c : Dev nD) (t : Fin cfg0.N) (n : Fin 2) (k : Fin 1024) :
    iblk m c 3 t (ix3 n 0 k) = m ((c : Thread nD τ).loc main_arg3) (ix2 ⟨t.val / 16 * 2 + n.val, by have := lt32 t; omega⟩ k) := by
  have := lt32 t
  blk_point [iblk, V, idx3 t]

theorem blk4 (c : Dev nD) (t : Fin cfg0.N) (k : Fin 1024) :
    iblk m c 4 t (ix2 0 k) = m ((c : Thread nD τ).loc main_arg4) (ix1 k) := by
  blk_point [iblk, V, idx4 t]

theorem blk5 (c : Dev nD) (t : Fin cfg0.N) (k : Fin 1024) (j : Fin 4096) :
    iblk m c 5 t (ix3 0 k j) = m ((c : Thread nD τ).loc main_arg5) (ix3 0 k j) := by
  blk_ext [iblk, V, idx5 t]

theorem blk6 (c : Dev nD) (t : Fin cfg0.N) (k : Fin 2048) :
    iblk m c 6 t (ix2 0 k) = m ((c : Thread nD τ).loc main_arg6) (ix1 k) := by
  blk_point [iblk, V, idx6 t]

theorem blk7 (c : Dev nD) (t : Fin cfg0.N) (k : Fin 2048) (j : Fin 1024) :
    iblk m c 7 t (ix3 0 k j) = m ((c : Thread nD τ).loc main_arg7) (ix3 0 k j) := by
  blk_ext [iblk, V, idx7 t]

end Cert.KernelIdeal.Pool
end
-- ==== Proof.Pool.Formula.lean ====
/- The layer as a function of positions: the formula both programs are read to. -/
module

public import proofs.«01_k».proof.Proof.Pool.Point

@[expose] public section
noncomputable section
namespace Cert.KernelIdeal.Pool
open Idealize.ShloMosaic

/-- The normalised and modulated row of position `t` of stream `b`. -/
def uT (h : Fin 4 → Fin 8192 → Fin 1024 → EReal) (sh sc : Fin 4 → Fin 1024 → EReal) (g : Fin 1024 → EReal) (b : Fin 4) (t : Fin 8192) (k : Fin 1024) : EReal :=
  uS (h b t) g (sc b) (sh b) k

/-- Its product with the input weights. -/
def vT (u : Fin 4 → Fin 8192 → Fin 1024 → EReal) (w : Fin 1024 → Fin 4096 → EReal) (b : Fin 4) (t : Fin 8192) (k : Fin 4096) : EReal :=
  ∑ x : Fin 1024, u b t x * w x k

/-- The product at position `p - 16`, and zero before the sequence. -/
def prevT (v : Fin 4 → Fin 8192 → Fin 4096 → EReal) (b : Fin 4) (c : Fin 2048) (p : Nat) : EReal :=
  if h : 16 ≤ p ∧ p - 16 < 8192 then v b ⟨p - 16, h.2⟩ ⟨c.val, by omega⟩ else 0

/-- The gated entry of position `t`: the mean of the last `width c` positions less the position's own value, scaled, times the gate. -/
def gateT (v : Fin 4 → Fin 8192 → Fin 4096 → EReal) (a : Fin 2048 → EReal) (b : Fin 4) (t : Fin 8192) (c : Fin 2048) : EReal :=
  gateS (∑ i ∈ Finset.range (width c), prevT v b c (t.val + 16 - i)) (Ideal.div 1 (((min (t.val + 1) (width c) : ℕ) : ℝ) : EReal))
    (v b t ⟨c.val, by omega⟩) (a c) (v b t ⟨2048 + c.val, by omega⟩)

/-- The layer's result. -/
def outT (h : Fin 4 → Fin 8192 → Fin 1024 → EReal) (gt : Fin 4 → Fin 1024 → EReal) (v : Fin 4 → Fin 8192 → Fin 4096 → EReal)
    (a : Fin 2048 → EReal) (wo : Fin 2048 → Fin 1024 → EReal) (b : Fin 4) (t : Fin 8192) (j : Fin 1024) : EReal :=
  h b t j + gt b j * ∑ c : Fin 2048, gateT v a b t c * wo c j

end Cert.KernelIdeal.Pool
end
-- ==== Proof.Pool.Opened.lean ====
/- The two paths of the body (a row's first tile, which zeroes the carried rows first, and any other) read as the block
   expressions of `Block`. -/
module

public import proofs.«01_k».proof.Proof.Pool.Block
public import Idealize.ShloMosaic.Lib.Pipeline.ValueKit
public import Idealize.ShloMosaic.Lib.Pipeline.ReadBack

@[expose] public section
set_option maxRecDepth 16384
noncomputable section
namespace Cert.KernelIdeal.Pool
open Idealize.ShloMosaic Idealize.ShloMosaic.TcCoe
open Cert.KernelIdeal.Gen

theorem u_read (arg12 : Memref sig .tc .vmem S1024x1024 .bf16) (L : List (View.Piece (Elt Ideal) S1024x1024 .bf16)) :
    arg12.view.readCov (Val := Elt Ideal) L (Rect.unit (s := S1024x1024) ![0, 0] S1024x1024.size inb_S1024x1024_S1024x1024_0_0).toLoadRect = View.canon L := by
  rw [View.readCov_eq_canon']
  funext j
  congr 1
  funext a
  fin_cases a <;> apply Fin.ext <;> simp [Rect.unit, LoadRect.idx, Rect.toLoadRect]

set_option maxHeartbeats 4000000 in
theorem outA_eq (c : Dev nD) (i : grid0.Coords) (arg2 : Memref sig .tc .vmem S2x512x1024 .f32) (harg2 : arg2.IsWhole) (arg3 : Memref sig .tc .vmem S2x1x1024 .f32) (harg3 : arg3.IsWhole) (arg4 : Memref sig .tc .vmem S2x1x1024 .f32) (harg4 : arg4.IsWhole) (arg5 : Memref sig .tc .vmem S2x1x1024 .f32) (harg5 : arg5.IsWhole) (arg6 : Memref sig .tc .vmem S1x1024 .f32) (harg6 : arg6.IsWhole) (arg7 : Memref sig .tc .vmem S1x1024x4096 .bf16) (harg7 : arg7.IsWhole) (arg8 : Memref sig .tc .vmem S1x2048 .f32) (harg8 : arg8.IsWhole) (arg9 : Memref sig .tc .vmem S1x2048x1024 .bf16) (harg9 : arg9.IsWhole)
    (arg10 : Memref sig .tc .vmem S2x512x1024 .f32) (harg10 : arg10.IsWhole) (arg11 : Memref sig .tc .vmem S2x16x2048 .f32) (harg11 : arg11.IsWhole) (arg12 : Memref sig .tc .vmem S1024x1024 .bf16) (harg12 : arg12.IsWhole) (hc0 : cond0_0 i)
    (x0 : Vec Ideal S2x512x1024 .f32) (x1 : Vec Ideal S2x1x1024 .f32) (x2 : Vec Ideal S2x1x1024 .f32) (x3 : Vec Ideal S2x1x1024 .f32) (x4 : Vec Ideal S1x1024 .f32)
    (x5 : Vec Ideal S1x1024x4096 .bf16) (x6 : Vec Ideal S1x2048 .f32) (x7 : Vec Ideal S1x2048x1024 .bf16) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = outBlock (BitVec.ofNat 32 ↑(i 1)) (uBlock x0 x1 x2 x4) x0 x3 x5 x6 x7 (k0_pay4 (F := Ideal)) := by
  frame_open
  simp (disch := decide) only [↓ View.readCov_skip, ↓ View.readCov_cons_toLoadRect, ↓ View.readCov_fill]
  frame_out
  rw [u_read]
  rfl

set_option maxHeartbeats 4000000 in
theorem outB_eq (c : Dev nD) (i : grid0.Coords) (arg2 : Memref sig .tc .vmem S2x512x1024 .f32) (harg2 : arg2.IsWhole) (arg3 : Memref sig .tc .vmem S2x1x1024 .f32) (harg3 : arg3.IsWhole) (arg4 : Memref sig .tc .vmem S2x1x1024 .f32) (harg4 : arg4.IsWhole) (arg5 : Memref sig .tc .vmem S2x1x1024 .f32) (harg5 : arg5.IsWhole) (arg6 : Memref sig .tc .vmem S1x1024 .f32) (harg6 : arg6.IsWhole) (arg7 : Memref sig .tc .vmem S1x1024x4096 .bf16) (harg7 : arg7.IsWhole) (arg8 : Memref sig .tc .vmem S1x2048 .f32) (harg8 : arg8.IsWhole) (arg9 : Memref sig .tc .vmem S1x2048x1024 .bf16) (harg9 : arg9.IsWhole)
    (arg10 : Memref sig .tc .vmem S2x512x1024 .f32) (harg10 : arg10.IsWhole) (arg11 : Memref sig .tc .vmem S2x16x2048 .f32) (harg11 : arg11.IsWhole) (arg12 : Memref sig .tc .vmem S1024x1024 .bf16) (harg12 : arg12.IsWhole) (hc0 : ¬ cond0_0 i)
    (x0 : Vec Ideal S2x512x1024 .f32) (x1 : Vec Ideal S2x1x1024 .f32) (x2 : Vec Ideal S2x1x1024 .f32) (x3 : Vec Ideal S2x1x1024 .f32) (x4 : Vec Ideal S1x1024 .f32)
    (x5 : Vec Ideal S1x1024x4096 .bf16) (x6 : Vec Ideal S1x2048 .f32) (x7 : Vec Ideal S1x2048x1024 .bf16) (acc : Vec Ideal S2x16x2048 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 acc = outBlock (BitVec.ofNat 32 ↑(i 1)) (uBlock x0 x1 x2 x4) x0 x3 x5 x6 x7 acc := by
  frame_open
  simp (disch := decide) only [↓ View.readCov_skip, ↓ View.readCov_cons_toLoadRect, ↓ View.readCov_fill]
  frame_out
  rw [u_read]
  rfl

set_option maxHeartbeats 4000000 in
theorem soutA_eq (c : Dev nD) (i : grid0.Coords) (arg2 : Memref sig .tc .vmem S2x512x1024 .f32) (harg2 : arg2.IsWhole) (arg3 : Memref sig .tc .vmem S2x1x1024 .f32) (harg3 : arg3.IsWhole) (arg4 : Memref sig .tc .vmem S2x1x1024 .f32) (harg4 : arg4.IsWhole) (arg5 : Memref sig .tc .vmem S2x1x1024 .f32) (harg5 : arg5.IsWhole) (arg6 : Memref sig .tc .vmem S1x1024 .f32) (harg6 : arg6.IsWhole) (arg7 : Memref sig .tc .vmem S1x1024x4096 .bf16) (harg7 : arg7.IsWhole) (arg8 : Memref sig .tc .vmem S1x2048 .f32) (harg8 : arg8.IsWhole) (arg9 : Memref sig .tc .vmem S1x2048x1024 .bf16) (harg9 : arg9.IsWhole)
    (arg10 : Memref sig .tc .vmem S2x512x1024 .f32) (harg10 : arg10.IsWhole) (arg11 : Memref sig .tc .vmem S2x16x2048 .f32) (harg11 : arg11.IsWhole) (arg12 : Memref sig .tc .vmem S1024x1024 .bf16) (harg12 : arg12.IsWhole) (hc0 : cond0_0 i)
    (x0 : Vec Ideal S2x512x1024 .f32) (x1 : Vec Ideal S2x1x1024 .f32) (x2 : Vec Ideal S2x1x1024 .f32) (x3 : Vec Ideal S2x1x1024 .f32) (x4 : Vec Ideal S1x1024 .f32)
    (x5 : Vec Ideal S1x1024x4096 .bf16) (x6 : Vec Ideal S1x2048 .f32) (x7 : Vec Ideal S1x2048x1024 .bf16) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = carryBlock (uBlock x0 x1 x2 x4) x5 [⟨Rect.unit (s := S2x16x2048) ![0, 0, 0] S2x16x2048.size inb_S2x16x2048_S2x16x2048_0_0_0, k0_pay4 (F := Ideal)⟩] := by
  frame_open
  simp (disch := decide) only [↓ View.readCov_skip, ↓ View.readCov_cons_toLoadRect, ↓ View.readCov_fill]
  frame_out
  rw [u_read]
  rfl

set_option maxHeartbeats 4000000 in
theorem soutB_eq (c : Dev nD) (i : grid0.Coords) (arg2 : Memref sig .tc .vmem S2x512x1024 .f32) (harg2 : arg2.IsWhole) (arg3 : Memref sig .tc .vmem S2x1x1024 .f32) (harg3 : arg3.IsWhole) (arg4 : Memref sig .tc .vmem S2x1x1024 .f32) (harg4 : arg4.IsWhole) (arg5 : Memref sig .tc .vmem S2x1x1024 .f32) (harg5 : arg5.IsWhole) (arg6 : Memref sig .tc .vmem S1x1024 .f32) (harg6 : arg6.IsWhole) (arg7 : Memref sig .tc .vmem S1x1024x4096 .bf16) (harg7 : arg7.IsWhole) (arg8 : Memref sig .tc .vmem S1x2048 .f32) (harg8 : arg8.IsWhole) (arg9 : Memref sig .tc .vmem S1x2048x1024 .bf16) (harg9 : arg9.IsWhole)
    (arg10 : Memref sig .tc .vmem S2x512x1024 .f32) (harg10 : arg10.IsWhole) (arg11 : Memref sig .tc .vmem S2x16x2048 .f32) (harg11 : arg11.IsWhole) (arg12 : Memref sig .tc .vmem S1024x1024 .bf16) (harg12 : arg12.IsWhole) (hc0 : ¬ cond0_0 i)
    (x0 : Vec Ideal S2x512x1024 .f32) (x1 : Vec Ideal S2x1x1024 .f32) (x2 : Vec Ideal S2x1x1024 .f32) (x3 : Vec Ideal S2x1x1024 .f32) (x4 : Vec Ideal S1x1024 .f32)
    (x5 : Vec Ideal S1x1024x4096 .bf16) (x6 : Vec Ideal S1x2048 .f32) (x7 : Vec Ideal S1x2048x1024 .bf16) (acc : Vec Ideal S2x16x2048 .f32) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 acc = carryBlock (uBlock x0 x1 x2 x4) x5 [] := by
  frame_open
  simp (disch := decide) only [↓ View.readCov_skip, ↓ View.readCov_cons_toLoadRect, ↓ View.readCov_fill]
  frame_out
  rw [u_read]
  rfl

end Cert.KernelIdeal.Pool
end
-- ==== Proof.Pool.KernelValue.lean ====
/- The kernel's result array is the layer's formula of its arguments. -/
module

public import proofs.«01_k».proof.Proof.Pool.Blocks
public import proofs.«01_k».proof.Proof.Pool.Formula
public import proofs.«01_k».proof.Proof.Pool.Opened

@[expose] public section
set_option maxRecDepth 16384
noncomputable section
namespace Cert.KernelIdeal.Pool
open Idealize.ShloMosaic Idealize.ShloMosaic.TcCoe Idealize.ShloMosaic.Pointwise Idealize.SL.Sem
open Cert.KernelIdeal.Gen

variable (m : (ℓ : Loc nD τ sig) → Buf (Elt Ideal) ℓ)

/-- The arguments as functions of their coordinates. -/
def hA (c : Dev nD) (b : Fin 4) (t : Fin 8192) (k : Fin 1024) : EReal := m ((c : Thread nD τ).loc main_arg0) (ix3 b t k)
def shA (c : Dev nD) (b : Fin 4) (k : Fin 1024) : EReal := m ((c : Thread nD τ).loc main_arg1) (ix2 b k)
def scA (c : Dev nD) (b : Fin 4) (k : Fin 1024) : EReal := m ((c : Thread nD τ).loc main_arg2) (ix2 b k)
def gtA (c : Dev nD) (b : Fin 4) (k : Fin 1024) : EReal := m ((c : Thread nD τ).loc main_arg3) (ix2 b k)
def gA (c : Dev nD) (k : Fin 1024) : EReal := m ((c : Thread nD τ).loc main_arg4) (ix1 k)
def wA (c : Dev nD) (k : Fin 1024) (j : Fin 4096) : EReal := m ((c : Thread nD τ).loc main_arg5) (ix3 0 k j)
def aA (c : Dev nD) (k : Fin 2048) : EReal := m ((c : Thread nD τ).loc main_arg6) (ix1 k)
def woA (c : Dev nD) (k : Fin 2048) (j : Fin 1024) : EReal := m ((c : Thread nD τ).loc main_arg7) (ix3 0 k j)
def vA (c : Dev nD) : Fin 4 → Fin 8192 → Fin 4096 → EReal := vT (uT (hA m c) (shA m c) (scA m c) (gA m c)) (wA m c)

/-- The stream of row block `n` of point `t`, and the position of its row `r`. -/
def strm (t : Fin cfg0.N) (n : Fin 2) : Fin 4 := ⟨t.val / 16 * 2 + n.val, by have := lt32 t; omega⟩
def posn (t : Fin cfg0.N) (r : Fin 512) : Fin 8192 := ⟨t.val % 16 * 512 + r.val, by omega⟩

abbrev uP (c : Dev nD) (t : Fin cfg0.N) : Vec Ideal S1024x1024 .bf16 := uBlock (iblk m c 0 t) (iblk m c 1 t) (iblk m c 2 t) (iblk m c 4 t)

theorem vB_point (c : Dev nD) (t : Fin cfg0.N) (n : Fin 2) (r : Fin 512) (k : Fin 4096) :
    vB (uP m c t) (iblk m c 5 t) ⟨n.val * 512 + r.val, by omega⟩ k = vA m c (strm t n) (posn t r) k := by
  unfold vB vA vT
  refine Finset.sum_congr rfl fun x _ => ?_
  refine congrArg₂ _ ?_ (blk5 m c t x k)
  refine (uBlock_apply _ _ _ _ n r x).trans ?_
  unfold uRow uT
  congr 1
  · exact funext fun j => blk0 m c t n r j
  · exact funext fun j => blk4 m c t j
  · exact funext fun j => blk2 m c t n j
  · exact funext fun j => blk1 m c t n j

/-- A point's block from carried rows that hold the positions before the tile. -/
theorem outRow_point (c : Dev nD) (t : Fin cfg0.N) (acc : Vec Ideal S2x16x2048 .f32)
    (hacc : ∀ (n : Fin 2) (q : Fin 16) (k : Fin 2048), acc (ix3 n q k) = prevT (vA m c) (strm t n) k (t.val % 16 * 512 + q.val))
    (n : Fin 2) (r : Fin 512) (j : Fin 1024) :
    outRow (t.val % 16) (uP m c t) (iblk m c 0 t) (iblk m c 3 t) (iblk m c 5 t) (iblk m c 6 t) (iblk m c 7 t) acc n r j =
      outT (hA m c) (gtA m c) (vA m c) (aA m c) (woA m c) (strm t n) (posn t r) j := by
  unfold outRow outT
  refine congrArg₂ _ (blk0 m c t n r j) (congrArg₂ _ (blk3 m c t n j) (Finset.sum_congr rfl fun k _ => congrArg₂ _ ?_ (blk7 m c t k j)))
  unfold gateB gateT
  rw [vB_point, vB_point]
  congr 1
  · refine Finset.sum_congr rfl fun i hi => ?_
    have hi' : i < width k := Finset.mem_range.mp hi
    have hw : width k ≤ 16 := by
      unfold width
      exact (Nat.pow_le_pow_right (by norm_num) (show k.val / 512 + 1 ≤ 4 by omega)).trans (by norm_num)
    unfold extB
    by_cases h : 16 + r.val - i < 16
    · rw [dif_pos h, hacc]
      congr 1
      show t.val % 16 * 512 + (16 + r.val - i) = t.val % 16 * 512 + r.val + 16 - i
      omega
    · rw [dif_neg h]
      have e := vB_point m c t n ⟨16 + r.val - i - 16, by omega⟩ ⟨k.val, by omega⟩
      refine e.trans ?_
      unfold prevT
      have hp : 16 ≤ (posn t r).val + 16 - i ∧ (posn t r).val + 16 - i - 16 < 8192 := by
        unfold posn; simp only; omega
      rw [dif_pos hp]
      refine congrArg₂ (vA m c (strm t n)) (Fin.ext ?_) rfl
      unfold posn; simp only; omega
  · exact blk6 m c t k

/-- The fold of the points' states. -/
abbrev stF (c : Dev nD) (t : Nat) (h : 0 + t < cfg0.N) : Vec Ideal S2x512x1024 .f32 × Vec Ideal S2x16x2048 .f32 :=
  Pipeline.accAt (fun n h => Value.stAt0 m c n h Value.junk0) (Value.stAt0 m c) 0 t h

theorem stF_step (c : Dev nD) (t : Nat) (h : 0 + t < cfg0.N) : ∃ acc, stF m c t h = Value.stAt0 m c t (by omega) acc ∧
    (∀ h' : t ≠ 0, acc = stF m c (t - 1) (by omega)) := by
  cases t with
  | zero => exact ⟨_, rfl, fun h' => absurd rfl h'⟩
  | succ k =>
    refine ⟨stF m c k (by omega), ?_, fun _ => rfl⟩
    have e : ∀ (n n' : Nat) (h : n < cfg0.N) (h' : n' < cfg0.N) acc, n = n' → Value.stAt0 m c n h acc = Value.stAt0 m c n' h' acc := by
      intro n n' h h' acc hn; subst hn; rfl
    exact (Pipeline.accAt_succ _ _ 0 k h).trans (e _ _ _ _ _ (Nat.zero_add _))

/-- What a point carries on: the last 16 positions of its tile, whatever it started from. -/
theorem carry_point (c : Dev nD) (t : Fin cfg0.N) (acc) (n : Fin 2) (q : Fin 16) (k : Fin 2048) :
    (Value.stAt0 m c t.val t.isLt acc).2 (ix3 n q k) = vA m c (strm t n) (posn t ⟨496 + q.val, by omega⟩) ⟨k.val, by omega⟩ := by
  have e := vB_point m c t n ⟨496 + q.val, by omega⟩ ⟨k.val, by omega⟩
  by_cases h0 : t.val % 16 = 0
  · rw [Value.stAt0_A m c t acc h0]
    dsimp only
    rw [soutA_eq]
    exact (carryBlock_apply _ _ _ n q k).trans e
  · rw [Value.stAt0_B m c t acc h0]
    dsimp only
    rw [soutB_eq]
    exact (carryBlock_apply _ _ _ n q k).trans e

/-- What a point writes, given what the point before carried on. -/
theorem out_point (c : Dev nD) (t : Fin cfg0.N) (acc)
    (hacc : ¬ t.val % 16 = 0 → ∀ (n : Fin 2) (q : Fin 16) (k : Fin 2048), acc.2 (ix3 n q k) = prevT (vA m c) (strm t n) k (t.val % 16 * 512 + q.val))
    (n : Fin 2) (r : Fin 512) (j : Fin 1024) :
    (Value.stAt0 m c t.val t.isLt acc).1 (ix3 n r j) = outT (hA m c) (gtA m c) (vA m c) (aA m c) (woA m c) (strm t n) (posn t r) j := by
  have hi : BitVec.ofNat 32 ((grid0.coords t) 1).val = BitVec.ofNat 32 (⟨t.val % 16, Nat.mod_lt _ (by omega)⟩ : Fin 16).val := by rw [coords1]
  by_cases h0 : t.val % 16 = 0
  · rw [Value.stAt0_A m c t acc h0]
    dsimp only
    rw [outA_eq, hi, outBlock_apply]
    refine outRow_point m c t _ (fun n q k => ?_) n r j
    unfold prevT
    rw [dif_neg (by omega)]
    pointwise [k0_pay4]
  · rw [Value.stAt0_B m c t acc h0]
    dsimp only
    rw [outB_eq, hi, outBlock_apply]
    exact outRow_point m c t _ (hacc h0) n r j

/-- The kernel's result at an index. -/
theorem G8_apply (c : Dev nD) (b : Fin 4) (t : Fin 8192) (j : Fin 1024) :
    Value.G8 m c (ix3 b t j) = outT (hA m c) (gtA m c) (vA m c) (aA m c) (woA m c) b t j := by
  have hN : cfg0.N = 32 := N_0
  have hp : Value.pt8Of (ix3 b t j) = b.val / 2 * 16 + t.val / 512 := by
    show 16 * (b.val / 2 - 0) + 1 * (t.val / 512 - 0) + 1 * (j.val / 1024 - 0) = _
    omega
  have hl : Value.loc8Of (ix3 b t j) = ix3 ⟨b.val % 2, by omega⟩ ⟨t.val % 512, by omega⟩ j := by
    funext a
    match a with
    | ⟨0, _⟩ => rfl
    | ⟨1, _⟩ => rfl
    | ⟨2, _⟩ => exact Fin.ext (Nat.mod_eq_of_lt j.isLt)
  have hlt : b.val / 2 * 16 + t.val / 512 < cfg0.N := by rw [hN]; omega
  unfold Value.G8
  rw [dif_pos (by rw [hp]; exact hlt), hl, Value.fold0_congr m c _ _ _ (by omega) hp]
  obtain ⟨acc, hs, hb⟩ := stF_step m c (b.val / 2 * 16 + t.val / 512) (by omega)
  refine (congrFun (congrArg Prod.fst hs) _).trans ?_
  refine (out_point m c ⟨b.val / 2 * 16 + t.val / 512, hlt⟩ acc (fun h0 n q k => ?_) _ _ j).trans ?_
  · simp only at h0
    rw [hb (by omega)]
    obtain ⟨acc', hs', _⟩ := stF_step m c (b.val / 2 * 16 + t.val / 512 - 1) (by omega)
    refine (congrFun (congrArg Prod.snd hs') _).trans ?_
    refine (carry_point m c ⟨b.val / 2 * 16 + t.val / 512 - 1, by omega⟩ acc' n q k).trans ?_
    unfold prevT
    rw [dif_pos (by simp only; omega)]
    refine congrArg₂ (fun x y => vA m c x y ⟨k.val, by omega⟩) (Fin.ext ?_) (Fin.ext ?_)
    · unfold strm; simp only; omega
    · unfold posn; simp only; omega
  · refine congrArg₂ (fun x y => outT (hA m c) (gtA m c) (vA m c) (aA m c) (woA m c) x y j) (Fin.ext ?_) (Fin.ext ?_)
    · unfold strm; simp only; omega
    · unfold posn; simp only; omega

end Cert.KernelIdeal.Pool
end
-- ==== Proof.Pool.RefSum.lean ====
/- The running sum of the reference over the sequence, read at a position, and the window sum it gives. -/
module

public import proofs.«01_k».proof.Proof.Gen.ReferenceIdeal.Read
public import proofs.«01_k».proof.Proof.Pool.Formula
public import Idealize.ShloMosaic.Lib.Pointwise

@[expose] public section
noncomputable section
namespace Cert.ReferenceIdeal.Pool
open Cert.ReferenceIdeal Cert.ReferenceIdeal.Gen Cert.ReferenceIdeal.Read Idealize.ShloMosaic Idealize.ShloMosaic.StableHlo Idealize.ShloMosaic.Pointwise

/-- A left fold of additions is the start plus the sum of the list. -/
theorem foldl_add_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The positions of a window over the second axis alone are its second coordinates. -/
theorem window_coord (n : Fin (⟨4, ![1, 8192, 1, 1]⟩ : Shape).numel) :
    ((⟨4, ![1, 8192, 1, 1]⟩ : Shape).rowMajor.symm n 0).val = 0 ∧ ((⟨4, ![1, 8192, 1, 1]⟩ : Shape).rowMajor.symm n 1).val = n.val
      ∧ ((⟨4, ![1, 8192, 1, 1]⟩ : Shape).rowMajor.symm n 2).val = 0 ∧ ((⟨4, ![1, 8192, 1, 1]⟩ : Shape).rowMajor.symm n 3).val = 0 := by
  generalize hi : (⟨4, ![1, 8192, 1, 1]⟩ : Shape).rowMajor.symm n = i
  have hn : n = (⟨4, ![1, 8192, 1, 1]⟩ : Shape).rowMajor i := by rw [← hi, Equiv.apply_symm_apply]
  have h0 : (i 0).val < 1 := (i 0).isLt
  have h2 : (i 2).val < 1 := (i 2).isLt
  have h3 : (i 3).val < 1 := (i 3).isLt
  have hv : n.val = (((i 0).val * 8192 + (i 1).val) * 1 + (i 2).val) * 1 + (i 3).val := by
    rw [hn, Shape.rowMajor_val_four]; rfl
  omega

theorem window_numel : (⟨4, ![1, 8192, 1, 1]⟩ : Shape).numel = 8192 := by
  show ∏ a : Fin 4, (![1, 8192, 1, 1] : Fin 4 → Nat) a = 8192
  simp [Fin.prod_univ_four]

/-- The entry of sequence position `s`, zero past the end. -/
def seqAt (x : S4x8192x4x512.Idx → EReal) (b : Fin 4) (g : Fin 4) (q : Fin 512) (s : Nat) : EReal :=
  if h : s < 8192 then x (ix4 b ⟨s, h⟩ g q) else 0

/-- The window of length `N + 1` that ends at position `t` holds the entries up to `t`. -/
theorem sum_last (f : Nat → EReal) (N t : Nat) (h : t ≤ N) :
    ∑ w ∈ Finset.range (N + 1), (if N ≤ t + w then f (t + w - N) else 0) = ∑ s ∈ Finset.range (t + 1), f s := by
  obtain ⟨d, rfl⟩ : ∃ d, N = t + d := ⟨N - t, by omega⟩
  rw [show t + d + 1 = d + (t + 1) by omega, Finset.sum_range_add, Finset.sum_eq_zero (fun w hw => if_neg (by have := Finset.mem_range.1 hw; omega)), zero_add]
  exact Finset.sum_congr rfl fun s _ => by rw [if_pos (by omega), show t + (d + s) - (t + d) = s by omega]

set_option maxRecDepth 100000 in
/-- The running sum at a position is the sum of the entries up to it. -/
theorem running_sum (x : S4x8192x4x512.Idx → EReal)
    (h : S4x8192x4x512.ReduceWindows (![1, 8192, 1, 1] : Fin 4 → Nat) ![1, 1, 1, 1] ![0, 8191, 0, 0] ![0, 0, 0, 0] S4x8192x4x512)
    (b : Fin 4) (t : Fin 8192) (g : Fin 4) (q : Fin 512) :
    Ideal.hostReduceWindowAdd (s := S4x8192x4x512) ![1, 8192, 1, 1] ![1, 1, 1, 1] ![0, 8191, 0, 0] ![0, 0, 0, 0] h x 0 (ix4 b t g q)
      = ∑ s ∈ Finset.range (t.val + 1), seqAt x b g q s := by
  have ht := t.isLt
  have key : ∀ i j : S4x8192x4x512.Idx, (∀ a, (i a).val = (j a).val) → x i = x j := fun i j hij => congrArg x (funext fun a => Fin.ext (hij a))
  unfold Ideal.hostReduceWindowAdd Host.reduceWindow
  refine (foldl_add_sum _ _ _).trans ?_
  rw [zero_add, ← Fin.sum_univ_def]
  refine (Finset.sum_congr rfl fun n _ => ?_ : _ = ∑ n : Fin (⟨4, ![1, 8192, 1, 1]⟩ : Shape).numel,
    (fun w : Nat => if 8191 ≤ t.val + w then seqAt x b g q (t.val + w - 8191) else 0) n.val).trans ?_
  · obtain ⟨e0, e1, e2, e3⟩ := window_coord n
    have hn : n.val < 8192 := lt_of_lt_of_eq n.isLt window_numel
    dsimp only
    by_cases hw : 8191 ≤ t.val + n.val
    · have hs : t.val + n.val - 8191 < 8192 := by omega
      rw [if_pos hw, show seqAt x b g q (t.val + n.val - 8191) = x (ix4 b ⟨t.val + n.val - 8191, hs⟩ g q) from dif_pos hs, dif_pos]
      · refine key _ _ fun a => ?_
        match a with
        | ⟨0, _⟩ => show b.val * 1 + ((⟨4, ![1, 8192, 1, 1]⟩ : Shape).rowMajor.symm n 0).val - 0 = b.val; omega
        | ⟨1, _⟩ => show t.val * 1 + ((⟨4, ![1, 8192, 1, 1]⟩ : Shape).rowMajor.symm n 1).val - 8191 = t.val + n.val - 8191; omega
        | ⟨2, _⟩ => show g.val * 1 + ((⟨4, ![1, 8192, 1, 1]⟩ : Shape).rowMajor.symm n 2).val - 0 = g.val; omega
        | ⟨3, _⟩ => show q.val * 1 + ((⟨4, ![1, 8192, 1, 1]⟩ : Shape).rowMajor.symm n 3).val - 0 = q.val; omega
      · intro a
        match a with
        | ⟨0, _⟩ =>
          show 0 ≤ b.val * 1 + ((⟨4, ![1, 8192, 1, 1]⟩ : Shape).rowMajor.symm n 0).val ∧ b.val * 1 + ((⟨4, ![1, 8192, 1, 1]⟩ : Shape).rowMajor.symm n 0).val - 0 < 4
          omega
        | ⟨1, _⟩ =>
          show 8191 ≤ t.val * 1 + ((⟨4, ![1, 8192, 1, 1]⟩ : Shape).rowMajor.symm n 1).val ∧ t.val * 1 + ((⟨4, ![1, 8192, 1, 1]⟩ : Shape).rowMajor.symm n 1).val - 8191 < 8192
          omega
        | ⟨2, _⟩ =>
          show 0 ≤ g.val * 1 + ((⟨4, ![1, 8192, 1, 1]⟩ : Shape).rowMajor.symm n 2).val ∧ g.val * 1 + ((⟨4, ![1, 8192, 1, 1]⟩ : Shape).rowMajor.symm n 2).val - 0 < 4
          omega
        | ⟨3, _⟩ =>
          show 0 ≤ q.val * 1 + ((⟨4, ![1, 8192, 1, 1]⟩ : Shape).rowMajor.symm n 3).val ∧ q.val * 1 + ((⟨4, ![1, 8192, 1, 1]⟩ : Shape).rowMajor.symm n 3).val - 0 < 512
          omega
    · rw [if_neg hw, dif_neg]
      intro hin
      have h1 : 8191 ≤ t.val * 1 + ((⟨4, ![1, 8192, 1, 1]⟩ : Shape).rowMajor.symm n 1).val := (hin 1).1
      omega
  · refine (Fin.sum_univ_eq_sum_range (fun w : Nat => if 8191 ≤ t.val + w then seqAt x b g q (t.val + w - 8191) else 0) _).trans ?_
    rw [window_numel]
    exact sum_last (seqAt x b g q) 8191 t.val (by omega)

/-- A finite sum of reals is a real. -/
theorem real_sum {ι : Type} (S : Finset ι) (f : ι → EReal) (hf : ∀ i ∈ S, ∃ r : ℝ, f i = (r : EReal)) : ∃ r : ℝ, ∑ i ∈ S, f i = (r : EReal) := by
  classical
  induction S using Finset.induction_on with
  | empty => exact ⟨0, by simp⟩
  | insert a S ha ih =>
    obtain ⟨r, hr⟩ := ih fun i hi => hf i (Finset.mem_insert_of_mem hi)
    obtain ⟨p, hp⟩ := hf a (Finset.mem_insert_self a S)
    exact ⟨p + r, by rw [Finset.sum_insert ha, hr, hp, EReal.coe_add]⟩

/-- The difference of two running sums of reals is the sum over the window between them, counted back from its last position. -/
theorem window_diff (f : Nat → EReal) (hf : ∀ s, ∃ r : ℝ, f s = (r : EReal)) (t w : Nat) :
    ∑ s ∈ Finset.range (t + 1), f s - ∑ s ∈ Finset.range (t + 1 - w), f s = ∑ i ∈ Finset.range w, if i ≤ t then f (t - i) else 0 := by
  by_cases hw : w ≤ t + 1
  · obtain ⟨d, hd⟩ : ∃ d, d + w = t + 1 := ⟨t + 1 - w, by omega⟩
    rw [show t + 1 - w = d by omega, ← hd, Finset.sum_range_add]
    obtain ⟨r, hr⟩ := real_sum (Finset.range d) f fun i _ => hf i
    obtain ⟨p, hp⟩ := real_sum (Finset.range w) (fun x => f (d + x)) fun i _ => hf _
    rw [← Finset.sum_range_reflect (fun i => if i ≤ t then f (t - i) else 0)]
    refine Eq.trans (b := ∑ x ∈ Finset.range w, f (d + x)) ?_ (Finset.sum_congr rfl fun i hi => ?_)
    · rw [hr, hp, ← EReal.coe_add, ← EReal.coe_sub, add_sub_cancel_left]
    · have := Finset.mem_range.1 hi
      rw [if_pos (by omega), show t - (w - 1 - i) = d + i by omega]
  · obtain ⟨d, hd⟩ : ∃ d, (t + 1) + d = w := ⟨w - (t + 1), by omega⟩
    rw [show t + 1 - w = 0 by omega, Finset.sum_range_zero, sub_zero, ← hd]
    refine Eq.trans ?_ (Finset.sum_range_add (fun i => if i ≤ t then f (t - i) else 0) (t + 1) d).symm
    rw [Finset.sum_eq_zero (s := Finset.range d) (fun w hw => if_neg (by omega)), add_zero,
      ← Finset.sum_range_reflect (fun i => if i ≤ t then f (t - i) else 0)]
    exact Finset.sum_congr rfl fun i hi => by
      have := Finset.mem_range.1 hi
      rw [if_pos (by omega), show t - (t + 1 - 1 - i) = i by omega]

end Cert.ReferenceIdeal.Pool
end
-- ==== Proof.Pool.RefGroups.lean ====
/- The four pooled groups of the reference, read at a position. -/
module

public import proofs.«01_k».proof.Proof.Pool.RefSum
public import Idealize.ShloMosaic.Lib.KernelVsHost

@[expose] public section
noncomputable section
namespace Cert.ReferenceIdeal.Pool
open Cert.ReferenceIdeal Cert.ReferenceIdeal.Gen Cert.ReferenceIdeal.Read Idealize.ShloMosaic Idealize.ShloMosaic.StableHlo Idealize.ShloMosaic.Pointwise

/-- The number of positions in the window that ends at position `t`, as the reference writes it. -/
theorem count_eq (t : Fin 8192) (w : Nat) (hw : w ≤ 16) :
    FloatOps.sitofp (F := Ideal) FTy.f32 (IntOp.minsi (IntOp.addi (BitVec.ofNat 32 t.val) 1#32) (BitVec.ofNat 32 w)) = (((min (t.val + 1) w : ℕ) : ℝ) : EReal) := by
  have ht := t.isLt
  have h : IntOp.minsi (IntOp.addi (BitVec.ofNat 32 t.val) 1#32) (BitVec.ofNat 32 w) = BitVec.ofNat 32 (min (t.val + 1) w) := by
    have hs : IntOp.addi (BitVec.ofNat 32 t.val) 1#32 = BitVec.ofNat 32 (t.val + 1) := by
      apply BitVec.eq_of_toNat_eq
      simp [IntOp.addi, BitVec.toNat_add, BitVec.toNat_ofNat]
    rw [hs]
    have k1 : (BitVec.ofNat 32 (t.val + 1)).toInt = ((t.val + 1 : ℕ) : ℤ) := by
      rw [BitVec.toInt_eq_toNat_of_lt (by rw [BitVec.toNat_ofNat]; omega), BitVec.toNat_ofNat]; omega
    have k2 : (BitVec.ofNat 32 w).toInt = (w : ℤ) := by
      rw [BitVec.toInt_eq_toNat_of_lt (by rw [BitVec.toNat_ofNat]; omega), BitVec.toNat_ofNat]; omega
    unfold IntOp.minsi
    rw [BitVec.slt, k1, k2]
    by_cases hc : (t.val + 1 : ℕ) < w
    · rw [if_pos (by simpa using (by exact_mod_cast hc : ((t.val + 1 : ℕ) : ℤ) < (w : ℤ))), Nat.min_eq_left hc.le]
    · rw [if_neg (by simpa using (by exact_mod_cast Nat.le_of_not_lt hc : (w : ℤ) ≤ ((t.val + 1 : ℕ) : ℤ))), Nat.min_eq_right (Nat.le_of_not_lt hc)]
  rw [h]
  have hn : min (t.val + 1) w ≤ 16 := le_trans (min_le_right _ _) hw
  generalize min (t.val + 1) w = n at hn
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- Zero rows put in front of a sequence, read at a row: the row as many places earlier, or zero before the sequence. -/
theorem lag_apply (w N : Nat) (x : S4x8192x512.Idx → EReal) (v : S_.Idx → EReal) (hu : 0 < S_.numel)
    (h : S4x8192x512.Pads ![0, w, 0] ![0, 0, 0] ![0, 0, 0] ⟨3, ![4, N, 512]⟩) (hv : v (Shape.Idx.first hu) = 0)
    (b : Fin 4) (t : Fin 8192) (q : Fin 512) (ht : t.val < N) :
    pad ⟨3, ![4, N, 512]⟩ ![0, w, 0] ![0, 0, 0] ![0, 0, 0] x v h hu (ix3 b ⟨t.val, ht⟩ q)
      = if w ≤ t.val then x (ix3 b ⟨t.val - w, by omega⟩ q) else 0 := by
  by_cases hw : w ≤ t.val
  · rw [if_pos hw]
    refine pad_apply_of_inside _ _ _ _ _ _ _ _ _ fun a => ?_
    match a with
    | ⟨0, _⟩ => show b.val = 0 + b.val * (0 + 1); omega
    | ⟨1, _⟩ => show t.val = w + (t.val - w) * (0 + 1); omega
    | ⟨2, _⟩ => show q.val = 0 + q.val * (0 + 1); omega
  · rw [if_neg hw, pad_apply_of_not_inside _ _ _ _ _ _ _ _ 1, hv]
    intro hin
    have : w ≤ t.val := hin.1
    omega

/-- One entry of a pooled group: the difference of the running sums `w` places apart over the count, less the entry itself. -/
def poolS (cs y : S4x8192x4x512.Idx → EReal) (w : Nat) (b : Fin 4) (t : Fin 8192) (g : Fin 4) (q : Fin 512) : EReal :=
  Ideal.div (cs (ix4 b t g q) - if w ≤ t.val then cs (ix4 b ⟨t.val - w, by omega⟩ g q) else 0) (((min (t.val + 1) w : ℕ) : ℝ) : EReal) - y (ix4 b t g q)

variable (x0 : (⟨S4x8192x1024, .f32⟩ : BufTy).Contents (Elt Ideal)) (x1 x2 : (⟨S4x1024, .f32⟩ : BufTy).Contents (Elt Ideal))
  (x4 : (⟨S1024, .f32⟩ : BufTy).Contents (Elt Ideal)) (x5 : (⟨S2x1024x4096, .bf16⟩ : BufTy).Contents (Elt Ideal))

/-- The entries of one group, cut out of the four, at a position. -/
theorem cut_index (g : Fin 4) (b : Fin 4) (t : Fin 8192) (q : Fin 512) (i : S4x8192x4x512.Idx) (h0 : (i 0).val = b.val) (h1 : (i 1).val = t.val)
    (h2 : (i 2).val = g.val) (h3 : (i 3).val = q.val) : i = ix4 b t g q := by
  funext a
  apply Fin.ext
  match a with
  | ⟨0, _⟩ => exact h0
  | ⟨1, _⟩ => exact h1
  | ⟨2, _⟩ => exact h2
  | ⟨3, _⟩ => exact h3

theorem cut_sum0 (b : Fin 4) (t : Fin 8192) (q : Fin 512) :
    val_main_v31 (F := Ideal) x0 x1 x2 x4 x5 (ix3 b t q) = val_main_v28 (F := Ideal) x0 x1 x2 x4 x5 (ix4 b t 0 q) := by
  rw [val_main_v31_apply, val_main_v30_apply]
  exact congrArg _ (cut_index 0 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem cut_own0 (b : Fin 4) (t : Fin 8192) (q : Fin 512) :
    val_main_v44 (F := Ideal) x0 x1 x2 x4 x5 (ix3 b t q) = val_main_v27 (F := Ideal) x0 x1 x2 x4 x5 (ix4 b t 0 q) := by
  rw [val_main_v44_apply, val_main_v43_apply]
  exact congrArg _ (cut_index 0 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem lag0 (b : Fin 4) (t : Fin 8192) (q : Fin 512) :
    val_main_v33 (F := Ideal) x0 x1 x2 x4 x5 (ix3 b t q)
      = if 2 ≤ t.val then val_main_v28 (F := Ideal) x0 x1 x2 x4 x5 (ix4 b ⟨t.val - 2, by omega⟩ 0 q) else 0 := by
  rw [val_main_v33_apply]
  refine Eq.trans ?_ ((lag_apply 2 8194 (val_main_v31 (F := Ideal) x0 x1 x2 x4 x5) (val_main_call1_v0 (F := Ideal)) h_S_ pads_S4x8192x512_S4x8194x512_000_200_000 ?_ b t q (by omega)).trans ?_)
  · refine congrArg (val_main_v32 (F := Ideal) x0 x1 x2 x4 x5) (funext fun a => Fin.ext ?_)
    match a with
    | ⟨0, _⟩ => rfl
    | ⟨1, _⟩ => rfl
    | ⟨2, _⟩ => rfl
  · show FloatOps.sitofp (F := Ideal) FTy.f32 0#32 = 0
    simp [FloatOps.sitofp]
  · by_cases h : 2 ≤ t.val
    · rw [if_pos h, if_pos h, cut_sum0]
    · rw [if_neg h, if_neg h]

theorem count0 (b : Fin 4) (t : Fin 8192) (q : Fin 512) :
    val_main_v41 (F := Ideal) (ix3 b t q) = (((min (t.val + 1) 2 : ℕ) : ℝ) : EReal) := by
  rw [val_main_v41_apply, val_main_v39_apply]
  exact count_eq t 2 (by norm_num)

/-- The group with the window of 2 positions. -/
theorem group0 (b : Fin 4) (t : Fin 8192) (q : Fin 512) :
    val_main_v45 (F := Ideal) x0 x1 x2 x4 x5 (ix3 b t q) = poolS (val_main_v28 (F := Ideal) x0 x1 x2 x4 x5) (val_main_v27 (F := Ideal) x0 x1 x2 x4 x5) 2 b t 0 q := by
  rw [val_main_v45_apply, val_main_v42_apply, val_main_v40_apply, cut_own0, cut_sum0, lag0, count0]
  rfl

theorem cut_sum1 (b : Fin 4) (t : Fin 8192) (q : Fin 512) :
    val_main_v47 (F := Ideal) x0 x1 x2 x4 x5 (ix3 b t q) = val_main_v28 (F := Ideal) x0 x1 x2 x4 x5 (ix4 b t 1 q) := by
  rw [val_main_v47_apply, val_main_v46_apply]
  exact congrArg _ (cut_index 1 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem cut_own1 (b : Fin 4) (t : Fin 8192) (q : Fin 512) :
    val_main_v60 (F := Ideal) x0 x1 x2 x4 x5 (ix3 b t q) = val_main_v27 (F := Ideal) x0 x1 x2 x4 x5 (ix4 b t 1 q) := by
  rw [val_main_v60_apply, val_main_v59_apply]
  exact congrArg _ (cut_index 1 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem lag1 (b : Fin 4) (t : Fin 8192) (q : Fin 512) :
    val_main_v49 (F := Ideal) x0 x1 x2 x4 x5 (ix3 b t q)
      = if 4 ≤ t.val then val_main_v28 (F := Ideal) x0 x1 x2 x4 x5 (ix4 b ⟨t.val - 4, by omega⟩ 1 q) else 0 := by
  rw [val_main_v49_apply]
  refine Eq.trans ?_ ((lag_apply 4 8196 (val_main_v47 (F := Ideal) x0 x1 x2 x4 x5) (val_main_call2_v0 (F := Ideal)) h_S_ pads_S4x8192x512_S4x8196x512_000_400_000 ?_ b t q (by omega)).trans ?_)
  · refine congrArg (val_main_v48 (F := Ideal) x0 x1 x2 x4 x5) (funext fun a => Fin.ext ?_)
    match a with
    | ⟨0, _⟩ => rfl
    | ⟨1, _⟩ => rfl
    | ⟨2, _⟩ => rfl
  · show FloatOps.sitofp (F := Ideal) FTy.f32 0#32 = 0
    simp [FloatOps.sitofp]
  · by_cases h : 4 ≤ t.val
    · rw [if_pos h, if_pos h, cut_sum1]
    · rw [if_neg h, if_neg h]

theorem count1 (b : Fin 4) (t : Fin 8192) (q : Fin 512) :
    val_main_v57 (F := Ideal) (ix3 b t q) = (((min (t.val + 1) 4 : ℕ) : ℝ) : EReal) := by
  rw [val_main_v57_apply, val_main_v55_apply]
  exact count_eq t 4 (by norm_num)

/-- The group with the window of 4 positions. -/
theorem group1 (b : Fin 4) (t : Fin 8192) (q : Fin 512) :
    val_main_v61 (F := Ideal) x0 x1 x2 x4 x5 (ix3 b t q) = poolS (val_main_v28 (F := Ideal) x0 x1 x2 x4 x5) (val_main_v27 (F := Ideal) x0 x1 x2 x4 x5) 4 b t 1 q := by
  rw [val_main_v61_apply, val_main_v58_apply, val_main_v56_apply, cut_own1, cut_sum1, lag1, count1]
  rfl

theorem cut_sum2 (b : Fin 4) (t : Fin 8192) (q : Fin 512) :
    val_main_v63 (F := Ideal) x0 x1 x2 x4 x5 (ix3 b t q) = val_main_v28 (F := Ideal) x0 x1 x2 x4 x5 (ix4 b t 2 q) := by
  rw [val_main_v63_apply, val_main_v62_apply]
  exact congrArg _ (cut_index 2 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem cut_own2 (b : Fin 4) (t : Fin 8192) (q : Fin 512) :
    val_main_v76 (F := Ideal) x0 x1 x2 x4 x5 (ix3 b t q) = val_main_v27 (F := Ideal) x0 x1 x2 x4 x5 (ix4 b t 2 q) := by
  rw [val_main_v76_apply, val_main_v75_apply]
  exact congrArg _ (cut_index 2 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem lag2 (b : Fin 4) (t : Fin 8192) (q : Fin 512) :
    val_main_v65 (F := Ideal) x0 x1 x2 x4 x5 (ix3 b t q)
      = if 8 ≤ t.val then val_main_v28 (F := Ideal) x0 x1 x2 x4 x5 (ix4 b ⟨t.val - 8, by omega⟩ 2 q) else 0 := by
  rw [val_main_v65_apply]
  refine Eq.trans ?_ ((lag_apply 8 8200 (val_main_v63 (F := Ideal) x0 x1 x2 x4 x5) (val_main_call3_v0 (F := Ideal)) h_S_ pads_S4x8192x512_S4x8200x512_000_800_000 ?_ b t q (by omega)).trans ?_)
  · refine congrArg (val_main_v64 (F := Ideal) x0 x1 x2 x4 x5) (funext fun a => Fin.ext ?_)
    match a with
    | ⟨0, _⟩ => rfl
    | ⟨1, _⟩ => rfl
    | ⟨2, _⟩ => rfl
  · show FloatOps.sitofp (F := Ideal) FTy.f32 0#32 = 0
    simp [FloatOps.sitofp]
  · by_cases h : 8 ≤ t.val
    · rw [if_pos h, if_pos h, cut_sum2]
    · rw [if_neg h, if_neg h]

theorem count2 (b : Fin 4) (t : Fin 8192) (q : Fin 512) :
    val_main_v73 (F := Ideal) (ix3 b t q) = (((min (t.val + 1) 8 : ℕ) : ℝ) : EReal) := by
  rw [val_main_v73_apply, val_main_v71_apply]
  exact count_eq t 8 (by norm_num)

/-- The group with the window of 8 positions. -/
theorem group2 (b : Fin 4) (t : Fin 8192) (q : Fin 512) :
    val_main_v77 (F := Ideal) x0 x1 x2 x4 x5 (ix3 b t q) = poolS (val_main_v28 (F := Ideal) x0 x1 x2 x4 x5) (val_main_v27 (F := Ideal) x0 x1 x2 x4 x5) 8 b t 2 q := by
  rw [val_main_v77_apply, val_main_v74_apply, val_main_v72_apply, cut_own2, cut_sum2, lag2, count2]
  rfl

theorem cut_sum3 (b : Fin 4) (t : Fin 8192) (q : Fin 512) :
    val_main_v79 (F := Ideal) x0 x1 x2 x4 x5 (ix3 b t q) = val_main_v28 (F := Ideal) x0 x1 x2 x4 x5 (ix4 b t 3 q) := by
  rw [val_main_v79_apply, val_main_v78_apply]
  exact congrArg _ (cut_index 3 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem cut_own3 (b : Fin 4) (t : Fin 8192) (q : Fin 512) :
    val_main_v92 (F := Ideal) x0 x1 x2 x4 x5 (ix3 b t q) = val_main_v27 (F := Ideal) x0 x1 x2 x4 x5 (ix4 b t 3 q) := by
  rw [val_main_v92_apply, val_main_v91_apply]
  exact congrArg _ (cut_index 3 b t q _ (by show ((b.val * 8192 + t.val) * 512 + q.val) / 4194304 = b.val; omega) (by show ((b.val * 8192 + t.val) * 512 + q.val) / 512 % 8192 = t.val; omega) rfl (by show ((b.val * 8192 + t.val) * 512 + q.val) % 512 = q.val; omega))

theorem lag3 (b : Fin 4) (t : Fin 8192) (q : Fin 512) :
    val_main_v81 (F := Ideal) x0 x1 x2 x4 x5 (ix3 b t q)
      = if 16 ≤ t.val then val_main_v28 (F := Ideal) x0 x1 x2 x4 x5 (ix4 b ⟨t.val - 16, by omega⟩ 3 q) else 0 := by
  rw [val_main_v81_apply]
  refine Eq.trans ?_ ((lag_apply 16 8208 (val_main_v79 (F := Ideal) x0 x1 x2 x4 x5) (val_main_call4_v0 (F := Ideal)) h_S_ pads_S4x8192x512_S4x8208x512_000_1600_000 ?_ b t q (by omega)).trans ?_)
  · refine congrArg (val_main_v80 (F := Ideal) x0 x1 x2 x4 x5) (funext fun a => Fin.ext ?_)
    match a with
    | ⟨0, _⟩ => rfl
    | ⟨1, _⟩ => rfl
    | ⟨2, _⟩ => rfl
  · show FloatOps.sitofp (F := Ideal) FTy.f32 0#32 = 0
    simp [FloatOps.sitofp]
  · by_cases h : 16 ≤ t.val
    · rw [if_pos h, if_pos h, cut_sum3]
    · rw [if_neg h, if_neg h]

theorem count3 (b : Fin 4) (t : Fin 8192) (q : Fin 512) :
    val_main_v89 (F := Ideal) (ix3 b t q) = (((min (t.val + 1) 16 : ℕ) : ℝ) : EReal) := by
  rw [val_main_v89_apply, val_main_v87_apply]
  exact count_eq t 16 (by norm_num)

/-- The group with the window of 16 positions. -/
theorem group3 (b : Fin 4) (t : Fin 8192) (q : Fin 512) :
    val_main_v93 (F := Ideal) x0 x1 x2 x4 x5 (ix3 b t q) = poolS (val_main_v28 (F := Ideal) x0 x1 x2 x4 x5) (val_main_v27 (F := Ideal) x0 x1 x2 x4 x5) 16 b t 3 q := by
  rw [val_main_v93_apply, val_main_v90_apply, val_main_v88_apply, cut_own3, cut_sum3, lag3, count3]
  rfl

end Cert.ReferenceIdeal.Pool
end
-- ==== Proof.Pool.RefValue.lean ====
/- The reference's result, read at a position: the formula of the layer, where the inputs are reals. -/
module

public import proofs.«01_k».proof.Proof.Pool.RefGroups
public import Idealize.ShloMosaic.Lib.IdealHost

@[expose] public section
noncomputable section
namespace Cert.ReferenceIdeal.Pool
open Cert.ReferenceIdeal Cert.ReferenceIdeal.Gen Cert.ReferenceIdeal.Read Idealize.ShloMosaic Idealize.ShloMosaic.StableHlo Idealize.ShloMosaic.Pointwise
open Cert.KernelIdeal.Pool (uS uT vT prevT gateT gateS outT width)

variable (x0 : (⟨S4x8192x1024, .f32⟩ : BufTy).Contents (Elt Ideal)) (x1 x2 x3 : (⟨S4x1024, .f32⟩ : BufTy).Contents (Elt Ideal))
  (x4 : (⟨S1024, .f32⟩ : BufTy).Contents (Elt Ideal)) (x5 : (⟨S2x1024x4096, .bf16⟩ : BufTy).Contents (Elt Ideal))
  (x6 : (⟨S2048, .f32⟩ : BufTy).Contents (Elt Ideal)) (x7 : (⟨S2x2048x1024, .f32⟩ : BufTy).Contents (Elt Ideal))

/-- The arguments as functions of their coordinates. -/
def hR (b : Fin 4) (t : Fin 8192) (k : Fin 1024) : EReal := x0 (ix3 b t k)
def rowR (x : (⟨S4x1024, .f32⟩ : BufTy).Contents (Elt Ideal)) (b : Fin 4) (k : Fin 1024) : EReal := x (ix2 b k)
def gR (k : Fin 1024) : EReal := x4 (ix1 k)
def wR (k : Fin 1024) (j : Fin 4096) : EReal := x5 (ix3 0 k j)
def aR (k : Fin 2048) : EReal := x6 (ix1 k)
def woR (k : Fin 2048) (j : Fin 1024) : EReal := x7 (ix3 0 k j)
def uR : Fin 4 → Fin 8192 → Fin 1024 → EReal := uT (hR x0) (rowR x1) (rowR x2) (gR x4)
def vR : Fin 4 → Fin 8192 → Fin 4096 → EReal := vT (uR x0 x1 x2 x4) (wR x5)

/-- The normalised and modulated rows. -/
theorem u_apply (b : Fin 4) (t : Fin 8192) (k : Fin 1024) : val_main_v20 (F := Ideal) x0 x1 x2 x4 (ix3 b t k) = uR x0 x1 x2 x4 b t k := by
  rw [val_main_v20_apply, val_main_v17_apply, val_main_v12_apply, val_main_v9_apply, val_main_v8_apply, val_main_v7_apply, val_main_v6_apply,
    val_main_v4_apply, val_main_v2_apply, val_main_v1_apply, val_main_v3_apply, val_main_v5_apply, val_main_v11_apply, val_main_v10_apply,
    val_main_v16_apply, val_main_v15_apply, val_main_v13_apply, val_main_v14_apply, val_main_v19_apply, val_main_v18_apply]
  have e0 : ∀ j : Fin 1024, val_main_v0 (F := Ideal) x0 (idx_main_v1 (idx_main_v2 (idx_main_v8 (ix3 b t k))) j) = hR x0 b t j * hR x0 b t j := fun j => by
    have e : idx_main_v1 (idx_main_v2 (idx_main_v8 (ix3 b t k))) j = ix3 b t j := funext fun a => by
      match a with
      | ⟨0, _⟩ => rfl
      | ⟨1, _⟩ => rfl
      | ⟨2, _⟩ => rfl
    rw [val_main_v0_apply, e]; rfl
  have e1 : idx_main_v10 (idx_main_v11 (ix3 b t k)) = ix1 k := funext fun a => by
    match a with
    | ⟨0, _⟩ => rfl
  have e2 : idx_main_v13 (idx_main_v16 (ix3 b t k)) = ix2 b k := funext fun a => by
    match a with
    | ⟨0, _⟩ => rfl
    | ⟨1, _⟩ => rfl
  have e3 : idx_main_v18 (idx_main_v19 (ix3 b t k)) = ix2 b k := funext fun a => by
    match a with
    | ⟨0, _⟩ => rfl
    | ⟨1, _⟩ => rfl
  simp only [e0, e1, e2, e3]
  show x0 (ix3 b t k) * Ideal.rsqrt (Ideal.div (Ideal.ofBits .f32 0x00000000#32 + ∑ j, hR x0 b t j * hR x0 b t j) (Ideal.ofBits .f32 0x44800000#32)
      + Ideal.ofBits .f32 0x358637BD#32) * x4 (ix1 k) * (Ideal.ofBits .f32 0x3F800000#32 + x2 (ix2 b k)) + x1 (ix2 b k) = _
  rw [Ideal.ofBits_zero_f32, Ideal.ofBits_one_f32, zero_add, mul_assoc (_ * _) (x4 (ix1 k))]
  rfl

/-- Their product with the input weights. -/
theorem v_apply (b : Fin 4) (t : Fin 8192) (k : Fin 4096) : val_main_v24 (F := Ideal) x0 x1 x2 x4 x5 (ix3 b t k) = vR x0 x1 x2 x4 x5 b t k := by
  rw [val_main_v24_apply]
  show _ = ∑ j : Fin 1024, uR x0 x1 x2 x4 b t j * wR x5 j k
  refine Finset.sum_congr rfl fun j _ => ?_
  have e0 : lidx_main_v24 (ix3 b t k) j = ix3 b t j := funext fun a => by
    match a with
    | ⟨0, _⟩ => rfl
    | ⟨1, _⟩ => rfl
    | ⟨2, _⟩ => rfl
  have e1 : idx_main_v21 (idx_main_v22 (ridx_main_v24 (ix3 b t k) j)) = ix3 0 j k := funext fun a => Fin.ext (by
    match a with
    | ⟨0, _⟩ => rfl
    | ⟨1, _⟩ => show (j.val * 4096 + k.val) / 4096 % 1024 = j.val; omega
    | ⟨2, _⟩ => show (j.val * 4096 + k.val) % 4096 = k.val; omega)
  rw [e0, u_apply, val_main_v23_apply, val_main_v22_apply, val_main_v21_apply, e1]
  rfl

theorem gate_apply (b : Fin 4) (t : Fin 8192) (c : Fin 2048) :
    val_main_v26 (F := Ideal) x0 x1 x2 x4 x5 (ix3 b t c) = vR x0 x1 x2 x4 x5 b t ⟨2048 + c.val, by omega⟩ := by
  rw [val_main_v26_apply, ← v_apply]
  refine congrArg _ (funext fun a => Fin.ext ?_)
  match a with
  | ⟨0, _⟩ => rfl
  | ⟨1, _⟩ => rfl
  | ⟨2, _⟩ => rfl

theorem val_apply (b : Fin 4) (t : Fin 8192) (g : Fin 4) (q : Fin 512) :
    val_main_v27 (F := Ideal) x0 x1 x2 x4 x5 (ix4 b t g q) = vR x0 x1 x2 x4 x5 b t ⟨g.val * 512 + q.val, by omega⟩ := by
  rw [val_main_v27_apply, val_main_v25_apply, ← v_apply]
  refine congrArg _ (funext fun a => Fin.ext ?_)
  match a with
  | ⟨0, _⟩ => show (((b.val * 8192 + t.val) * 4 + g.val) * 512 + q.val) / 16777216 = b.val; omega
  | ⟨1, _⟩ => show (((b.val * 8192 + t.val) * 4 + g.val) * 512 + q.val) / 2048 % 8192 = t.val; omega
  | ⟨2, _⟩ => show (((b.val * 8192 + t.val) * 4 + g.val) * 512 + q.val) % 2048 = g.val * 512 + q.val; omega

theorem sum_apply (b : Fin 4) (t : Fin 8192) (g : Fin 4) (q : Fin 512) :
    val_main_v28 (F := Ideal) x0 x1 x2 x4 x5 (ix4 b t g q) = ∑ s ∈ Finset.range (t.val + 1), seqAt (val_main_v27 (F := Ideal) x0 x1 x2 x4 x5) b g q s := by
  unfold val_main_v28
  generalize val_main_v27 (F := Ideal) x0 x1 x2 x4 x5 = y
  have e : val_main_call0_call0_v0 (F := Ideal) (Shape.Idx.first h_S_) = 0 := by
    rw [val_main_call0_call0_v0_apply]
    exact Ideal.ofBits_zero_f32
  simp only [Host.reduceWindowAdd, Ideal.hostReduceWindowAdd_def]
  rw [e]
  exact running_sum y _ b t g q

/-- A group's entry at a position: the sum over the window times one over its count, less the entry itself. -/
theorem pool_eq (hv : ∀ b t k, k.val < 2048 → ∃ r : ℝ, vR x0 x1 x2 x4 x5 b t k = (r : EReal)) (w : Nat) (h1 : 1 ≤ w) (h16 : w ≤ 16)
    (b : Fin 4) (t : Fin 8192) (g : Fin 4) (q : Fin 512) (c : Fin 2048) (hc : c.val = g.val * 512 + q.val) :
    poolS (val_main_v28 (F := Ideal) x0 x1 x2 x4 x5) (val_main_v27 (F := Ideal) x0 x1 x2 x4 x5) w b t g q
      = (∑ i ∈ Finset.range w, prevT (vR x0 x1 x2 x4 x5) b c (t.val + 16 - i)) * Ideal.div 1 (((min (t.val + 1) w : ℕ) : ℝ) : EReal)
        - vR x0 x1 x2 x4 x5 b t ⟨c.val, by omega⟩ := by
  have ht := t.isLt
  have hk : (⟨g.val * 512 + q.val, by omega⟩ : Fin 4096) = ⟨c.val, by omega⟩ := Fin.ext hc.symm
  have hs : ∀ s, seqAt (val_main_v27 (F := Ideal) x0 x1 x2 x4 x5) b g q s = if h : s < 8192 then vR x0 x1 x2 x4 x5 b ⟨s, h⟩ ⟨c.val, by omega⟩ else 0 := fun s => by
    unfold seqAt
    by_cases h : s < 8192
    · rw [dif_pos h, dif_pos h, val_apply, hk]
    · rw [dif_neg h, dif_neg h]
  have hr : ∀ s, ∃ r : ℝ, seqAt (val_main_v27 (F := Ideal) x0 x1 x2 x4 x5) b g q s = (r : EReal) := fun s => by
    rw [hs]
    by_cases h : s < 8192
    · rw [dif_pos h]; exact hv _ _ _ (by simp only; omega)
    · rw [dif_neg h]; exact ⟨0, by simp⟩
  have hlag : (if w ≤ t.val then val_main_v28 (F := Ideal) x0 x1 x2 x4 x5 (ix4 b ⟨t.val - w, by omega⟩ g q) else 0)
      = ∑ s ∈ Finset.range (t.val + 1 - w), seqAt (val_main_v27 (F := Ideal) x0 x1 x2 x4 x5) b g q s := by
    by_cases h : w ≤ t.val
    · rw [if_pos h, sum_apply]
      exact Finset.sum_congr (congrArg Finset.range (show t.val - w + 1 = t.val + 1 - w by omega)) fun _ _ => rfl
    · rw [if_neg h, show t.val + 1 - w = 0 by omega, Finset.sum_range_zero]
  have hn : (((min (t.val + 1) w : ℕ) : ℝ)) ≠ 0 := by
    have : 0 < min (t.val + 1) w := by omega
    exact_mod_cast this.ne'
  unfold poolS
  rw [hlag, sum_apply, window_diff _ hr, val_apply, hk, Ideal.div_coe hn, Ideal.div_coe hn, one_mul]
  refine congrArg (fun z => z * _ - _) (Finset.sum_congr rfl fun i hi => ?_)
  have := Finset.mem_range.1 hi
  unfold prevT
  by_cases h : i ≤ t.val
  · rw [if_pos h, hs, dif_pos (by omega), dif_pos ⟨by omega, by omega⟩]
    exact congrArg (fun z => vR x0 x1 x2 x4 x5 b z _) (Fin.ext (show t.val - i = t.val + 16 - i - 16 by omega))
  · rw [if_neg h, dif_neg (by omega)]

/-- Every piece of the stack has one place along the axis, so `k` of them have `k`. -/
theorem pieces_before (y0 y1 y2 y3 : S4x8192x1x512.Idx → EReal) (k : Nat) (hk : k < 4) :
    (((([⟨S4x8192x1x512, y0⟩, ⟨S4x8192x1x512, y1⟩, ⟨S4x8192x1x512, y2⟩, ⟨S4x8192x1x512, y3⟩] : List ((s : Shape) × (s.Idx → EReal))).take k).map (·.1)).map
      fun s => if h : s.rank = S4x8192x4x512.rank then s.size ((2 : Fin S4x8192x4x512.rank).cast h.symm) else 0).sum = k := by
  have e : (if h : S4x8192x1x512.rank = S4x8192x4x512.rank then S4x8192x1x512.size ((2 : Fin S4x8192x4x512.rank).cast h.symm) else 0) = 1 := by
    rw [dif_pos rfl]; rfl
  rw [List.map_map, List.map_take]
  simp only [List.map_cons, List.map_nil, Function.comp, e]
  rcases k with _ | _ | _ | _ | k
  · rfl
  · rfl
  · rfl
  · rfl
  · omega

/-- The four groups put side by side, one after another. -/
theorem stack_apply (b : Fin 4) (t : Fin 8192) (g : Fin 4) (q : Fin 512) :
    val_main_v98 (F := Ideal) x0 x1 x2 x4 x5 (ix4 b t g q)
      = poolS (val_main_v28 (F := Ideal) x0 x1 x2 x4 x5) (val_main_v27 (F := Ideal) x0 x1 x2 x4 x5) (2 ^ (g.val + 1)) b t g q := by
  have hoff : ∀ (g : Fin 4) (a : Fin 4), a ≠ 2 → ((ix4 b t (0 : Fin 1) q : S4x8192x1x512.Idx) a).val = ((ix4 b t g q : S4x8192x4x512.Idx) a).val := fun g a ha => by
    match a, ha with
    | ⟨0, _⟩, _ => rfl
    | ⟨1, _⟩, _ => rfl
    | ⟨2, _⟩, ha => exact absurd rfl ha
    | ⟨3, _⟩, _ => rfl
  have pc : ∀ (k : Nat) (hk : k < 4) (x : S4x8192x1x512.Idx → EReal),
      ([⟨S4x8192x1x512, val_main_v94 (F := Ideal) x0 x1 x2 x4 x5⟩, ⟨S4x8192x1x512, val_main_v95 (F := Ideal) x0 x1 x2 x4 x5⟩,
        ⟨S4x8192x1x512, val_main_v96 (F := Ideal) x0 x1 x2 x4 x5⟩, ⟨S4x8192x1x512, val_main_v97 (F := Ideal) x0 x1 x2 x4 x5⟩]
          : List ((s : Shape) × (s.Idx → EReal)))[k] = ⟨S4x8192x1x512, x⟩ →
      val_main_v98 (F := Ideal) x0 x1 x2 x4 x5 (ix4 b t ⟨k, hk⟩ q) = x (ix4 b t 0 q) := fun k hk x hx => by
    unfold val_main_v98
    refine concatenate_apply_piece (t := S4x8192x4x512) 2
      [⟨S4x8192x1x512, val_main_v94 (F := Ideal) x0 x1 x2 x4 x5⟩, ⟨S4x8192x1x512, val_main_v95 (F := Ideal) x0 x1 x2 x4 x5⟩,
        ⟨S4x8192x1x512, val_main_v96 (F := Ideal) x0 x1 x2 x4 x5⟩, ⟨S4x8192x1x512, val_main_v97 (F := Ideal) x0 x1 x2 x4 x5⟩]
      _ (ix4 b t ⟨k, hk⟩ q) k hk S4x8192x1x512 x hx rfl k ?_ (ix4 b t 0 q) (fun a ha => hoff ⟨k, hk⟩ a ha) (by show k + 0 = k; omega)
    exact pieces_before _ _ _ _ k hk
  match g with
  | 0 =>
    refine (pc 0 (by norm_num) _ rfl).trans ?_
    rw [val_main_v94_apply]
    refine Eq.trans (congrArg _ (funext fun a => ?_)) (group0 x0 x1 x2 x4 x5 b t q)
    match a with
    | ⟨0, _⟩ => rfl
    | ⟨1, _⟩ => rfl
    | ⟨2, _⟩ => rfl
  | 1 =>
    refine (pc 1 (by norm_num) _ rfl).trans ?_
    rw [val_main_v95_apply]
    refine Eq.trans (congrArg _ (funext fun a => ?_)) (group1 x0 x1 x2 x4 x5 b t q)
    match a with
    | ⟨0, _⟩ => rfl
    | ⟨1, _⟩ => rfl
    | ⟨2, _⟩ => rfl
  | 2 =>
    refine (pc 2 (by norm_num) _ rfl).trans ?_
    rw [val_main_v96_apply]
    refine Eq.trans (congrArg _ (funext fun a => ?_)) (group2 x0 x1 x2 x4 x5 b t q)
    match a with
    | ⟨0, _⟩ => rfl
    | ⟨1, _⟩ => rfl
    | ⟨2, _⟩ => rfl
  | 3 =>
    refine (pc 3 (by norm_num) _ rfl).trans ?_
    rw [val_main_v97_apply]
    refine Eq.trans (congrArg _ (funext fun a => ?_)) (group3 x0 x1 x2 x4 x5 b t q)
    match a with
    | ⟨0, _⟩ => rfl
    | ⟨1, _⟩ => rfl
    | ⟨2, _⟩ => rfl

/-- The gated rows. -/
theorem gated_apply (hv : ∀ b t k, k.val < 2048 → ∃ r : ℝ, vR x0 x1 x2 x4 x5 b t k = (r : EReal)) (b : Fin 4) (t : Fin 8192) (c : Fin 2048) :
    val_main_v104 (F := Ideal) x0 x1 x2 x4 x5 x6 (ix3 b t c) = gateT (vR x0 x1 x2 x4 x5) (aR x6) b t c := by
  have hg : c.val / 512 < 4 := by omega
  have e99 : idx_main_v99 (ix3 b t c) = ix4 b t ⟨c.val / 512, hg⟩ ⟨c.val % 512, by omega⟩ := funext fun a => Fin.ext (by
    match a with
    | ⟨0, _⟩ => show ((b.val * 8192 + t.val) * 2048 + c.val) / 16777216 = b.val; omega
    | ⟨1, _⟩ => show ((b.val * 8192 + t.val) * 2048 + c.val) / 2048 % 8192 = t.val; omega
    | ⟨2, _⟩ => show ((b.val * 8192 + t.val) * 2048 + c.val) / 512 % 4 = c.val / 512; omega
    | ⟨3, _⟩ => show ((b.val * 8192 + t.val) * 2048 + c.val) % 512 = c.val % 512; omega)
  have e100 : idx_main_v100 (idx_main_v101 (ix3 b t c)) = ix1 c := funext fun a => by
    match a with
    | ⟨0, _⟩ => rfl
  have h1 : 1 ≤ 2 ^ (c.val / 512 + 1) := Nat.one_le_two_pow
  have h16 : 2 ^ (c.val / 512 + 1) ≤ 16 := le_trans (Nat.pow_le_pow_right (by norm_num) (show c.val / 512 + 1 ≤ 4 by omega)) (by norm_num)
  rw [val_main_v104_apply, val_main_v102_apply, val_main_v99_apply, e99, stack_apply,
    pool_eq x0 x1 x2 x4 x5 hv _ h1 h16 b t _ _ c (by show c.val = c.val / 512 * 512 + c.val % 512; omega),
    val_main_v101_apply, val_main_v100_apply, e100, val_main_v103_apply, val_main_call5_v5_apply, val_main_call5_v4_apply, val_main_call5_v3_apply,
    val_main_call5_v2_apply, val_main_call5_v1_apply, val_main_call5_v0_apply, gate_apply]
  unfold gateT gateS width
  show _ * aR x6 c * (_ * Ideal.div (Ideal.ofBits .f32 0x3F800000#32) (Ideal.ofBits .f32 0x3F800000#32 + Ideal.exp (-_))) = _
  rw [Ideal.ofBits_one_f32]
  simp only [zero_sub]

/-- The reference's result at a position. -/
theorem result_apply (hv : ∀ b t k, k.val < 2048 → ∃ r : ℝ, vR x0 x1 x2 x4 x5 b t k = (r : EReal)) (b : Fin 4) (t : Fin 8192) (j : Fin 1024) :
    val_main_v111 (F := Ideal) x0 x1 x2 x3 x4 x5 x6 x7 (ix3 b t j)
      = outT (hR x0) (rowR x3) (vR x0 x1 x2 x4 x5) (aR x6) (woR x7) b t j := by
  have e108 : idx_main_v108 (idx_main_v109 (ix3 b t j)) = ix2 b j := funext fun a => by
    match a with
    | ⟨0, _⟩ => rfl
    | ⟨1, _⟩ => rfl
  have es : ∀ c : Fin 2048, val_main_v104 (F := Ideal) x0 x1 x2 x4 x5 x6 (lidx_main_v107 (ix3 b t j) c) * val_main_v106 (F := Ideal) x7 (ridx_main_v107 (ix3 b t j) c)
      = gateT (vR x0 x1 x2 x4 x5) (aR x6) b t c * woR x7 c j := fun c => by
    have e0 : lidx_main_v107 (ix3 b t j) c = ix3 b t c := funext fun a => by
      match a with
      | ⟨0, _⟩ => rfl
      | ⟨1, _⟩ => rfl
      | ⟨2, _⟩ => rfl
    have e1 : idx_main_v105 (idx_main_v106 (ridx_main_v107 (ix3 b t j) c)) = ix3 0 c j := funext fun a => Fin.ext (by
      match a with
      | ⟨0, _⟩ => rfl
      | ⟨1, _⟩ => show (c.val * 1024 + j.val) / 1024 % 2048 = c.val; omega
      | ⟨2, _⟩ => show (c.val * 1024 + j.val) % 1024 = j.val; omega)
    rw [e0, gated_apply x0 x1 x2 x4 x5 x6 hv, val_main_v106_apply, val_main_v105_apply, e1]
    rfl
  rw [val_main_v111_apply, val_main_v110_apply, val_main_v109_apply, val_main_v108_apply, e108, val_main_v107_apply, Finset.sum_congr rfl fun c _ => es c]
  rfl

/-- The product of two reals is a real, and so is their sum. -/
theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem ofBits_1024 : Ideal.ofBits .f32 1149239296#32 = ((1024 : ℝ) : EReal) := by
  simp [Ideal.ofBits, Ideal.ieee, -EReal.coe_mul]; norm_num

theorem ofBits_eps : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

/-- The reciprocal root of the mean of the squares of reals, kept off zero, is a real. -/
theorem real_norm (x : Fin 1024 → EReal) (hx : ∀ k, ∃ r : ℝ, x k = (r : EReal)) :
    ∃ r : ℝ, Ideal.rsqrt (Ideal.div (∑ j, x j * x j) (Ideal.ofBits .f32 1149239296#32) + Ideal.ofBits .f32 897988541#32) = (r : EReal) := by
  choose r hr using hx
  obtain ⟨e, he, hee⟩ := ofBits_eps
  have hs : ∑ j, x j * x j = ((∑ j, r j * r j : ℝ) : EReal) := by
    rw [coe_sum]
    exact Finset.sum_congr rfl fun j _ => by rw [hr, EReal.coe_mul]
  have h0 : 0 ≤ ∑ j, r j * r j := Finset.sum_nonneg fun j _ => mul_self_nonneg (r j)
  rw [hs, hee, ofBits_1024, Ideal.div_coe (by norm_num), ← EReal.coe_mul, ← EReal.coe_add, Ideal.rsqrt_coe]
  have hp : 0 < (∑ j, r j * r j) * (1 / 1024) + e := by positivity
  rw [if_neg (not_lt.2 hp.le), if_neg hp.ne']
  exact ⟨_, rfl⟩

/-- The value half of the projected rows holds reals where the arguments it comes from do. -/
theorem v_real (h0 : ∀ i, ∃ r : ℝ, x0 i = (r : EReal)) (h1 : ∀ i, ∃ r : ℝ, x1 i = (r : EReal)) (h2 : ∀ i, ∃ r : ℝ, x2 i = (r : EReal))
    (h4 : ∀ i, ∃ r : ℝ, x4 i = (r : EReal)) (h5 : ∀ (j : Fin 1024) (k : Fin 4096), k.val < 2048 → ∃ r : ℝ, x5 (ix3 0 j k) = (r : EReal)) (b : Fin 4) (t : Fin 8192) (k : Fin 4096) (hk : k.val < 2048) :
    ∃ r : ℝ, vR x0 x1 x2 x4 x5 b t k = (r : EReal) := by
  unfold vR vT
  refine real_sum _ _ fun j _ => real_mul ?_ (h5 j k hk)
  unfold uR uT uS
  exact real_add (real_mul (real_mul (h0 _) (real_norm _ fun k => h0 _)) (real_mul (h4 _) (real_add ⟨1, by simp⟩ (h2 _)))) (h1 _)

end Cert.ReferenceIdeal.Pool
end
-- ==== Proof.Claims.Layer.lean ====
/- The layer's value claim: from arguments that agree, and hold reals where the precondition says so, the kernel's result is the reference's. -/
module

public import proofs.«01_k».proof.Proof.Claims.Finite
public import proofs.«01_k».proof.Proof.Pool.KernelValue
public import proofs.«01_k».proof.Proof.Pool.RefValue

@[expose] public section
set_option maxRecDepth 16384
noncomputable section
namespace Cert.Proof
open Idealize.ShloMosaic Idealize.ShloMosaic.TcCoe Idealize.SL.Sem

/-- The two results, element by element. -/
theorem layer_eq [Cert.Pre_finite.Facts] (m : (ℓ : Loc Cert.KernelIdeal.nD Cert.KernelIdeal.τ Cert.KernelIdeal.sig) → Buf (Elt Ideal) ℓ)
    (hp : Pre_KernelIdeal_finite m) (c : Dev Cert.KernelIdeal.nD) :
    Cert.ReferenceIdeal.Read.val_main_v111 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = Cert.KernelIdeal.Value.G8 m c := by
  obtain ⟨h0, h1, h2, h4, h5⟩ := finite_real _ _ _ _ _ _ _ _ (hp c)
  funext i
  obtain ⟨b, t, j, rfl⟩ : ∃ (b : Fin 4) (t : Fin 8192) (j : Fin 1024), i = Idealize.ShloMosaic.ix3 b t j :=
    ⟨i 0, i 1, i 2, funext fun a => by
      match a with
      | ⟨0, _⟩ => rfl
      | ⟨1, _⟩ => rfl
      | ⟨2, _⟩ => rfl⟩
  rw [Cert.ReferenceIdeal.Pool.result_apply _ _ _ _ _ _ _ _ (Cert.ReferenceIdeal.Pool.v_real _ _ _ _ _ h0 h1 h2 h4 h5), Cert.KernelIdeal.Pool.G8_apply]
  rfl

theorem layer [Cert.Pre_finite.Facts] :
    algebraic_KernelIdeal_ReferenceIdeal_pre_finite (hKernelIdeal := Cert.KernelIdeal.Gen.facts) (hReferenceIdeal := Cert.ReferenceIdeal.Gen.facts) := by
  intro m g m' g' hp hm
  refine ⟨fun c => Cert.KernelIdeal.Value.G8 m c, Cert.KernelIdeal.Value.run m g, ?_⟩
  refine (θ_run _ _ _).mono (fun r h c => ?_) (Cert.ReferenceIdeal.Value.run m' g')
  obtain ⟨a0, a1, a2, a3, a4, a5, a6, a7⟩ := hm c
  refine ⟨(h c).1.trans ?_, (h c).2⟩
  rw [Cert.ReferenceIdeal.Read.val_main_v111_eq, a0, a1, a2, a3, a4, a5, a6, a7]
  exact layer_eq m hp c

end Cert.Proof
end
-- ==== Proof.Mix.Kernel.lean ====
/- What the weight call leaves in its result: the value columns of the input weights times their group's matrix, and the
   gate columns as they were. The call splits every factor into a high and a low part and adds three of the four
   products of the parts; the low part is zero where the weight is a real. -/
module

public import proofs.«01_k».proof.Proof.Gen.FoldIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384
noncomputable section
namespace Cert.FoldIdeal.Mix
open Idealize.ShloMosaic Idealize.ShloMosaic.TcCoe Idealize.ShloMosaic.Pointwise Idealize.SL.Sem
open Cert.FoldIdeal Cert.FoldIdeal.Gen

variable (m : (ℓ : Loc nD τ sig) → Buf (Elt Ideal) ℓ)

/-- The mixed weights: column `j` of the value half is its group's columns times column `j % 512` of the group's matrix. -/
def mixed (W : Fin 2 → Fin 1024 → Fin 4096 → EReal) (G : Fin 2 → Fin 4 → Fin 512 → Fin 512 → EReal) (l : Fin 2) (d : Fin 1024) (j : Fin 4096) : EReal :=
  if h : j.val < 2048 then ∑ i : Fin 512, W l d ⟨j.val / 512 * 512 + i.val, by omega⟩ * G l ⟨j.val / 512, by omega⟩ i ⟨j.val % 512, by omega⟩
  else W l d j

theorem outA_eq (c : Dev nD) (i : grid0.Coords) (arg2 : Memref sig .tc .vmem S1x1024x512 .f32) (harg2 : arg2.IsWhole) (arg3 : Memref sig .tc .vmem S1x1x512x512 .f32) (harg3 : arg3.IsWhole) (arg4 : Memref sig .tc .vmem S1x1024x512 .bf16) (harg4 : arg4.IsWhole) (hc0 : cond0_0 i) (hc1 : ¬cond0_1 i)
    (x0 : Vec Ideal S1x1024x512 .f32) (x1 : Vec Ideal S1x1x512x512 .f32) :
    out0_A_2 c i arg2 harg2 arg3 harg3 arg4 harg4 hc0 hc1 x0 x1 = k0_pay1 x0 x1 := by
  frame_open
  frame_out

theorem outB_eq (c : Dev nD) (i : grid0.Coords) (arg2 : Memref sig .tc .vmem S1x1024x512 .f32) (harg2 : arg2.IsWhole) (arg3 : Memref sig .tc .vmem S1x1x512x512 .f32) (harg3 : arg3.IsWhole) (arg4 : Memref sig .tc .vmem S1x1024x512 .bf16) (harg4 : arg4.IsWhole) (hc0 : ¬cond0_0 i) (hc1 : cond0_1 i)
    (x0 : Vec Ideal S1x1024x512 .f32) (x1 : Vec Ideal S1x1x512x512 .f32) :
    out0_B_2 c i arg2 harg2 arg3 harg3 arg4 harg4 hc0 hc1 x0 x1 = k0_pay2 x0 := by
  frame_open
  frame_out

theorem real_sub_self (x : EReal) (h : ∃ r : ℝ, x = (r : EReal)) : x - x = 0 := by
  obtain ⟨r, rfl⟩ := h
  rw [← EReal.coe_sub, sub_self, EReal.coe_zero]

/-- The three products of a group's block are the one product, where both factors are reals. -/
theorem pay1_apply (x0 : Vec Ideal S1x1024x512 .f32) (x1 : Vec Ideal S1x1x512x512 .f32)
    (h0 : ∀ (d : Fin 1024) (i : Fin 512), ∃ r : ℝ, x0 (ix3 0 d i) = (r : EReal)) (h1 : ∀ i, ∃ r : ℝ, x1 i = (r : EReal)) (d : Fin 1024) (q : Fin 512) :
    k0_pay1 x0 x1 (ix3 0 d q) = ∑ i : Fin 512, x0 (ix3 0 d i) * x1 (ix4 0 0 i q) := by
  pointwise [k0_pay1]
  simp only [real_sub_self _ (h0 _ _), real_sub_self _ (h1 _)]
  simp

theorem pay2_apply (x0 : Vec Ideal S1x1024x512 .f32) (d : Fin 1024) (q : Fin 512) :
    k0_pay2 x0 (ix3 0 d q) = x0 (ix3 0 d q) := by
  pointwise [k0_pay2]

theorem idx0 : ∀ t : Fin grid0.N, win0_0.index t = ![t.val / 8, 0, t.val % 8] := by decide +kernel
theorem idx1 : ∀ t : Fin grid0.N, win0_1.index t = ![t.val / 8, min (t.val % 8) 3, 0, 0] := by decide +kernel
theorem idx2 : ∀ t : Fin grid0.N, win0_2.index t = ![t.val / 8, 0, t.val % 8] := by decide +kernel
theorem lt16 (t : Fin cfg0.N) : t.val < 16 := lt_of_lt_of_eq t.isLt N_0

theorem blk0 (c : Dev nD) (t : Fin cfg0.N) (d : Fin 1024) (q : Fin 512) :
    iblk m c 0 t (ix3 0 d q) = m ((c : Thread nD τ).loc main_arg0) (ix3 ⟨t.val / 8, by have := lt16 t; omega⟩ d ⟨t.val % 8 * 512 + q.val, by omega⟩) := by
  have := lt16 t
  blk_ext [iblk, V, idx0 t]

theorem blk1 (c : Dev nD) (t : Fin cfg0.N) (i q : Fin 512) :
    iblk m c 1 t (ix4 0 0 i q) = m ((c : Thread nD τ).loc main_arg1) (ix4 ⟨t.val / 8, by have := lt16 t; omega⟩ ⟨min (t.val % 8) 3, by omega⟩ i q) := by
  have := lt16 t
  blk_ext [iblk, V, idx1 t]

/-- The arguments as functions of their coordinates. -/
def wA (c : Dev nD) (l : Fin 2) (d : Fin 1024) (j : Fin 4096) : EReal := m ((c : Thread nD τ).loc main_arg0) (ix3 l d j)
def gA (c : Dev nD) (l : Fin 2) (g : Fin 4) (i q : Fin 512) : EReal := m ((c : Thread nD τ).loc main_arg1) (ix4 l g i q)

/-- What the point of a group and a layer writes back. -/
theorem flushed_apply (c : Dev nD) (h0 : ∀ (l : Fin 2) (d : Fin 1024) (k : Fin 4096), k.val < 2048 → ∃ r : ℝ, m ((c : Thread nD τ).loc main_arg0) (ix3 l d k) = (r : EReal))
    (h1 : ∀ i, ∃ r : ℝ, m ((c : Thread nD τ).loc main_arg1) i = (r : EReal)) (t : Fin cfg0.N) (d : Fin 1024) (q : Fin 512) :
    (dats m 0 c).flushed 2 t (ix3 0 d q) = mixed (wA m c) (gA m c) ⟨t.val / 8, by have := lt16 t; omega⟩ d ⟨t.val % 8 * 512 + q.val, by omega⟩ := by
  have := lt16 t
  by_cases h : t.val % 8 ≤ 3
  · rw [Value.flushed2_A m c t h (by omega), outA_eq]
    refine (pay1_apply _ _ (fun d i => (blk0 m c t d i).symm ▸ h0 _ d _ (by simp only; omega)) (fun i => h1 _) d q).trans ?_
    unfold mixed
    rw [dif_pos (by simp only; omega)]
    refine Finset.sum_congr rfl fun i _ => congrArg₂ _ ((blk0 m c t d i).trans ?_) ((blk1 m c t i q).trans ?_)
    · unfold wA
      exact congrArg (fun z => m ((c : Thread nD τ).loc main_arg0) (ix3 _ d z)) (Fin.ext (by simp only; omega))
    · unfold gA
      exact congrArg₂ (fun y z => m ((c : Thread nD τ).loc main_arg1) (ix4 _ y i z)) (Fin.ext (by simp only; omega)) (Fin.ext (by simp only; omega))
  · rw [Value.flushed2_B m c t h (by omega), outB_eq]
    refine (pay2_apply _ d q).trans ((blk0 m c t d q).trans ?_)
    unfold mixed
    rw [dif_neg (by simp only; omega)]
    rfl

/-- The whole result. -/
theorem result_apply (c : Dev nD) (h0 : ∀ (l : Fin 2) (d : Fin 1024) (k : Fin 4096), k.val < 2048 → ∃ r : ℝ, m ((c : Thread nD τ).loc main_arg0) (ix3 l d k) = (r : EReal))
    (h1 : ∀ i, ∃ r : ℝ, m ((c : Thread nD τ).loc main_arg1) i = (r : EReal)) (l : Fin 2) (d : Fin 1024) (j : Fin 4096) :
    (dats m 0 c).arrAt 2 cfg0.N (ix3 l d j) = mixed (wA m c) (gA m c) l d j := by
  have ht : l.val * 8 + j.val / 512 < cfg0.N := by rw [show cfg0.N = 16 from N_0]; omega
  have e := (congrFun (Value.blocks2 m c ⟨l.val * 8 + j.val / 512, ht⟩ (by revert ht; generalize l.val * 8 + j.val / 512 = n; intro ht; exact (by decide +kernel : ∀ t : Fin grid0.N, win0_2.flush t = true) ⟨n, ht⟩)) (ix3 0 d ⟨j.val % 512, by omega⟩)).trans
    (flushed_apply m c h0 h1 ⟨l.val * 8 + j.val / 512, ht⟩ d ⟨j.val % 512, by omega⟩)
  have e' : ∀ (l' : Fin 2) (j' : Fin 4096), l' = l → j' = j → mixed (wA m c) (gA m c) l' d j' = mixed (wA m c) (gA m c) l d j := by
    rintro _ _ rfl rfl; rfl
  rw [e' _ _ (Fin.ext (by simp only; omega)) (Fin.ext (by simp only; omega))] at e
  refine Eq.trans ?_ e
  have hi := idx2 ⟨l.val * 8 + j.val / 512, ht⟩
  symm
  blk_ext [hi]

end Cert.FoldIdeal.Mix
end
-- ==== Proof.Mix.Reference.lean ====
/- The weight reference's result, read at an index: the mixed weights. -/
module

public import proofs.«01_k».proof.Proof.Gen.FoldReferenceIdeal.Run
public import proofs.«01_k».proof.Proof.Gen.FoldReferenceIdeal.Read
public import proofs.«01_k».proof.Proof.Mix.Kernel
public import Idealize.ShloMosaic.Lib.IdealHost

@[expose] public section
noncomputable section
namespace Cert.FoldReferenceIdeal.Mix
open Cert.FoldReferenceIdeal Cert.FoldReferenceIdeal.Gen Cert.FoldReferenceIdeal.Read Idealize.ShloMosaic Idealize.ShloMosaic.StableHlo Idealize.ShloMosaic.Pointwise

variable (x0 : (⟨S2x1024x4096, .f32⟩ : BufTy).Contents (Elt Ideal)) (x1 : (⟨S2x4x512x512, .f32⟩ : BufTy).Contents (Elt Ideal))

/-- A column of the value half: its group's columns times its column of the group's matrix. -/
theorem value_apply (l : Fin 2) (d : Fin 1024) (j : Fin 2048) :
    val_main_v5 (F := Ideal) x0 x1 (ix3 l d j) = ∑ i : Fin 512, x0 (ix3 l d ⟨j.val / 512 * 512 + i.val, by omega⟩) * x1 (ix4 l ⟨j.val / 512, by omega⟩ i ⟨j.val % 512, by omega⟩) := by
  rw [val_main_v5_apply, val_main_v4_apply, val_main_v3_apply]
  refine Finset.sum_congr rfl fun i _ => ?_
  rw [val_main_v2_apply, val_main_v0_apply, mul_comm]
  refine congrArg₂ _ (congrArg x0 (funext fun a => Fin.ext ?_)) (congrArg x1 (funext fun a => Fin.ext ?_))
  · match a with
    | ⟨0, _⟩ => show (((((l.val * 1024 + d.val) * 2048 + j.val) / 2097152 * 1024 + ((l.val * 1024 + d.val) * 2048 + j.val) / 2048 % 1024) * 4 + ((l.val * 1024 + d.val) * 2048 + j.val) / 512 % 4) * 512 + i.val) / 2097152 = l.val; omega
    | ⟨1, _⟩ => show (((((l.val * 1024 + d.val) * 2048 + j.val) / 2097152 * 1024 + ((l.val * 1024 + d.val) * 2048 + j.val) / 2048 % 1024) * 4 + ((l.val * 1024 + d.val) * 2048 + j.val) / 512 % 4) * 512 + i.val) / 2048 % 1024 = d.val; omega
    | ⟨2, _⟩ => show (((((l.val * 1024 + d.val) * 2048 + j.val) / 2097152 * 1024 + ((l.val * 1024 + d.val) * 2048 + j.val) / 2048 % 1024) * 4 + ((l.val * 1024 + d.val) * 2048 + j.val) / 512 % 4) * 512 + i.val) % 2048 = j.val / 512 * 512 + i.val; omega
  · match a with
    | ⟨0, _⟩ => show ((l.val * 1024 + d.val) * 2048 + j.val) / 2097152 = l.val; omega
    | ⟨1, _⟩ => show ((l.val * 1024 + d.val) * 2048 + j.val) / 512 % 4 = j.val / 512; omega
    | ⟨2, _⟩ => rfl
    | ⟨3, _⟩ => show ((l.val * 1024 + d.val) * 2048 + j.val) % 512 = j.val % 512; omega

theorem result_apply (l : Fin 2) (d : Fin 1024) (j : Fin 4096) :
    val_main_v7 (F := Ideal) x0 x1 (ix3 l d j) = Cert.FoldIdeal.Mix.mixed (fun l d j => x0 (ix3 l d j)) (fun l g i q => x1 (ix4 l g i q)) l d j := by
  rw [val_main_v7_apply]
  show val_main_v6 (F := Ideal) x0 x1 (ix3 l d j) = _
  unfold Cert.FoldIdeal.Mix.mixed
  have hoff : ∀ (k : Fin 2048) (a : Fin 3), a ≠ 2 → ((ix3 l d k : S2x1024x2048.Idx) a).val = ((ix3 l d j : S2x1024x4096.Idx) a).val := fun k a ha => by
    match a, ha with
    | ⟨0, _⟩, _ => rfl
    | ⟨1, _⟩, _ => rfl
    | ⟨2, _⟩, ha => exact absurd rfl ha
  by_cases h : j.val < 2048
  · rw [dif_pos h]
    refine Eq.trans ?_ (value_apply x0 x1 l d ⟨j.val, h⟩)
    unfold val_main_v6
    exact concatenate_apply_piece (t := S2x1024x4096) 2
      [⟨S2x1024x2048, val_main_v5 (F := Ideal) x0 x1⟩, ⟨S2x1024x2048, val_main_v1 (F := Ideal) x0⟩]
      _ (ix3 l d j) 0 (by simp) S2x1024x2048 _ rfl rfl 0 (by simp) (ix3 l d ⟨j.val, h⟩) (fun a ha => hoff _ a ha) (by show 0 + j.val = j.val; omega)
  · rw [dif_neg h]
    have e : val_main_v1 (F := Ideal) x0 (ix3 l d ⟨j.val - 2048, by omega⟩) = x0 (ix3 l d j) := by
      rw [val_main_v1_apply]
      refine congrArg x0 (funext fun a => Fin.ext ?_)
      match a with
      | ⟨0, _⟩ => rfl
      | ⟨1, _⟩ => rfl
      | ⟨2, _⟩ => show 2048 + (j.val - 2048) = j.val; omega
    refine Eq.trans ?_ e
    unfold val_main_v6
    exact concatenate_apply_piece (t := S2x1024x4096) 2
      [⟨S2x1024x2048, val_main_v5 (F := Ideal) x0 x1⟩, ⟨S2x1024x2048, val_main_v1 (F := Ideal) x0⟩]
      _ (ix3 l d j) 1 (by simp) S2x1024x2048 _ rfl rfl 2048 (by simp) (ix3 l d ⟨j.val - 2048, by omega⟩) (fun a ha => hoff _ a ha) (by show 2048 + (j.val - 2048) = j.val; omega)

end Cert.FoldReferenceIdeal.Mix
end
-- ==== Proof.Claims.Weights.lean ====
/- The weight call's value claim: from arguments that agree and hold reals, the kernel's result is the reference's. -/
module

public import proofs.«01_k».proof.Proof.Claims.Finite
public import proofs.«01_k».proof.Proof.Mix.Kernel
public import proofs.«01_k».proof.Proof.Mix.Reference

@[expose] public section
set_option maxRecDepth 16384
noncomputable section
namespace Cert.Proof
open Idealize.ShloMosaic Idealize.ShloMosaic.TcCoe Idealize.SL.Sem

/-- The two results, element by element. -/
theorem weights_eq [Cert.Pre_finite2.Facts] (m : (ℓ : Loc Cert.FoldIdeal.nD Cert.FoldIdeal.τ Cert.FoldIdeal.sig) → Buf (Elt Ideal) ℓ)
    (hp : Pre_FoldIdeal_finite2 m) (c : Dev Cert.FoldIdeal.nD) :
    Cert.FoldReferenceIdeal.Read.val_main_v7 (F := Ideal) (m ((c.tc : Thread Cert.FoldIdeal.nD Cert.FoldIdeal.τ).loc Cert.FoldIdeal.main_arg0))
      (m ((c.tc : Thread Cert.FoldIdeal.nD Cert.FoldIdeal.τ).loc Cert.FoldIdeal.main_arg1)) = (Cert.FoldIdeal.Gen.dats m 0 c).arrAt 2 Cert.FoldIdeal.cfg0.N := by
  obtain ⟨h0, h1⟩ := finite2_real _ _ (hp c)
  funext i
  obtain ⟨l, d, j, rfl⟩ : ∃ (l : Fin 2) (d : Fin 1024) (j : Fin 4096), i = Idealize.ShloMosaic.ix3 l d j :=
    ⟨i 0, i 1, i 2, funext fun a => by
      match a with
      | ⟨0, _⟩ => rfl
      | ⟨1, _⟩ => rfl
      | ⟨2, _⟩ => rfl⟩
  rw [Cert.FoldReferenceIdeal.Mix.result_apply, Cert.FoldIdeal.Mix.result_apply m c h0 h1]
  rfl

theorem weights [Cert.Pre_finite2.Facts] :
    algebraic_FoldIdeal_FoldReferenceIdeal_pre_finite2 (hFoldIdeal := Cert.FoldIdeal.Gen.facts) (hFoldReferenceIdeal := Cert.FoldReferenceIdeal.Gen.facts) := by
  intro m g m' g' hp hm
  refine ⟨fun c => (Cert.FoldIdeal.Gen.dats m 0 c).arrAt 2 Cert.FoldIdeal.cfg0.N, Cert.FoldIdeal.Value.run_blocks m g, ?_⟩
  refine (θ_run _ _ _).mono (fun r h c => ?_) (Cert.FoldReferenceIdeal.Value.run m' g')
  obtain ⟨a0, a1⟩ := hm c
  refine ⟨(h c).1.trans ?_, (h c).2⟩
  rw [Cert.FoldReferenceIdeal.Read.val_main_v7_eq, a0, a1]
  exact weights_eq m hp c

end Cert.Proof
end
-- ==== Proof.Proj.Shared.lean ====
/- What the first projection call leaves in its four results, read at an index: queries by head and scaled, gate inputs,
   keys by head and transposed, values by head. Each is an entry of a product of a normalised and modulated row. -/
module

public import proofs.«01_k».proof.Proof.Gen.SharedIdeal.Value
public import proofs.«01_k».proof.Proof.Pool.Formula
public import Idealize.ShloMosaic.Lib.Pointwise
public import Idealize.ShloMosaic.Lib.Pipeline.ValueKit
public import Idealize.ShloMosaic.Lib.Claim

@[expose] public section
set_option maxRecDepth 16384
noncomputable section
namespace Cert.SharedIdeal.Proj
open Idealize.ShloMosaic Idealize.ShloMosaic.TcCoe Idealize.ShloMosaic.Pointwise Idealize.SL.Sem
open Cert.SharedIdeal Cert.SharedIdeal.Gen
open Cert.KernelIdeal.Pool (uS uT vT)

/-- The scale of the queries. -/
def qScale : EReal := Ideal.ofBits .f32 0x3E0293EE#32

/-- Row `r` of a block, normalised and modulated. -/
def uB (x0 : Vec Ideal S1x512x1024 .f32) (sh sc : Vec Ideal S1x1x1024 .f32) (g : Vec Ideal S1x1024 .f32) (r : Fin 512) (k : Fin 1024) : EReal :=
  uS (fun j => x0 (ix3 0 r j)) (fun j => g (ix2 0 j)) (fun j => sc (ix3 0 0 j)) (fun j => sh (ix3 0 0 j)) k

theorem pay7_apply (x0 : Vec Ideal S1x512x1024 .f32) (sh sc : Vec Ideal S1x1x1024 .f32) (g : Vec Ideal S1x1024 .f32) (r : Fin 512) (k : Fin 1024) :
    k0_pay7 (F := Ideal) x0 x0 g sc sh (ix2 r k) = uB x0 sh sc g r k := by
  unfold uB uS
  pointwise [k0_pay7, k0_pay6]

theorem pay30_apply (x0 : Vec Ideal S1x512x1024 .f32) (sh sc : Vec Ideal S1x1x1024 .f32) (g : Vec Ideal S1x1024 .f32) (r : Fin 512) (k : Fin 1024) :
    k0_pay30 (F := Ideal) (k0_pay6 x0 x0) (k0_pay29 g) sc sh (ix2 r k) = uB x0 sh sc g r k := by
  unfold uB uS
  pointwise [k0_pay30, k0_pay29, k0_pay6]

theorem prod_apply (u : FVec Ideal S512x1024 .bf16) (w : FVec Ideal S1024x2048 .bf16) (r : Fin 512) (j : Fin 2048) :
    matmul dot_S512x1024_S1024x2048_S512x2048_1_0_0_1_n_n none u w (constant S512x2048 .f32 0x00000000#32) (ix2 r j) = ∑ k : Fin 1024, u (ix2 r k) * w (ix2 k j) := by
  pointwise

theorem prodT_apply (u : FVec Ideal S512x1024 .bf16) (w : FVec Ideal S2048x1024 .bf16) (r : Fin 512) (j : Fin 2048) :
    matmul dot_S2048x1024_S512x1024_S2048x512_1_1_0_0_n_n none w u (constant S2048x512 .f32 0x00000000#32) (ix2 j r) = ∑ k : Fin 1024, w (ix2 j k) * u (ix2 r k) := by
  pointwise

theorem pay8_apply (x0 : Vec Ideal S1x512x1024 .f32) (sh sc : Vec Ideal S1x1x1024 .f32) (g : Vec Ideal S1x1024 .f32) (w : Vec Ideal S1x1024x2048 .bf16) (r : Fin 512) (j : Fin 2048) :
    k0_pay8 (F := Ideal) x0 x0 g sc sh w (ix2 r j) = (∑ k : Fin 1024, uB x0 sh sc g r k * w (ix3 0 k j)) * qScale := by
  simp only [← pay7_apply]
  unfold k0_pay8
  generalize k0_pay7 (F := Ideal) x0 x0 g sc sh = u
  unfold qScale
  pointwise

theorem pay28_apply (x0 : Vec Ideal S1x512x1024 .f32) (sh sc : Vec Ideal S1x1x1024 .f32) (g : Vec Ideal S1x1024 .f32) (w : Vec Ideal S1x1024x2048 .bf16) (r : Fin 512) (j : Fin 2048) :
    k0_pay28 (F := Ideal) (k0_pay7 x0 x0 g sc sh) w (ix3 0 r j) = ∑ k : Fin 1024, uB x0 sh sc g r k * w (ix3 0 k j) := by
  simp only [← pay7_apply]
  unfold k0_pay28
  generalize k0_pay7 (F := Ideal) x0 x0 g sc sh = u
  pointwise

theorem pay31_apply (x0 : Vec Ideal S1x512x1024 .f32) (sh sc : Vec Ideal S1x1x1024 .f32) (g : Vec Ideal S1x1024 .f32) (w : Vec Ideal S1024x2048 .bf16) (r : Fin 512) (j : Fin 2048) :
    k0_pay31 (F := Ideal) (k0_pay6 x0 x0) (k0_pay29 g) sc sh w (ix2 r j) = ∑ k : Fin 1024, uB x0 sh sc g r k * w (ix2 k j) := by
  simp only [← pay30_apply]
  unfold k0_pay31
  generalize k0_pay30 (F := Ideal) (k0_pay6 x0 x0) (k0_pay29 g) sc sh = u
  pointwise

theorem pay32_apply (x0 : Vec Ideal S1x512x1024 .f32) (sh sc : Vec Ideal S1x1x1024 .f32) (g : Vec Ideal S1x1024 .f32) (w : Vec Ideal S2048x1024 .bf16) (r : Fin 512) (j : Fin 2048) :
    k0_pay32 (F := Ideal) (k0_pay6 x0 x0) (k0_pay29 g) sc sh w (ix2 j r) = ∑ k : Fin 1024, uB x0 sh sc g r k * w (ix2 j k) := by
  simp only [← pay30_apply]
  unfold k0_pay32
  generalize k0_pay30 (F := Ideal) (k0_pay6 x0 x0) (k0_pay29 g) sc sh = u
  simp only [mul_comm (u _)]
  pointwise

/-! The four blocks of a point. -/

variable (x0 : Vec Ideal S1x512x1024 .f32) (x1 x2 : Vec Ideal S1x1x1024 .f32) (x3 : Vec Ideal S1x1024 .f32) (x4 : Vec Ideal S1x1024x4096 .bf16)
  (x5 x6 : Vec Ideal S1x1x1024 .f32) (x7 : Vec Ideal S1x1024 .f32) (x8 : Vec Ideal S2048x1024 .bf16) (x9 : Vec Ideal S1024x2048 .bf16)

theorem ld_h : View.ld x0 r0_0 = x0 := View.ld_unit_zero (by funext a; fin_cases a <;> rfl) _ x0
theorem ld_g : View.ld x3 r0_1 = x3 := View.ld_unit_zero (by funext a; fin_cases a <;> rfl) _ x3
theorem ld_v : View.ld x1 r0_2 = x1 := View.ld_unit_zero (by funext a; fin_cases a <;> rfl) _ x1
theorem ld_wv : View.ld x9 r0_22 = x9 := View.ld_unit_zero (by funext a; fin_cases a <;> rfl) _ x9
theorem ld_wk : View.ld x8 r0_23 = x8 := View.ld_unit_zero (by funext a; fin_cases a <;> rfl) _ x8
theorem ld_wq (k : Fin 1024) (j : Fin 2048) : View.ld x4 r0_3 (ix3 0 k j) = x4 (ix3 0 k ⟨j.val, by omega⟩) := by
  refine congrArg x4 (funext fun a => Fin.ext ?_)
  fin_cases a <;> simp [Rect.emb_apply, Rect.unit, ix3]
theorem ld_wz (k : Fin 1024) (j : Fin 2048) : View.ld x4 r0_20 (ix3 0 k j) = x4 (ix3 0 k ⟨2048 + j.val, by omega⟩) := by
  refine congrArg x4 (funext fun a => Fin.ext ?_)
  fin_cases a <;> simp [Rect.emb_apply, Rect.unit, ix3]

/-- Position `r` of the block of point `t` in head `n`. -/
theorem out10_apply (n : Fin 16) (r : Fin 512) (q : Fin 128) :
    out0_10 x0 x1 x2 x3 x4 x5 x6 x7 x8 x9 (ix4 0 n r q)
      = (∑ k : Fin 1024, uB x0 x1 x2 x3 r k * x4 (ix3 0 k ⟨n.val * 128 + q.val, by omega⟩)) * qScale := by
  refine (Value.canon10_eq (View.ld x0 r0_0) (View.ld x3 r0_1) (View.ld x2 r0_2) (View.ld x1 r0_2) (View.ld x4 r0_3) (ix4 0 n r q)).trans ?_
  refine (pay8_apply _ _ _ _ _ r ⟨n.val * 128 + q.val, by omega⟩).trans ?_
  rw [ld_h, ld_g, ld_v, ld_v]
  exact congrArg (· * qScale) (Finset.sum_congr rfl fun k _ => congrArg (_ * ·) (ld_wq x4 k _))

theorem out11_apply (r : Fin 512) (j : Fin 2048) :
    out0_11 x0 x1 x2 x3 x4 x5 x6 x7 x8 x9 (ix3 0 r j) = ∑ k : Fin 1024, uB x0 x1 x2 x3 r k * x4 (ix3 0 k ⟨2048 + j.val, by omega⟩) := by
  unfold out0_11
  rw [View.canon_unit_zero (by funext a; fin_cases a <;> rfl)]
  refine (pay28_apply _ _ _ _ _ r j).trans ?_
  rw [ld_h, ld_g, ld_v, ld_v]
  exact Finset.sum_congr rfl fun k _ => congrArg (_ * ·) (ld_wz x4 k j)

theorem E12_eq (P0 : Vec Ideal S1x512x1024 .f32) (P1 : Vec Ideal S1x1024 .f32) (P2 P3 : Vec Ideal S1x1x1024 .f32) (P4 : Vec Ideal S2048x1024 .bf16) (y) :
    Value.E12 P0 P1 P2 P3 P4 y = k0_pay32 (F := Ideal) (k0_pay6 P0 P0) (k0_pay29 P1) P2 P3 P4 (Value.ix12_0 y) := rfl

theorem out12_apply (n : Fin 16) (q : Fin 128) (r : Fin 512) :
    out0_12 x0 x1 x2 x3 x4 x5 x6 x7 x8 x9 (ix4 0 n q r)
      = ∑ k : Fin 1024, uB x0 x5 x6 x7 r k * x8 (ix2 ⟨n.val * 128 + q.val, by omega⟩ k) := by
  refine (Value.canon12_eq (View.ld x0 r0_0) (View.ld x7 r0_1) (View.ld x6 r0_2) (View.ld x5 r0_2) (View.ld x8 r0_23) (ix4 0 n q r)).trans ?_
  have e : Value.ix12_0 (ix4 0 n q r) = ix2 ⟨n.val * 128 + q.val, by omega⟩ r := funext fun a => by
    match a with
    | ⟨0, _⟩ => rfl
    | ⟨1, _⟩ => rfl
  rw [E12_eq, e, pay32_apply]
  rw [ld_h, ld_g, ld_v, ld_v, ld_wk]

theorem E13_eq (P0 : Vec Ideal S1x512x1024 .f32) (P1 : Vec Ideal S1x1024 .f32) (P2 P3 : Vec Ideal S1x1x1024 .f32) (P4 : Vec Ideal S1024x2048 .bf16) (y) :
    Value.E13 P0 P1 P2 P3 P4 y = k0_pay31 (F := Ideal) (k0_pay6 P0 P0) (k0_pay29 P1) P2 P3 P4 (Value.ix13_0 y) := rfl

theorem out13_apply (n : Fin 16) (r : Fin 512) (q : Fin 128) :
    out0_13 x0 x1 x2 x3 x4 x5 x6 x7 x8 x9 (ix4 0 n r q)
      = ∑ k : Fin 1024, uB x0 x5 x6 x7 r k * x9 (ix2 k ⟨n.val * 128 + q.val, by omega⟩) := by
  refine (Value.canon13_eq (View.ld x0 r0_0) (View.ld x7 r0_1) (View.ld x6 r0_2) (View.ld x5 r0_2) (View.ld x9 r0_22) (ix4 0 n r q)).trans ?_
  have e : Value.ix13_0 (ix4 0 n r q) = ix2 r ⟨n.val * 128 + q.val, by omega⟩ := funext fun a => by
    match a with
    | ⟨0, _⟩ => rfl
    | ⟨1, _⟩ => rfl
  rw [E13_eq, e, pay31_apply]
  rw [ld_h, ld_g, ld_v, ld_v, ld_wv]

/-! The blocks the point reads. -/

variable (m : (ℓ : Loc nD τ sig) → Buf (Elt Ideal) ℓ)

theorem idx0 : ∀ t : Fin grid0.N, win0_0.index t = ![t.val / 16, t.val % 16, 0] := by decide +kernel
theorem idx1 : ∀ t : Fin grid0.N, win0_1.index t = ![t.val / 16, 0, 0] := by decide +kernel
theorem idx2 : ∀ t : Fin grid0.N, win0_2.index t = ![t.val / 16, 0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![t.val / 16, 0, 0] := by decide +kernel
theorem idx6 : ∀ t : Fin grid0.N, win0_6.index t = ![t.val / 16, 0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val / 16, 0, t.val % 16, 0] := by decide +kernel
theorem idx11 : ∀ t : Fin grid0.N, win0_11.index t = ![t.val / 16, t.val % 16, 0] := by decide +kernel
theorem idx12 : ∀ t : Fin grid0.N, win0_12.index t = ![t.val / 16, 0, 0, t.val % 16] := by decide +kernel
theorem idx13 : ∀ t : Fin grid0.N, win0_13.index t = ![t.val / 16, 0, t.val % 16, 0] := by decide +kernel
theorem lt64 (t : Fin cfg0.N) : t.val < 64 := lt_of_lt_of_eq t.isLt N_0

/-- The stream of a point and the position of a row of its tile. -/
def strm (t : Fin cfg0.N) : Fin 4 := ⟨t.val / 16, by have := lt64 t; omega⟩
def pos (t : Fin cfg0.N) (r : Fin 512) : Fin 8192 := ⟨t.val % 16 * 512 + r.val, by omega⟩

/-- The arguments as functions of their coordinates. -/
def hA (c : Dev nD) (b : Fin 4) (t : Fin 8192) (k : Fin 1024) : EReal := m ((c : Thread nD τ).loc main_arg0) (ix3 b t k)
def shA (c : Dev nD) (b : Fin 4) (k : Fin 1024) : EReal := m ((c : Thread nD τ).loc main_arg1) (ix2 b k)
def scA (c : Dev nD) (b : Fin 4) (k : Fin 1024) : EReal := m ((c : Thread nD τ).loc main_arg2) (ix2 b k)
def gA (c : Dev nD) (k : Fin 1024) : EReal := m ((c : Thread nD τ).loc main_arg3) (ix1 k)
def wA (c : Dev nD) (k : Fin 1024) (j : Fin 4096) : EReal := m ((c : Thread nD τ).loc main_arg4) (ix3 0 k j)
def shK (c : Dev nD) (b : Fin 4) (k : Fin 1024) : EReal := m ((c : Thread nD τ).loc main_arg5) (ix2 b k)
def scK (c : Dev nD) (b : Fin 4) (k : Fin 1024) : EReal := m ((c : Thread nD τ).loc main_arg6) (ix2 b k)
def gK (c : Dev nD) (k : Fin 1024) : EReal := m ((c : Thread nD τ).loc main_arg7) (ix1 k)
def wK (c : Dev nD) (k : Fin 1024) (j : Fin 4096) : EReal := m ((c : Thread nD τ).loc main_arg8) (ix2 k j)

theorem blk0 (c : Dev nD) (t : Fin cfg0.N) (r : Fin 512) (k : Fin 1024) : iblk m c 0 t (ix3 0 r k) = hA m c (strm t) (pos t r) k := by
  have := lt64 t
  unfold hA strm pos
  blk_ext [iblk, V, idx0 t]
theorem blk1 (c : Dev nD) (t : Fin cfg0.N) (k : Fin 1024) : iblk m c 1 t (ix3 0 0 k) = shA m c (strm t) k := by
  have := lt64 t
  unfold shA strm
  blk_point [iblk, V, idx1 t]
theorem blk2 (c : Dev nD) (t : Fin cfg0.N) (k : Fin 1024) : iblk m c 2 t (ix3 0 0 k) = scA m c (strm t) k := by
  have := lt64 t
  unfold scA strm
  blk_point [iblk, V, idx2 t]
theorem blk3 (c : Dev nD) (t : Fin cfg0.N) (k : Fin 1024) : iblk m c 3 t (ix2 0 k) = gA m c k := by
  have := lt64 t
  unfold gA
  blk_point [iblk, V, idx3 t]
theorem blk4 (c : Dev nD) (t : Fin cfg0.N) (k : Fin 1024) (j : Fin 4096) : iblk m c 4 t (ix3 0 k j) = wA m c k j := by
  have := lt64 t
  unfold wA
  blk_point [iblk, V, idx4 t]
theorem blk5 (c : Dev nD) (t : Fin cfg0.N) (k : Fin 1024) : iblk m c 5 t (ix3 0 0 k) = shK m c (strm t) k := by
  have := lt64 t
  unfold shK strm
  blk_point [iblk, V, idx5 t]
theorem blk6 (c : Dev nD) (t : Fin cfg0.N) (k : Fin 1024) : iblk m c 6 t (ix3 0 0 k) = scK m c (strm t) k := by
  have := lt64 t
  unfold scK strm
  blk_point [iblk, V, idx6 t]
theorem blk7 (c : Dev nD) (t : Fin cfg0.N) (k : Fin 1024) : iblk m c 7 t (ix2 0 k) = gK m c k := by
  have := lt64 t
  unfold gK
  blk_point [iblk, V, idx7 t]
theorem blk8 (c : Dev nD) (t : Fin cfg0.N) (j : Fin 2048) (k : Fin 1024) : iblk m c 8 t (ix2 j k) = wK m c k ⟨j.val, by omega⟩ := by
  have := lt64 t
  unfold wK
  blk_point [iblk, V, idx8 t]
theorem blk9 (c : Dev nD) (t : Fin cfg0.N) (k : Fin 1024) (j : Fin 2048) : iblk m c 9 t (ix2 k j) = wK m c k ⟨2048 + j.val, by omega⟩ := by
  have := lt64 t
  unfold wK
  blk_point [iblk, V, idx9 t]

/-! The results. -/

/-- The rows of the layer's own projection and those of keys and values, and their products with the weights. -/
def uQ (c : Dev nD) : Fin 4 → Fin 8192 → Fin 1024 → EReal := uT (hA m c) (shA m c) (scA m c) (gA m c)
def uK (c : Dev nD) : Fin 4 → Fin 8192 → Fin 1024 → EReal := uT (hA m c) (shK m c) (scK m c) (gK m c)

theorem uB_q (c : Dev nD) (t : Fin cfg0.N) (r : Fin 512) (k : Fin 1024) :
    uB (iblk m c 0 t) (iblk m c 1 t) (iblk m c 2 t) (iblk m c 3 t) r k = uQ m c (strm t) (pos t r) k := by
  unfold uB uQ uT
  simp only [blk0, blk1, blk2, blk3]

theorem uB_k (c : Dev nD) (t : Fin cfg0.N) (r : Fin 512) (k : Fin 1024) :
    uB (iblk m c 0 t) (iblk m c 5 t) (iblk m c 6 t) (iblk m c 7 t) r k = uK m c (strm t) (pos t r) k := by
  unfold uB uK uT
  simp only [blk0, blk5, blk6, blk7]

/-- The point of a stream and a position. -/
theorem pt_lt (b : Fin 4) (t : Fin 8192) : b.val * 16 + t.val / 512 < cfg0.N := by rw [show cfg0.N = 64 from N_0]; omega
def pt (b : Fin 4) (t : Fin 8192) : Fin cfg0.N := ⟨b.val * 16 + t.val / 512, pt_lt b t⟩
def row (t : Fin 8192) : Fin 512 := ⟨t.val % 512, Nat.mod_lt _ (by omega)⟩
theorem strm_pt (b : Fin 4) (t : Fin 8192) : strm (pt b t) = b := Fin.ext (by show (b.val * 16 + t.val / 512) / 16 = b.val; omega)
theorem pos_pt (b : Fin 4) (t : Fin 8192) : pos (pt b t) (row t) = t := Fin.ext (by show (b.val * 16 + t.val / 512) % 16 * 512 + t.val % 512 = t.val; omega)

theorem result10_apply (c : Dev nD) (b : Fin 4) (n : Fin 16) (t : Fin 8192) (q : Fin 128) :
    (dats m 0 c).arrAt 10 cfg0.N (ix4 b n t q) = vT (uQ m c) (wA m c) b t ⟨n.val * 128 + q.val, by omega⟩ * qScale := by
  have e := (congrFun (Value.blocks10 m c (pt b t) ((by decide +kernel : ∀ t : Fin grid0.N, win0_10.flush t = true) (pt b t))) (ix4 0 n (row t) q)).trans
    ((congrFun (Value.flushed10 m c (pt b t)) (ix4 0 n (row t) q)).trans (out10_apply _ _ _ _ _ _ _ _ _ _ n (row t) q))
  simp only [uB_q, blk4, strm_pt, pos_pt] at e
  refine Eq.trans ?_ e
  have hi := idx10 (pt b t)
  have hp : (pt b t).val = b.val * 16 + t.val / 512 := rfl
  unfold row
  symm
  blk_ext [hi, hp]

theorem result11_apply (c : Dev nD) (b : Fin 4) (t : Fin 8192) (j : Fin 2048) :
    (dats m 0 c).arrAt 11 cfg0.N (ix3 b t j) = vT (uQ m c) (wA m c) b t ⟨2048 + j.val, by omega⟩ := by
  have e := (congrFun (Value.blocks11 m c (pt b t) ((by decide +kernel : ∀ t : Fin grid0.N, win0_11.flush t = true) (pt b t))) (ix3 0 (row t) j)).trans
    ((congrFun (Value.flushed11 m c (pt b t)) (ix3 0 (row t) j)).trans (out11_apply _ _ _ _ _ _ _ _ _ _ (row t) j))
  simp only [uB_q, blk4, strm_pt, pos_pt] at e
  refine Eq.trans ?_ e
  have hi := idx11 (pt b t)
  have hp : (pt b t).val = b.val * 16 + t.val / 512 := rfl
  unfold row
  symm
  blk_ext [hi, hp]

theorem result12_apply (c : Dev nD) (b : Fin 4) (n : Fin 16) (q : Fin 128) (t : Fin 8192) :
    (dats m 0 c).arrAt 12 cfg0.N (ix4 b n q t) = vT (uK m c) (wK m c) b t ⟨n.val * 128 + q.val, by omega⟩ := by
  have e := (congrFun (Value.blocks12 m c (pt b t) ((by decide +kernel : ∀ t : Fin grid0.N, win0_12.flush t = true) (pt b t))) (ix4 0 n q (row t))).trans
    ((congrFun (Value.flushed12 m c (pt b t)) (ix4 0 n q (row t))).trans (out12_apply _ _ _ _ _ _ _ _ _ _ n q (row t)))
  simp only [uB_k, blk8, strm_pt, pos_pt] at e
  refine Eq.trans ?_ e
  have hi := idx12 (pt b t)
  have hp : (pt b t).val = b.val * 16 + t.val / 512 := rfl
  unfold row
  symm
  blk_ext [hi, hp]

theorem result13_apply (c : Dev nD) (b : Fin 4) (n : Fin 16) (t : Fin 8192) (q : Fin 128) :
    (dats m 0 c).arrAt 13 cfg0.N (ix4 b n t q) = vT (uK m c) (wK m c) b t ⟨2048 + (n.val * 128 + q.val), by omega⟩ := by
  have e := (congrFun (Value.blocks13 m c (pt b t) ((by decide +kernel : ∀ t : Fin grid0.N, win0_13.flush t = true) (pt b t))) (ix4 0 n (row t) q)).trans
    ((congrFun (Value.flushed13 m c (pt b t)) (ix4 0 n (row t) q)).trans (out13_apply _ _ _ _ _ _ _ _ _ _ n (row t) q))
  simp only [uB_k, blk9, strm_pt, pos_pt] at e
  refine Eq.trans ?_ e
  have hi := idx13 (pt b t)
  have hp : (pt b t).val = b.val * 16 + t.val / 512 := rfl
  unfold row
  symm
  blk_ext [hi, hp]

end Cert.SharedIdeal.Proj
end
-- ==== Proof.Proj.SharedRef.lean ====
/- The reference of the first projections, each result read at a position. -/
module

public import proofs.«01_k».proof.Proof.Gen.SharedReferenceIdeal.Read
public import proofs.«01_k».proof.Proof.Proj.Shared
public import Idealize.ShloMosaic.Lib.IdealHost

@[expose] public section
noncomputable section
namespace Cert.SharedReferenceIdeal.Proj
open Cert.SharedReferenceIdeal Cert.SharedReferenceIdeal.Gen Cert.SharedReferenceIdeal.Read Idealize.ShloMosaic Idealize.ShloMosaic.StableHlo Idealize.ShloMosaic.Pointwise
open Cert.KernelIdeal.Pool (uT vT)
open Cert.SharedIdeal.Proj (qScale)

variable (x0 : (⟨S4x8192x1024, .f32⟩ : BufTy).Contents (Elt Ideal)) (x1 x2 : (⟨S4x1024, .f32⟩ : BufTy).Contents (Elt Ideal)) (x3 : (⟨S1024, .f32⟩ : BufTy).Contents (Elt Ideal))
  (x4 : (⟨S2x1024x4096, .f32⟩ : BufTy).Contents (Elt Ideal))
  (x5 x6 : (⟨S4x1024, .f32⟩ : BufTy).Contents (Elt Ideal)) (x7 : (⟨S1024, .f32⟩ : BufTy).Contents (Elt Ideal))
  (x8 : (⟨S1024x4096, .f32⟩ : BufTy).Contents (Elt Ideal))

/-- The arguments as functions of their coordinates. -/
def hR (b : Fin 4) (t : Fin 8192) (k : Fin 1024) : EReal := x0 (ix3 b t k)
def rowR (x : (⟨S4x1024, .f32⟩ : BufTy).Contents (Elt Ideal)) (b : Fin 4) (k : Fin 1024) : EReal := x (ix2 b k)
def gR (x : (⟨S1024, .f32⟩ : BufTy).Contents (Elt Ideal)) (k : Fin 1024) : EReal := x (ix1 k)
def wR (k : Fin 1024) (j : Fin 4096) : EReal := x4 (ix3 0 k j)
def uQ : Fin 4 → Fin 8192 → Fin 1024 → EReal := uT (hR x0) (rowR x1) (rowR x2) (gR x3)
def wK (k : Fin 1024) (j : Fin 4096) : EReal := x8 (ix2 k j)
def uK : Fin 4 → Fin 8192 → Fin 1024 → EReal := uT (hR x0) (rowR x5) (rowR x6) (gR x7)

/-- The normalised and modulated rows for the queries. -/
theorem uQ_apply (b : Fin 4) (t : Fin 8192) (k : Fin 1024) : val_main_v20 (F := Ideal) x0 x1 x2 x3 (ix3 b t k) = uQ x0 x1 x2 x3 b t k := by
  rw [val_main_v20_apply, val_main_v17_apply, val_main_v12_apply, val_main_v9_apply, val_main_v8_apply, val_main_v7_apply, val_main_v6_apply, val_main_v4_apply, val_main_v2_apply, val_main_v1_apply, val_main_v3_apply, val_main_v5_apply, val_main_v11_apply, val_main_v10_apply, val_main_v16_apply, val_main_v15_apply, val_main_v13_apply, val_main_v14_apply, val_main_v19_apply, val_main_v18_apply]
  have e0 : ∀ j : Fin 1024, val_main_v0 (F := Ideal) x0 (idx_main_v1 (idx_main_v2 (idx_main_v8 (ix3 b t k))) j) = hR x0 b t j * hR x0 b t j := fun j => by
    have e : idx_main_v1 (idx_main_v2 (idx_main_v8 (ix3 b t k))) j = ix3 b t j := funext fun a => by
      match a with
      | ⟨0, _⟩ => rfl
      | ⟨1, _⟩ => rfl
      | ⟨2, _⟩ => rfl
    rw [val_main_v0_apply, e]; rfl
  have e1 : idx_main_v10 (idx_main_v11 (ix3 b t k)) = ix1 k := funext fun a => by
    match a with
    | ⟨0, _⟩ => rfl
  have e2 : idx_main_v13 (idx_main_v16 (ix3 b t k)) = ix2 b k := funext fun a => by
    match a with
    | ⟨0, _⟩ => rfl
    | ⟨1, _⟩ => rfl
  have e3 : idx_main_v18 (idx_main_v19 (ix3 b t k)) = ix2 b k := funext fun a => by
    match a with
    | ⟨0, _⟩ => rfl
    | ⟨1, _⟩ => rfl
  simp only [e0, e1, e2, e3]
  show x0 (ix3 b t k) * Ideal.rsqrt (Ideal.div (Ideal.ofBits .f32 0x00000000#32 + ∑ j, hR x0 b t j * hR x0 b t j) (Ideal.ofBits .f32 0x44800000#32)
      + Ideal.ofBits .f32 0x358637BD#32) * x3 (ix1 k) * (Ideal.ofBits .f32 0x3F800000#32 + x2 (ix2 b k)) + x1 (ix2 b k) = _
  rw [Ideal.ofBits_zero_f32, Ideal.ofBits_one_f32, zero_add, mul_assoc (_ * _) (x3 (ix1 k))]
  rfl

/-- Their product with the input weights. -/
theorem vQ_apply (b : Fin 4) (t : Fin 8192) (k : Fin 4096) : val_main_v23 (F := Ideal) x0 x1 x2 x3 x4 (ix3 b t k) = vT (uQ x0 x1 x2 x3) (wR x4) b t k := by
  rw [val_main_v23_apply]
  show _ = ∑ j : Fin 1024, uQ x0 x1 x2 x3 b t j * wR x4 j k
  refine Finset.sum_congr rfl fun j _ => ?_
  have e0 : lidx_main_v23 (ix3 b t k) j = ix3 b t j := funext fun a => by
    match a with
    | ⟨0, _⟩ => rfl
    | ⟨1, _⟩ => rfl
    | ⟨2, _⟩ => rfl
  have e1 : idx_main_v21 (idx_main_v22 (ridx_main_v23 (ix3 b t k) j)) = ix3 0 j k := funext fun a => Fin.ext (by
    match a with
    | ⟨0, _⟩ => rfl
    | ⟨1, _⟩ => show (j.val * 4096 + k.val) / 4096 % 1024 = j.val; omega
    | ⟨2, _⟩ => show (j.val * 4096 + k.val) % 4096 = k.val; omega)
  rw [e0, uQ_apply, val_main_v22_apply, val_main_v21_apply, e1]
  rfl

/-- The queries by head, scaled. -/
theorem query_apply (b : Fin 4) (n : Fin 16) (t : Fin 8192) (q : Fin 128) :
    val_main_v58 (F := Ideal) x0 x1 x2 x3 x4 (ix4 b n t q) = vT (uQ x0 x1 x2 x3) (wR x4) b t ⟨n.val * 128 + q.val, by omega⟩ * qScale := by
  rw [val_main_v58_apply, val_main_v57_apply, val_main_v51_apply, val_main_v50_apply, val_main_v24_apply, val_main_v56_apply, val_main_cst_7_apply, ← vQ_apply]
  have e : idx_main_v24 (idx_main_v50 (idx_main_v51 (ix4 b n t q))) = ix3 b t ⟨n.val * 128 + q.val, by omega⟩ := funext fun a => Fin.ext (by
    match a with
    | ⟨0, _⟩ => show (((b.val * 8192 + t.val) * 16 + n.val) * 128 + q.val) / 16777216 = b.val; omega
    | ⟨1, _⟩ => show (((b.val * 8192 + t.val) * 16 + n.val) * 128 + q.val) / 2048 % 8192 = t.val; omega
    | ⟨2, _⟩ => show (((b.val * 8192 + t.val) * 16 + n.val) * 128 + q.val) % 2048 = n.val * 128 + q.val; omega)
  rw [e]
  rfl

/-- The gate. -/
theorem gate_apply (b : Fin 4) (t : Fin 8192) (j : Fin 2048) :
    val_main_v25 (F := Ideal) x0 x1 x2 x3 x4 (ix3 b t j) = vT (uQ x0 x1 x2 x3) (wR x4) b t ⟨2048 + j.val, by omega⟩ := by
  rw [val_main_v25_apply, ← vQ_apply]
  refine congrArg _ (funext fun a => Fin.ext ?_)
  match a with
  | ⟨0, _⟩ => rfl
  | ⟨1, _⟩ => rfl
  | ⟨2, _⟩ => rfl

/-- The normalised and modulated rows for the keys and values. -/
theorem uK_apply (b : Fin 4) (t : Fin 8192) (k : Fin 1024) : val_main_v46 (F := Ideal) x0 x5 x6 x7 (ix3 b t k) = uK x0 x5 x6 x7 b t k := by
  rw [val_main_v46_apply, val_main_v43_apply, val_main_v38_apply, val_main_v35_apply, val_main_v34_apply, val_main_v33_apply, val_main_v32_apply, val_main_v30_apply, val_main_v28_apply, val_main_v27_apply, val_main_v29_apply, val_main_v31_apply, val_main_v37_apply, val_main_v36_apply, val_main_v42_apply, val_main_v41_apply, val_main_v39_apply, val_main_v40_apply, val_main_v45_apply, val_main_v44_apply]
  have e0 : ∀ j : Fin 1024, val_main_v26 (F := Ideal) x0 (idx_main_v27 (idx_main_v28 (idx_main_v34 (ix3 b t k))) j) = hR x0 b t j * hR x0 b t j := fun j => by
    have e : idx_main_v27 (idx_main_v28 (idx_main_v34 (ix3 b t k))) j = ix3 b t j := funext fun a => by
      match a with
      | ⟨0, _⟩ => rfl
      | ⟨1, _⟩ => rfl
      | ⟨2, _⟩ => rfl
    rw [val_main_v26_apply, e]; rfl
  have e1 : idx_main_v36 (idx_main_v37 (ix3 b t k)) = ix1 k := funext fun a => by
    match a with
    | ⟨0, _⟩ => rfl
  have e2 : idx_main_v39 (idx_main_v42 (ix3 b t k)) = ix2 b k := funext fun a => by
    match a with
    | ⟨0, _⟩ => rfl
    | ⟨1, _⟩ => rfl
  have e3 : idx_main_v44 (idx_main_v45 (ix3 b t k)) = ix2 b k := funext fun a => by
    match a with
    | ⟨0, _⟩ => rfl
    | ⟨1, _⟩ => rfl
  simp only [e0, e1, e2, e3]
  show x0 (ix3 b t k) * Ideal.rsqrt (Ideal.div (Ideal.ofBits .f32 0x00000000#32 + ∑ j, hR x0 b t j * hR x0 b t j) (Ideal.ofBits .f32 0x44800000#32)
      + Ideal.ofBits .f32 0x358637BD#32) * x7 (ix1 k) * (Ideal.ofBits .f32 0x3F800000#32 + x6 (ix2 b k)) + x5 (ix2 b k) = _
  rw [Ideal.ofBits_zero_f32, Ideal.ofBits_one_f32, zero_add, mul_assoc (_ * _) (x7 (ix1 k))]
  rfl

/-- Their product with the shared weights. -/
theorem vK_apply (b : Fin 4) (t : Fin 8192) (k : Fin 4096) : val_main_v47 (F := Ideal) x0 x5 x6 x7 x8 (ix3 b t k) = vT (uK x0 x5 x6 x7) (wK x8) b t k := by
  rw [val_main_v47_apply]
  show _ = ∑ j : Fin 1024, uK x0 x5 x6 x7 b t j * wK x8 j k
  refine Finset.sum_congr rfl fun j _ => ?_
  have e0 : lidx_main_v47 (ix3 b t k) j = ix3 b t j := funext fun a => by
    match a with
    | ⟨0, _⟩ => rfl
    | ⟨1, _⟩ => rfl
    | ⟨2, _⟩ => rfl
  have e1 : ridx_main_v47 (ix3 b t k) j = ix2 j k := funext fun a => by
    match a with
    | ⟨0, _⟩ => rfl
    | ⟨1, _⟩ => rfl
  rw [e0, uK_apply, e1]
  rfl

/-- The keys by head, a column for each position. -/
theorem key_apply (b : Fin 4) (n : Fin 16) (q : Fin 128) (t : Fin 8192) :
    val_main_v60 (F := Ideal) x0 x5 x6 x7 x8 (ix4 b n q t) = vT (uK x0 x5 x6 x7) (wK x8) b t ⟨n.val * 128 + q.val, by omega⟩ := by
  rw [val_main_v60_apply, val_main_v59_apply, val_main_v53_apply, val_main_v52_apply, val_main_v48_apply, ← vK_apply]
  have e : idx_main_v48 (idx_main_v52 (idx_main_v53 (idx_main_v59 (ix4 b n q t)))) = ix3 b t ⟨n.val * 128 + q.val, by omega⟩ := funext fun a => Fin.ext (by
    match a with
    | ⟨0, _⟩ => show (((b.val * 8192 + t.val) * 16 + n.val) * 128 + q.val) / 16777216 = b.val; omega
    | ⟨1, _⟩ => show (((b.val * 8192 + t.val) * 16 + n.val) * 128 + q.val) / 2048 % 8192 = t.val; omega
    | ⟨2, _⟩ => show (((b.val * 8192 + t.val) * 16 + n.val) * 128 + q.val) % 2048 = n.val * 128 + q.val; omega)
  rw [e]
  rfl

/-- The values by head. -/
theorem value_apply (b : Fin 4) (n : Fin 16) (t : Fin 8192) (q : Fin 128) :
    val_main_v61 (F := Ideal) x0 x5 x6 x7 x8 (ix4 b n t q) = vT (uK x0 x5 x6 x7) (wK x8) b t ⟨2048 + (n.val * 128 + q.val), by omega⟩ := by
  rw [val_main_v61_apply, val_main_v55_apply, val_main_v54_apply, val_main_v49_apply, ← vK_apply]
  have e : idx_main_v49 (idx_main_v54 (idx_main_v55 (ix4 b n t q))) = ix3 b t ⟨2048 + (n.val * 128 + q.val), by omega⟩ := funext fun a => Fin.ext (by
    match a with
    | ⟨0, _⟩ => show (((b.val * 8192 + t.val) * 16 + n.val) * 128 + q.val) / 16777216 = b.val; omega
    | ⟨1, _⟩ => show (((b.val * 8192 + t.val) * 16 + n.val) * 128 + q.val) / 2048 % 8192 = t.val; omega
    | ⟨2, _⟩ => show 2048 + (((b.val * 8192 + t.val) * 16 + n.val) * 128 + q.val) % 2048 = 2048 + (n.val * 128 + q.val); omega)
  rw [e]
  rfl

end Cert.SharedReferenceIdeal.Proj
end
-- ==== Proof.Claims.Shared.lean ====
/- The first projections' value claim: from arguments that agree, each of the call's four results is the reference's. -/
module

public import proofs.«01_k».proof.Defs
public import proofs.«01_k».proof.Proof.Gen.SharedReferenceIdeal.Run
public import proofs.«01_k».proof.Proof.Proj.Shared
public import proofs.«01_k».proof.Proof.Proj.SharedRef

@[expose] public section
set_option maxRecDepth 16384
noncomputable section
namespace Cert.Proof
open Idealize.ShloMosaic Idealize.ShloMosaic.TcCoe Idealize.SL.Sem

theorem shared_query (m : (ℓ : Loc Cert.SharedIdeal.nD Cert.SharedIdeal.τ Cert.SharedIdeal.sig) → Buf (Elt Ideal) ℓ) (c : Dev Cert.SharedIdeal.nD) :
    Cert.SharedReferenceIdeal.Read.val_main_v58 (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4))
      = (Cert.SharedIdeal.Gen.dats m 0 c).arrAt 10 Cert.SharedIdeal.cfg0.N := by
  funext i
  obtain ⟨b, n, t, q, rfl⟩ : ∃ (b : Fin 4) (n : Fin 16) (t : Fin 8192) (q : Fin 128), i = Idealize.ShloMosaic.ix4 b n t q :=
    ⟨i 0, i 1, i 2, i 3, funext fun a => by
      match a with
      | ⟨0, _⟩ => rfl
      | ⟨1, _⟩ => rfl
      | ⟨2, _⟩ => rfl
      | ⟨3, _⟩ => rfl⟩
  exact (Cert.SharedReferenceIdeal.Proj.query_apply _ _ _ _ _ b n t q).trans (Cert.SharedIdeal.Proj.result10_apply m c b n t q).symm

theorem shared_gate (m : (ℓ : Loc Cert.SharedIdeal.nD Cert.SharedIdeal.τ Cert.SharedIdeal.sig) → Buf (Elt Ideal) ℓ) (c : Dev Cert.SharedIdeal.nD) :
    Cert.SharedReferenceIdeal.Read.val_main_v25 (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4))
      = (Cert.SharedIdeal.Gen.dats m 0 c).arrAt 11 Cert.SharedIdeal.cfg0.N := by
  funext i
  obtain ⟨b, t, j, rfl⟩ : ∃ (b : Fin 4) (t : Fin 8192) (j : Fin 2048), i = Idealize.ShloMosaic.ix3 b t j :=
    ⟨i 0, i 1, i 2, funext fun a => by
      match a with
      | ⟨0, _⟩ => rfl
      | ⟨1, _⟩ => rfl
      | ⟨2, _⟩ => rfl⟩
  exact (Cert.SharedReferenceIdeal.Proj.gate_apply _ _ _ _ _ b t j).trans (Cert.SharedIdeal.Proj.result11_apply m c b t j).symm

theorem shared_key (m : (ℓ : Loc Cert.SharedIdeal.nD Cert.SharedIdeal.τ Cert.SharedIdeal.sig) → Buf (Elt Ideal) ℓ) (c : Dev Cert.SharedIdeal.nD) :
    Cert.SharedReferenceIdeal.Read.val_main_v60 (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg5)) (m ((c.tc : Thread Cert.SharedIdeal.nD Cert.SharedIdeal.τ).loc Cert.SharedIdeal.main_arg6)) (m ((c.tc : Thread Cert.SharedIdeal.nD Cert.SharedIdeal.τ).loc Cert.SharedIdeal.main_arg7)) (m ((c.tc : Thread Cert.SharedIdeal.nD Cert.SharedIdeal.τ).loc Cert.SharedIdeal.main_arg8))
      = (Cert.SharedIdeal.Gen.dats m 0 c).arrAt 12 Cert.SharedIdeal.cfg0.N := by
  funext i
  obtain ⟨b, n, q, t, rfl⟩ : ∃ (b : Fin 4) (n : Fin 16) (q : Fin 128) (t : Fin 8192), i = Idealize.ShloMosaic.ix4 b n q t :=
    ⟨i 0, i 1, i 2, i 3, funext fun a => by
      match a with
      | ⟨0, _⟩ => rfl
      | ⟨1, _⟩ => rfl
      | ⟨2, _⟩ => rfl
      | ⟨3, _⟩ => rfl⟩
  exact (Cert.SharedReferenceIdeal.Proj.key_apply _ _ _ _ _ b n q t).trans (Cert.SharedIdeal.Proj.result12_apply m c b n q t).symm

theorem shared_value (m : (ℓ : Loc Cert.SharedIdeal.nD Cert.SharedIdeal.τ Cert.SharedIdeal.sig) → Buf (Elt Ideal) ℓ) (c : Dev Cert.SharedIdeal.nD) :
    Cert.SharedReferenceIdeal.Read.val_main_v61 (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg5)) (m ((c.tc : Thread Cert.SharedIdeal.nD Cert.SharedIdeal.τ).loc Cert.SharedIdeal.main_arg6)) (m ((c.tc : Thread Cert.SharedIdeal.nD Cert.SharedIdeal.τ).loc Cert.SharedIdeal.main_arg7)) (m ((c.tc : Thread Cert.SharedIdeal.nD Cert.SharedIdeal.τ).loc Cert.SharedIdeal.main_arg8))
      = (Cert.SharedIdeal.Gen.dats m 0 c).arrAt 13 Cert.SharedIdeal.cfg0.N := by
  funext i
  obtain ⟨b, n, t, q, rfl⟩ : ∃ (b : Fin 4) (n : Fin 16) (t : Fin 8192) (q : Fin 128), i = Idealize.ShloMosaic.ix4 b n t q :=
    ⟨i 0, i 1, i 2, i 3, funext fun a => by
      match a with
      | ⟨0, _⟩ => rfl
      | ⟨1, _⟩ => rfl
      | ⟨2, _⟩ => rfl
      | ⟨3, _⟩ => rfl⟩
  exact (Cert.SharedReferenceIdeal.Proj.value_apply _ _ _ _ _ b n t q).trans (Cert.SharedIdeal.Proj.result13_apply m c b n t q).symm

theorem shared_claim :
    algebraic_SharedIdeal_SharedReferenceIdeal (hSharedIdeal := Cert.SharedIdeal.Gen.facts) (hSharedReferenceIdeal := Cert.SharedReferenceIdeal.Gen.facts) := by
  intro m g m' g' _ hm
  refine ⟨fun c => (Cert.SharedIdeal.Gen.dats m 0 c).arrAt 10 Cert.SharedIdeal.cfg0.N, fun c => (Cert.SharedIdeal.Gen.dats m 0 c).arrAt 11 Cert.SharedIdeal.cfg0.N, fun c => (Cert.SharedIdeal.Gen.dats m 0 c).arrAt 12 Cert.SharedIdeal.cfg0.N, fun c => (Cert.SharedIdeal.Gen.dats m 0 c).arrAt 13 Cert.SharedIdeal.cfg0.N, Cert.SharedIdeal.Value.run_blocks m g, ?_⟩
  refine (θ_run _ _ _).mono (fun r h c => ?_) (Cert.SharedReferenceIdeal.Value.run m' g')
  obtain ⟨a0, a1, a2, a3, a4, a5, a6, a7, a8⟩ := hm c
  refine ⟨(h c).1.trans ?_, (h c).2.1.trans ?_, (h c).2.2.1.trans ?_, (h c).2.2.2.1.trans ?_, (h c).2.2.2.2⟩
  · rw [Cert.SharedReferenceIdeal.Read.val_main_v58_eq, a0, a1, a2, a3, a4]
    exact shared_query m c
  · rw [Cert.SharedReferenceIdeal.Read.val_main_v25_eq, a0, a1, a2, a3, a4]
    exact shared_gate m c
  · rw [Cert.SharedReferenceIdeal.Read.val_main_v60_eq, a0, a5, a6, a7, a8]
    exact shared_key m c
  · rw [Cert.SharedReferenceIdeal.Read.val_main_v61_eq, a0, a5, a6, a7, a8]
    exact shared_value m c

end Cert.Proof
end
-- ==== Proof.Proj.QueryRun.lean ====
/- The second projection call's run: its two results after it, block by block, and its arguments as they were. -/
module

public import proofs.«01_k».proof.Proof.Gen.QueryIdeal.Frame
public import Idealize.ShloMosaic.Lib.Pipeline.Value

@[expose] public section
noncomputable section
namespace Cert.QueryIdeal.Proj
open Cert.QueryIdeal Cert.QueryIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! What each point writes back, the final arrays block by block, and the arguments after the run. -/

theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S4x16x8192x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S4x8192x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.QueryIdeal.Proj
end
-- ==== Proof.Proj.Query.lean ====
/- What the second projection call leaves in its two results, read at an index: queries by head and scaled, gate inputs.
   Two streams share a point: their rows are stacked, multiplied by the weights at once, and stored apart. -/
module

public import proofs.«01_k».proof.Proof.Proj.QueryRun
public import proofs.«01_k».proof.Proof.Proj.Shared
public import Idealize.ShloMosaic.Lib.Pipeline.Value
public import Idealize.ShloMosaic.Lib.Pointwise
public import Idealize.ShloMosaic.Lib.Pipeline.ValueKit
public import Idealize.ShloMosaic.Lib.Claim

@[expose] public section
set_option maxRecDepth 16384
noncomputable section
namespace Cert.QueryIdeal.Proj
open Idealize.ShloMosaic Idealize.ShloMosaic.TcCoe Idealize.ShloMosaic.Pointwise Idealize.SL.Sem
open Cert.QueryIdeal Cert.QueryIdeal.Gen
open Cert.KernelIdeal.Pool (uS uT vT ld_rows ld_vec)
open Cert.SharedIdeal.Proj (qScale)

/-- Row `r` of stream `s` of a block, normalised and modulated. -/
def uB (x0 : Vec Ideal S2x512x1024 .f32) (sh sc : Vec Ideal S2x1x1024 .f32) (g : Vec Ideal S1x1024 .f32) (s : Fin 2) (r : Fin 512) (k : Fin 1024) : EReal :=
  uS (fun j => x0 (ix3 s r j)) (fun j => g (ix2 0 j)) (fun j => sc (ix3 s 0 j)) (fun j => sh (ix3 s 0 j)) k

variable (x0 : Vec Ideal S2x512x1024 .f32) (x1 x2 : Vec Ideal S2x1x1024 .f32) (x3 : Vec Ideal S1x1024 .f32) (x4 : Vec Ideal S1x1024x4096 .bf16)

theorem ld_g : View.ld x3 r0_2 = x3 := View.ld_unit_zero (by funext a; fin_cases a <;> rfl) _ x3
theorem ld_h0 (r : Fin 512) (j : Fin 1024) : View.ld x0 r0_0 (ix3 0 r j) = x0 (ix3 0 r j) := ld_rows x0 0 _ r j
theorem ld_h1 (r : Fin 512) (j : Fin 1024) : View.ld x0 r0_1 (ix3 0 r j) = x0 (ix3 1 r j) := ld_rows x0 1 _ r j
theorem ld_v0 (j : Fin 1024) : View.ld x1 r0_3 (ix3 0 0 j) = x1 (ix3 0 0 j) := ld_vec x1 0 _ j
theorem ld_v1 (j : Fin 1024) : View.ld x1 r0_4 (ix3 0 0 j) = x1 (ix3 1 0 j) := ld_vec x1 1 _ j
theorem ld_wq (k : Fin 1024) (j : Fin 2048) : View.ld x4 r0_5 (ix3 0 k j) = x4 (ix3 0 k ⟨j.val, by omega⟩) := by
  refine congrArg x4 (funext fun a => Fin.ext ?_)
  fin_cases a <;> simp [Rect.emb_apply, Rect.unit, ix3]
theorem ld_wz (k : Fin 1024) (j : Fin 2048) : View.ld x4 r0_38 (ix3 0 k j) = x4 (ix3 0 k ⟨2048 + j.val, by omega⟩) := by
  refine congrArg x4 (funext fun a => Fin.ext ?_)
  fin_cases a <;> simp [Rect.emb_apply, Rect.unit, ix3]

/-- The stacked rows. -/
theorem pay9_apply (P0 P4 : Vec Ideal S1x512x1024 .f32) (P1 : Vec Ideal S1x1024 .f32) (P2 P3 P5 P6 : Vec Ideal S1x1x1024 .f32) (s : Fin 2) (r : Fin 512) (k : Fin 1024) :
    k0_pay9 (F := Ideal) (k0_pay5 P0 P0) (k0_pay6 P4 P4) (k0_pay7 P1) (k0_pay8 P2) P3 P1 P5 P6 (ix2 ⟨s.val * 512 + r.val, by omega⟩ k)
      = if s = 0 then uS (fun j => P0 (ix3 0 r j)) (fun j => P1 (ix2 0 j)) (fun j => P2 (ix3 0 0 j)) (fun j => P3 (ix3 0 0 j)) k
        else uS (fun j => P4 (ix3 0 r j)) (fun j => P1 (ix2 0 j)) (fun j => P5 (ix3 0 0 j)) (fun j => P6 (ix3 0 0 j)) k := by
  unfold uS
  fin_cases s
  · pointwise [k0_pay9, k0_pay5, k0_pay6, k0_pay7, k0_pay8]
  · pointwise [k0_pay9, k0_pay5, k0_pay6, k0_pay7, k0_pay8]

/-- The rows of both streams, stacked, by stream and row. -/
theorem pay51_apply (s : Fin 2) (r : Fin 512) (k : Fin 1024) :
    k0_pay51 x0 x1 x2 x3 x4 (ix2 ⟨s.val * 512 + r.val, by omega⟩ k) = uB x0 x1 x2 x3 s r k := by
  refine (pay9_apply (View.ld x0 r0_0) (View.ld x0 r0_1) (View.ld x3 r0_2) (View.ld x2 r0_3) (View.ld x1 r0_3) (View.ld x2 r0_4) (View.ld x1 r0_4) s r k).trans ?_
  unfold uB
  rw [ld_g]
  fin_cases s
  · refine (if_pos rfl).trans ?_
    show uS (fun j => View.ld x0 r0_0 (ix3 0 r j)) _ (fun j => View.ld x2 r0_3 (ix3 0 0 j)) (fun j => View.ld x1 r0_3 (ix3 0 0 j)) k = _
    rw [funext (ld_h0 x0 r), funext (ld_v0 x1), funext (ld_v0 x2)]
    rfl
  · refine (if_neg (by decide)).trans ?_
    show uS (fun j => View.ld x0 r0_1 (ix3 0 r j)) _ (fun j => View.ld x2 r0_4 (ix3 0 0 j)) (fun j => View.ld x1 r0_4 (ix3 0 0 j)) k = _
    rw [funext (ld_h1 x0 r), funext (ld_v1 x1), funext (ld_v1 x2)]
    rfl

/-- The scaled query product of stream `s`. -/
def qS (s : Fin 2) : FVec Ideal S512x2048 .f32 := if s = 0 then k0_pay53 x0 x1 x2 x3 x4 else k0_pay54 x0 x1 x2 x3 x4

theorem pay52_apply (s : Fin 2) (r : Fin 512) (j : Fin 2048) :
    k0_pay52 x0 x1 x2 x3 x4 (ix2 ⟨s.val * 512 + r.val, by omega⟩ j) = ∑ k : Fin 1024, uB x0 x1 x2 x3 s r k * x4 (ix3 0 k ⟨j.val, by omega⟩) := by
  have e : k0_pay52 x0 x1 x2 x3 x4 = matmul dot_S1024x1024_S1024x2048_S1024x2048_1_0_0_1_n_n none (k0_pay51 x0 x1 x2 x3 x4)
    (shapeCast S1024x2048 (View.ld x4 r0_5) shapeCasts_S1x1024x2048_S1024x2048) (constant S1024x2048 .f32 0x00000000#32) := rfl
  rw [e]
  refine Eq.trans ?_ (Finset.sum_congr rfl fun k _ => congrArg₂ (· * ·) (pay51_apply x0 x1 x2 x3 x4 s r k) (ld_wq x4 k j))
  generalize k0_pay51 x0 x1 x2 x3 x4 = u
  generalize View.ld x4 r0_5 = w
  pointwise

theorem qS_apply (s : Fin 2) (r : Fin 512) (j : Fin 2048) :
    qS x0 x1 x2 x3 x4 s (ix2 r j) = (∑ k : Fin 1024, uB x0 x1 x2 x3 s r k * x4 (ix3 0 k ⟨j.val, by omega⟩)) * qScale := by
  rw [← pay52_apply]
  fin_cases s
  · have e : qS x0 x1 x2 x3 x4 0 = mulf (extractStridedSlice S512x2048 ![0, 0] (k0_pay52 x0 x1 x2 x3 x4) slices_S1024x2048_o0_0_S512x2048)
      (broadcast S512x2048 (Scalar.ofBits .f32 0x3E0293EE#32)) := rfl
    show qS x0 x1 x2 x3 x4 0 _ = _
    rw [e]
    generalize k0_pay52 x0 x1 x2 x3 x4 = v
    unfold qScale
    pointwise
  · have e : qS x0 x1 x2 x3 x4 1 = mulf (extractStridedSlice S512x2048 ![512, 0] (k0_pay52 x0 x1 x2 x3 x4) slices_S1024x2048_o512_0_S512x2048)
      (broadcast S512x2048 (Scalar.ofBits .f32 0x3E0293EE#32)) := rfl
    show qS x0 x1 x2 x3 x4 1 _ = _
    rw [e]
    generalize k0_pay52 x0 x1 x2 x3 x4 = v
    unfold qScale
    pointwise

/-- The block, by head. -/
def headed (v : Fin 2 → FVec Ideal S512x2048 .f32) (y : S2x16x512x128.Idx) : EReal :=
  v ⟨(y 0).val, (y 0).isLt⟩ (ix2 ⟨(y 2).val, (y 2).isLt⟩ ⟨(y 1).val * 128 + (y 3).val, by
    have h1 : (y 1).val < 16 := (y 1).isLt
    have h3 : (y 3).val < 128 := (y 3).isLt
    omega⟩)

/-- Head `n` of stream `s`, stored. -/
theorem piece_eq (v : Fin 2 → FVec Ideal S512x2048 .f32) (s : Fin 2) (n : Fin 16) (hs : S512x2048.Slices ![0, n.val * 128] S512x128)
    (inb) (x : S1x1x512x128.Idx) :
    shapeCast S1x1x512x128 (truncf .bf16 (extractStridedSlice S512x128 ![0, n.val * 128] (v s) hs) bitsLt_bf16_f32) shapeCasts_S512x128_S1x1x512x128 x
      = headed v ((Rect.unit (s := S2x16x512x128) ![s.val, n.val, 0, 0] S1x1x512x128.size inb).emb x) := by
  obtain ⟨r, q, rfl⟩ : ∃ (r : Fin 512) (q : Fin 128), x = ix4 0 0 r q := ⟨x 2, x 3, by
    funext a
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl⟩
  have e : headed v ((Rect.unit (s := S2x16x512x128) ![s.val, n.val, 0, 0] S1x1x512x128.size inb).emb (ix4 0 0 r q)) = v s (ix2 r ⟨n.val * 128 + q.val, by omega⟩) := by
    unfold headed
    have h0 : ((Rect.unit (s := S2x16x512x128) ![s.val, n.val, 0, 0] S1x1x512x128.size inb).emb (ix4 0 0 r q) 0).val = s.val := by
      rw [Rect.emb_apply]; show s.val + 1 * 0 = _; omega
    have h1 : ((Rect.unit (s := S2x16x512x128) ![s.val, n.val, 0, 0] S1x1x512x128.size inb).emb (ix4 0 0 r q) 1).val = n.val := by
      rw [Rect.emb_apply]; show n.val + 1 * 0 = _; omega
    have h2 : ((Rect.unit (s := S2x16x512x128) ![s.val, n.val, 0, 0] S1x1x512x128.size inb).emb (ix4 0 0 r q) 2).val = r.val := by
      rw [Rect.emb_apply]; show 0 + 1 * r.val = _; omega
    have h3 : ((Rect.unit (s := S2x16x512x128) ![s.val, n.val, 0, 0] S1x1x512x128.size inb).emb (ix4 0 0 r q) 3).val = q.val := by
      rw [Rect.emb_apply]; show 0 + 1 * q.val = _; omega
    simp only [h0, h1, h2, h3]
  rw [e]
  generalize v s = w
  pointwise

theorem out5_eq (y : S2x16x512x128.Idx) : out0_5 x0 x1 x2 x3 x4 y = headed (qS x0 x1 x2 x3 x4) y := by
  refine View.canon_apply_of_pieces (Val := Elt Ideal) (headed (qS x0 x1 x2 x3 x4)) _ ?_ y (cover0_5 _ _ _ _ _ _ _ _ _ _ _ _ _ _ _ _ _ _ _ _ _ _ _ _ _ _ _ _ _ _ _ _ y)
  intro pc hpc
  rcases List.mem_cons.mp hpc with rfl | hpc
  · exact fun x => piece_eq (qS x0 x1 x2 x3 x4) 1 15 (by decide) (by decide) x
  rcases List.mem_cons.mp hpc with rfl | hpc
  · exact fun x => piece_eq (qS x0 x1 x2 x3 x4) 1 14 (by decide) (by decide) x
  rcases List.mem_cons.mp hpc with rfl | hpc
  · exact fun x => piece_eq (qS x0 x1 x2 x3 x4) 1 13 (by decide) (by decide) x
  rcases List.mem_cons.mp hpc with rfl | hpc
  · exact fun x => piece_eq (qS x0 x1 x2 x3 x4) 1 12 (by decide) (by decide) x
  rcases List.mem_cons.mp hpc with rfl | hpc
  · exact fun x => piece_eq (qS x0 x1 x2 x3 x4) 1 11 (by decide) (by decide) x
  rcases List.mem_cons.mp hpc with rfl | hpc
  · exact fun x => piece_eq (qS x0 x1 x2 x3 x4) 1 10 (by decide) (by decide) x
  rcases List.mem_cons.mp hpc with rfl | hpc
  · exact fun x => piece_eq (qS x0 x1 x2 x3 x4) 1 9 (by decide) (by decide) x
  rcases List.mem_cons.mp hpc with rfl | hpc
  · exact fun x => piece_eq (qS x0 x1 x2 x3 x4) 1 8 (by decide) (by decide) x
  rcases List.mem_cons.mp hpc with rfl | hpc
  · exact fun x => piece_eq (qS x0 x1 x2 x3 x4) 1 7 (by decide) (by decide) x
  rcases List.mem_cons.mp hpc with rfl | hpc
  · exact fun x => piece_eq (qS x0 x1 x2 x3 x4) 1 6 (by decide) (by decide) x
  rcases List.mem_cons.mp hpc with rfl | hpc
  · exact fun x => piece_eq (qS x0 x1 x2 x3 x4) 1 5 (by decide) (by decide) x
  rcases List.mem_cons.mp hpc with rfl | hpc
  · exact fun x => piece_eq (qS x0 x1 x2 x3 x4) 1 4 (by decide) (by decide) x
  rcases List.mem_cons.mp hpc with rfl | hpc
  · exact fun x => piece_eq (qS x0 x1 x2 x3 x4) 1 3 (by decide) (by decide) x
  rcases List.mem_cons.mp hpc with rfl | hpc
  · exact fun x => piece_eq (qS x0 x1 x2 x3 x4) 1 2 (by decide) (by decide) x
  rcases List.mem_cons.mp hpc with rfl | hpc
  · exact fun x => piece_eq (qS x0 x1 x2 x3 x4) 1 1 (by decide) (by decide) x
  rcases List.mem_cons.mp hpc with rfl | hpc
  · exact fun x => piece_eq (qS x0 x1 x2 x3 x4) 1 0 (by decide) (by decide) x
  rcases List.mem_cons.mp hpc with rfl | hpc
  · exact fun x => piece_eq (qS x0 x1 x2 x3 x4) 0 15 (by decide) (by decide) x
  rcases List.mem_cons.mp hpc with rfl | hpc
  · exact fun x => piece_eq (qS x0 x1 x2 x3 x4) 0 14 (by decide) (by decide) x
  rcases List.mem_cons.mp hpc with rfl | hpc
  · exact fun x => piece_eq (qS x0 x1 x2 x3 x4) 0 13 (by decide) (by decide) x
  rcases List.mem_cons.mp hpc with rfl | hpc
  · exact fun x => piece_eq (qS x0 x1 x2 x3 x4) 0 12 (by decide) (by decide) x
  rcases List.mem_cons.mp hpc with rfl | hpc
  · exact fun x => piece_eq (qS x0 x1 x2 x3 x4) 0 11 (by decide) (by decide) x
  rcases List.mem_cons.mp hpc with rfl | hpc
  · exact fun x => piece_eq (qS x0 x1 x2 x3 x4) 0 10 (by decide) (by decide) x
  rcases List.mem_cons.mp hpc with rfl | hpc
  · exact fun x => piece_eq (qS x0 x1 x2 x3 x4) 0 9 (by decide) (by decide) x
  rcases List.mem_cons.mp hpc with rfl | hpc
  · exact fun x => piece_eq (qS x0 x1 x2 x3 x4) 0 8 (by decide) (by decide) x
  rcases List.mem_cons.mp hpc with rfl | hpc
  · exact fun x => piece_eq (qS x0 x1 x2 x3 x4) 0 7 (by decide) (by decide) x
  rcases List.mem_cons.mp hpc with rfl | hpc
  · exact fun x => piece_eq (qS x0 x1 x2 x3 x4) 0 6 (by decide) (by decide) x
  rcases List.mem_cons.mp hpc with rfl | hpc
  · exact fun x => piece_eq (qS x0 x1 x2 x3 x4) 0 5 (by decide) (by decide) x
  rcases List.mem_cons.mp hpc with rfl | hpc
  · exact fun x => piece_eq (qS x0 x1 x2 x3 x4) 0 4 (by decide) (by decide) x
  rcases List.mem_cons.mp hpc with rfl | hpc
  · exact fun x => piece_eq (qS x0 x1 x2 x3 x4) 0 3 (by decide) (by decide) x
  rcases List.mem_cons.mp hpc with rfl | hpc
  · exact fun x => piece_eq (qS x0 x1 x2 x3 x4) 0 2 (by decide) (by decide) x
  rcases List.mem_cons.mp hpc with rfl | hpc
  · exact fun x => piece_eq (qS x0 x1 x2 x3 x4) 0 1 (by decide) (by decide) x
  rcases List.mem_cons.mp hpc with rfl | hpc
  · exact fun x => piece_eq (qS x0 x1 x2 x3 x4) 0 0 (by decide) (by decide) x
  exact absurd hpc (List.not_mem_nil)

theorem out5_apply (s : Fin 2) (n : Fin 16) (r : Fin 512) (q : Fin 128) :
    out0_5 x0 x1 x2 x3 x4 (ix4 s n r q) = (∑ k : Fin 1024, uB x0 x1 x2 x3 s r k * x4 (ix3 0 k ⟨n.val * 128 + q.val, by omega⟩)) * qScale :=
  (out5_eq x0 x1 x2 x3 x4 _).trans (qS_apply x0 x1 x2 x3 x4 s r ⟨n.val * 128 + q.val, by omega⟩)

theorem half_apply (v : FVec Ideal S1024x2048 .f32) (s : Fin 2) (hs : S1024x2048.Slices ![s.val * 512, 0] S512x2048) (r : Fin 512) (j : Fin 2048) :
    shapeCast S1x512x2048 (extractStridedSlice S512x2048 ![s.val * 512, 0] v hs) shapeCasts_S512x2048_S1x512x2048 (ix3 0 r j)
      = v (ix2 ⟨s.val * 512 + r.val, by omega⟩ j) := by
  pointwise

/-- The product of the stacked rows with the gate half of the weights. -/
def zS : FVec Ideal S1024x2048 .f32 := k0_pay2 (k0_pay51 x0 x1 x2 x3 x4) (View.ld x4 r0_38)

theorem zS_apply (s : Fin 2) (r : Fin 512) (j : Fin 2048) :
    zS x0 x1 x2 x3 x4 (ix2 ⟨s.val * 512 + r.val, by omega⟩ j) = ∑ k : Fin 1024, uB x0 x1 x2 x3 s r k * x4 (ix3 0 k ⟨2048 + j.val, by omega⟩) := by
  refine Eq.trans ?_ (Finset.sum_congr rfl fun k _ => congrArg₂ (· * ·) (pay51_apply x0 x1 x2 x3 x4 s r k) (ld_wz x4 k j))
  unfold zS k0_pay2
  generalize k0_pay51 x0 x1 x2 x3 x4 = u
  generalize View.ld x4 r0_38 = w
  pointwise

/-- The block, by stream. -/
def halved (v : FVec Ideal S1024x2048 .f32) (y : S2x512x2048.Idx) : EReal :=
  v (ix2 ⟨(y 0).val * 512 + (y 1).val, by
    have h0 : (y 0).val < 2 := (y 0).isLt
    have h1 : (y 1).val < 512 := (y 1).isLt
    omega⟩ ⟨(y 2).val, (y 2).isLt⟩)

theorem half_eq (v : FVec Ideal S1024x2048 .f32) (s : Fin 2) (hs : S1024x2048.Slices ![s.val * 512, 0] S512x2048) (inb) (x : S1x512x2048.Idx) :
    shapeCast S1x512x2048 (extractStridedSlice S512x2048 ![s.val * 512, 0] v hs) shapeCasts_S512x2048_S1x512x2048 x
      = halved v ((Rect.unit (s := S2x512x2048) ![s.val, 0, 0] S1x512x2048.size inb).emb x) := by
  obtain ⟨r, j, rfl⟩ : ∃ (r : Fin 512) (j : Fin 2048), x = ix3 0 r j := ⟨x 1, x 2, by
    funext a
    match a with
    | ⟨0, _⟩ => exact Fin.ext (by have : (x 0).val < 1 := (x 0).isLt; show (x 0).val = 0; omega)
    | ⟨1, _⟩ => rfl
    | ⟨2, _⟩ => rfl⟩
  rw [half_apply]
  unfold halved
  have h0 : ((Rect.unit (s := S2x512x2048) ![s.val, 0, 0] S1x512x2048.size inb).emb (ix3 0 r j) 0).val = s.val := by
    rw [Rect.emb_apply]; show s.val + 1 * 0 = _; omega
  have h1 : ((Rect.unit (s := S2x512x2048) ![s.val, 0, 0] S1x512x2048.size inb).emb (ix3 0 r j) 1).val = r.val := by
    rw [Rect.emb_apply]; show 0 + 1 * r.val = _; omega
  have h2 : ((Rect.unit (s := S2x512x2048) ![s.val, 0, 0] S1x512x2048.size inb).emb (ix3 0 r j) 2).val = j.val := by
    rw [Rect.emb_apply]; show 0 + 1 * j.val = _; omega
  simp only [h0, h1, h2]

theorem out6_eq (y : S2x512x2048.Idx) : out0_6 x0 x1 x2 x3 x4 y = halved (zS x0 x1 x2 x3 x4) y := by
  refine View.canon_apply_of_pieces (Val := Elt Ideal) (halved (zS x0 x1 x2 x3 x4)) _ ?_ y (cover0_6 _ _ y)
  intro pc hpc
  rcases List.mem_cons.mp hpc with rfl | hpc
  · exact fun x => half_eq (zS x0 x1 x2 x3 x4) 1 (by decide) (by decide) x
  rcases List.mem_cons.mp hpc with rfl | hpc
  · exact fun x => half_eq (zS x0 x1 x2 x3 x4) 0 (by decide) (by decide) x
  exact absurd hpc (List.not_mem_nil)

theorem out6_apply (s : Fin 2) (r : Fin 512) (j : Fin 2048) :
    out0_6 x0 x1 x2 x3 x4 (ix3 s r j) = ∑ k : Fin 1024, uB x0 x1 x2 x3 s r k * x4 (ix3 0 k ⟨2048 + j.val, by omega⟩) :=
  (out6_eq x0 x1 x2 x3 x4 _).trans (zS_apply x0 x1 x2 x3 x4 s r j)

/-! The blocks the point reads. -/

variable (m : (ℓ : Loc nD τ sig) → Buf (Elt Ideal) ℓ)

theorem idx0 : ∀ t : Fin grid0.N, win0_0.index t = ![t.val / 16, t.val % 16, 0] := by decide +kernel
theorem idx1 : ∀ t : Fin grid0.N, win0_1.index t = ![t.val / 16, 0, 0] := by decide +kernel
theorem idx2 : ∀ t : Fin grid0.N, win0_2.index t = ![t.val / 16, 0, 0] := by decide +kernel
theorem idx3 : ∀ t : Fin grid0.N, win0_3.index t = ![0, 0] := by decide +kernel
theorem idx4 : ∀ t : Fin grid0.N, win0_4.index t = ![1, 0, 0] := by decide +kernel
theorem idx5 : ∀ t : Fin grid0.N, win0_5.index t = ![t.val / 16, 0, t.val % 16, 0] := by decide +kernel
theorem idx6 : ∀ t : Fin grid0.N, win0_6.index t = ![t.val / 16, t.val % 16, 0] := by decide +kernel
theorem lt32 (t : Fin cfg0.N) : t.val < 32 := lt_of_lt_of_eq t.isLt N_0

/-- Stream `s` of a point and the position of a row of its tile. -/
def strm (t : Fin cfg0.N) (s : Fin 2) : Fin 4 := ⟨t.val / 16 * 2 + s.val, by have := lt32 t; omega⟩
def pos (t : Fin cfg0.N) (r : Fin 512) : Fin 8192 := ⟨t.val % 16 * 512 + r.val, by omega⟩

/-- The arguments as functions of their coordinates. -/
def hA (c : Dev nD) (b : Fin 4) (t : Fin 8192) (k : Fin 1024) : EReal := m ((c : Thread nD τ).loc main_arg0) (ix3 b t k)
def shA (c : Dev nD) (b : Fin 4) (k : Fin 1024) : EReal := m ((c : Thread nD τ).loc main_arg1) (ix2 b k)
def scA (c : Dev nD) (b : Fin 4) (k : Fin 1024) : EReal := m ((c : Thread nD τ).loc main_arg2) (ix2 b k)
def gA (c : Dev nD) (k : Fin 1024) : EReal := m ((c : Thread nD τ).loc main_arg3) (ix1 k)
def wA (c : Dev nD) (k : Fin 1024) (j : Fin 4096) : EReal := m ((c : Thread nD τ).loc main_arg4) (ix3 1 k j)

theorem blk0 (c : Dev nD) (t : Fin cfg0.N) (s : Fin 2) (r : Fin 512) (k : Fin 1024) : iblk m c 0 t (ix3 s r k) = hA m c (strm t s) (pos t r) k := by
  have := lt32 t
  unfold hA strm pos
  blk_ext [iblk, V, idx0 t]
theorem blk1 (c : Dev nD) (t : Fin cfg0.N) (s : Fin 2) (k : Fin 1024) : iblk m c 1 t (ix3 s 0 k) = shA m c (strm t s) k := by
  have := lt32 t
  unfold shA strm
  blk_point [iblk, V, idx1 t]
theorem blk2 (c : Dev nD) (t : Fin cfg0.N) (s : Fin 2) (k : Fin 1024) : iblk m c 2 t (ix3 s 0 k) = scA m c (strm t s) k := by
  have := lt32 t
  unfold scA strm
  blk_point [iblk, V, idx2 t]
theorem blk3 (c : Dev nD) (t : Fin cfg0.N) (k : Fin 1024) : iblk m c 3 t (ix2 0 k) = gA m c k := by
  have := lt32 t
  unfold gA
  blk_point [iblk, V, idx3 t]
theorem blk4 (c : Dev nD) (t : Fin cfg0.N) (k : Fin 1024) (j : Fin 4096) : iblk m c 4 t (ix3 0 k j) = wA m c k j := by
  have := lt32 t
  unfold wA
  blk_ext [iblk, V, idx4 t]

/-! The results. -/

/-- The normalised and modulated rows. -/
def uQ (c : Dev nD) : Fin 4 → Fin 8192 → Fin 1024 → EReal := uT (hA m c) (shA m c) (scA m c) (gA m c)

theorem uB_q (c : Dev nD) (t : Fin cfg0.N) (s : Fin 2) (r : Fin 512) (k : Fin 1024) :
    uB (iblk m c 0 t) (iblk m c 1 t) (iblk m c 2 t) (iblk m c 3 t) s r k = uQ m c (strm t s) (pos t r) k := by
  unfold uB uQ uT
  simp only [blk0, blk1, blk2, blk3]

/-- The point of a stream and a position. -/
theorem pt_lt (b : Fin 4) (t : Fin 8192) : b.val / 2 * 16 + t.val / 512 < cfg0.N := by rw [show cfg0.N = 32 from N_0]; omega
def pt (b : Fin 4) (t : Fin 8192) : Fin cfg0.N := ⟨b.val / 2 * 16 + t.val / 512, pt_lt b t⟩
def half (b : Fin 4) : Fin 2 := ⟨b.val % 2, Nat.mod_lt _ (by omega)⟩
def row (t : Fin 8192) : Fin 512 := ⟨t.val % 512, Nat.mod_lt _ (by omega)⟩
theorem strm_pt (b : Fin 4) (t : Fin 8192) : strm (pt b t) (half b) = b :=
  Fin.ext (by show (b.val / 2 * 16 + t.val / 512) / 16 * 2 + b.val % 2 = b.val; omega)
theorem pos_pt (b : Fin 4) (t : Fin 8192) : pos (pt b t) (row t) = t :=
  Fin.ext (by show (b.val / 2 * 16 + t.val / 512) % 16 * 512 + t.val % 512 = t.val; omega)

theorem result5_apply (c : Dev nD) (b : Fin 4) (n : Fin 16) (t : Fin 8192) (q : Fin 128) :
    (dats m 0 c).arrAt 5 cfg0.N (ix4 b n t q) = vT (uQ m c) (wA m c) b t ⟨n.val * 128 + q.val, by omega⟩ * qScale := by
  have e := (congrFun (blocks5 m c (pt b t) ((by decide +kernel : ∀ t : Fin grid0.N, win0_5.flush t = true) (pt b t))) (ix4 (half b) n (row t) q)).trans
    ((congrFun (flushed5 m c (pt b t)) (ix4 (half b) n (row t) q)).trans (out5_apply _ _ _ _ _ (half b) n (row t) q))
  simp only [uB_q, blk4, strm_pt, pos_pt] at e
  refine Eq.trans ?_ e
  have hi := idx5 (pt b t)
  have hp : (pt b t).val = b.val / 2 * 16 + t.val / 512 := rfl
  unfold row half
  symm
  blk_ext [hi, hp]

theorem result6_apply (c : Dev nD) (b : Fin 4) (t : Fin 8192) (j : Fin 2048) :
    (dats m 0 c).arrAt 6 cfg0.N (ix3 b t j) = vT (uQ m c) (wA m c) b t ⟨2048 + j.val, by omega⟩ := by
  have e := (congrFun (blocks6 m c (pt b t) ((by decide +kernel : ∀ t : Fin grid0.N, win0_6.flush t = true) (pt b t))) (ix3 (half b) (row t) j)).trans
    ((congrFun (flushed6 m c (pt b t)) (ix3 (half b) (row t) j)).trans (out6_apply _ _ _ _ _ (half b) (row t) j))
  simp only [uB_q, blk4, strm_pt, pos_pt] at e
  refine Eq.trans ?_ e
  have hi := idx6 (pt b t)
  have hp : (pt b t).val = b.val / 2 * 16 + t.val / 512 := rfl
  unfold row half
  symm
  blk_ext [hi, hp]

end Cert.QueryIdeal.Proj
end
-- ==== Proof.Proj.QueryRef.lean ====
/- The reference of the second layer's projection, each result read at a position. -/
module

public import proofs.«01_k».proof.Proof.Gen.QueryReferenceIdeal.Read
public import proofs.«01_k».proof.Proof.Proj.Shared
public import Idealize.ShloMosaic.Lib.IdealHost

@[expose] public section
noncomputable section
namespace Cert.QueryReferenceIdeal.Proj
open Cert.QueryReferenceIdeal Cert.QueryReferenceIdeal.Gen Cert.QueryReferenceIdeal.Read Idealize.ShloMosaic Idealize.ShloMosaic.StableHlo Idealize.ShloMosaic.Pointwise
open Cert.KernelIdeal.Pool (uT vT)
open Cert.SharedIdeal.Proj (qScale)

variable (x0 : (⟨S4x8192x1024, .f32⟩ : BufTy).Contents (Elt Ideal)) (x1 x2 : (⟨S4x1024, .f32⟩ : BufTy).Contents (Elt Ideal)) (x3 : (⟨S1024, .f32⟩ : BufTy).Contents (Elt Ideal))
  (x4 : (⟨S2x1024x4096, .f32⟩ : BufTy).Contents (Elt Ideal))

/-- The arguments as functions of their coordinates. -/
def hR (b : Fin 4) (t : Fin 8192) (k : Fin 1024) : EReal := x0 (ix3 b t k)
def rowR (x : (⟨S4x1024, .f32⟩ : BufTy).Contents (Elt Ideal)) (b : Fin 4) (k : Fin 1024) : EReal := x (ix2 b k)
def gR (x : (⟨S1024, .f32⟩ : BufTy).Contents (Elt Ideal)) (k : Fin 1024) : EReal := x (ix1 k)
def wR (k : Fin 1024) (j : Fin 4096) : EReal := x4 (ix3 1 k j)
def uQ : Fin 4 → Fin 8192 → Fin 1024 → EReal := uT (hR x0) (rowR x1) (rowR x2) (gR x3)

/-- The normalised and modulated rows. -/
theorem uQ_apply (b : Fin 4) (t : Fin 8192) (k : Fin 1024) : val_main_v20 (F := Ideal) x0 x1 x2 x3 (ix3 b t k) = uQ x0 x1 x2 x3 b t k := by
  rw [val_main_v20_apply, val_main_v17_apply, val_main_v12_apply, val_main_v9_apply, val_main_v8_apply, val_main_v7_apply, val_main_v6_apply, val_main_v4_apply, val_main_v2_apply, val_main_v1_apply, val_main_v3_apply, val_main_v5_apply, val_main_v11_apply, val_main_v10_apply, val_main_v16_apply, val_main_v15_apply, val_main_v13_apply, val_main_v14_apply, val_main_v19_apply, val_main_v18_apply]
  have e0 : ∀ j : Fin 1024, val_main_v0 (F := Ideal) x0 (idx_main_v1 (idx_main_v2 (idx_main_v8 (ix3 b t k))) j) = hR x0 b t j * hR x0 b t j := fun j => by
    have e : idx_main_v1 (idx_main_v2 (idx_main_v8 (ix3 b t k))) j = ix3 b t j := funext fun a => by
      match a with
      | ⟨0, _⟩ => rfl
      | ⟨1, _⟩ => rfl
      | ⟨2, _⟩ => rfl
    rw [val_main_v0_apply, e]; rfl
  have e1 : idx_main_v10 (idx_main_v11 (ix3 b t k)) = ix1 k := funext fun a => by
    match a with
    | ⟨0, _⟩ => rfl
  have e2 : idx_main_v13 (idx_main_v16 (ix3 b t k)) = ix2 b k := funext fun a => by
    match a with
    | ⟨0, _⟩ => rfl
    | ⟨1, _⟩ => rfl
  have e3 : idx_main_v18 (idx_main_v19 (ix3 b t k)) = ix2 b k := funext fun a => by
    match a with
    | ⟨0, _⟩ => rfl
    | ⟨1, _⟩ => rfl
  simp only [e0, e1, e2, e3]
  show x0 (ix3 b t k) * Ideal.rsqrt (Ideal.div (Ideal.ofBits .f32 0x00000000#32 + ∑ j, hR x0 b t j * hR x0 b t j) (Ideal.ofBits .f32 0x44800000#32)
      + Ideal.ofBits .f32 0x358637BD#32) * x3 (ix1 k) * (Ideal.ofBits .f32 0x3F800000#32 + x2 (ix2 b k)) + x1 (ix2 b k) = _
  rw [Ideal.ofBits_zero_f32, Ideal.ofBits_one_f32, zero_add, mul_assoc (_ * _) (x3 (ix1 k))]
  rfl

/-- Their product with the input weights. -/
theorem vQ_apply (b : Fin 4) (t : Fin 8192) (k : Fin 4096) : val_main_v23 (F := Ideal) x0 x1 x2 x3 x4 (ix3 b t k) = vT (uQ x0 x1 x2 x3) (wR x4) b t k := by
  rw [val_main_v23_apply]
  show _ = ∑ j : Fin 1024, uQ x0 x1 x2 x3 b t j * wR x4 j k
  refine Finset.sum_congr rfl fun j _ => ?_
  have e0 : lidx_main_v23 (ix3 b t k) j = ix3 b t j := funext fun a => by
    match a with
    | ⟨0, _⟩ => rfl
    | ⟨1, _⟩ => rfl
    | ⟨2, _⟩ => rfl
  have e1 : idx_main_v21 (idx_main_v22 (ridx_main_v23 (ix3 b t k) j)) = ix3 1 j k := funext fun a => Fin.ext (by
    match a with
    | ⟨0, _⟩ => rfl
    | ⟨1, _⟩ => show (j.val * 4096 + k.val) / 4096 % 1024 = j.val; omega
    | ⟨2, _⟩ => show (j.val * 4096 + k.val) % 4096 = k.val; omega)
  rw [e0, uQ_apply, val_main_v22_apply, val_main_v21_apply, e1]
  rfl

/-- The queries by head, scaled. -/
theorem query_apply (b : Fin 4) (n : Fin 16) (t : Fin 8192) (q : Fin 128) :
    val_main_v30 (F := Ideal) x0 x1 x2 x3 x4 (ix4 b n t q) = vT (uQ x0 x1 x2 x3) (wR x4) b t ⟨n.val * 128 + q.val, by omega⟩ * qScale := by
  rw [val_main_v30_apply, val_main_v29_apply, val_main_v27_apply, val_main_v26_apply, val_main_v24_apply, val_main_v28_apply, val_main_cst_3_apply, ← vQ_apply]
  have e : idx_main_v24 (idx_main_v26 (idx_main_v27 (ix4 b n t q))) = ix3 b t ⟨n.val * 128 + q.val, by omega⟩ := funext fun a => Fin.ext (by
    match a with
    | ⟨0, _⟩ => show (((b.val * 8192 + t.val) * 16 + n.val) * 128 + q.val) / 16777216 = b.val; omega
    | ⟨1, _⟩ => show (((b.val * 8192 + t.val) * 16 + n.val) * 128 + q.val) / 2048 % 8192 = t.val; omega
    | ⟨2, _⟩ => show (((b.val * 8192 + t.val) * 16 + n.val) * 128 + q.val) % 2048 = n.val * 128 + q.val; omega)
  rw [e]
  rfl

/-- The gate. -/
theorem gate_apply (b : Fin 4) (t : Fin 8192) (j : Fin 2048) :
    val_main_v25 (F := Ideal) x0 x1 x2 x3 x4 (ix3 b t j) = vT (uQ x0 x1 x2 x3) (wR x4) b t ⟨2048 + j.val, by omega⟩ := by
  rw [val_main_v25_apply, ← vQ_apply]
  refine congrArg _ (funext fun a => Fin.ext ?_)
  match a with
  | ⟨0, _⟩ => rfl
  | ⟨1, _⟩ => rfl
  | ⟨2, _⟩ => rfl

end Cert.QueryReferenceIdeal.Proj
end
-- ==== Proof.Claims.Second.lean ====
/- The second layer's projection: from arguments that agree, each of the call's two results is the reference's. -/
module

public import proofs.«01_k».proof.Defs
public import proofs.«01_k».proof.Proof.Gen.QueryReferenceIdeal.Run
public import proofs.«01_k».proof.Proof.Proj.Query
public import proofs.«01_k».proof.Proof.Proj.QueryRef

@[expose] public section
set_option maxRecDepth 16384
noncomputable section
namespace Cert.Proof
open Idealize.ShloMosaic Idealize.ShloMosaic.TcCoe Idealize.SL.Sem

theorem second_query (m : (ℓ : Loc Cert.QueryIdeal.nD Cert.QueryIdeal.τ Cert.QueryIdeal.sig) → Buf (Elt Ideal) ℓ) (c : Dev Cert.QueryIdeal.nD) :
    Cert.QueryReferenceIdeal.Read.val_main_v30 (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)) (m ((c.tc : Thread Cert.QueryIdeal.nD Cert.QueryIdeal.τ).loc Cert.QueryIdeal.main_arg4))
      = (Cert.QueryIdeal.Gen.dats m 0 c).arrAt 5 Cert.QueryIdeal.cfg0.N := by
  funext i
  obtain ⟨b, n, t, q, rfl⟩ : ∃ (b : Fin 4) (n : Fin 16) (t : Fin 8192) (q : Fin 128), i = Idealize.ShloMosaic.ix4 b n t q :=
    ⟨i 0, i 1, i 2, i 3, funext fun a => by
      match a with
      | ⟨0, _⟩ => rfl
      | ⟨1, _⟩ => rfl
      | ⟨2, _⟩ => rfl
      | ⟨3, _⟩ => rfl⟩
  exact (Cert.QueryReferenceIdeal.Proj.query_apply _ _ _ _ _ b n t q).trans (Cert.QueryIdeal.Proj.result5_apply m c b n t q).symm

theorem second_gate (m : (ℓ : Loc Cert.QueryIdeal.nD Cert.QueryIdeal.τ Cert.QueryIdeal.sig) → Buf (Elt Ideal) ℓ) (c : Dev Cert.QueryIdeal.nD) :
    Cert.QueryReferenceIdeal.Read.val_main_v25 (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)) (m ((c.tc : Thread Cert.QueryIdeal.nD Cert.QueryIdeal.τ).loc Cert.QueryIdeal.main_arg4))
      = (Cert.QueryIdeal.Gen.dats m 0 c).arrAt 6 Cert.QueryIdeal.cfg0.N := by
  funext i
  obtain ⟨b, t, j, rfl⟩ : ∃ (b : Fin 4) (t : Fin 8192) (j : Fin 2048), i = Idealize.ShloMosaic.ix3 b t j :=
    ⟨i 0, i 1, i 2, funext fun a => by
      match a with
      | ⟨0, _⟩ => rfl
      | ⟨1, _⟩ => rfl
      | ⟨2, _⟩ => rfl⟩
  exact (Cert.QueryReferenceIdeal.Proj.gate_apply _ _ _ _ _ b t j).trans (Cert.QueryIdeal.Proj.result6_apply m c b t j).symm

theorem second_claim :
    algebraic_QueryIdeal_QueryReferenceIdeal (hQueryIdeal := Cert.QueryIdeal.Gen.facts) (hQueryReferenceIdeal := Cert.QueryReferenceIdeal.Gen.facts) := by
  intro m g m' g' _ hm
  refine ⟨fun c => (Cert.QueryIdeal.Gen.dats m 0 c).arrAt 5 Cert.QueryIdeal.cfg0.N, fun c => (Cert.QueryIdeal.Gen.dats m 0 c).arrAt 6 Cert.QueryIdeal.cfg0.N, Cert.QueryIdeal.Proj.run_blocks m g, ?_⟩
  refine (θ_run _ _ _).mono (fun r h c => ?_) (Cert.QueryReferenceIdeal.Value.run m' g')
  obtain ⟨a0, a1, a2, a3, a4⟩ := hm c
  refine ⟨(h c).1.trans ?_, (h c).2.1.trans ?_, (h c).2.2⟩
  · rw [Cert.QueryReferenceIdeal.Read.val_main_v30_eq, a0, a1, a2, a3, a4]
    exact second_query m c
  · rw [Cert.QueryReferenceIdeal.Read.val_main_v25_eq, a0, a1, a2, a3, a4]
    exact second_gate m c

end Cert.Proof
end
-- ==== Proof.Att.Run.lean ====
/- The attention call's run: its result after it, block by block, and its arguments as they were. -/
module

public import proofs.«01_k».proof.Proof.Att.FrameIdeal
public import Idealize.ShloMosaic.Lib.Pipeline.Value

@[expose] public section
set_option maxRecDepth 16384
noncomputable section
namespace Cert.AttnIdeal.Att
open Cert.AttnIdeal Cert.AttnIdeal.Gen Idealize.ShloMosaic Idealize.ShloMosaic.TcCoe Idealize.SL.Sem
open Idealize.ShloMosaic.Pipeline (Dat)
open Cert.Att (outAt)

variable {F : FTy → Type} [FloatOps F]
variable (m : (ℓ : Loc nD τ sig) → Buf (Elt F) ℓ) (ρ : Dev nD → PrngReg)

theorem flushed9 (c : Dev nD) (t : Fin cfg0.N) :
    (dats m 0 c).flushed 9 t = (cfg0.win 9).cut (grid0.coords t) (outAt (blocks m c) t) := by
  show (cfg0.win 9).cut (grid0.coords t) ((dats m 0 c).after 9 t) = _
  rw [after0_9]

theorem idx9 : ∀ t : Fin grid0.N, win0_9.index t = ![t.val / 32, t.val % 32, 0] := by decide +kernel

theorem idx_inj9 (t t' : Fin cfg0.N) (h : win0_9.index t = win0_9.index t') : t = t' := by
  rw [idx9, idx9] at h
  have h0 : t.val / 32 = t'.val / 32 := congrFun h 0
  have h1 : t.val % 32 = t'.val % 32 := congrFun h 1
  exact Fin.ext (by omega)

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem run_blocks : θ_run defs (onTc (τ := τ) (main (F := F))) ⟨m, fun _ => 0, ρ⟩ fun r => ∀ c : Dev nD,
      r.2.mem ((c : Thread nD τ).loc main_v13) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.AttnIdeal.Att
end
-- ==== Proof.Att.Softmax.lean ====
/- Weights two to the score, shifted by any real and summed over a window of keys that covers the band, against the same
   without a shift over all keys. -/
module

public import Idealize.ShloMosaic.Lib.Pointwise

@[expose] public section
noncomputable section
namespace Cert.Att
open Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x * y⁻¹ : ℝ) : EReal) := by
  have h : (y : EReal) ≠ 0 := fun h => hy (EReal.coe_eq_zero.1 h)
  unfold Ideal.div
  rw [if_neg h, ← EReal.coe_inv, ← EReal.coe_mul]

variable {N W : ℕ}

/-- The weight of a key, none outside the band. -/
def wt (band : Fin N → Prop) [DecidablePred band] (s : Fin N → ℝ) (κ : Fin N) : ℝ := if band κ then Real.rpow 2 (s κ) else 0

variable (band : Fin N → Prop) [DecidablePred band] (s : Fin N → ℝ) (v : Fin N → EReal)

theorem wt_sum_pos (hne : ∃ κ, band κ) : 0 < ∑ κ, wt band s κ := by
  obtain ⟨κ, hκ⟩ := hne
  refine Finset.sum_pos' (fun i _ => ?_) ⟨κ, Finset.mem_univ _, ?_⟩
  · unfold wt
    split
    · exact (Real.rpow_pos_of_pos (by norm_num) _).le
    · exact le_rfl
  · unfold wt
    rw [if_pos hκ]
    exact Real.rpow_pos_of_pos (by norm_num) _

theorem shifted (x : ℝ) (κ : Fin N) :
    Ideal.exp2 ((if band κ then (s κ : EReal) else ⊥) - (x : EReal)) = ((wt band s κ * Real.rpow 2 (-x) : ℝ) : EReal) := by
  unfold wt
  split
  · rw [← EReal.coe_sub]
    show ((Real.rpow 2 (s κ - x) : ℝ) : EReal) = _
    rw [show Real.rpow 2 (s κ - x) = Real.rpow 2 (s κ) * Real.rpow 2 (-x) from by
      rw [sub_eq_add_neg]; exact Real.rpow_add (by norm_num) _ _]
  · rw [EReal.bot_sub, zero_mul]
    rfl

theorem sum_mul_coe {ι : Type*} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih => rw [Finset.sum_insert ha, Finset.sum_insert ha, EReal.right_distrib_of_nonneg_of_ne_top (EReal.coe_nonneg.2 hc) (EReal.coe_ne_top _), ih]

theorem window_sum (emb : Fin W → Fin N) (inj : Function.Injective emb) (hout : ∀ κ, band κ → ∃ c, emb c = κ) (τ : ℝ) (f : Fin N → EReal) :
    ∑ c, ((wt band s (emb c) * τ : ℝ) : EReal) * f (emb c) = ∑ κ, ((wt band s κ * τ : ℝ) : EReal) * f κ := by
  refine Fintype.sum_of_injective emb inj _ _ (fun κ hκ => ?_) (fun _ => rfl)
  unfold wt
  rw [if_neg (fun h => hκ (hout κ h)), zero_mul, EReal.coe_zero, zero_mul]

/-- The windowed, shifted quotient is the softmax average, whatever the values are. -/
theorem softmax_eq (emb : Fin W → Fin N) (inj : Function.Injective emb) (hout : ∀ κ, band κ → ∃ c, emb c = κ) (hne : ∃ κ, band κ) (x : ℝ)
    (A : Fin W → EReal) (hA : ∀ c, A c = if band (emb c) then (s (emb c) : EReal) else ⊥)
    (V U : Fin W → EReal) (hV : ∀ c, V c = v (emb c)) (hU : ∀ c, U c = 1) :
    (∑ c, Ideal.exp2 (A c - (x : EReal)) * V c) * Ideal.div 1 (∑ c, Ideal.exp2 (A c - (x : EReal)) * U c)
      = ∑ κ, Ideal.div ((wt band s κ : ℝ) : EReal) (∑ κ', ((wt band s κ' : ℝ) : EReal)) * v κ := by
  have hZ := wt_sum_pos band s hne
  have ht : 0 < Real.rpow 2 (-x) := Real.rpow_pos_of_pos (by norm_num) _
  generalize ht' : Real.rpow 2 (-x) = τ at ht
  have e1 : ∀ c, Ideal.exp2 (A c - (x : EReal)) * V c = ((wt band s (emb c) * τ : ℝ) : EReal) * v (emb c) := fun c => by
    rw [hA, shifted, hV, ht']
  have e2 : ∀ c, Ideal.exp2 (A c - (x : EReal)) * U c = ((wt band s (emb c) * τ : ℝ) : EReal) * (fun _ => (1 : EReal)) (emb c) := fun c => by
    rw [hA, shifted, hU, ht']
  rw [Finset.sum_congr rfl fun c _ => e1 c, Finset.sum_congr rfl fun c _ => e2 c,
    window_sum band s emb inj hout τ v, window_sum band s emb inj hout τ fun _ => 1]
  simp only [mul_one]
  rw [coe_sum, coe_sum, ← Finset.sum_mul]
  generalize (∑ κ, wt band s κ) = Z at hZ
  rw [← EReal.coe_one, div_coe _ _ (mul_pos hZ ht).ne', sum_mul_coe _ _ _ (by rw [one_mul]; exact (inv_pos.2 (mul_pos hZ ht)).le)]
  refine Finset.sum_congr rfl fun κ _ => ?_
  have hz := hZ.ne'
  have hτ := ht.ne'
  rw [div_coe _ _ hz, mul_right_comm, ← EReal.coe_mul]
  congr 2
  field_simp

/-! ## A maximum of reals and minus infinities -/

theorem real_of_ne (x : EReal) (h1 : x ≠ ⊤) (h2 : x ≠ ⊥) : ∃ r : ℝ, x = (r : EReal) := ⟨x.toReal, (EReal.coe_toReal h1 h2).symm⟩

theorem fold_real {ι : Type*} (t : Finset ι) (f : ι → EReal) (h1 : ∀ i ∈ t, f i ≠ ⊤) (h2 : ∃ i ∈ t, f i ≠ ⊥) : ∃ r : ℝ, t.fold max ⊥ f = (r : EReal) := by
  refine real_of_ne _ ?_ ?_
  · exact ((Finset.fold_max_lt _).2 ⟨bot_lt_top, fun i hi => lt_top_iff_ne_top.2 (h1 i hi)⟩).ne
  · obtain ⟨i, hi, h⟩ := h2
    exact ((Finset.lt_fold_max _).2 (.inr ⟨i, hi, bot_lt_iff_ne_bot.2 h⟩)).ne'

end Cert.Att
end
-- ==== Proof.Att.Read.lean ====
/- The pieces of a head read at an index: scores, values, weights and their quotient. -/
module

public import proofs.«01_k».proof.Proof.Att.Point
public import proofs.«01_k».proof.Proof.Att.Softmax
public import Idealize.ShloMosaic.Lib.Pointwise

@[expose] public section
set_option maxRecDepth 16384
noncomputable section
namespace Cert.Att
open Idealize.ShloMosaic Idealize.ShloMosaic.Pointwise Cert.AttnIdeal
open Cert.AttnIdeal.Facts₀ Cert.AttnIdeal.Facts

theorem hsl_apply {α : Type} {a b : ℕ} (hd : ℕ) (hh : hd < 16) (x : (T4 1 16 a b).Idx → α) (r : Fin a) (c : Fin b) :
    hsl 0 hd Nat.one_pos hh x (ix4 0 0 r c : (T4 1 1 a b).Idx) = x (ix4 0 ⟨hd, hh⟩ r c : (T4 1 16 a b).Idx) := by
  refine congrArg x (ext4 _ _ ?_ ?_ ?_ ?_) <;> rw [unit_emb_val]
  · rfl
  · rfl
  · exact Nat.zero_add _
  · exact Nat.zero_add _

theorem tsl_apply (W o hd : ℕ) (hW : o + W ≤ 768) (hh : hd < 16) (x : Vec Ideal S16x256x768 .f32) (r : Fin 256) (c : Fin W) :
    tsl W o hd hW hh x (ix3 0 r c : (T3 1 256 W).Idx) = x (ix3 ⟨hd, hh⟩ r ⟨o + c.val, by omega⟩ : (T3 16 256 768).Idx) := by
  refine congrArg x (ext3 (A := 16) (B := 256) (C := 768) _ _ ?_ ?_ ?_) <;> rw [unit_emb_val]
  · rfl
  · exact Nat.zero_add _
  · rfl

/-! ## Scores -/

theorem score1_apply (a : Vec Ideal S1x1x256x128 .bf16) (b : Vec Ideal S1x1x128x256 .bf16) (c : Vec Ideal (T3 1 256 256) .f32) (r j : Fin 256) :
    score1 a b c (ix2 r j : (T2 256 256).Idx) = (∑ e : Fin 128, a (ix4 0 0 r e) * b (ix4 0 0 e j)) + c (ix3 0 r j : (T3 1 256 256).Idx) := by
  pointwise [score1]

theorem score2_apply (a : Vec Ideal S1x1x256x128 .bf16) (b0 b : Vec Ideal S1x1x128x256 .bf16) (c : Vec Ideal (T3 1 256 512) .f32) (r : Fin 256) (s : Fin 2) (j : Fin 256) :
    score2 a b0 b c (ix2 r ⟨s.val * 256 + j.val, by omega⟩ : (T2 256 512).Idx)
      = (∑ e : Fin 128, a (ix4 0 0 r e) * (![b0, b] s) (ix4 0 0 e j)) + c (ix3 0 r ⟨s.val * 256 + j.val, by omega⟩ : (T3 1 256 512).Idx) := by
  fin_cases s
  · pointwise [score2]
  · pointwise [score2]

theorem score3_apply (a : Vec Ideal S1x1x256x128 .bf16) (b0 b1 b : Vec Ideal S1x1x128x256 .bf16) (c : Vec Ideal (T3 1 256 768) .f32) (r : Fin 256) (s : Fin 3) (j : Fin 256) :
    score3 a b0 b1 b c (ix2 r ⟨s.val * 256 + j.val, by omega⟩ : (T2 256 768).Idx)
      = (∑ e : Fin 128, a (ix4 0 0 r e) * (![b0, b1, b] s) (ix4 0 0 e j)) + c (ix3 0 r ⟨s.val * 256 + j.val, by omega⟩ : (T3 1 256 768).Idx) := by
  fin_cases s
  · pointwise [score3]
  · pointwise [score3]
  · pointwise [score3]
    refine congrArg (· + _) (Finset.sum_congr rfl fun e _ => ?_)
    rw [dif_neg (by omega), dif_neg (by omega)]
    congr 3
    exact Fin.ext (by show 512 + j.val - 256 - 256 = j.val; omega)

/-! ## Lane maxima -/

theorem mx1_apply (v : FVec Ideal (T2 256 256) .f32) (r : Fin 256) (l : Fin 128) :
    mx1 v (ix2 r l) = max (v (ix2 r ⟨l.val, by omega⟩ : (T2 256 256).Idx)) (v (ix2 r ⟨128 + l.val, by omega⟩ : (T2 256 256).Idx)) := by
  pointwise [mx1]

theorem mx2_apply (v : FVec Ideal (T2 256 512) .f32) (r : Fin 256) (l : Fin 128) :
    mx2 v (ix2 r l) = max (max (max (v (ix2 r ⟨l.val, by omega⟩ : (T2 256 512).Idx)) (v (ix2 r ⟨128 + l.val, by omega⟩ : (T2 256 512).Idx)))
      (v (ix2 r ⟨256 + l.val, by omega⟩ : (T2 256 512).Idx))) (v (ix2 r ⟨384 + l.val, by omega⟩ : (T2 256 512).Idx)) := by
  pointwise [mx2]

theorem mx3_apply (v : FVec Ideal (T2 256 768) .f32) (r : Fin 256) (l : Fin 128) :
    mx3 v (ix2 r l) = max (max (max (max (max (v (ix2 r ⟨l.val, by omega⟩ : (T2 256 768).Idx)) (v (ix2 r ⟨128 + l.val, by omega⟩ : (T2 256 768).Idx)))
      (v (ix2 r ⟨256 + l.val, by omega⟩ : (T2 256 768).Idx))) (v (ix2 r ⟨384 + l.val, by omega⟩ : (T2 256 768).Idx)))
      (v (ix2 r ⟨512 + l.val, by omega⟩ : (T2 256 768).Idx))) (v (ix2 r ⟨640 + l.val, by omega⟩ : (T2 256 768).Idx)) := by
  pointwise [mx3]

/-! ## Values beside ones -/

theorem withOnes_val (a : Vec Ideal S1x1x256x128 .bf16) (c : Fin 256) (d : Fin 128) : withOnes a (ix2 c ⟨d.val, by omega⟩) = a (ix4 0 0 c d) := by
  pointwise [withOnes]
theorem withOnes_one (a : Vec Ideal S1x1x256x128 .bf16) (c : Fin 256) (d : Fin 128) : withOnes a (ix2 c ⟨128 + d.val, by omega⟩) = 1 := by
  pointwise [withOnes]

/-! ## The quotient -/

theorem quot_apply (x : FVec Ideal S256x256 .f32) (r : Fin 256) (d : Fin 128) :
    quot x (ix3 0 r d) = x (ix2 r ⟨d.val, by omega⟩) * Ideal.div 1 (x (ix2 r ⟨128 + d.val, by omega⟩)) := by
  pointwise [quot]

theorem ofBits_bot : Ideal.ofBits .f32 0xFF800000#32 = ⊥ := by simp [Ideal.ofBits, Ideal.ieee]

/-- The row maximum of the weights of 64 rows. -/
def rmax (a : Vec Ideal S1x64x128 .f32) (r : Fin 64) : EReal :=
  multiReduction (F := Ideal) .maximumf [1] S64 (shapeCast S64x128 a shapeCasts_S1x64x128_S64x128) 0xFF800000#32 reduces_S64x128_S64 (.inl rfl) rfl (ix1 r)

theorem rmax_real (a : Vec Ideal S1x64x128 .f32) (r : Fin 64) (h1 : ∀ l, a (ix3 0 r l) ≠ ⊤) (h2 : ∃ l, a (ix3 0 r l) ≠ ⊥) : ∃ x : ℝ, rmax a r = (x : EReal) := by
  have e : rmax a r = Finset.fold max (Ideal.ofBits .f32 0xFF800000#32) (fun l : Fin 128 => a (ix3 0 r l)) Finset.univ := by
    unfold rmax
    pointwise
  rw [e, ofBits_bot]
  obtain ⟨l, hl⟩ := h2
  exact fold_real _ _ (fun i _ => h1 i) ⟨l, Finset.mem_univ _, hl⟩

/-! ## The weights -/

/-- The reshapes and weights of a width, read at an index. -/
structure Reads {W : ℕ} (wd : Wide W) : Prop where
  cA : ∀ (A : FVec Ideal (T2 256 W) .f32) (r : Fin 256) (c : Fin W), (shapeCast (T3 1 256 W) A wd.c256' : FVec Ideal (T3 1 256 W) .f32) (ix3 0 r c : (T3 1 256 W).Idx) = A (ix2 r c : (T2 256 W).Idx)
  cP : ∀ (p : FVec Ideal (T3 1 256 W) .bf16) (r : Fin 256) (c : Fin W), (shapeCast (T2 256 W) p wd.c256 : FVec Ideal (T2 256 W) .bf16) (ix2 r c : (T2 256 W).Idx) = p (ix3 0 r c : (T3 1 256 W).Idx)
  sf : ∀ (a : Vec Ideal S1x64x128 .f32) (c : Vec Ideal (T3 1 64 W) .f32) (r : Fin 64) (j : Fin W),
    soft wd a c (ix3 0 r j : (T3 1 64 W).Idx) = Ideal.exp2 (c (ix3 0 r j : (T3 1 64 W).Idx) - rmax a r)

theorem reads256 : Reads wide256 := ⟨fun A r c => by pointwise, fun p r c => by pointwise, fun a c r j => by unfold rmax; pointwise [soft]; rfl⟩
theorem reads512 : Reads wide512 := ⟨fun A r c => by pointwise, fun p r c => by pointwise, fun a c r j => by unfold rmax; pointwise [soft]; rfl⟩
theorem reads768 : Reads wide768 := ⟨fun A r c => by pointwise, fun p r c => by pointwise, fun a c r j => by unfold rmax; pointwise [soft]; rfl⟩

theorem pblk_apply {W : ℕ} (wd : Wide W) (R : Reads wd) (A : FVec Ideal (T2 256 W) .f32) (M : FVec Ideal S256x128 .f32) (r : Fin 256)
    (h1 : ∀ l, M (ix2 r l) ≠ ⊤) (h2 : ∃ l, M (ix2 r l) ≠ ⊥) :
    ∃ x : ℝ, ∀ c : Fin W, pblk wd A M (ix3 0 r c : (T3 1 256 W).Idx) = Ideal.exp2 (A (ix2 r c : (T2 256 W).Idx) - (x : EReal)) := by
  have hr : r.val < 256 := r.isLt
  have hM : ∀ l : Fin 128, (shapeCast S1x256x128 M shapeCasts_S256x128_S1x256x128 : FVec Ideal S1x256x128 .f32) (ix3 0 r l) = M (ix2 r l) := fun l => by pointwise
  have hA : ∀ c : Fin W, (shapeCast (T3 1 256 W) A wd.c256' : FVec Ideal (T3 1 256 W) .f32) (ix3 0 r c : (T3 1 256 W).Idx) = A (ix2 r c : (T2 256 W).Idx) := fun c => R.cA A r c
  have e : ∀ (B : ℕ) (l : Fin B), (rU B (64 * (r.val / 64)) (by omega)).emb (ix3 0 ⟨r.val % 64, Nat.mod_lt _ (by decide)⟩ l : (T3 1 64 B).Idx) = (ix3 0 r l : (T3 1 256 B).Idx) := fun B l => by
    refine ext3 _ _ ?_ ?_ ?_ <;> rw [unit_emb_val]
    · rfl
    · show 64 * (r.val / 64) + r.val % 64 = r.val; omega
    · exact Nat.zero_add _
  obtain ⟨x, hx⟩ := rmax_real (fun y => (shapeCast S1x256x128 M shapeCasts_S256x128_S1x256x128 : FVec Ideal S1x256x128 .f32) ((rU 128 (64 * (r.val / 64)) (by omega)).emb y)) ⟨r.val % 64, Nat.mod_lt _ (by decide)⟩
    (fun l => by show (shapeCast S1x256x128 M shapeCasts_S256x128_S1x256x128 : FVec Ideal S1x256x128 .f32) _ ≠ _; erw [e 128 l, hM]; exact h1 l) (by obtain ⟨l, hl⟩ := h2; exact ⟨l, by show (shapeCast S1x256x128 M shapeCasts_S256x128_S1x256x128 : FVec Ideal S1x256x128 .f32) _ ≠ _; erw [e 128 l, hM]; exact hl⟩)
  refine ⟨x, fun c => ?_⟩
  have h := R.sf (fun y => (shapeCast S1x256x128 M shapeCasts_S256x128_S1x256x128 : FVec Ideal S1x256x128 .f32) ((rU 128 (64 * (r.val / 64)) (by omega)).emb y))
    (fun y => (shapeCast (T3 1 256 W) A wd.c256' : FVec Ideal (T3 1 256 W) .f32) ((rU W (64 * (r.val / 64)) (by omega)).emb y)) ⟨r.val % 64, Nat.mod_lt _ (by decide)⟩ c
  rw [hx] at h
  beta_reduce at h
  erw [e W c, hA] at h
  refine Eq.trans ?_ h
  show wts wd A M (64 * (r.val / 64)) _ _ = _
  unfold wts
  congr 1

/-- A head from its scores, maxima and values. -/
theorem headOf_apply {W : ℕ} (wd : Wide W) (R : Reads wd) (mm : FVec Ideal (T2 256 W) .bf16 → FVec Ideal (T2 W 256) .bf16 → FVec Ideal S256x256 .f32)
    (hmm : ∀ p v (r d : Fin 256), mm p v (ix2 r d) = ∑ c : Fin W, p (ix2 r c : (T2 256 W).Idx) * v (ix2 c d : (T2 W 256).Idx))
    (A : FVec Ideal (T2 256 W) .f32) (M : FVec Ideal S256x128 .f32) (V : FVec Ideal (T2 W 256) .bf16) (r : Fin 256) (d : Fin 128)
    (h1 : ∀ l, M (ix2 r l) ≠ ⊤) (h2 : ∃ l, M (ix2 r l) ≠ ⊥) :
    ∃ x : ℝ, headOf wd mm A M V (ix3 0 r d) = (∑ c : Fin W, Ideal.exp2 (A (ix2 r c : (T2 256 W).Idx) - (x : EReal)) * V (ix2 c ⟨d.val, by omega⟩ : (T2 W 256).Idx))
      * Ideal.div 1 (∑ c : Fin W, Ideal.exp2 (A (ix2 r c : (T2 256 W).Idx) - (x : EReal)) * V (ix2 c ⟨128 + d.val, by omega⟩ : (T2 W 256).Idx)) := by
  obtain ⟨x, hx⟩ := pblk_apply wd R A M r h1 h2
  refine ⟨x, ?_⟩
  unfold headOf
  rw [quot_apply, hmm, hmm]
  have hp : ∀ c : Fin W, (shapeCast (T2 256 W) (pblk wd A M) wd.c256 : FVec Ideal (T2 256 W) .bf16) (ix2 r c : (T2 256 W).Idx) = Ideal.exp2 (A (ix2 r c : (T2 256 W).Idx) - (x : EReal)) := fun c => by
    rw [← hx c]
    exact R.cP _ r c
  simp only [hp]

theorem mm1 (p : FVec Ideal (T2 256 256) .bf16) (v : FVec Ideal (T2 256 256) .bf16) (r d : Fin 256) :
    (matmul dot_S256x256_S256x256_S256x256_1_0_0_1_n_n none p v (constant S256x256 .f32 0x00000000#32) : FVec Ideal S256x256 .f32) (ix2 r d) = ∑ c : Fin 256, p (ix2 r c : (T2 256 256).Idx) * v (ix2 c d : (T2 256 256).Idx) := by
  pointwise
theorem mm2 (p : FVec Ideal (T2 256 512) .bf16) (v : FVec Ideal (T2 512 256) .bf16) (r d : Fin 256) :
    (matmul dot_S256x512_S512x256_S256x256_1_0_0_1_n_n none p v (constant S256x256 .f32 0x00000000#32) : FVec Ideal S256x256 .f32) (ix2 r d) = ∑ c : Fin 512, p (ix2 r c : (T2 256 512).Idx) * v (ix2 c d : (T2 512 256).Idx) := by
  pointwise
theorem mm3 (p : FVec Ideal (T2 256 768) .bf16) (v : FVec Ideal (T2 768 256) .bf16) (r d : Fin 256) :
    (matmul dot_S256x768_S768x256_S256x256_1_0_0_1_n_n none p v (constant S256x256 .f32 0x00000000#32) : FVec Ideal S256x256 .f32) (ix2 r d) = ∑ c : Fin 768, p (ix2 r c : (T2 256 768).Idx) * v (ix2 c d : (T2 768 256).Idx) := by
  pointwise

/-! ## The values in sight -/

theorem besideOnes_val (v : Vec Ideal S1x16x256x128 .bf16) (hd : Fin 16) (c : Fin 256) (d : Fin 128) :
    besideOnes v (ix4 0 hd c ⟨d.val, by omega⟩ : (T4 1 16 256 256).Idx) = v (ix4 0 hd c d) := by
  refine (dif_pos d.isLt).trans (congrArg v (ext4 _ _ rfl rfl rfl rfl))
theorem besideOnes_one (v : Vec Ideal S1x16x256x128 .bf16) (hd : Fin 16) (c : Fin 256) (d : Fin 128) :
    besideOnes v (ix4 0 hd c ⟨128 + d.val, by omega⟩ : (T4 1 16 256 256).Idx) = 1 := by
  refine (dif_neg (by show ¬ (128 + d.val < 128); omega)).trans ?_
  show Ideal.ofBits .bf16 0x3F80#16 = 1
  exact Ideal.ofBits_one_bf16

theorem cat2 (a b : FVec Ideal S256x256 .bf16) (s : Fin 2) (c d : Fin 256) :
    (concatenate S512x256 0 [⟨S256x256, a⟩, ⟨S256x256, b⟩] concatenates_S256x256_S256x256_S512x256_d0 : FVec Ideal S512x256 .bf16) (ix2 ⟨s.val * 256 + c.val, by omega⟩ d) = (![a, b] s) (ix2 c d) := by
  fin_cases s
  · pointwise
  · pointwise
theorem cat3 (a b e : FVec Ideal S256x256 .bf16) (s : Fin 3) (c d : Fin 256) :
    (concatenate S768x256 0 [⟨S256x256, a⟩, ⟨S256x256, b⟩, ⟨S256x256, e⟩] concatenates_S256x256_S256x256_S256x256_S768x256_d0 : FVec Ideal S768x256 .bf16) (ix2 ⟨s.val * 256 + c.val, by omega⟩ d) = (![a, b, e] s) (ix2 c d) := by
  fin_cases s
  · pointwise
  · pointwise
  · pointwise
    rw [dif_neg (by omega), dif_neg (by omega)]
    congr 2
    exact Fin.ext (by show 512 + c.val - 256 - 256 = c.val; omega)

theorem ringcast_apply (v : Vec Ideal (T4 1 1 256 256) .bf16) (c d : Fin 256) :
    (shapeCast S256x256 v shapeCasts_S1x1x256x256_S256x256 : FVec Ideal S256x256 .bf16) (ix2 c d) = v (ix4 0 0 c d : (T4 1 1 256 256).Idx) := by
  pointwise

end Cert.Att
end
-- ==== Proof.Att.Table.lean ====
/- The bias table read at an index: the band by blocks of 64, and the bias row turned by the query's place. -/
module

public import proofs.«01_k».proof.Proof.Att.Read

@[expose] public section
set_option maxRecDepth 16384
noncomputable section
namespace Cert.Att
open Idealize.ShloMosaic Idealize.ShloMosaic.Pointwise Cert.AttnIdeal
open Cert.AttnIdeal.Facts₀ Cert.AttnIdeal.Facts

/-- The block of 64 of one place, in words. -/
def chunkW (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt (64#32) (0#32))) (Scalar.extui (Scalar.cmpi .slt (64#32) (0#32)))))
    (IntOp.cmpi .ne (IntOp.remsi .vector x 64#32) 0#32))
    (IntOp.subi (IntOp.divsi .vector x 64#32) 1#32) (IntOp.divsi .vector x 64#32)

theorem chunkOf_apply (x : IVec S256x768 32) (y : S256x768.Idx) : chunkOf x y = chunkW (x y) := rfl

theorem chunkW_eq : ∀ n : Fin 768, chunkW (BitVec.ofNat 32 n.val) = BitVec.ofNat 32 (n.val / 64) := by decide +kernel

theorem sle_small : ∀ a b : Fin 16, IntOp.cmpi .sle (BitVec.ofNat 32 a.val) (IntOp.addi (BitVec.ofNat 32 b.val) 8#32) = if a.val ≤ b.val + 8 then 1#1 else 0#1 := by decide +kernel
theorem sge_small : ∀ a b : Fin 16, IntOp.cmpi .sge (BitVec.ofNat 32 a.val) (BitVec.ofNat 32 b.val) = if b.val ≤ a.val then 1#1 else 0#1 := by decide +kernel

/-- The factor that takes a natural bias to base two. -/
def log2e : EReal := Ideal.ofBits .f32 0x3FB8AA3B#32

theorem rot_apply (v : Vec Ideal S1x1x1024 .f32) (r : Fin 256) (c : Fin 768) :
    (extractStridedSlice S256x768 ![0, 0] (dynamicRotate 1 0#32 (some (1, 0)) (broadcastTo S256x1024 (shapeCast S1x1024 (shapeCast S1x1024 v shapeCasts_S1x1x1024_S1x1024) shapeCasts_S1x1024_S1x1024) broadcasts_S1x1024_S256x1024) rotates_S256x1024_d1s1a0) slices_S256x1024_o0_0_S256x768 : FVec Ideal S256x768 .f32) (ix2 r c)
      = v (ix3 0 0 ⟨(c.val + 1024 - r.val) % 1024, Nat.mod_lt _ (by decide)⟩) := by
  pointwise
  congr 2
  exact Fin.ext (by show (c.val + 1024 - r.val % 1024) % 1024 = (c.val + 1024 - r.val) % 1024; omega)

theorem tabv_apply (v : Vec Ideal S1x1x1024 .f32) (r : Fin 256) (c : Fin 768) :
    tabv v (ix2 r c) = if c.val / 64 ≤ r.val / 64 + 8 ∧ r.val / 64 ≤ c.val / 64 then v (ix3 0 0 ⟨(c.val + 1024 - r.val) % 1024, Nat.mod_lt _ (by decide)⟩) * log2e else ⊥ := by
  have hr : (iota .tc S256x768 32 [0] iota_S256x768_d0_w32 : IVec S256x768 32) (ix2 r c) = BitVec.ofNat 32 r.val := by pointwise
  have hc : (iota .tc S256x768 32 [1] iota_S256x768_d1_w32 : IVec S256x768 32) (ix2 r c) = BitVec.ofNat 32 c.val := by pointwise
  have e1 := chunkW_eq ⟨r.val, by omega⟩
  have e2 := chunkW_eq c
  have h := rot_apply v r c
  have s1 := sle_small ⟨c.val / 64, by omega⟩ ⟨r.val / 64, by omega⟩
  have s2 := sge_small ⟨c.val / 64, by omega⟩ ⟨r.val / 64, by omega⟩
  unfold tabv
  generalize (iota .tc S256x768 32 [0] iota_S256x768_d0_w32 : IVec S256x768 32) = I0 at hr ⊢
  generalize (iota .tc S256x768 32 [1] iota_S256x768_d1_w32 : IVec S256x768 32) = I1 at hc ⊢
  generalize (extractStridedSlice S256x768 ![0, 0] (dynamicRotate 1 0#32 (some (1, 0)) (broadcastTo S256x1024 (shapeCast S1x1024 (shapeCast S1x1024 v shapeCasts_S1x1x1024_S1x1024) shapeCasts_S1x1024_S1x1024) broadcasts_S1x1024_S256x1024) rotates_S256x1024_d1s1a0 : FVec Ideal S256x1024 .f32) slices_S256x1024_o0_0_S256x768 : FVec Ideal S256x768 .f32) = R at h ⊢
  have g0 := chunkOf_apply I0 (ix2 r c)
  have g1 := chunkOf_apply I1 (ix2 r c)
  rw [hr, e1] at g0
  rw [hc, e2] at g1
  generalize chunkOf I0 = J0 at g0 ⊢
  generalize chunkOf I1 = J1 at g1 ⊢
  have e : (select (cmpi .sle J1 (addi J0 (broadcast S256x768 8#32))) (select (cmpi .sge J1 J0) (mulf R (broadcast S256x768 (Scalar.ofBits .f32 0x3FB8AA3B#32))) (broadcast S256x768 (Scalar.ofBits .f32 0xFF800000#32))) (broadcast S256x768 (Scalar.ofBits .f32 0xFF800000#32)) : FVec Ideal S256x768 .f32) (ix2 r c)
      = Scalar.select (IntOp.cmpi .sle (J1 (ix2 r c)) (IntOp.addi (J0 (ix2 r c)) 8#32)) (Scalar.select (IntOp.cmpi .sge (J1 (ix2 r c)) (J0 (ix2 r c))) (R (ix2 r c) * log2e) (Ideal.ofBits .f32 0xFF800000#32)) (Ideal.ofBits .f32 0xFF800000#32) := rfl
  rw [e, g0, g1, h, ofBits_bot]
  dsimp only at s1 s2
  rw [s1, s2]
  unfold Scalar.select
  by_cases g1 : c.val / 64 ≤ r.val / 64 + 8
  · by_cases g2 : r.val / 64 ≤ c.val / 64
    · simp [g1, g2]
    · simp [g1, g2]
  · simp [g1]

theorem cast_tri (T : FVec Ideal S256x768 .f32) (r : Fin 256) (c : Fin 768) :
    (shapeCast S1x256x768 T shapeCasts_S256x768_S1x256x768 : FVec Ideal S1x256x768 .f32) (tri ⟨0, Nat.one_pos⟩ r c : (T3 1 256 768).Idx) = T (ix2 r c) := by
  have h : (shapeCast S1x256x768 T shapeCasts_S256x768_S1x256x768 : FVec Ideal S1x256x768 .f32) (ix3 0 r c) = T (ix2 r c) := by pointwise
  rw [← h]
  congr 1

theorem brow_apply (b : Vec Ideal S16x1x1024 .f32) (hd : Fin 16) (j : Fin 1024) : brow b hd (ix3 0 0 j) = b (ix3 hd 0 j) := by
  unfold brow
  congr 1

theorem tabOf_apply (b : Vec Ideal S16x1x1024 .f32) (hd : Fin 16) (r : Fin 256) (c : Fin 768) :
    tabOf b (ix3 hd r c : (T3 16 256 768).Idx) = if c.val / 64 ≤ r.val / 64 + 8 ∧ r.val / 64 ≤ c.val / 64 then b (ix3 hd 0 ⟨(c.val + 1024 - r.val) % 1024, Nat.mod_lt _ (by decide)⟩) * log2e else ⊥ := by
  have h := (cast_tri (tabv (brow b hd)) r c).trans (tabv_apply _ r c)
  rw [brow_apply] at h
  exact h

end Cert.Att
end
-- ==== Proof.Att.Head.lean ====
/- A head of the attention as a softmax over all keys in the band: the blocks in sight hold every key that the band lets
   through, and two to the scores less the row's maximum over their sum is the same quotient without the maximum. -/
module

public import proofs.«01_k».proof.Proof.Att.Table

@[expose] public section
set_option maxRecDepth 16384
noncomputable section
namespace Cert.Att
open Idealize.ShloMosaic Idealize.ShloMosaic.Pointwise Cert.AttnIdeal
open Cert.AttnIdeal.Facts₀ Cert.AttnIdeal.Facts

/-! ## The lane maxima are real -/

theorem mx1_top (v : FVec Ideal (T2 256 256) .f32) (r : Fin 256) (h : ∀ c : Fin 256, v (ix2 r c : (T2 256 256).Idx) ≠ ⊤) (l : Fin 128) : mx1 v (ix2 r l) ≠ ⊤ := by
  rw [mx1_apply]; simp only [ne_eq, max_eq_top, not_or]; exact ⟨h _, h _⟩
theorem mx2_top (v : FVec Ideal (T2 256 512) .f32) (r : Fin 256) (h : ∀ c : Fin 512, v (ix2 r c : (T2 256 512).Idx) ≠ ⊤) (l : Fin 128) : mx2 v (ix2 r l) ≠ ⊤ := by
  rw [mx2_apply]; simp only [ne_eq, max_eq_top, not_or]; exact ⟨⟨⟨h _, h _⟩, h _⟩, h _⟩
theorem mx3_top (v : FVec Ideal (T2 256 768) .f32) (r : Fin 256) (h : ∀ c : Fin 768, v (ix2 r c : (T2 256 768).Idx) ≠ ⊤) (l : Fin 128) : mx3 v (ix2 r l) ≠ ⊤ := by
  rw [mx3_apply]; simp only [ne_eq, max_eq_top, not_or]; exact ⟨⟨⟨⟨⟨h _, h _⟩, h _⟩, h _⟩, h _⟩, h _⟩

theorem mx1_bot (v : FVec Ideal (T2 256 256) .f32) (r : Fin 256) (h : v (ix2 r ⟨r.val, by omega⟩ : (T2 256 256).Idx) ≠ ⊥) : ∃ l, mx1 v (ix2 r l) ≠ ⊥ := by
  by_cases hr : r.val < 128
  · refine ⟨⟨r.val, hr⟩, fun e => h ?_⟩
    rw [mx1_apply] at e; simp only [max_eq_bot] at e; exact e.1
  · refine ⟨⟨r.val - 128, by omega⟩, fun e => h ?_⟩
    rw [mx1_apply] at e; simp only [max_eq_bot] at e
    refine Eq.trans (congrArg (fun c : Fin 256 => v (ix2 r c : (T2 256 256).Idx)) (Fin.ext ?_)) e.2
    show r.val = 128 + (r.val - 128); omega
theorem mx2_bot (v : FVec Ideal (T2 256 512) .f32) (r : Fin 256) (h : v (ix2 r ⟨256 + r.val, by omega⟩ : (T2 256 512).Idx) ≠ ⊥) : ∃ l, mx2 v (ix2 r l) ≠ ⊥ := by
  by_cases hr : r.val < 128
  · refine ⟨⟨r.val, hr⟩, fun e => h ?_⟩
    rw [mx2_apply] at e; simp only [max_eq_bot] at e; exact e.1.2
  · refine ⟨⟨r.val - 128, by omega⟩, fun e => h ?_⟩
    rw [mx2_apply] at e; simp only [max_eq_bot] at e
    refine Eq.trans (congrArg (fun c : Fin 512 => v (ix2 r c : (T2 256 512).Idx)) (Fin.ext ?_)) e.2
    show 256 + r.val = 384 + (r.val - 128); omega
theorem mx3_bot (v : FVec Ideal (T2 256 768) .f32) (r : Fin 256) (h : v (ix2 r ⟨512 + r.val, by omega⟩ : (T2 256 768).Idx) ≠ ⊥) : ∃ l, mx3 v (ix2 r l) ≠ ⊥ := by
  by_cases hr : r.val < 128
  · refine ⟨⟨r.val, hr⟩, fun e => h ?_⟩
    rw [mx3_apply] at e; simp only [max_eq_bot] at e; exact e.1.2
  · refine ⟨⟨r.val - 128, by omega⟩, fun e => h ?_⟩
    rw [mx3_apply] at e; simp only [max_eq_bot] at e
    refine Eq.trans (congrArg (fun c : Fin 768 => v (ix2 r c : (T2 256 768).Idx)) (Fin.ext ?_)) e.2
    show 512 + r.val = 640 + (r.val - 128); omega

/-! ## The attention of one query -/

/-- The band: by blocks of 64, not after the query and at most eight before it. -/
def Band (t κ : Fin 8192) : Prop := κ.val / 64 ≤ t.val / 64 ∧ t.val / 64 ≤ κ.val / 64 + 8
instance (t : Fin 8192) : DecidablePred (Band t) := fun _ => inferInstanceAs (Decidable (_ ∧ _))

/-- Where the bias of a distance stands. -/
def bix (t κ : Fin 8192) : Fin 257 := ⟨min 256 (t.val + 128 - κ.val), by omega⟩

theorem log2e_ne_top : log2e ≠ ⊤ := by
  simp only [log2e, Ideal.ofBits, Ideal.ieee]
  exact EReal.coe_ne_top _
theorem log2e_ne_bot : log2e ≠ ⊥ := by
  simp only [log2e, Ideal.ofBits, Ideal.ieee]
  exact EReal.coe_ne_bot _
def lg : ℝ := log2e.toReal
theorem log2e_eq : log2e = (lg : EReal) := (EReal.coe_toReal log2e_ne_top log2e_ne_bot).symm

variable (q : Fin 8192 → Fin 128 → ℝ) (k : Fin 128 → Fin 8192 → ℝ) (β : Fin 257 → ℝ) (v : Fin 8192 → Fin 128 → EReal)

/-- The score of a key. -/
def sR (t κ : Fin 8192) : ℝ := (∑ e : Fin 128, q t e * k e κ) + β (bix t κ) * lg

/-- The softmax's weighted sum. -/
def attn (t : Fin 8192) (d : Fin 128) : EReal :=
  ∑ κ : Fin 8192, Ideal.div ((wt (Band t) (sR q k β t) κ : ℝ) : EReal) (∑ κ' : Fin 8192, ((wt (Band t) (sR q k β t) κ' : ℝ) : EReal)) * v κ d

theorem score_val (t κ : Fin 8192) (qa ka : Fin 128 → EReal) (T : EReal) (hq : ∀ e, qa e = ((q t e : ℝ) : EReal)) (hk : ∀ e, ka e = ((k e κ : ℝ) : EReal))
    (hT : T = if Band t κ then ((β (bix t κ) : ℝ) : EReal) * log2e else ⊥) :
    (∑ e : Fin 128, qa e * ka e) + T = if Band t κ then ((sR q k β t κ : ℝ) : EReal) else ⊥ := by
  have e1 : ∑ e : Fin 128, qa e * ka e = ((∑ e : Fin 128, q t e * k e κ : ℝ) : EReal) := by
    rw [← coe_sum]
    exact Finset.sum_congr rfl fun e _ => by rw [hq, hk, EReal.coe_mul]
  rw [hT, e1, log2e_eq]
  split_ifs
  · rw [← EReal.coe_mul, ← EReal.coe_add]; rfl
  · exact EReal.add_bot _

/-- Where the turned bias row has the bias of a distance. -/
def jix (j : Fin 1024) : Fin 257 := ⟨if 384 ≤ j.val ∧ j.val < 640 then 640 - j.val else 256, by split_ifs <;> omega⟩

theorem tab_val (b : Vec Ideal S16x1x1024 .f32) (hd : Fin 16) (hb : ∀ j : Fin 1024, j.val < 576 ∨ 960 < j.val → b (ix3 hd 0 j) = ((β (jix j) : ℝ) : EReal))
    (i : ℕ) (r : Fin 256) (c : Fin 768) (t κ : Fin 8192) (ht : t.val = 256 * i + r.val) (hκ : κ.val + 512 = 256 * i + c.val) :
    tabOf b (ix3 hd r c : (T3 16 256 768).Idx) = if Band t κ then ((β (bix t κ) : ℝ) : EReal) * log2e else ⊥ := by
  have hiff : (c.val / 64 ≤ r.val / 64 + 8 ∧ r.val / 64 ≤ c.val / 64) ↔ Band t κ := by unfold Band; omega
  rw [tabOf_apply]
  by_cases h : Band t κ
  · have h' := hiff.2 h
    rw [if_pos h, if_pos h', hb _ (by show (c.val + 1024 - r.val) % 1024 < 576 ∨ 960 < (c.val + 1024 - r.val) % 1024; omega)]
    have e : jix ⟨(c.val + 1024 - r.val) % 1024, Nat.mod_lt _ (by decide)⟩ = bix t κ := Fin.ext (by
      show (if 384 ≤ (c.val + 1024 - r.val) % 1024 ∧ (c.val + 1024 - r.val) % 1024 < 640 then 640 - (c.val + 1024 - r.val) % 1024 else 256) = min 256 (t.val + 128 - κ.val)
      split_ifs <;> omega)
    rw [e]
  · rw [if_neg h, if_neg (mt hiff.1 h)]

theorem head_value {W : ℕ} (wd : Wide W) (R : Reads wd) (mm : FVec Ideal (T2 256 W) .bf16 → FVec Ideal (T2 W 256) .bf16 → FVec Ideal S256x256 .f32)
    (hmm : ∀ p v (r d : Fin 256), mm p v (ix2 r d) = ∑ c : Fin W, p (ix2 r c : (T2 256 W).Idx) * v (ix2 c d : (T2 W 256).Idx))
    (A : FVec Ideal (T2 256 W) .f32) (M : FVec Ideal S256x128 .f32) (V : FVec Ideal (T2 W 256) .bf16) (r : Fin 256) (d : Fin 128)
    (t : Fin 8192) (emb : Fin W → Fin 8192) (inj : Function.Injective emb) (hout : ∀ κ, Band t κ → ∃ c, emb c = κ)
    (hA : ∀ c, A (ix2 r c : (T2 256 W).Idx) = if Band t (emb c) then ((sR q k β t (emb c) : ℝ) : EReal) else ⊥)
    (hV : ∀ c, V (ix2 c ⟨d.val, by omega⟩ : (T2 W 256).Idx) = v (emb c) d)
    (hU : ∀ c, V (ix2 c ⟨128 + d.val, by omega⟩ : (T2 W 256).Idx) = 1)
    (h1 : (∀ c, A (ix2 r c : (T2 256 W).Idx) ≠ ⊤) → ∀ l, M (ix2 r l) ≠ ⊤) (c0 : Fin W) (hc0 : emb c0 = t) (h2 : A (ix2 r c0 : (T2 256 W).Idx) ≠ ⊥ → ∃ l, M (ix2 r l) ≠ ⊥) :
    headOf wd mm A M V (ix3 0 r d) = attn q k β v t d := by
  have ht : Band t t := ⟨le_rfl, Nat.le_add_right _ _⟩
  obtain ⟨x, hx⟩ := headOf_apply wd R mm hmm A M V r d
    (h1 fun c => by rw [hA]; split_ifs; exacts [EReal.coe_ne_top _, bot_ne_top]) (h2 (by rw [hA, hc0, if_pos ht]; exact EReal.coe_ne_bot _))
  rw [hx]
  exact softmax_eq (Band t) (sR q k β t) (fun κ => v κ d) emb inj hout ⟨t, ht⟩ x _ hA _ _ hV hU

/-! ## One, two and three blocks in sight -/

/-- A block of queries, keys, values is the part of the array from `256 * i` on. -/
def IsQ (i : ℕ) (hd : Fin 16) (q : Fin 8192 → Fin 128 → ℝ) (x : Vec Ideal S1x16x256x128 .bf16) : Prop :=
  ∀ (r : Fin 256) (e : Fin 128) (t : Fin 8192), t.val = 256 * i + r.val → x (ix4 0 hd r e) = ((q t e : ℝ) : EReal)
def IsV (i : ℕ) (hd : Fin 16) (v : Fin 8192 → Fin 128 → EReal) (x : Vec Ideal S1x16x256x128 .bf16) : Prop :=
  ∀ (r : Fin 256) (e : Fin 128) (t : Fin 8192), t.val = 256 * i + r.val → x (ix4 0 hd r e) = v t e
def IsK (i : ℕ) (hd : Fin 16) (k : Fin 128 → Fin 8192 → ℝ) (x : Vec Ideal S1x16x128x256 .bf16) : Prop :=
  ∀ (e : Fin 128) (j : Fin 256) (κ : Fin 8192), κ.val = 256 * i + j.val → x (ix4 0 hd e j) = ((k e κ : ℝ) : EReal)
def IsB (hd : Fin 16) (β : Fin 257 → ℝ) (b : Vec Ideal S16x1x1024 .f32) : Prop :=
  ∀ j : Fin 1024, j.val < 576 ∨ 960 < j.val → b (ix3 hd 0 j) = ((β (jix j) : ℝ) : EReal)

theorem split_lt {n W : ℕ} (hW : W = n * 256) (s : Fin n) (j : Fin 256) : s.val * 256 + j.val < W := by have := s.isLt; have := j.isLt; subst hW; omega
theorem fin_split {n : ℕ} (W : ℕ) (hW : W = n * 256) : ∀ c : Fin W, ∃ (s : Fin n) (j : Fin 256), c = ⟨s.val * 256 + j.val, split_lt hW s j⟩ := fun c =>
  have hc := c.isLt
  ⟨⟨c.val / 256, by omega⟩, ⟨c.val % 256, by omega⟩, Fin.ext (by show c.val = c.val / 256 * 256 + c.val % 256; omega)⟩

/-- The place of a key in sight when `n` blocks are. -/
def embn (n W i : ℕ) (hn : W = n * 256) (h : n ≤ i + 1) (hi : i < 32) (c : Fin W) : Fin 8192 := ⟨256 * (i + 1 - n) + c.val, by have := c.isLt; omega⟩

theorem embn_inj (n W i : ℕ) (hn : W = n * 256) (h : n ≤ i + 1) (hi : i < 32) : Function.Injective (embn n W i hn h hi) := fun a c e => by
  have e' : 256 * (i + 1 - n) + a.val = 256 * (i + 1 - n) + c.val := congrArg Fin.val e
  exact Fin.ext (by omega)

theorem embn_out (n W i : ℕ) (hn : W = n * 256) (h : n ≤ i + 1) (hi : i < 32) (hw : i + 1 = n ∨ n = 3) (r : Fin 256) (t : Fin 8192) (ht : t.val = 256 * i + r.val) (κ : Fin 8192) (hb : Band t κ) :
    ∃ c, embn n W i hn h hi c = κ := by
  unfold Band at hb
  exact ⟨⟨κ.val - 256 * (i + 1 - n), by omega⟩, Fin.ext (by show 256 * (i + 1 - n) + (κ.val - 256 * (i + 1 - n)) = κ.val; omega)⟩

variable {q k β v}
variable {i : ℕ} (hi : i < 32) {hd : Fin 16}
  {qB : Vec Ideal S1x16x256x128 .bf16} {kB k1B k2B : Vec Ideal S1x16x128x256 .bf16} {vB v1B v2B : Vec Ideal S1x16x256x128 .bf16} {b : Vec Ideal S16x1x1024 .f32}
include hi

theorem head1_eq (h0 : i = 0) (hq : IsQ i hd q qB) (hk : IsK i hd k kB) (hv : IsV i hd v vB) (hb : IsB hd β b) (r : Fin 256) (d : Fin 128) (t : Fin 8192) (ht : t.val = 256 * i + r.val) :
    head1 qB kB vB (tabOf b) hd.val hd.isLt (ix3 0 r d) = attn q k β v t d := by
  unfold head1
  refine head_value q k β v wide256 reads256 _ mm1 _ _ _ r d t (embn 1 256 i rfl (by omega) hi) (embn_inj _ _ _ _ _ _) (embn_out _ _ _ _ _ _ (.inl (by omega)) r t ht)
    (fun c => ?_) (fun c => ?_) (fun c => ?_) (mx1_top _ r) ⟨r.val, r.isLt⟩ (Fin.ext ?_) (mx1_bot _ r)
  · unfold A1
    rw [score1_apply]
    refine score_val q k β t _ _ _ _ (fun e => (hsl_apply _ _ _ _ _).trans (hq r e t ht)) (fun e => (hsl_apply _ _ _ _ _).trans (hk e c _ ?_)) ((tsl_apply _ _ _ _ _ _ _ _).trans (tab_val β b hd hb i r _ t _ ht ?_))
    · show 256 * (i + 1 - 1) + c.val = _; omega
    · show 256 * (i + 1 - 1) + c.val + 512 = 256 * i + (512 + c.val); omega
  · exact (withOnes_val _ c d).trans ((hsl_apply _ _ _ _ _).trans (hv c d _ (by show 256 * (i + 1 - 1) + c.val = _; omega)))
  · exact withOnes_one _ c d
  · show 256 * (i + 1 - 1) + r.val = t.val; omega

theorem head2_eq (h1 : i = 1) (hq : IsQ i hd q qB) (hk : IsK i hd k kB) (hk1 : IsK (i - 1) hd k k1B) (hv : IsV i hd v vB) (hv1 : IsV (i - 1) hd v v1B) (hb : IsB hd β b)
    (r : Fin 256) (d : Fin 128) (t : Fin 8192) (ht : t.val = 256 * i + r.val) :
    head2 qB kB k1B vB (besideOnes v1B) (tabOf b) hd.val hd.isLt (ix3 0 r d) = attn q k β v t d := by
  unfold head2
  refine head_value q k β v wide512 reads512 _ mm2 _ _ _ r d t (embn 2 512 i rfl (by omega) hi) (embn_inj _ _ _ _ _ _) (embn_out _ _ _ _ _ _ (.inl (by omega)) r t ht)
    (fun c => ?_) (fun c => ?_) (fun c => ?_) (mx2_top _ r) ⟨256 + r.val, by omega⟩ (Fin.ext ?_) (mx2_bot _ r)
  · obtain ⟨s, j, rfl⟩ := fin_split (n := 2) 512 rfl c
    unfold A2
    rw [score2_apply]
    refine score_val q k β t _ _ _ _ (fun e => (hsl_apply _ _ _ _ _).trans (hq r e t ht)) (fun e => ?_) ((tsl_apply _ _ _ _ _ _ _ _).trans (tab_val β b hd hb i r _ t _ ht ?_))
    · fin_cases s
      · exact (hsl_apply _ _ _ _ _).trans (hk1 e j _ (by show 256 * (i + 1 - 2) + (0 * 256 + j.val) = _; omega))
      · exact (hsl_apply _ _ _ _ _).trans (hk e j _ (by show 256 * (i + 1 - 2) + (1 * 256 + j.val) = _; omega))
    · show 256 * (i + 1 - 2) + (s.val * 256 + j.val) + 512 = 256 * i + (256 + (s.val * 256 + j.val)); omega
  · obtain ⟨s, j, rfl⟩ := fin_split (n := 2) 512 rfl c
    unfold V2
    rw [cat2]
    fin_cases s
    · exact (ringcast_apply _ j _).trans ((hsl_apply _ _ _ _ _).trans ((besideOnes_val _ _ _ d).trans (hv1 j d _ (by show 256 * (i + 1 - 2) + (0 * 256 + j.val) = _; omega))))
    · exact (withOnes_val _ j d).trans ((hsl_apply _ _ _ _ _).trans (hv j d _ (by show 256 * (i + 1 - 2) + (1 * 256 + j.val) = _; omega)))
  · obtain ⟨s, j, rfl⟩ := fin_split (n := 2) 512 rfl c
    unfold V2
    rw [cat2]
    fin_cases s
    · exact (ringcast_apply _ j _).trans ((hsl_apply _ _ _ _ _).trans (besideOnes_one _ _ _ d))
    · exact withOnes_one _ j d
  · show 256 * (i + 1 - 2) + (256 + r.val) = t.val; omega

theorem head3_eq (h2 : 2 ≤ i) (hq : IsQ i hd q qB) (hk : IsK i hd k kB) (hk1 : IsK (i - 1) hd k k1B) (hk2 : IsK (i - 2) hd k k2B) (hv : IsV i hd v vB) (hv1 : IsV (i - 1) hd v v1B) (hv2 : IsV (i - 2) hd v v2B) (hb : IsB hd β b)
    (r : Fin 256) (d : Fin 128) (t : Fin 8192) (ht : t.val = 256 * i + r.val) :
    head3 qB kB k1B k2B vB (besideOnes v1B) (besideOnes v2B) (tabOf b) hd.val hd.isLt (ix3 0 r d) = attn q k β v t d := by
  unfold head3
  refine head_value q k β v wide768 reads768 _ mm3 _ _ _ r d t (embn 3 768 i rfl (by omega) hi) (embn_inj _ _ _ _ _ _) (embn_out _ _ _ _ _ _ (.inr rfl) r t ht)
    (fun c => ?_) (fun c => ?_) (fun c => ?_) (mx3_top _ r) ⟨512 + r.val, by omega⟩ (Fin.ext ?_) (mx3_bot _ r)
  · obtain ⟨s, j, rfl⟩ := fin_split (n := 3) 768 rfl c
    unfold A3
    rw [score3_apply]
    refine score_val q k β t _ _ _ _ (fun e => (hsl_apply _ _ _ _ _).trans (hq r e t ht)) (fun e => ?_) ((tsl_apply _ _ _ _ _ _ _ _).trans (tab_val β b hd hb i r _ t _ ht ?_))
    · fin_cases s
      · exact (hsl_apply _ _ _ _ _).trans (hk2 e j _ (by show 256 * (i + 1 - 3) + (0 * 256 + j.val) = _; omega))
      · exact (hsl_apply _ _ _ _ _).trans (hk1 e j _ (by show 256 * (i + 1 - 3) + (1 * 256 + j.val) = _; omega))
      · exact (hsl_apply _ _ _ _ _).trans (hk e j _ (by show 256 * (i + 1 - 3) + (2 * 256 + j.val) = _; omega))
    · show 256 * (i + 1 - 3) + (s.val * 256 + j.val) + 512 = 256 * i + (0 + (s.val * 256 + j.val)); omega
  · obtain ⟨s, j, rfl⟩ := fin_split (n := 3) 768 rfl c
    unfold V3
    rw [cat3]
    fin_cases s
    · exact (ringcast_apply _ j _).trans ((hsl_apply _ _ _ _ _).trans ((besideOnes_val _ _ _ d).trans (hv2 j d _ (by show 256 * (i + 1 - 3) + (0 * 256 + j.val) = _; omega))))
    · exact (ringcast_apply _ j _).trans ((hsl_apply _ _ _ _ _).trans ((besideOnes_val _ _ _ d).trans (hv1 j d _ (by show 256 * (i + 1 - 3) + (1 * 256 + j.val) = _; omega))))
    · exact (withOnes_val _ j d).trans ((hsl_apply _ _ _ _ _).trans (hv j d _ (by show 256 * (i + 1 - 3) + (2 * 256 + j.val) = _; omega)))
  · obtain ⟨s, j, rfl⟩ := fin_split (n := 3) 768 rfl c
    unfold V3
    rw [cat3]
    fin_cases s
    · exact (ringcast_apply _ j _).trans ((hsl_apply _ _ _ _ _).trans (besideOnes_one _ _ _ d))
    · exact (ringcast_apply _ j _).trans ((hsl_apply _ _ _ _ _).trans (besideOnes_one _ _ _ d))
    · exact withOnes_one _ j d
  · show 256 * (i + 1 - 3) + (512 + r.val) = t.val; omega

end Cert.Att
end
-- ==== Proof.Att.Blocks.lean ====
/- The attention call's blocks read at an index, from its arguments. -/
module

public import proofs.«01_k».proof.Proof.Att.Run
public import proofs.«01_k».proof.Proof.Att.Head
public import Idealize.ShloMosaic.Lib.Pipeline.ValueKit
public import Idealize.ShloMosaic.Lib.Pointwise

@[expose] public section
set_option maxRecDepth 16384
noncomputable section
namespace Cert.AttnIdeal.Att
open Cert.AttnIdeal Cert.AttnIdeal.Gen Idealize.ShloMosaic Idealize.ShloMosaic.TcCoe Idealize.SL.Sem Idealize.ShloMosaic.Pointwise
open Cert.Att (jix)

variable (m : (ℓ : Loc nD τ sig) → Buf (Elt Ideal) ℓ)

theorem idx0 : ∀ t : Fin grid0.N, win0_0.index t = ![t.val / 32, 0, t.val % 32, 0] := by decide +kernel
theorem idx1 : ∀ t : Fin grid0.N, win0_1.index t = ![t.val / 32, 0, 0, t.val % 32] := by decide +kernel
theorem idx2 : ∀ t : Fin grid0.N, win0_2.index t = ![t.val / 32, 0, t.val % 32, 0] := by decide +kernel
theorem idx3 : ∀ t : Fin grid0.N, win0_3.index t = ![t.val / 32, t.val % 32, 0] := by decide +kernel
theorem idx4 : ∀ t : Fin grid0.N, win0_4.index t = ![t.val / 32, t.val % 32, 0] := by decide +kernel
theorem idx5 : ∀ t : Fin grid0.N, win0_5.index t = ![t.val / 32, 0, 0] := by decide +kernel
theorem idx6 : ∀ t : Fin grid0.N, win0_6.index t = ![0, 0, 0] := by decide +kernel
theorem idx7 : ∀ t : Fin grid0.N, win0_7.index t = ![1, 0, 0] := by decide +kernel
theorem idx8 : ∀ t : Fin grid0.N, win0_8.index t = ![0, 0] := by decide +kernel
theorem lt128 (t : Fin cfg0.N) : t.val < 128 := lt_of_lt_of_eq t.isLt N_0

/-- A point's stream and the position of a row of its tile. -/
def strm (t : Fin cfg0.N) : Fin 4 := ⟨t.val / 32, by have := lt128 t; omega⟩
def pos (t : Fin cfg0.N) (r : Fin 256) : Fin 8192 := ⟨t.val % 32 * 256 + r.val, by omega⟩

theorem blk0 (c : Dev nD) (t : Fin cfg0.N) (n : Fin 16) (r : Fin 256) (e : Fin 128) : iblk m c 0 t (ix4 0 n r e) = m ((c : Thread nD τ).loc main_arg0) (ix4 (strm t) n (pos t r) e) := by
  have := lt128 t
  unfold strm pos
  blk_ext [iblk, V, idx0 t]
theorem blk1 (c : Dev nD) (t : Fin cfg0.N) (n : Fin 16) (e : Fin 128) (r : Fin 256) : iblk m c 1 t (ix4 0 n e r) = m ((c : Thread nD τ).loc main_arg1) (ix4 (strm t) n e (pos t r)) := by
  have := lt128 t
  unfold strm pos
  blk_ext [iblk, V, idx1 t]
theorem blk2 (c : Dev nD) (t : Fin cfg0.N) (n : Fin 16) (r : Fin 256) (e : Fin 128) : iblk m c 2 t (ix4 0 n r e) = m ((c : Thread nD τ).loc main_arg2) (ix4 (strm t) n (pos t r) e) := by
  have := lt128 t
  unfold strm pos
  blk_ext [iblk, V, idx2 t]
theorem blk3 (c : Dev nD) (t : Fin cfg0.N) (r : Fin 256) (e : Fin 2048) : iblk m c 3 t (ix3 0 r e) = m ((c : Thread nD τ).loc main_arg3) (ix3 (strm t) (pos t r) e) := by
  have := lt128 t
  unfold strm pos
  blk_ext [iblk, V, idx3 t]
theorem blk4 (c : Dev nD) (t : Fin cfg0.N) (r : Fin 256) (o : Fin 1024) : iblk m c 4 t (ix3 0 r o) = m ((c : Thread nD τ).loc main_arg4) (ix3 (strm t) (pos t r) o) := by
  have := lt128 t
  unfold strm pos
  blk_ext [iblk, V, idx4 t]
theorem V_v0 (c : Dev nD) : V m c main_v0 = shapeCast S4x1x1024 (m ((c : Thread nD τ).loc main_arg5)) shapeCasts_S4x1024_S4x1x1024 := by
  simp only [V, hostOps0, hostOps0_1, hostOps0_2, List.flatten_cons, List.flatten_nil, List.append_nil, List.cons_append, List.nil_append]
  after_results_simp
  rfl
theorem V_v11 (c : Dev nD) : V m c main_v11 = (truncf (F := Ideal) .bf16 (transpose S2x1024x2048 [0, 2, 1] (m ((c : Thread nD τ).loc main_arg7) : FVec Ideal S2x2048x1024 .f32) transposes_S2x2048x1024_S2x1024x2048_0_2_1 : FVec Ideal S2x1024x2048 .f32) bitsLt_bf16_f32 : FVec Ideal S2x1024x2048 .bf16) := by
  simp only [V, hostOps0, hostOps0_1, hostOps0_2, List.flatten_cons, List.flatten_nil, List.append_nil, List.cons_append, List.nil_append]
  after_results_simp
theorem V_v12 (c : Dev nD) : V m c main_v12 = shapeCast S1x1024 (m ((c : Thread nD τ).loc main_arg8)) shapeCasts_S1024_S1x1024 := by
  simp only [V, hostOps0, hostOps0_1, hostOps0_2, List.flatten_cons, List.flatten_nil, List.append_nil, List.cons_append, List.nil_append]
  after_results_simp
  rfl

/-- The bias row as the host lays it out: the farthest bucket, the buckets from far to near, the nearest, a filler. -/
def laid (x : FVec Ideal S16x257 .f32) : FVec Ideal S16x1024 .f32 :=
  concatenate S16x1024 1 [⟨S16x639, broadcastInDim S16x639 ![0, 1] bcast_S16x1_S16x639_0_1 (extractStridedSlice S16x1 ![0, 256] x slices_S16x257_S16x1_0_256)⟩,
    ⟨S16x257, Host.reverse [1] x⟩,
    ⟨S16x127, broadcastInDim S16x127 ![0, 1] bcast_S16x1_S16x127_0_1 (extractStridedSlice S16x1 ![0, 0] x slices_S16x257_S16x1_0_0)⟩,
    ⟨S16x1, broadcastInDim S16x1 ![] bcast_S_S16x1 (constant S_ .f32 0x00000000#32)⟩] concatenates_S16x639_S16x257_S16x127_S16x1_S16x1024_d1
/-- That row turned by 255 places. -/
def turned (y : FVec Ideal S16x1024 .f32) : FVec Ideal S16x1024 .f32 :=
  concatenate S16x1024 1 [⟨S16x769, extractStridedSlice S16x769 ![0, 255] y slices_S16x1024_S16x769_0_255⟩, ⟨S16x255, extractStridedSlice S16x255 ![0, 0] y slices_S16x1024_S16x255_0_0⟩] concatenates_S16x769_S16x255_S16x1024_d1

theorem V_v9 (c : Dev nD) : V m c main_v9 = broadcastInDim S16x1x1024 ![0, 2] bcast_S16x1024_S16x1x1024_0_2 (turned (laid (m ((c : Thread nD τ).loc main_arg6)))) := by
  simp only [V, hostOps0, hostOps0_1, hostOps0_2, List.flatten_cons, List.flatten_nil, List.append_nil, List.cons_append, List.nil_append]
  after_results_simp
  rfl

theorem laid_far (x : FVec Ideal S16x257 .f32) (n : Fin 16) (j : Fin 1024) (h : j.val < 639) : laid x (ix2 n j) = x (ix2 n 256) := by
  refine (concatenate_apply_piece (t := S16x1024) 1 _ _ (ix2 n j) 0 (by simp) S16x639 _ rfl rfl 0 rfl (ix2 n (⟨j.val, h⟩ : Fin 639) : S16x639.Idx) ?_ ?_).trans ?_
  · intro b hb; fin_cases b
    · rfl
    · exact absurd rfl hb
  · exact Nat.zero_add _
  · pointwise
theorem laid_mid (x : FVec Ideal S16x257 .f32) (n : Fin 16) (j : Fin 1024) (h : 639 ≤ j.val) (h' : j.val < 896) : laid x (ix2 n j) = x (ix2 n (⟨895 - j.val, by omega⟩ : Fin 257)) := by
  refine (concatenate_apply_piece (t := S16x1024) 1 _ _ (ix2 n j) 1 (by simp) S16x257 _ rfl rfl 639 rfl (ix2 n (⟨j.val - 639, by omega⟩ : Fin 257) : S16x257.Idx) ?_ ?_).trans ?_
  · intro b hb; fin_cases b
    · rfl
    · exact absurd rfl hb
  · show 639 + (j.val - 639) = j.val; omega
  · refine congrArg x (funext fun a => ?_)
    match a with
    | ⟨0, _⟩ => rfl
    | ⟨1, _⟩ => exact Fin.ext (by show 257 - (j.val - 639 + 1) = 895 - j.val; omega)

theorem turned_left (y : FVec Ideal S16x1024 .f32) (n : Fin 16) (j : Fin 1024) (h : j.val < 769) : turned y (ix2 n j) = y (ix2 n (⟨j.val + 255, by omega⟩ : Fin 1024)) := by
  refine (concatenate_apply_piece (t := S16x1024) 1 _ _ (ix2 n j) 0 (by simp) S16x769 _ rfl rfl 0 rfl (ix2 n (⟨j.val, h⟩ : Fin 769) : S16x769.Idx) ?_ ?_).trans ?_
  · intro b hb; fin_cases b
    · rfl
    · exact absurd rfl hb
  · exact Nat.zero_add _
  · pointwise
    congr 2
    exact Fin.ext (Nat.add_comm _ _)
theorem turned_right (y : FVec Ideal S16x1024 .f32) (n : Fin 16) (j : Fin 1024) (h : 769 ≤ j.val) : turned y (ix2 n j) = y (ix2 n (⟨j.val - 769, by omega⟩ : Fin 1024)) := by
  refine (concatenate_apply_piece (t := S16x1024) 1 _ _ (ix2 n j) 1 (by simp) S16x255 _ rfl rfl 769 rfl (ix2 n (⟨j.val - 769, by omega⟩ : Fin 255) : S16x255.Idx) ?_ ?_).trans ?_
  · intro b hb; fin_cases b
    · rfl
    · exact absurd rfl hb
  · show 769 + (j.val - 769) = j.val; omega
  · pointwise

theorem row_val (x : FVec Ideal S16x257 .f32) (n : Fin 16) (j : Fin 1024) (hj : j.val < 576 ∨ 960 < j.val) : turned (laid x) (ix2 n j) = x (ix2 n (jix j)) := by
  by_cases h : j.val < 769
  · rw [turned_left _ n j h]
    by_cases h1 : j.val < 384
    · rw [laid_far _ n _ (by show j.val + 255 < 639; omega)]
      congr 2
      exact Fin.ext (by unfold jix; split <;> simp <;> omega)
    · rw [laid_mid _ n _ (by show 639 ≤ j.val + 255; omega) (by show j.val + 255 < 896; omega)]
      congr 2
      exact Fin.ext (by unfold jix; split <;> simp <;> omega)
  · rw [turned_right _ n j (by omega), laid_far _ n _ (by show j.val - 769 < 639; omega)]
    congr 2
    exact Fin.ext (by unfold jix; split <;> simp <;> omega)

theorem blk5 (c : Dev nD) (t : Fin cfg0.N) (o : Fin 1024) : iblk m c 5 t (ix3 0 0 o) = m ((c : Thread nD τ).loc main_arg5) (ix2 (strm t) o) := by
  have := lt128 t
  have e : iblk m c 5 t (ix3 0 0 o) = V m c main_v0 (ix3 (strm t) 0 o) := by
    unfold strm
    blk_ext [iblk, idx5 t]
  rw [e, V_v0]
  pointwise
theorem blk7 (c : Dev nD) (t : Fin cfg0.N) (o : Fin 1024) (q : Fin 2048) : iblk m c 7 t (ix3 0 o q) = m ((c : Thread nD τ).loc main_arg7) (ix3 1 q o) := by
  have := lt128 t
  have e : iblk m c 7 t (ix3 0 o q) = V m c main_v11 (ix3 1 o q) := by
    blk_ext [iblk, idx7 t]
  rw [e, V_v11]
  pointwise
theorem blk8 (c : Dev nD) (t : Fin cfg0.N) (o : Fin 1024) : iblk m c 8 t (ix2 0 o) = m ((c : Thread nD τ).loc main_arg8) (ix1 o) := by
  have := lt128 t
  have e : iblk m c 8 t (ix2 0 o) = V m c main_v12 (ix2 0 o) := by
    blk_ext [iblk, idx8 t]
  rw [e, V_v12]
  pointwise
theorem blk6 (c : Dev nD) (t : Fin cfg0.N) (n : Fin 16) (j : Fin 1024) (hj : j.val < 576 ∨ 960 < j.val) : iblk m c 6 t (ix3 n 0 j) = m ((c : Thread nD τ).loc main_arg6) (ix2 n (jix j)) := by
  have := lt128 t
  have e : iblk m c 6 t (ix3 n 0 j) = V m c main_v9 (ix3 n 0 j) := by
    blk_ext [iblk, idx6 t]
  rw [e, V_v9, ← row_val (m ((c : Thread nD τ).loc main_arg6)) n j hj]
  generalize turned (laid (m ((c : Thread nD τ).loc main_arg6))) = y
  pointwise

end Cert.AttnIdeal.Att
end
-- ==== Proof.Att.Formula.lean ====
/- One position's result from its attention: gate, output weights, residual and the last norm. -/
module

public import proofs.«01_k».proof.Proof.Att.Head

@[expose] public section
noncomputable section
namespace Cert.Att
open Idealize.ShloMosaic

/-- The residual stream with the gated projection added. -/
def resRow (a z : Fin 2048 → EReal) (w : Fin 2048 → Fin 1024 → EReal) (h g : Fin 1024 → EReal) (o : Fin 1024) : EReal :=
  h o + g o * ∑ e : Fin 2048, a e * (z e * Ideal.div 1 (1 + Ideal.exp (-z e))) * w e o

/-- Its last norm. -/
def outRow (a z : Fin 2048 → EReal) (w : Fin 2048 → Fin 1024 → EReal) (h g f : Fin 1024 → EReal) (o : Fin 1024) : EReal :=
  resRow a z w h g o * Ideal.rsqrt (Ideal.div (∑ j : Fin 1024, resRow a z w h g j * resRow a z w h g j) (Ideal.ofBits .f32 0x44800000#32) + Ideal.ofBits .f32 0x358637BD#32) * f o

/-- The attention of a position, all heads beside each other. -/
def attnRow (Q : Fin 16 → Fin 8192 → Fin 128 → ℝ) (K : Fin 16 → Fin 128 → Fin 8192 → ℝ) (B : Fin 16 → Fin 257 → ℝ) (U : Fin 16 → Fin 8192 → Fin 128 → EReal) (t : Fin 8192) (e : Fin 2048) : EReal :=
  attn (Q ⟨e.val / 128, by omega⟩) (K ⟨e.val / 128, by omega⟩) (B ⟨e.val / 128, by omega⟩) (U ⟨e.val / 128, by omega⟩) t ⟨e.val % 128, by omega⟩

end Cert.Att
end
-- ==== Proof.Att.Out.lean ====
/- The output block read at an index: heads side by side, gate, output weights, residual and the last norm. -/
module

public import proofs.«01_k».proof.Proof.Att.Formula
public import Idealize.ShloMosaic.Lib.Pipeline.Value

@[expose] public section
set_option maxRecDepth 16384
noncomputable section
namespace Cert.Att
open Idealize.ShloMosaic Idealize.ShloMosaic.Pointwise Cert.AttnIdeal
open Cert.AttnIdeal.Facts₀ Cert.AttnIdeal.Facts

theorem proj_apply (A : FVec Ideal S256x2048 .f32) (z : Vec Ideal S1x256x2048 .f32) (w : Vec Ideal S1x1024x2048 .bf16) (r : Fin 256) (o : Fin 1024) :
    proj A z w (ix2 r o) = ∑ e : Fin 2048, A (ix2 r e) * (z (ix3 0 r e) * Ideal.div 1 (1 + Ideal.exp (-z (ix3 0 r e)))) * w (ix3 0 o e) := by
  have h : proj A z w (ix2 r o) = ∑ e : Fin 2048, w (ix3 0 o e) * (A (ix2 r e) * (z (ix3 0 r e) * Ideal.div (Ideal.ofBits .f32 0x3F800000#32) (Ideal.ofBits .f32 0x3F800000#32 + Ideal.exp (Ideal.ofBits .f32 0x00000000#32 - z (ix3 0 r e))))) := by
    pointwise [proj]
  rw [h, Ideal.ofBits_one_f32, Ideal.ofBits_zero_f32]
  exact Finset.sum_congr rfl fun e _ => by rw [zero_sub, mul_comm]

theorem resid_apply (h : Vec Ideal S1x256x1024 .f32) (g : Vec Ideal S1x1x1024 .f32) (y : FVec Ideal S256x1024 .f32) (r : Fin 256) (o : Fin 1024) :
    resid h g y (ix2 r o) = h (ix3 0 r o) + g (ix3 0 0 o) * y (ix2 r o) := by
  pointwise [resid]

theorem sums_apply (x : FVec Ideal S256x1024 .f32) (r : Fin 256) :
    (multiReduction .add [1] S256 (mulf x x) 0x00000000#32 reduces_S256x1024_S256 (.inl rfl) rfl : FVec Ideal S256 .f32) (ix1 r) = ∑ j : Fin 1024, x (ix2 r j) * x (ix2 r j) := by
  pointwise

theorem scale_apply (x : FVec Ideal S256 .f32) (r : Fin 256) (o : Fin 1024) :
    (broadcastTo S256x1024 (rsqrt (addf (divf (shapeCast S256x1 x shapeCasts_S256_S256x1) (broadcast S256x1 (Scalar.ofBits .f32 0x44800000#32))) (broadcast S256x1 (Scalar.ofBits .f32 0x358637BD#32)))) broadcasts_S256x1_S256x1024 : FVec Ideal S256x1024 .f32) (ix2 r o)
      = Ideal.rsqrt (Ideal.div (x (ix1 r)) (Ideal.ofBits .f32 0x44800000#32) + Ideal.ofBits .f32 0x358637BD#32) := by
  pointwise

theorem times_apply (x y : FVec Ideal S256x1024 .f32) (f : Vec Ideal S1x1024 .f32) (r : Fin 256) (o : Fin 1024) :
    (shapeCast S1x256x1024 (mulf (mulf x y) (broadcastTo S256x1024 (shapeCast S1x1024 f shapeCasts_S1x1024_S1x1024) broadcasts_S1x1024_S256x1024)) shapeCasts_S256x1024_S1x256x1024 : FVec Ideal S1x256x1024 .f32) (ix3 0 r o)
      = x (ix2 r o) * y (ix2 r o) * f (ix2 0 o) := by
  pointwise

theorem norm_apply (x : FVec Ideal S256x1024 .f32) (f : Vec Ideal S1x1024 .f32) (r : Fin 256) (o : Fin 1024) :
    norm x f (ix3 0 r o) = x (ix2 r o) * Ideal.rsqrt (Ideal.div (∑ j : Fin 1024, x (ix2 r j) * x (ix2 r j)) (Ideal.ofBits .f32 0x44800000#32) + Ideal.ofBits .f32 0x358637BD#32) * f (ix2 0 o) := by
  unfold norm
  rw [times_apply, scale_apply, sums_apply]

/-- The sixteen heads beside one another. -/
abbrev besideAll (a : ∀ hd : ℕ, hd < 16 → FVec Ideal S1x256x128 .f32) : FVec Ideal S256x2048 .f32 :=
  beside (a 0 (by decide)) (a 1 (by decide)) (a 2 (by decide)) (a 3 (by decide)) (a 4 (by decide)) (a 5 (by decide)) (a 6 (by decide)) (a 7 (by decide))
    (a 8 (by decide)) (a 9 (by decide)) (a 10 (by decide)) (a 11 (by decide)) (a 12 (by decide)) (a 13 (by decide)) (a 14 (by decide)) (a 15 (by decide))

theorem beside_apply (a : ∀ hd : ℕ, hd < 16 → FVec Ideal S1x256x128 .f32) (s : Fin 16) (r : Fin 256) (j : Fin 128) :
    besideAll a (ix2 r ⟨s.val * 128 + j.val, by omega⟩) = a s.val s.isLt (ix3 0 r j) := by
  refine (concatenate_ofFn_apply (t := S256x2048) (s₁ := S256x128) 1 (fun n : Fin 16 => shapeCast S256x128 (a n.val n.isLt) shapeCasts_S1x256x128_S256x128)
    concatenates_S256x128_S256x128_S256x128_S256x128_S256x128_S256x128_S256x128_S256x128_S256x128_S256x128_S256x128_S256x128_S256x128_S256x128_S256x128_S256x128_S256x2048_d1
    rfl 128 rfl (ix2 r ⟨s.val * 128 + j.val, by omega⟩ : S256x2048.Idx) s ?_ (ix2 r j : S256x128.Idx) ?_ ?_).trans ?_
  · show (s.val * 128 + j.val) / 128 = s.val; omega
  · show j.val = (s.val * 128 + j.val) % 128; omega
  · intro b hb; fin_cases b
    · rfl
    · exact absurd rfl hb
  · pointwise

theorem outOf_apply (a : ∀ hd : ℕ, hd < 16 → FVec Ideal S1x256x128 .f32) (z : Vec Ideal S1x256x2048 .f32) (w : Vec Ideal S1x1024x2048 .bf16) (h : Vec Ideal S1x256x1024 .f32) (g : Vec Ideal S1x1x1024 .f32) (f : Vec Ideal S1x1024 .f32)
    (A : Fin 2048 → EReal) (r : Fin 256) (o : Fin 1024) (hA : ∀ e : Fin 2048, a (e.val / 128) (by omega) (ix3 0 r ⟨e.val % 128, by omega⟩) = A e) :
    outOf a z w h g f (ix3 0 r o) = outRow A (fun e => z (ix3 0 r e)) (fun e o => w (ix3 0 o e)) (fun o => h (ix3 0 r o)) (fun o => g (ix3 0 0 o)) (fun o => f (ix2 0 o)) o := by
  have hb : ∀ e : Fin 2048, besideAll a (ix2 r e) = A e := fun e => by
    have he : e = ⟨e.val / 128 * 128 + e.val % 128, by omega⟩ := Fin.ext (by show e.val = e.val / 128 * 128 + e.val % 128; omega)
    exact (congrArg (fun e => besideAll a (ix2 r e)) he).trans ((beside_apply a ⟨e.val / 128, by omega⟩ r ⟨e.val % 128, by omega⟩).trans (hA e))
  have hr : ∀ o : Fin 1024, resid h g (proj (besideAll a) z w) (ix2 r o)
      = resRow A (fun e => z (ix3 0 r e)) (fun e o => w (ix3 0 o e)) (fun o => h (ix3 0 r o)) (fun o => g (ix3 0 0 o)) o := fun o => by
    rw [resid_apply, proj_apply]
    simp only [hb]
    rfl
  show norm (resid h g (proj (besideAll a) z w)) f (ix3 0 r o) = _
  rw [norm_apply]
  simp only [hr]
  rfl

end Cert.Att
-- ==== Proof.Att.Value.lean ====
/- The attention call's result read at an index, its queries, keys and biases reals. -/
module

public import proofs.«01_k».proof.Proof.Att.Blocks
public import proofs.«01_k».proof.Proof.Att.Out

@[expose] public section
set_option maxRecDepth 16384
noncomputable section
namespace Cert.AttnIdeal.Att
open Cert.AttnIdeal Cert.AttnIdeal.Gen Idealize.ShloMosaic Idealize.ShloMosaic.TcCoe Idealize.SL.Sem
open Cert.Att

theorem strm_back (t : Fin 128) (d : ℕ) (h : d ≤ t.val % 32) : strm (back t d) = strm t := Fin.ext (by show (t.val - d) / 32 = t.val / 32; omega)
theorem val_back (t : Fin 128) (d : ℕ) (h : d ≤ t.val % 32) : (back t d).val % 32 = t.val % 32 - d := by show (t.val - d) % 32 = _; omega

variable (m : (ℓ : Loc nD τ sig) → Buf (Elt Ideal) ℓ) (c : Dev nD)
variable (Q : Fin 4 → Fin 16 → Fin 8192 → Fin 128 → ℝ) (K : Fin 4 → Fin 16 → Fin 128 → Fin 8192 → ℝ) (U : Fin 4 → Fin 16 → Fin 8192 → Fin 128 → EReal) (B : Fin 16 → Fin 257 → ℝ)
variable (hq : ∀ b h t e, m ((c : Thread nD τ).loc main_arg0) (ix4 b h t e) = ((Q b h t e : ℝ) : EReal))
  (hk : ∀ b h e κ, m ((c : Thread nD τ).loc main_arg1) (ix4 b h e κ) = ((K b h e κ : ℝ) : EReal))
  (hu : ∀ b h t e, m ((c : Thread nD τ).loc main_arg2) (ix4 b h t e) = U b h t e)
  (hb : ∀ h n, m ((c : Thread nD τ).loc main_arg6) (ix2 h n) = ((B h n : ℝ) : EReal))

include hq in
theorem isQ (t : Fin 128) (n : Fin 16) : IsQ (t.val % 32) n (Q (strm t) n) (iblk m c 0 t) := fun r e p hp => by
  obtain rfl : p = pos t r := Fin.ext (hp.trans (by show _ = t.val % 32 * 256 + r.val; omega))
  exact (blk0 m c t n r e).trans (hq _ _ _ _)
include hk in
theorem isK (t : Fin 128) (n : Fin 16) : IsK (t.val % 32) n (K (strm t) n) (iblk m c 1 t) := fun e r p hp => by
  obtain rfl : p = pos t r := Fin.ext (hp.trans (by show _ = t.val % 32 * 256 + r.val; omega))
  exact (blk1 m c t n e r).trans (hk _ _ _ _)
include hu in
theorem isU (t : Fin 128) (n : Fin 16) : IsV (t.val % 32) n (U (strm t) n) (iblk m c 2 t) := fun r e p hp => by
  obtain rfl : p = pos t r := Fin.ext (hp.trans (by show _ = t.val % 32 * 256 + r.val; omega))
  exact (blk2 m c t n r e).trans (hu _ _ _ _)
include hb in
theorem isB (t : Fin 128) (n : Fin 16) : IsB n (B n) (iblk m c 6 t) := fun j hj => (blk6 m c t n j hj).trans (hb _ _)
include hk in
theorem isK_back (t : Fin 128) (n : Fin 16) (d : ℕ) (h : d ≤ t.val % 32) : IsK (t.val % 32 - d) n (K (strm t) n) (iblk m c 1 (back t d)) := by
  rw [← val_back t d h, ← strm_back t d h]
  exact isK m c K hk (back t d) n
include hu in
theorem isU_back (t : Fin 128) (n : Fin 16) (d : ℕ) (h : d ≤ t.val % 32) : IsV (t.val % 32 - d) n (U (strm t) n) (iblk m c 2 (back t d)) := by
  rw [← val_back t d h, ← strm_back t d h]
  exact isU m c U hu (back t d) n

theorem outRow_congr (a : Fin 2048 → EReal) {z z' : Fin 2048 → EReal} {w w' : Fin 2048 → Fin 1024 → EReal} {h h' g g' f f' : Fin 1024 → EReal}
    (hz : ∀ e, z e = z' e) (hw : ∀ e o, w e o = w' e o) (hh : ∀ o, h o = h' o) (hg : ∀ o, g o = g' o) (hf : ∀ o, f o = f' o) (o : Fin 1024) :
    outRow a z w h g f o = outRow a z' w' h' g' f' o := by
  obtain rfl := funext hz
  obtain rfl := funext fun e => funext (hw e)
  obtain rfl := funext hh
  obtain rfl := funext hg
  obtain rfl := funext hf
  rfl

theorem close (t : Fin 128) (r : Fin 256) (o : Fin 1024) (a : ∀ hd : ℕ, hd < 16 → FVec Ideal S1x256x128 .f32)
    (ha : ∀ (n : Fin 16) (d : Fin 128), a n.val n.isLt (ix3 0 r d) = attn (Q (strm t) n) (K (strm t) n) (B n) (U (strm t) n) (pos t r) d) :
    outOf a (iblk m c 3 t) (iblk m c 7 t) (iblk m c 4 t) (iblk m c 5 t) (iblk m c 8 t) (ix3 0 r o) = outRow (attnRow (Q (strm t)) (K (strm t)) B (U (strm t)) (pos t r))
      (fun e => m ((c : Thread nD τ).loc main_arg3) (ix3 (strm t) (pos t r) e)) (fun e o => m ((c : Thread nD τ).loc main_arg7) (ix3 1 e o))
      (fun o => m ((c : Thread nD τ).loc main_arg4) (ix3 (strm t) (pos t r) o)) (fun o => m ((c : Thread nD τ).loc main_arg5) (ix2 (strm t) o)) (fun o => m ((c : Thread nD τ).loc main_arg8) (ix1 o)) o :=
  (outOf_apply a _ _ _ _ _ (attnRow (Q (strm t)) (K (strm t)) B (U (strm t)) (pos t r)) r o (fun e => ha ⟨e.val / 128, by omega⟩ ⟨e.val % 128, by omega⟩)).trans
    (outRow_congr _ (fun e => blk3 m c t r e) (fun e o => blk7 m c t o e) (fun o => blk4 m c t r o) (fun o => blk5 m c t o) (fun o => blk8 m c t o) o)

theorem pos_val (t : Fin 128) (r : Fin 256) : (pos t r).val = 256 * (t.val % 32) + r.val := by show t.val % 32 * 256 + r.val = _; omega
theorem mod_lt (t : Fin 128) : t.val % 32 < 32 := Nat.mod_lt _ (by decide)

include hq hk hu hb

theorem first (t : Fin 128) (h0 : t.val % 32 = 0) (r : Fin 256) (n : Fin 16) (d : Fin 128) :
    head1 (iblk m c 0 t) (iblk m c 1 t) (iblk m c 2 t) (tabOf (iblk m c 6 (0 : Fin 128))) n.val n.isLt (ix3 0 r d) = attn (Q (strm t) n) (K (strm t) n) (B n) (U (strm t) n) (pos t r) d :=
  head1_eq (mod_lt t) h0 (isQ m c Q hq t n) (isK m c K hk t n) (isU m c U hu t n) (isB m c B hb 0 n) r d _ (pos_val t r)

theorem second (t : Fin 128) (h1 : t.val % 32 = 1) (r : Fin 256) (n : Fin 16) (d : Fin 128) :
    head2 (iblk m c 0 t) (iblk m c 1 t) (iblk m c 1 (back t 1)) (iblk m c 2 t) (besideOnes (iblk m c 2 (back t 1))) (tabOf (iblk m c 6 (0 : Fin 128))) n.val n.isLt (ix3 0 r d) = attn (Q (strm t) n) (K (strm t) n) (B n) (U (strm t) n) (pos t r) d := by
  have hk1 := isK_back m c K hk t n 1 (by omega)
  have hu1 := isU_back m c U hu t n 1 (by omega)
  generalize iblk m c 1 (back t 1) = k1 at hk1 ⊢
  generalize iblk m c 2 (back t 1) = u1 at hu1 ⊢
  exact head2_eq (mod_lt t) h1 (isQ m c Q hq t n) (isK m c K hk t n) hk1 (isU m c U hu t n) hu1 (isB m c B hb 0 n) r d _ (pos_val t r)

theorem third (t : Fin 128) (h2 : 2 ≤ t.val % 32) (r : Fin 256) (n : Fin 16) (d : Fin 128) :
    head3 (iblk m c 0 t) (iblk m c 1 t) (iblk m c 1 (back t 1)) (iblk m c 1 (back t 2)) (iblk m c 2 t) (besideOnes (iblk m c 2 (back t 1))) (besideOnes (iblk m c 2 (back t 2))) (tabOf (iblk m c 6 (0 : Fin 128))) n.val n.isLt (ix3 0 r d)
      = attn (Q (strm t) n) (K (strm t) n) (B n) (U (strm t) n) (pos t r) d := by
  have hk1 := isK_back m c K hk t n 1 (by omega)
  have hu1 := isU_back m c U hu t n 1 (by omega)
  have hk2 := isK_back m c K hk t n 2 (by omega)
  have hu2 := isU_back m c U hu t n 2 (by omega)
  generalize iblk m c 1 (back t 1) = k1 at hk1 ⊢
  generalize iblk m c 2 (back t 1) = u1 at hu1 ⊢
  generalize iblk m c 1 (back t 2) = k2 at hk2 ⊢
  generalize iblk m c 2 (back t 2) = u2 at hu2 ⊢
  exact head3_eq (mod_lt t) h2 (isQ m c Q hq t n) (isK m c K hk t n) hk1 hk2 (isU m c U hu t n) hu1 hu2 (isB m c B hb 0 n) r d _ (pos_val t r)

theorem out_apply (t : Fin 128) (r : Fin 256) (o : Fin 1024) :
    outAt (blocks m c) t (ix3 0 r o) = outRow (attnRow (Q (strm t)) (K (strm t)) B (U (strm t)) (pos t r))
      (fun e => m ((c : Thread nD τ).loc main_arg3) (ix3 (strm t) (pos t r) e)) (fun e o => m ((c : Thread nD τ).loc main_arg7) (ix3 1 e o))
      (fun o => m ((c : Thread nD τ).loc main_arg4) (ix3 (strm t) (pos t r) o)) (fun o => m ((c : Thread nD τ).loc main_arg5) (ix2 (strm t) o)) (fun o => m ((c : Thread nD τ).loc main_arg8) (ix1 o)) o := by
  simp only [outAt, blocks]
  split_ifs with h0 h1
  · exact close m c Q K U B t r o _ (first m c Q K U B hq hk hu hb t h0 r)
  · exact close m c Q K U B t r o _ (second m c Q K U B hq hk hu hb t h1 r)
  · exact close m c Q K U B t r o _ (third m c Q K U B hq hk hu hb t (by omega) r)

omit hq hk hu hb in
theorem pt_lt (b : Fin 4) (t : Fin 8192) : b.val * 32 + t.val / 256 < 128 := by omega
/-- The point of a stream and a position, and the position's row in its tile. -/
def pt (b : Fin 4) (t : Fin 8192) : Fin 128 := ⟨b.val * 32 + t.val / 256, pt_lt b t⟩
def row (t : Fin 8192) : Fin 256 := ⟨t.val % 256, Nat.mod_lt _ (by omega)⟩
omit hq hk hu hb in
theorem strm_pt (b : Fin 4) (t : Fin 8192) : strm (pt b t) = b := Fin.ext (by show (b.val * 32 + t.val / 256) / 32 = b.val; omega)
omit hq hk hu hb in
theorem pos_pt (b : Fin 4) (t : Fin 8192) : pos (pt b t) (row t) = t := Fin.ext (by show (b.val * 32 + t.val / 256) % 32 * 256 + t.val % 256 = t.val; omega)

theorem result9_apply (b : Fin 4) (t : Fin 8192) (o : Fin 1024) :
    (dats m 0 c).arrAt 9 cfg0.N (ix3 b t o) = outRow (attnRow (Q b) (K b) B (U b) t)
      (fun e => m ((c : Thread nD τ).loc main_arg3) (ix3 b t e)) (fun e o => m ((c : Thread nD τ).loc main_arg7) (ix3 1 e o))
      (fun o => m ((c : Thread nD τ).loc main_arg4) (ix3 b t o)) (fun o => m ((c : Thread nD τ).loc main_arg5) (ix2 b o)) (fun o => m ((c : Thread nD τ).loc main_arg8) (ix1 o)) o := by
  have e := (congrFun (blocks9 m c (pt b t) ((by decide +kernel : ∀ t : Fin grid0.N, win0_9.flush t = true) (pt b t))) (ix3 0 (row t) o)).trans
    ((congrFun (flushed9 m c (pt b t)) (ix3 0 (row t) o)).trans (out_apply m c Q K U B hq hk hu hb (pt b t) (row t) o))
  rw [strm_pt, pos_pt] at e
  refine Eq.trans ?_ e
  have hi := idx9 (pt b t)
  have hp : (pt b t).val = b.val * 32 + t.val / 256 := rfl
  unfold row
  symm
  blk_ext [hi, hp]

end Cert.AttnIdeal.Att
end
-- ==== Proof.Att.Ints.lean ====
/- The integer arithmetic of the band and of the clipped distances. -/
module

public import proofs.«01_k».proof.Proof.Att.Head

@[expose] public section
set_option maxRecDepth 16384
noncomputable section
namespace Cert.Att
open Idealize.ShloMosaic

theorem div64 : ∀ n : Fin 8192, IntOp.divsi .host (BitVec.ofNat 32 n.val) 64#32 = BitVec.ofNat 32 (n.val / 64) := by decide +kernel

theorem le_small : ∀ a b : Fin 128, IntOp.andi (IntOp.cmpi .sle (BitVec.ofNat 32 b.val) (BitVec.ofNat 32 a.val)) (IntOp.cmpi .sge (BitVec.ofNat 32 b.val) (IntOp.subi (BitVec.ofNat 32 a.val) 8#32))
    = if b.val ≤ a.val ∧ a.val ≤ b.val + 8 then 1#1 else 0#1 := by decide +kernel

/-- The clipped distance as the reference computes it, from the distance and an offset that keeps it natural. -/
def clipped (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32) (IntOp.addi (IntOp.minsi 128#32 (IntOp.maxsi 4294967168#32 d)) 128#32)

theorem clipped_eq : ∀ n : Fin 16384, min (clipped (IntOp.subi (BitVec.ofNat 32 n.val) 8191#32)).toInt.toNat 256 = min 256 (n.val + 128 - 8191) := by decide +kernel

theorem distance (t κ : Fin 8192) : IntOp.subi (BitVec.ofNat 32 t.val) (BitVec.ofNat 32 κ.val) = IntOp.subi (BitVec.ofNat 32 (t.val + 8191 - κ.val)) 8191#32 := by
  unfold IntOp.subi
  have h : BitVec.ofNat 32 (t.val + 8191 - κ.val) + BitVec.ofNat 32 κ.val = BitVec.ofNat 32 t.val + BitVec.ofNat 32 8191 := by
    rw [← BitVec.ofNat_add, ← BitVec.ofNat_add]; congr 1; omega
  have e : BitVec.ofNat 32 (t.val + 8191 - κ.val) = BitVec.ofNat 32 t.val + BitVec.ofNat 32 8191 - BitVec.ofNat 32 κ.val := by
    rw [← h, BitVec.add_sub_cancel]
  rw [e]
  show _ = BitVec.ofNat 32 t.val + 8191#32 - BitVec.ofNat 32 κ.val - 8191#32
  generalize BitVec.ofNat 32 t.val = x
  generalize BitVec.ofNat 32 κ.val = y
  generalize 8191#32 = z
  first | ring | abel | bv_omega

theorem place_nat (t κ : ℕ) (h : κ < 8192) : min 256 (t + 8191 - κ + 128 - 8191) = min 256 (t + 128 - κ) := by omega

/-- A lane of the joined heads: its head and the lane in it. -/
theorem lane_split (b t e : ℕ) (ht : t < 8192) (he : e < 2048) :
    ((b * 8192 + t) * 2048 + e) / 16777216 = b ∧ ((b * 8192 + t) * 2048 + e) / 2048 % 8192 = t ∧ ((b * 8192 + t) * 2048 + e) / 128 % 16 = e / 128 ∧ ((b * 8192 + t) * 2048 + e) % 128 = e % 128 := by
  refine ⟨by omega, by omega, by omega, by omega⟩

end Cert.Att
end
-- ==== Proof.Att.RefAttn.lean ====
/- The reference of the attention, its result read at a position. -/
module

public import proofs.«01_k».proof.Proof.Gen.AttnReferenceIdeal.Read
public import proofs.«01_k».proof.Proof.Att.Formula
public import proofs.«01_k».proof.Proof.Att.Ints
public import Idealize.ShloMosaic.Lib.IdealHost

@[expose] public section
set_option maxRecDepth 16384
noncomputable section
namespace Cert.AttnReferenceIdeal.Att
open Cert.AttnReferenceIdeal Cert.AttnReferenceIdeal.Gen Cert.AttnReferenceIdeal.Read Idealize.ShloMosaic Idealize.ShloMosaic.StableHlo Idealize.ShloMosaic.Pointwise
open Cert.Att (Band bix log2e lg log2e_eq sR attn wt coe_sum resRow outRow attnRow div64 le_small clipped clipped_eq distance place_nat lane_split)

/-! ## Blocks of 64 and the band -/

theorem chunk_apply (j : S8192.Idx) : val_main_v2 (F := Ideal) j = BitVec.ofNat 32 ((j 0).val / 64) := by
  rw [val_main_v2_apply, val_main_v0_apply, val_main_v1_apply, val_main_c_apply]
  exact div64 ⟨(j 0).val, (j 0).isLt⟩

theorem band_apply (i : S8192x8192.Idx) : val_main_v30 (F := Ideal) i = if Band ⟨(i 0).val, (i 0).isLt⟩ ⟨(i 1).val, (i 1).isLt⟩ then 1#1 else 0#1 := by
  rw [val_main_v30_apply, val_main_v22_apply, val_main_v29_apply, val_main_v20_apply, val_main_v21_apply, val_main_v27_apply, val_main_v28_apply, val_main_v18_apply, val_main_v19_apply,
    val_main_v23_apply, val_main_v26_apply, val_main_v24_apply, val_main_v25_apply, val_main_c_5_apply, chunk_apply, chunk_apply]
  have h0 : (i 0).val < 8192 := (i 0).isLt
  have h1 : (i 1).val < 8192 := (i 1).isLt
  exact le_small ⟨(i 0).val / 64, by omega⟩ ⟨(i 1).val / 64, by omega⟩

/-! ## The bias of a distance -/

theorem place_apply (i : S8192x8192x1.Idx) (t κ : Fin 8192) (h0 : (i 0).val = t.val) (h1 : (i 1).val = κ.val) :
    min (val_main_v16 (F := Ideal) i).toInt.toNat 256 = (bix t κ).val := by
  have e : val_main_v7 (F := Ideal) (idx_main_v16 i) = IntOp.subi (BitVec.ofNat 32 t.val) (BitVec.ofNat 32 κ.val) := by
    rw [val_main_v7_apply, val_main_v5_apply, val_main_v6_apply, val_main_v3_apply, val_main_v4_apply, val_main_v0_apply, val_main_v0_apply, ← h0, ← h1]
  rw [val_main_v16_apply, val_main_v15_apply, val_main_v12_apply, val_main_v14_apply, val_main_v10_apply, val_main_v11_apply, val_main_v13_apply, val_main_v8_apply, val_main_v9_apply,
    val_main_call0_v2_apply, val_main_call0_v1_apply, val_main_call0_v4_apply, val_main_call0_v0_apply, val_main_call0_v3_apply, val_main_c_0_apply, val_main_c_1_apply, val_main_c_2_apply,
    val_main_c_3_apply, val_main_c_4_apply, e, distance]
  have := κ.isLt
  have := t.isLt
  refine (clipped_eq ⟨t.val + 8191 - κ.val, by omega⟩).trans ?_
  exact place_nat t.val κ.val κ.isLt

/-- The gather reads a head's row at the place the indices give. -/
theorem bias_apply (x : S16x257.Idx → EReal) (ix : IVec S8192x8192x1 32) (y : S16x8192x8192.Idx) (h : Fin 16) (t κ : Fin 8192) (n : Fin 257)
    (h0 : (y 0).val = h.val) (hn : ∀ i : S8192x8192x1.Idx, (i 0).val = (y 1).val → (i 1).val = (y 2).val → min (ix i).toInt.toNat 256 = n.val) :
    Host.gather gather_S16x257_S8192x8192x1_S16x8192x8192_0_1_n_n_1_2_161 x ix y = x (ix2 h n) := by
  unfold Host.gather
  congr 1
  funext a
  refine Fin.ext ?_
  show (gather_S16x257_S8192x8192x1_S16x8192x8192_0_1_n_n_1_2_161).start y ix a + (gather_S16x257_S8192x8192x1_S16x8192x8192_0_1_n_n_1_2_161).batchCoord y a + (gather_S16x257_S8192x8192x1_S16x8192x8192_0_1_n_n_1_2_161).offCoord y a = _
  rw [GatherDims.batchCoord_eq_zero _ _ _ List.not_mem_nil]
  match a with
  | ⟨0, _⟩ =>
    have e1 : (gather_S16x257_S8192x8192x1_S16x8192x8192_0_1_n_n_1_2_161).start y ix ⟨0, by decide⟩ = 0 := by
      unfold GatherDims.start
      rw [dif_neg]
      show ¬ (⟨0, by decide⟩ : Fin 2) ∈ ([1] : List (Fin 2))
      decide
    have e2 : (gather_S16x257_S8192x8192x1_S16x8192x8192_0_1_n_n_1_2_161).offCoord y ⟨0, by decide⟩ = (y 0).val := by
      unfold GatherDims.offCoord
      rw [dif_pos ((GatherDims.mem_sKept _ _).mpr (by
        show ¬ (⟨0, by decide⟩ : Fin 2) ∈ ([1] : List (Fin 2)) ∧ ¬ (⟨0, by decide⟩ : Fin 2) ∈ ([] : List (Fin 2))
        decide))]
      rfl
    exact (congrArg₂ (· + 0 + ·) e1 e2).trans (by rw [h0]; show 0 + 0 + h.val = h.val; omega)
  | ⟨1, _⟩ =>
    have e2 : (gather_S16x257_S8192x8192x1_S16x8192x8192_0_1_n_n_1_2_161).offCoord y ⟨1, by decide⟩ = 0 :=
      GatherDims.offCoord_eq_zero _ _ _ (fun h => ((GatherDims.mem_sKept _ _).mp h).1 (List.mem_singleton.mpr rfl))
    have e1 : (gather_S16x257_S8192x8192x1_S16x8192x8192_0_1_n_n_1_2_161).start y ix ⟨1, by decide⟩ = n.val := by
      unfold GatherDims.start
      rw [dif_pos (show (⟨1, by decide⟩ : Fin S16x257.rank) ∈ (gather_S16x257_S8192x8192x1_S16x8192x8192_0_1_n_n_1_2_161).startIndexMap from List.mem_singleton.mpr rfl)]
      exact hn _ rfl rfl
    exact (congrArg₂ (· + 0 + ·) e1 e2).trans (by show n.val + 0 + 0 = n.val; omega)

/-! ## The softmax -/

variable (x0 : (⟨S4x16x8192x128, .bf16⟩ : BufTy).Contents (Elt Ideal)) (x1 : (⟨S4x16x128x8192, .bf16⟩ : BufTy).Contents (Elt Ideal)) (x2 : (⟨S4x16x8192x128, .bf16⟩ : BufTy).Contents (Elt Ideal))
  (x3 : (⟨S4x8192x2048, .f32⟩ : BufTy).Contents (Elt Ideal)) (x4 : (⟨S4x8192x1024, .f32⟩ : BufTy).Contents (Elt Ideal)) (x5 : (⟨S4x1024, .f32⟩ : BufTy).Contents (Elt Ideal))
  (x6 : (⟨S16x257, .f32⟩ : BufTy).Contents (Elt Ideal)) (x7 : (⟨S2x2048x1024, .f32⟩ : BufTy).Contents (Elt Ideal)) (x8 : (⟨S1024, .f32⟩ : BufTy).Contents (Elt Ideal))
variable (Q : Fin 4 → Fin 16 → Fin 8192 → Fin 128 → ℝ) (K : Fin 4 → Fin 16 → Fin 128 → Fin 8192 → ℝ) (U : Fin 4 → Fin 16 → Fin 8192 → Fin 128 → EReal) (B : Fin 16 → Fin 257 → ℝ)

theorem two_eq : Ideal.ofBits .f32 0x40000000#32 = ((2 : ℝ) : EReal) := by
  simp [Ideal.ofBits, Ideal.ieee, -EReal.coe_mul]; norm_num

variable (hq : ∀ b h t e, x0 (ix4 b h t e) = ((Q b h t e : ℝ) : EReal)) (hk : ∀ b h e κ, x1 (ix4 b h e κ) = ((K b h e κ : ℝ) : EReal))
  (hu : ∀ b h t e, x2 (ix4 b h t e) = U b h t e) (hb : ∀ h n, x6 (ix2 h n) = ((B h n : ℝ) : EReal))
include hq hk hb

theorem score_apply (i : S4x16x8192x8192.Idx) (b : Fin 4) (h : Fin 16) (t κ : Fin 8192) (h0 : (i 0).val = b.val) (h1 : (i 1).val = h.val) (h2 : (i 2).val = t.val) (h3 : (i 3).val = κ.val) :
    val_main_v38 (F := Ideal) x0 x1 x6 i = ((sR (Q b h) (K b h) (B h) t κ : ℝ) : EReal) := by
  have e33 : val_main_v33 (F := Ideal) x0 x1 i = ((∑ e : Fin 128, Q b h t e * K b h e κ : ℝ) : EReal) := by
    rw [val_main_v33_apply, ← coe_sum]
    refine Finset.sum_congr rfl fun e _ => ?_
    have el : lidx_main_v33 i e = ix4 b h t e := Cert.Att.ext4 (A := 4) (B := 16) (C := 8192) (D := 128) _ _ h0 h1 h2 rfl
    have er : ridx_main_v33 i e = ix4 b h e κ := Cert.Att.ext4 (A := 4) (B := 16) (C := 128) (D := 8192) _ _ h0 h1 rfl h3
    rw [el, er, EReal.coe_mul, ← hq, ← hk]
    rfl
  have e17 : val_main_v34 (F := Ideal) x6 (idx_main_v37 i) = ((B h (bix t κ) : ℝ) : EReal) := by
    rw [val_main_v34_apply, ← hb]
    refine bias_apply x6 _ _ h t κ _ h1 fun j j0 j1 => ?_
    exact place_apply j t κ (j0.trans h2) (j1.trans h3)
  rw [val_main_v38_apply, val_main_v37_apply, val_main_v36_apply, val_main_v35_apply, val_main_cst_apply, e33, e17]
  show ((∑ e : Fin 128, Q b h t e * K b h e κ : ℝ) : EReal) + ((B h (bix t κ) : ℝ) : EReal) * log2e = _
  rw [log2e_eq, ← EReal.coe_mul, ← EReal.coe_add]
  rfl

theorem weight_apply (i : S4x16x8192x8192.Idx) (b : Fin 4) (h : Fin 16) (t κ : Fin 8192) (h0 : (i 0).val = b.val) (h1 : (i 1).val = h.val) (h2 : (i 2).val = t.val) (h3 : (i 3).val = κ.val) :
    val_main_v41 (F := Ideal) x0 x1 x6 i = ((wt (Band t) (sR (Q b h) (K b h) (B h) t) κ : ℝ) : EReal) := by
  have eb : val_main_call1_v1 (F := Ideal) i = if Band t κ then 1#1 else 0#1 := by
    rw [val_main_call1_v1_apply, band_apply]
    have e0 : (⟨(idx_main_call1_v1 i 0).val, (idx_main_call1_v1 i 0).isLt⟩ : Fin 8192) = t := Fin.ext h2
    have e1 : (⟨(idx_main_call1_v1 i 1).val, (idx_main_call1_v1 i 1).isLt⟩ : Fin 8192) = κ := Fin.ext h3
    rw [e0, e1]
  rw [val_main_v41_apply, val_main_v40_apply, val_main_v39_apply, val_main_cst_6_apply, val_main_call1_v2_apply, val_main_call1_v0_apply, val_main_c_7_apply, eb,
    score_apply x0 x1 x6 Q K B hq hk hb i b h t κ h0 h1 h2 h3]
  unfold Scalar.select wt
  by_cases hB : Band t κ
  · rw [if_pos hB, if_pos hB, if_pos (show (1#1 : BitVec 1) = 1 from rfl)]
    show Ideal.pow (Ideal.ofBits .f32 0x40000000#32) _ = _
    rw [two_eq]
    rfl
  · rw [if_neg hB, if_neg hB, if_neg (by decide)]
    show (((0#32 : BitVec 32).toInt : ℝ) : EReal) = _
    simp

theorem soft_apply (i : S4x16x8192x8192.Idx) (b : Fin 4) (h : Fin 16) (t κ : Fin 8192) (h0 : (i 0).val = b.val) (h1 : (i 1).val = h.val) (h2 : (i 2).val = t.val) (h3 : (i 3).val = κ.val) :
    val_main_v45 (F := Ideal) x0 x1 x6 i = Ideal.div ((wt (Band t) (sR (Q b h) (K b h) (B h) t) κ : ℝ) : EReal) (∑ κ' : Fin 8192, ((wt (Band t) (sR (Q b h) (K b h) (B h) t) κ' : ℝ) : EReal)) := by
  rw [val_main_v45_apply, val_main_v44_apply, val_main_v43_apply, val_main_v42_apply, val_main_cst_8_apply, weight_apply x0 x1 x6 Q K B hq hk hb i b h t κ h0 h1 h2 h3]
  have e : ∀ κ' : Fin 8192, val_main_v41 (F := Ideal) x0 x1 x6 (idx_main_v42 (idx_main_v43 (idx_main_v44 i)) κ') = ((wt (Band t) (sR (Q b h) (K b h) (B h) t) κ' : ℝ) : EReal) :=
    fun κ' => weight_apply x0 x1 x6 Q K B hq hk hb _ b h t κ' h0 h1 h2 rfl
  simp only [e]
  show Ideal.div _ (Ideal.ofBits .f32 0x00000000#32 + _) = _
  rw [Ideal.ofBits_zero_f32, zero_add]

include hu in
theorem attn_apply (i : S4x8192x2048.Idx) (b : Fin 4) (t : Fin 8192) (e : Fin 2048) (h0 : (i 0).val = b.val) (h1 : (i 1).val = t.val) (h2 : (i 2).val = e.val) :
    val_main_v49 (F := Ideal) x0 x1 x2 x6 i = attnRow (Q b) (K b) B (U b) t e := by
  rw [val_main_v49_apply, val_main_v48_apply, val_main_v47_apply]
  unfold attnRow attn
  refine Finset.sum_congr rfl fun κ _ => ?_
  obtain ⟨g0, g1, g2, g3⟩ : (((i 0).val * 8192 + (i 1).val) * 2048 + (i 2).val) / 16777216 = b.val ∧ (((i 0).val * 8192 + (i 1).val) * 2048 + (i 2).val) / 2048 % 8192 = t.val
      ∧ (((i 0).val * 8192 + (i 1).val) * 2048 + (i 2).val) / 128 % 16 = e.val / 128 ∧ (((i 0).val * 8192 + (i 1).val) * 2048 + (i 2).val) % 128 = e.val % 128 := by
    rw [h0, h1, h2]; exact lane_split b.val t.val e.val t.isLt e.isLt
  have el : lidx_main_v47 (idx_main_v48 (idx_main_v49 i)) κ = ix4 b ⟨e.val / 128, by omega⟩ κ ⟨e.val % 128, by omega⟩ :=
    Cert.Att.ext4 (A := 4) (B := 16) (C := 8192) (D := 128) _ _ g0 g2 rfl g3
  rw [soft_apply x0 x1 x6 Q K B hq hk hb _ b ⟨e.val / 128, by omega⟩ t κ g0 g2 g1 rfl, val_main_v46_apply, el, mul_comm, ← hu]
  rfl

include hu in
/-- The residual stream with the gated projection added. -/
theorem res_apply (b : Fin 4) (t : Fin 8192) (o : Fin 1024) :
    val_main_v58 (F := Ideal) x0 x1 x2 x3 x4 x5 x6 x7 (ix3 b t o)
      = resRow (attnRow (Q b) (K b) B (U b) t) (fun e => x3 (ix3 b t e)) (fun e o => x7 (ix3 1 e o)) (fun o => x4 (ix3 b t o)) (fun o => x5 (ix2 b o)) o := by
  have e54 : val_main_v54 (F := Ideal) x0 x1 x2 x3 x6 x7 (ix3 b t o)
      = ∑ e : Fin 2048, attnRow (Q b) (K b) B (U b) t e * (x3 (ix3 b t e) * Ideal.div 1 (1 + Ideal.exp (-x3 (ix3 b t e)))) * x7 (ix3 1 e o) := by
    rw [val_main_v54_apply]
    refine Finset.sum_congr rfl fun e _ => ?_
    have el : lidx_main_v54 (ix3 b t o) e = ix3 b t e := Cert.Att.ext3 (A := 4) (B := 8192) (C := 2048) _ _ rfl rfl rfl
    have er : idx_main_v52 (idx_main_v53 (ridx_main_v54 (ix3 b t o) e)) = ix3 1 e o := Cert.Att.ext3 (A := 2) (B := 2048) (C := 1024) _ _ rfl
      (by show (e.val * 1024 + o.val) / 1024 % 2048 = e.val; omega) (by show (e.val * 1024 + o.val) % 1024 = o.val; omega)
    rw [el, val_main_v51_apply, attn_apply x0 x1 x2 x6 Q K U B hq hk hu hb _ b t e rfl rfl rfl, val_main_v53_apply, val_main_v52_apply, er, val_main_v50_apply, val_main_call2_v5_apply, val_main_call2_v4_apply,
      val_main_call2_v3_apply, val_main_call2_v2_apply, val_main_call2_v1_apply, val_main_call2_v0_apply, val_main_call2_cst_apply, val_main_call2_cst_0_apply]
    show _ * (_ * Ideal.div (Ideal.ofBits .f32 0x3F800000#32) (Ideal.ofBits .f32 0x3F800000#32 + Ideal.exp (-x3 (ix3 b t e)))) * _ = _
    rw [Ideal.ofBits_one_f32]
  have eg : idx_main_v55 (idx_main_v56 (ix3 b t o)) = ix2 b o := funext fun a => by
    match a with
    | ⟨0, _⟩ => rfl
    | ⟨1, _⟩ => rfl
  rw [val_main_v58_apply, val_main_v57_apply, val_main_v56_apply, val_main_v55_apply, eg, e54]
  rfl

include hu in
theorem result_apply (b : Fin 4) (t : Fin 8192) (o : Fin 1024) :
    val_main_v71 (F := Ideal) x0 x1 x2 x3 x4 x5 x6 x7 x8 (ix3 b t o)
      = outRow (attnRow (Q b) (K b) B (U b) t) (fun e => x3 (ix3 b t e)) (fun e o => x7 (ix3 1 e o)) (fun o => x4 (ix3 b t o)) (fun o => x5 (ix2 b o)) (fun o => x8 (ix1 o)) o := by
  have e0 : ∀ j : Fin 1024, val_main_v59 (F := Ideal) x0 x1 x2 x3 x4 x5 x6 x7 (idx_main_v60 (idx_main_v61 (idx_main_v67 (ix3 b t o))) j)
      = val_main_v58 (F := Ideal) x0 x1 x2 x3 x4 x5 x6 x7 (ix3 b t j) * val_main_v58 (F := Ideal) x0 x1 x2 x3 x4 x5 x6 x7 (ix3 b t j) := fun j => by
    have e : idx_main_v60 (idx_main_v61 (idx_main_v67 (ix3 b t o))) j = ix3 b t j := Cert.Att.ext3 (A := 4) (B := 8192) (C := 1024) _ _ rfl rfl rfl
    rw [val_main_v59_apply, e]; rfl
  have e1 : idx_main_v69 (idx_main_v70 (ix3 b t o)) = ix1 o := funext fun a => by
    match a with
    | ⟨0, _⟩ => rfl
  rw [val_main_v71_apply, val_main_v68_apply, val_main_v67_apply, val_main_v66_apply, val_main_v65_apply, val_main_v63_apply, val_main_v61_apply, val_main_v60_apply, val_main_v62_apply, val_main_v64_apply,
    val_main_v70_apply, val_main_v69_apply, e1, val_main_cst_9_apply, val_main_cst_10_apply, val_main_cst_11_apply]
  simp only [e0, res_apply x0 x1 x2 x3 x4 x5 x6 x7 Q K U B hq hk hu hb]
  show _ * Ideal.rsqrt (Ideal.div (Ideal.ofBits .f32 0x00000000#32 + _) _ + _) * _ = _
  rw [Ideal.ofBits_zero_f32, zero_add]
  rfl

end Cert.AttnReferenceIdeal.Att
end
-- ==== Proof.Claims.Attn.lean ====
/- The attention call: from arguments that agree, its queries, keys and biases reals, the result is the reference's. -/
module

public import proofs.«01_k».proof.Defs
public import proofs.«01_k».proof.Proof.Claims.Finite
public import proofs.«01_k».proof.Proof.Gen.AttnReferenceIdeal.Run
public import proofs.«01_k».proof.Proof.Att.Value
public import proofs.«01_k».proof.Proof.Att.RefAttn

@[expose] public section
set_option maxRecDepth 16384
noncomputable section
namespace Cert.Proof
open Idealize.ShloMosaic Idealize.ShloMosaic.TcCoe Idealize.SL.Sem

theorem facts_finite5 : Cert.Pre_finite5.Facts := by
  constructor <;> first | decide | exact ⟨by decide, fun a => a.elim0⟩

/-- The third precondition: queries, keys and biases hold reals. -/
theorem finite5_real [Cert.Pre_finite5.Facts] (x0 : FVec Ideal Cert.Pre_finite5.S4x16x8192x128 .bf16) (x1 : FVec Ideal Cert.Pre_finite5.S4x16x128x8192 .bf16) (x2 : FVec Ideal Cert.Pre_finite5.S4x16x8192x128 .bf16)
    (x3 : FVec Ideal Cert.Pre_finite5.S4x8192x2048 .f32) (x4 : FVec Ideal Cert.Pre_finite5.S4x8192x1024 .f32) (x5 : FVec Ideal Cert.Pre_finite5.S4x1024 .f32) (x6 : FVec Ideal Cert.Pre_finite5.S16x257 .f32)
    (x7 : FVec Ideal Cert.Pre_finite5.S2x2048x1024 .f32) (x8 : FVec Ideal Cert.Pre_finite5.S1024 .f32)
    (h : (Cert.Pre_finite5.fn (F := Ideal) x0 x1 x2 x3 x4 x5 x6 x7 x8).1 = (fun _ => 1#1)
      ∧ (Cert.Pre_finite5.fn (F := Ideal) x0 x1 x2 x3 x4 x5 x6 x7 x8).2.1 = (fun _ => 1#1)
      ∧ (Cert.Pre_finite5.fn (F := Ideal) x0 x1 x2 x3 x4 x5 x6 x7 x8).2.2 = (fun _ => 1#1)) :
    (∀ i, ∃ r : ℝ, x0 i = (r : EReal)) ∧ (∀ i, ∃ r : ℝ, x1 i = (r : EReal)) ∧ (∀ i, ∃ r : ℝ, x6 i = (r : EReal)) := by
  obtain ⟨h0, h1, h6⟩ := h
  exact ⟨fun i => real_of_lt _ (congrFun h0 i), fun i => real_of_lt _ (congrFun h1 i), fun i => real_of_lt _ (congrFun h6 i)⟩

theorem attn_eq [Cert.Pre_finite5.Facts] (m : (ℓ : Loc Cert.AttnIdeal.nD Cert.AttnIdeal.τ Cert.AttnIdeal.sig) → Buf (Elt Ideal) ℓ) (hp : Pre_AttnIdeal_finite5 m) (c : Dev Cert.AttnIdeal.nD) :
    Cert.AttnReferenceIdeal.Read.val_main_v71 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))
      = (Cert.AttnIdeal.Gen.dats m 0 c).arrAt 9 Cert.AttnIdeal.cfg0.N := by
  obtain ⟨h0, h1, h6⟩ := finite5_real _ _ _ _ _ _ _ _ _ (hp c)
  choose Q hQ using h0
  choose K hK using h1
  choose B hB using h6
  funext i
  obtain ⟨b, t, o, rfl⟩ : ∃ (b : Fin 4) (t : Fin 8192) (o : Fin 1024), i = Idealize.ShloMosaic.ix3 b t o :=
    ⟨i 0, i 1, i 2, funext fun a => by
      match a with
      | ⟨0, _⟩ => rfl
      | ⟨1, _⟩ => rfl
      | ⟨2, _⟩ => rfl⟩
  exact (Cert.AttnReferenceIdeal.Att.result_apply _ _ _ _ _ _ _ _ _ (fun b h t e => Q (ix4 b h t e)) (fun b h e κ => K (ix4 b h e κ)) (fun b h t e => m ((c.tc : Thread Cert.AttnIdeal.nD Cert.AttnIdeal.τ).loc Cert.AttnIdeal.main_arg2) (ix4 b h t e)) (fun h n => B (ix2 h n))
      (fun b h t e => hQ _) (fun b h e κ => hK _) (fun b h t e => rfl) (fun h n => hB _) b t o).trans
    (Cert.AttnIdeal.Att.result9_apply m c (fun b h t e => Q (ix4 b h t e)) (fun b h e κ => K (ix4 b h e κ)) (fun b h t e => m ((c.tc : Thread Cert.AttnIdeal.nD Cert.AttnIdeal.τ).loc Cert.AttnIdeal.main_arg2) (ix4 b h t e)) (fun h n => B (ix2 h n))
      (fun b h t e => hQ _) (fun b h e κ => hK _) (fun b h t e => rfl) (fun h n => hB _) b t o).symm

theorem attn_claim [Cert.Pre_finite5.Facts] :
    algebraic_AttnIdeal_AttnReferenceIdeal_pre_finite5 (hAttnIdeal := Cert.AttnIdeal.Gen.facts) (hAttnReferenceIdeal := Cert.AttnReferenceIdeal.Gen.facts) := by
  intro m g m' g' hp hm
  refine ⟨fun c => (Cert.AttnIdeal.Gen.dats m 0 c).arrAt 9 Cert.AttnIdeal.cfg0.N, Cert.AttnIdeal.Att.run_blocks m g, ?_⟩
  refine (θ_run _ _ _).mono (fun r h c => ?_) (Cert.AttnReferenceIdeal.Value.run m' g')
  obtain ⟨a0, a1, a2, a3, a4, a5, a6, a7, a8⟩ := hm c
  refine ⟨(h c).1.trans ?_, (h c).2⟩
  rw [Cert.AttnReferenceIdeal.Read.val_main_v71_eq, a0, a1, a2, a3, a4, a5, a6, a7, a8]
  exact attn_eq m hp c

end Cert.Proof
end
-- ==== Proof.Ada.Kernel.lean ====
/- What the modulation call leaves in its result: for each layer, the gated conditioning rows times the layer's weights,
   plus the layer's bias. -/
module

public import proofs.«01_k».proof.Proof.Gen.ModulationIdeal.Value
public import Idealize.ShloMosaic.Lib.Pointwise
public import Idealize.ShloMosaic.Lib.Pipeline.ValueKit
public import Idealize.ShloMosaic.Lib.Claim

@[expose] public section
set_option maxRecDepth 16384
noncomputable section
namespace Cert.ModulationIdeal.Ada
open Idealize.ShloMosaic Idealize.ShloMosaic.TcCoe Idealize.ShloMosaic.Pointwise Idealize.SL.Sem
open Cert.ModulationIdeal Cert.ModulationIdeal.Gen View

/-- A layer's modulation row: `silu` of the conditioning row, the layer's weights, the layer's bias. -/
def modRow (C : Fin 1024 → EReal) (W : Fin 1024 → Fin 3072 → EReal) (B : Fin 3072 → EReal) (n : Fin 3072) : EReal :=
  (∑ d : Fin 1024, (C d * Ideal.div 1 (1 + Ideal.exp (-C d))) * W d n) + B n

theorem out3_eq (x0 : Vec Ideal S8x1024 .f32) (x1 : Vec Ideal S1x1024x3072 .f32) (x2 : Vec Ideal S1x1x3072 .f32) :
    out0_3 x0 x1 x2 = k0_pay1 x0 x1 x2 := by
  unfold out0_3
  rw [ld_unit_lit _ x0 (by decide), ld_unit_lit _ x1 (by decide), ld_unit_lit _ x2 (by decide)]
  exact canon_cons_unit_lit _ _ _ (by decide)

theorem pay1_apply (x0 : Vec Ideal S8x1024 .f32) (x1 : Vec Ideal S1x1024x3072 .f32) (x2 : Vec Ideal S1x1x3072 .f32) (r : Fin 8) (n : Fin 3072) :
    k0_pay1 x0 x1 x2 (ix3 0 r n) = modRow (fun d => x0 (ix2 r d)) (fun d n => x1 (ix3 0 d n)) (fun n => x2 (ix3 0 0 n)) n := by
  have h : k0_pay1 x0 x1 x2 (ix3 0 r n)
      = (∑ d : Fin 1024, (x0 (ix2 r d) * Ideal.div (Ideal.ofBits .f32 0x3F800000#32) (Ideal.ofBits .f32 0x3F800000#32 + Ideal.exp (Ideal.ofBits .f32 0x00000000#32 - x0 (ix2 r d)))) * x1 (ix3 0 d n)) + x2 (ix3 0 0 n) := by
    pointwise [k0_pay1]
  rw [h, Ideal.ofBits_one_f32, Ideal.ofBits_zero_f32]
  simp only [zero_sub]
  rfl

variable (m : (ℓ : Loc nD τ sig) → Buf (Elt Ideal) ℓ)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem lt4 (t : Fin cfg0.N) : t.val < 4 := lt_of_lt_of_eq t.isLt N_0

theorem V_v0 (c : Dev nD) : V m c main_v0 = shapeCast S4x1x3072 (m ((c : Thread nD τ).loc main_arg2)) shapeCasts_S4x3072_S4x1x3072 := by
  simp only [V, hostOps0, List.flatten_cons, List.flatten_nil, List.append_nil, List.cons_append, List.nil_append]
  after_results_simp
  rfl

theorem blk0 (c : Dev nD) (t : Fin cfg0.N) (r : Fin 8) (d : Fin 1024) : iblk m c 0 t (ix2 r d) = m ((c : Thread nD τ).loc main_arg0) (ix2 r d) := by
  have e : iblk m c 0 t (ix2 r d) = V m c main_arg0 (ix2 r d) := by
    blk_ext [iblk, idx0 t]
  rw [e, V_main_arg0]
theorem blk1 (c : Dev nD) (t : Fin cfg0.N) (d : Fin 1024) (n : Fin 3072) : iblk m c 1 t (ix3 0 d n) = m ((c : Thread nD τ).loc main_arg1) (ix3 ⟨t.val, lt4 t⟩ d n) := by
  have := lt4 t
  have e : iblk m c 1 t (ix3 0 d n) = V m c main_arg1 (ix3 ⟨t.val, lt4 t⟩ d n) := by
    blk_ext [iblk, idx1 t]
  rw [e, V_main_arg1]
theorem blk2 (c : Dev nD) (t : Fin cfg0.N) (n : Fin 3072) : iblk m c 2 t (ix3 0 0 n) = m ((c : Thread nD τ).loc main_arg2) (ix2 ⟨t.val, lt4 t⟩ n) := by
  have := lt4 t
  have e : iblk m c 2 t (ix3 0 0 n) = V m c main_v0 (ix3 ⟨t.val, lt4 t⟩ 0 n) := by
    blk_ext [iblk, idx2 t]
  rw [e, V_v0]
  pointwise

/-- The whole result. -/
theorem result_apply (c : Dev nD) (l : Fin 4) (r : Fin 8) (n : Fin 3072) :
    (dats m 0 c).arrAt 3 cfg0.N (ix3 l r n)
      = modRow (fun d => m ((c : Thread nD τ).loc main_arg0) (ix2 r d)) (fun d n => m ((c : Thread nD τ).loc main_arg1) (ix3 l d n)) (fun n => m ((c : Thread nD τ).loc main_arg2) (ix2 l n)) n := by
  have hl : l.val < cfg0.N := by rw [show cfg0.N = 4 from N_0]; omega
  have e := (congrFun (Value.blocks3 m c ⟨l.val, hl⟩ ((by decide +kernel : ∀ t : Fin grid0.N, win0_3.flush t = true) ⟨l.val, hl⟩)) (ix3 0 r n)).trans
    ((congrFun (Value.flushed3 m c ⟨l.val, hl⟩) (ix3 0 r n)).trans ((congrFun (out3_eq _ _ _) (ix3 0 r n)).trans (pay1_apply _ _ _ r n)))
  simp only [blk0, blk1, blk2] at e
  refine Eq.trans ?_ e
  have hi := idx3 ⟨l.val, hl⟩
  symm
  blk_ext [hi]

end Cert.ModulationIdeal.Ada
end
-- ==== Proof.Ada.Reference.lean ====
/- The modulation reference's result, read at an index. -/
module

public import proofs.«01_k».proof.Proof.Gen.ModulationReferenceIdeal.Read
public import proofs.«01_k».proof.Proof.Ada.Kernel
public import Idealize.ShloMosaic.Lib.IdealHost

@[expose] public section
noncomputable section
namespace Cert.ModulationReferenceIdeal.Ada
open Cert.ModulationReferenceIdeal Cert.ModulationReferenceIdeal.Gen Cert.ModulationReferenceIdeal.Read Idealize.ShloMosaic Idealize.ShloMosaic.StableHlo Idealize.ShloMosaic.Pointwise
open Cert.ModulationIdeal.Ada (modRow)

variable (x0 : (⟨S8x1024, .f32⟩ : BufTy).Contents (Elt Ideal)) (x1 : (⟨S4x1024x3072, .f32⟩ : BufTy).Contents (Elt Ideal)) (x2 : (⟨S4x3072, .f32⟩ : BufTy).Contents (Elt Ideal))

/-- The gated conditioning. -/
theorem silu_apply (r : Fin 8) (d : Fin 1024) :
    val_main_v0 (F := Ideal) x0 (ix2 r d) = x0 (ix2 r d) * Ideal.div 1 (1 + Ideal.exp (-x0 (ix2 r d))) := by
  rw [val_main_v0_apply, val_main_call0_v5_apply, val_main_call0_v4_apply, val_main_call0_v3_apply, val_main_call0_v2_apply, val_main_call0_v1_apply, val_main_call0_v0_apply, val_main_call0_cst_apply, val_main_call0_cst_0_apply]
  show x0 (ix2 r d) * Ideal.div (Ideal.ofBits .f32 0x3F800000#32) (Ideal.ofBits .f32 0x3F800000#32 + Ideal.exp (-x0 (ix2 r d))) = _
  rw [Ideal.ofBits_one_f32]

theorem result_apply (l : Fin 4) (r : Fin 8) (n : Fin 3072) :
    val_main_v5 (F := Ideal) x0 x1 x2 (ix3 l r n) = modRow (fun d => x0 (ix2 r d)) (fun d n => x1 (ix3 l d n)) (fun n => x2 (ix2 l n)) n := by
  rw [val_main_v5_apply, val_main_v2_apply, val_main_v1_apply, val_main_v4_apply, val_main_v3_apply]
  have e2 : idx_main_v3 (idx_main_v4 (ix3 l r n)) = ix2 l n := funext fun a => by
    match a with
    | ⟨0, _⟩ => rfl
    | ⟨1, _⟩ => rfl
  rw [e2]
  refine congrArg (· + x2 (ix2 l n)) (Finset.sum_congr rfl fun d _ => ?_)
  have el : lidx_main_v1 (idx_main_v2 (ix3 l r n)) d = ix3 l d n := funext fun a => by
    match a with
    | ⟨0, _⟩ => rfl
    | ⟨1, _⟩ => rfl
    | ⟨2, _⟩ => rfl
  have er : ridx_main_v1 (idx_main_v2 (ix3 l r n)) d = ix2 r d := funext fun a => by
    match a with
    | ⟨0, _⟩ => rfl
    | ⟨1, _⟩ => rfl
  rw [el, er, silu_apply, mul_comm]

end Cert.ModulationReferenceIdeal.Ada
end
-- ==== Proof.Claims.Modulation.lean ====
/- The modulation call: from arguments that agree, the result is the reference's. -/
module

public import proofs.«01_k».proof.Defs
public import proofs.«01_k».proof.Proof.Gen.ModulationReferenceIdeal.Run
public import proofs.«01_k».proof.Proof.Ada.Kernel
public import proofs.«01_k».proof.Proof.Ada.Reference

@[expose] public section
set_option maxRecDepth 16384
noncomputable section
namespace Cert.Proof
open Idealize.ShloMosaic Idealize.ShloMosaic.TcCoe Idealize.SL.Sem

theorem modulation_eq (m : (ℓ : Loc Cert.ModulationIdeal.nD Cert.ModulationIdeal.τ Cert.ModulationIdeal.sig) → Buf (Elt Ideal) ℓ) (c : Dev Cert.ModulationIdeal.nD) :
    Cert.ModulationReferenceIdeal.Read.val_main_v5 (F := Ideal) (m ((c.tc : Thread Cert.ModulationIdeal.nD Cert.ModulationIdeal.τ).loc Cert.ModulationIdeal.main_arg0))
      (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2))
      = (Cert.ModulationIdeal.Gen.dats m 0 c).arrAt 3 Cert.ModulationIdeal.cfg0.N := by
  funext i
  obtain ⟨l, r, n, rfl⟩ : ∃ (l : Fin 4) (r : Fin 8) (n : Fin 3072), i = Idealize.ShloMosaic.ix3 l r n :=
    ⟨i 0, i 1, i 2, funext fun a => by
      match a with
      | ⟨0, _⟩ => rfl
      | ⟨1, _⟩ => rfl
      | ⟨2, _⟩ => rfl⟩
  exact (Cert.ModulationReferenceIdeal.Ada.result_apply _ _ _ l r n).trans (Cert.ModulationIdeal.Ada.result_apply m c l r n).symm

theorem modulation_claim :
    algebraic_ModulationIdeal_ModulationReferenceIdeal (hModulationIdeal := Cert.ModulationIdeal.Gen.facts) (hModulationReferenceIdeal := Cert.ModulationReferenceIdeal.Gen.facts) := by
  intro m g m' g' _ hm
  refine ⟨fun c => (Cert.ModulationIdeal.Gen.dats m 0 c).arrAt 3 Cert.ModulationIdeal.cfg0.N, Cert.ModulationIdeal.Value.run_blocks m g, ?_⟩
  refine (θ_run _ _ _).mono (fun r h c => ?_) (Cert.ModulationReferenceIdeal.Value.run m' g')
  obtain ⟨a0, a1, a2⟩ := hm c
  refine ⟨(h c).1.trans ?_, (h c).2⟩
  rw [Cert.ModulationReferenceIdeal.Read.val_main_v5_eq, a0, a1, a2]
  exact modulation_eq m c

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.FoldIdeal.Value
public import proofs.«01_k».proof.Proof.Gen.ReferenceIdeal.Run
public import proofs.«01_k».proof.Proof.Gen.ReferenceIdeal.Read
public import proofs.«01_k».proof.Proof.Gen.FoldReferenceIdeal.Run
public import proofs.«01_k».proof.Proof.Gen.FoldReferenceIdeal.Read
public import proofs.«01_k».proof.Proof.Gen.Fold
public import proofs.«01_k».proof.Proof.Gen.Fold.Skeleton
public import proofs.«01_k».proof.Proof.Gen.Fold.Launch
public import proofs.«01_k».proof.Proof.Gen.Fold.Points
public import proofs.«01_k».proof.Proof.Gen.Fold.Frame
public import proofs.«01_k».proof.Proof.Gen.FoldIdeal
public import proofs.«01_k».proof.Proof.Gen.FoldIdeal.Skeleton
public import proofs.«01_k».proof.Proof.Gen.FoldIdeal.Launch
public import proofs.«01_k».proof.Proof.Gen.FoldIdeal.Points
public import proofs.«01_k».proof.Proof.Gen.FoldIdeal.Frame
public import proofs.«01_k».proof.Proof.Gen.Shared.Frame
public import proofs.«01_k».proof.Proof.Gen.SharedIdeal.Frame
public import proofs.«01_k».proof.Proof.Gen.SharedIdeal.Value
public import proofs.«01_k».proof.Proof.Gen.SharedReferenceIdeal.Run
public import proofs.«01_k».proof.Proof.Gen.SharedReferenceIdeal.Read
public import proofs.«01_k».proof.Proof.Gen.Query.Frame
public import proofs.«01_k».proof.Proof.Gen.QueryIdeal.Frame
public import proofs.«01_k».proof.Proof.Gen.QueryReferenceIdeal.Run
public import proofs.«01_k».proof.Proof.Gen.QueryReferenceIdeal.Read
public import proofs.«01_k».proof.Proof.Gen.Attn.Frame
public import proofs.«01_k».proof.Proof.Gen.Attn.Points
public import proofs.«01_k».proof.Proof.Gen.Attn.Launch
public import proofs.«01_k».proof.Proof.Gen.Attn
public import proofs.«01_k».proof.Proof.Gen.AttnIdeal.Frame
public import proofs.«01_k».proof.Proof.Gen.AttnIdeal.Points
public import proofs.«01_k».proof.Proof.Gen.AttnIdeal.Skeleton
public import proofs.«01_k».proof.Proof.Gen.AttnIdeal.Launch
public import proofs.«01_k».proof.Proof.Gen.AttnIdeal
public import proofs.«01_k».proof.Proof.Gen.AttnReferenceIdeal.Run
public import proofs.«01_k».proof.Proof.Gen.AttnReferenceIdeal.Read
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationReferenceIdeal.Run
public import proofs.«01_k».proof.Proof.Gen.ModulationReferenceIdeal.Read
public import proofs.«01_k».proof.Proof.Att.FrameBits
public import proofs.«01_k».proof.Proof.Att.FrameIdeal
public import proofs.«01_k».proof.Proof.Claims.Layer
public import proofs.«01_k».proof.Proof.Claims.Weights
public import proofs.«01_k».proof.Proof.Claims.Shared
public import proofs.«01_k».proof.Proof.Claims.Second
public import proofs.«01_k».proof.Proof.Claims.Attn
public import proofs.«01_k».proof.Proof.Claims.Modulation
public import Idealize.ShloMosaic.Adequacy
public import Idealize.ShloMosaic.Init

@[expose] public section

noncomputable section

namespace Cert.Proof

open Idealize.ShloMosaic Idealize.SL.Sem

theorem quiet_reference : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

theorem quiet_reference_pre [Cert.Pre_finite.Facts] : quiescent_ReferenceIdeal_pre_finite (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

theorem quiet_weights : quiescent_FoldReferenceIdeal (hFoldReferenceIdeal := Cert.FoldReferenceIdeal.Gen.facts) := fun m ρ _ =>
  (θ_run _ _ _).mono (fun r h => ⟨fun c => (h c).2, sem_eq_zero_of_no_sems (by decide) r.2⟩) (Cert.FoldReferenceIdeal.Value.run m ρ)

theorem quiet_weights_pre [Cert.Pre_finite2.Facts] : quiescent_FoldReferenceIdeal_pre_finite2 (hFoldReferenceIdeal := Cert.FoldReferenceIdeal.Gen.facts) := fun m ρ _ =>
  (θ_run _ _ _).mono (fun r h => ⟨fun c => (h c).2, sem_eq_zero_of_no_sems (by decide) r.2⟩) (Cert.FoldReferenceIdeal.Value.run m ρ)

theorem quiet_shared : quiescent_SharedReferenceIdeal (hSharedReferenceIdeal := Cert.SharedReferenceIdeal.Gen.facts) := fun m ρ _ =>
  (θ_run _ _ _).mono (fun r h => ⟨fun c => (h c).2.2.2.2, sem_eq_zero_of_no_sems (by decide) r.2⟩) (Cert.SharedReferenceIdeal.Value.run m ρ)

theorem quiet_second : quiescent_QueryReferenceIdeal (hQueryReferenceIdeal := Cert.QueryReferenceIdeal.Gen.facts) := fun m ρ _ =>
  (θ_run _ _ _).mono (fun r h => ⟨fun c => (h c).2.2, sem_eq_zero_of_no_sems (by decide) r.2⟩) (Cert.QueryReferenceIdeal.Value.run m ρ)

theorem quiet_attn : quiescent_AttnReferenceIdeal (hAttnReferenceIdeal := Cert.AttnReferenceIdeal.Gen.facts) := fun m ρ _ =>
  (θ_run _ _ _).mono (fun r h => ⟨fun c => (h c).2, sem_eq_zero_of_no_sems (by decide) r.2⟩) (Cert.AttnReferenceIdeal.Value.run m ρ)

theorem quiet_attn_pre [Cert.Pre_finite5.Facts] : quiescent_AttnReferenceIdeal_pre_finite5 (hAttnReferenceIdeal := Cert.AttnReferenceIdeal.Gen.facts) := fun m ρ _ =>
  (θ_run _ _ _).mono (fun r h => ⟨fun c => (h c).2, sem_eq_zero_of_no_sems (by decide) r.2⟩) (Cert.AttnReferenceIdeal.Value.run m ρ)

theorem quiet_modulation : quiescent_ModulationReferenceIdeal (hModulationReferenceIdeal := Cert.ModulationReferenceIdeal.Gen.facts) := fun m ρ _ =>
  (θ_run _ _ _).mono (fun r h => ⟨fun c => (h c).2, sem_eq_zero_of_no_sems (by decide) r.2⟩) (Cert.ModulationReferenceIdeal.Value.run m ρ)

theorem claim : Cert.Claim :=
  ⟨Cert.Kernel.Gen.facts, Cert.KernelIdeal.Gen.facts, Cert.ReferenceIdeal.Gen.facts, Cert.Fold.Gen.facts, Cert.FoldIdeal.Gen.facts,
    Cert.FoldReferenceIdeal.Gen.facts, Cert.Shared.Gen.facts, Cert.SharedIdeal.Gen.facts, Cert.SharedReferenceIdeal.Gen.facts,
    Cert.Query.Gen.facts, Cert.QueryIdeal.Gen.facts, Cert.QueryReferenceIdeal.Gen.facts,
    Cert.Attn.Gen.facts, Cert.AttnIdeal.Gen.facts, Cert.AttnReferenceIdeal.Gen.facts,
    Cert.Modulation.Gen.facts, Cert.ModulationIdeal.Gen.facts, Cert.ModulationReferenceIdeal.Gen.facts,
    facts_finite, facts_finite2, facts_finite5,
    fun m ρ _ => Cert.Kernel.Gen.frame m ρ,
    fun m ρ _ => Cert.KernelIdeal.Gen.frame m ρ,
    fun m ρ _ => Cert.KernelIdeal.Gen.frame m ρ,
    quiet_reference,
    letI := facts_finite; quiet_reference_pre,
    fun m ρ _ => Cert.Fold.Gen.frame m ρ,
    fun m ρ _ => Cert.FoldIdeal.Gen.frame m ρ,
    fun m ρ _ => Cert.FoldIdeal.Gen.frame m ρ,
    quiet_weights,
    letI := facts_finite2; quiet_weights_pre,
    fun m ρ _ => Cert.Shared.Gen.frame m ρ,
    fun m ρ _ => Cert.SharedIdeal.Gen.frame m ρ,
    quiet_shared,
    fun m ρ _ => Cert.Query.Gen.frame m ρ,
    fun m ρ _ => Cert.QueryIdeal.Gen.frame m ρ,
    quiet_second,
    fun m ρ _ => Cert.Attn.Gen.frame m ρ,
    fun m ρ _ => Cert.AttnIdeal.Gen.frame m ρ,
    fun m ρ _ => Cert.AttnIdeal.Gen.frame m ρ,
    quiet_attn,
    letI := facts_finite5; quiet_attn_pre,
    fun m ρ _ => Cert.Modulation.Gen.frame m ρ,
    fun m ρ _ => Cert.ModulationIdeal.Gen.frame m ρ,
    quiet_modulation,
    trivial,
    letI := facts_finite; layer,
    trivial,
    letI := facts_finite2; weights,
    trivial,
    shared_claim,
    trivial,
    second_claim,
    trivial,
    letI := facts_finite5; attn_claim,
    trivial,
    modulation_claim⟩

end Cert.Proof

end
